-- ==== Defs.lean ====
def Pre_Kernel (m : (ℓ : Loc Cert.Kernel.nD Cert.Kernel.τ Cert.Kernel.sig) → Buf (Elt Bits) ℓ) : Prop :=
  True

def Pre_Kernel_finite [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjFox (m : (ℓ : Loc Cert.ProjFox.nD Cert.ProjFox.τ Cert.ProjFox.sig) → Buf (Elt Bits) ℓ) : Prop :=
  True

def Pre_ProjFoxIdeal (m : (ℓ : Loc Cert.ProjFoxIdeal.nD Cert.ProjFoxIdeal.τ Cert.ProjFoxIdeal.sig) → Buf (Elt Ideal) ℓ) : Prop :=
  True

def Pre_ProjFoxRefIdeal (m : (ℓ : Loc Cert.ProjFoxRefIdeal.nD Cert.ProjFoxRefIdeal.τ Cert.ProjFoxRefIdeal.sig) → Buf (Elt Ideal) ℓ) : Prop :=
  True

def Pre_ProjPool (m : (ℓ : Loc Cert.ProjPool.nD Cert.ProjPool.τ Cert.ProjPool.sig) → Buf (Elt Bits) ℓ) : Prop :=
  True

def Pre_ProjPoolIdeal (m : (ℓ : Loc Cert.ProjPoolIdeal.nD Cert.ProjPoolIdeal.τ Cert.ProjPoolIdeal.sig) → Buf (Elt Ideal) ℓ) : Prop :=
  True

def Pre_ProjPoolRefIdeal (m : (ℓ : Loc Cert.ProjPoolRefIdeal.nD Cert.ProjPoolRefIdeal.τ Cert.ProjPoolRefIdeal.sig) → Buf (Elt Ideal) ℓ) : Prop :=
  True

def Pre_ProjChunk (m : (ℓ : Loc Cert.ProjChunk.nD Cert.ProjChunk.τ Cert.ProjChunk.sig) → Buf (Elt Bits) ℓ) : Prop :=
  True

def Pre_ProjChunkIdeal (m : (ℓ : Loc Cert.ProjChunkIdeal.nD Cert.ProjChunkIdeal.τ Cert.ProjChunkIdeal.sig) → Buf (Elt Ideal) ℓ) : Prop :=
  True

def Pre_ProjChunkRefIdeal (m : (ℓ : Loc Cert.ProjChunkRefIdeal.nD Cert.ProjChunkRefIdeal.τ Cert.ProjChunkRefIdeal.sig) → Buf (Elt Ideal) ℓ) : Prop :=
  True

def Pre_Chunk (m : (ℓ : Loc Cert.Chunk.nD Cert.Chunk.τ Cert.Chunk.sig) → Buf (Elt Bits) ℓ) : Prop :=
  True

def Pre_Chunk_chunk_finite [hPre_chunk_finite : Cert.Pre_chunk_finite.Facts] (m : (ℓ : Loc Cert.Chunk.nD Cert.Chunk.τ Cert.Chunk.sig) → Buf (Elt Bits) ℓ) : Prop :=
  ∀ c : Dev Cert.Chunk.nD,
    (Cert.Pre_chunk_finite.fn (F := Bits) (m ((c.tc : Thread Cert.Chunk.nD Cert.Chunk.τ).loc Cert.Chunk.main_arg0)) (m ((c.tc : Thread Cert.Chunk.nD Cert.Chunk.τ).loc Cert.Chunk.main_arg1))) = (fun _ => 1#1)

def Pre_ChunkIdeal [hPre_chunk_finite : Cert.Pre_chunk_finite.Facts] (m : (ℓ : Loc Cert.ChunkIdeal.nD Cert.ChunkIdeal.τ Cert.ChunkIdeal.sig) → Buf (Elt Ideal) ℓ) : Prop :=
  ∀ c : Dev Cert.ChunkIdeal.nD,
    (Cert.Pre_chunk_finite.fn (F := Ideal) (m ((c.tc : Thread Cert.ChunkIdeal.nD Cert.ChunkIdeal.τ).loc Cert.ChunkIdeal.main_arg0)) (m ((c.tc : Thread Cert.ChunkIdeal.nD Cert.ChunkIdeal.τ).loc Cert.ChunkIdeal.main_arg1))) = (fun _ => 1#1)

def Pre_ChunkRefIdeal (m : (ℓ : Loc Cert.ChunkRefIdeal.nD Cert.ChunkRefIdeal.τ Cert.ChunkRefIdeal.sig) → Buf (Elt Ideal) ℓ) : Prop :=
  True

def Pre_ChunkRefIdeal_chunk_finite [hPre_chunk_finite : Cert.Pre_chunk_finite.Facts] (m : (ℓ : Loc Cert.ChunkRefIdeal.nD Cert.ChunkRefIdeal.τ Cert.ChunkRefIdeal.sig) → Buf (Elt Ideal) ℓ) : Prop :=
  ∀ c : Dev Cert.ChunkRefIdeal.nD,
    (Cert.Pre_chunk_finite.fn (F := Ideal) (m ((c.tc : Thread Cert.ChunkRefIdeal.nD Cert.ChunkRefIdeal.τ).loc Cert.ChunkRefIdeal.main_arg0)) (m ((c.tc : Thread Cert.ChunkRefIdeal.nD Cert.ChunkRefIdeal.τ).loc Cert.ChunkRefIdeal.main_arg1))) = (fun _ => 1#1)

def Pre_Peer (m : (ℓ : Loc Cert.Peer.nD Cert.Peer.τ Cert.Peer.sig) → Buf (Elt Bits) ℓ) : Prop :=
  True

def Pre_Peer_peer_finite [hPre_peer_finite : Cert.Pre_peer_finite.Facts] (m : (ℓ : Loc Cert.Peer.nD Cert.Peer.τ Cert.Peer.sig) → Buf (Elt Bits) ℓ) : Prop :=
  ∀ c : Dev Cert.Peer.nD,
    (Cert.Pre_peer_finite.fn (F := Bits) (m ((c.tc : Thread Cert.Peer.nD Cert.Peer.τ).loc Cert.Peer.main_arg0)) (m ((c.tc : Thread Cert.Peer.nD Cert.Peer.τ).loc Cert.Peer.main_arg1)) (m ((c.tc : Thread Cert.Peer.nD Cert.Peer.τ).loc Cert.Peer.main_arg2)) (m ((c.tc : Thread Cert.Peer.nD Cert.Peer.τ).loc Cert.Peer.main_arg3)) (m ((c.tc : Thread Cert.Peer.nD Cert.Peer.τ).loc Cert.Peer.main_arg4)) (m ((c.tc : Thread Cert.Peer.nD Cert.Peer.τ).loc Cert.Peer.main_arg5)) (m ((c.tc : Thread Cert.Peer.nD Cert.Peer.τ).loc Cert.Peer.main_arg6))) = (fun _ => 1#1)

def Pre_PeerIdeal [hPre_peer_finite : Cert.Pre_peer_finite.Facts] (m : (ℓ : Loc Cert.PeerIdeal.nD Cert.PeerIdeal.τ Cert.PeerIdeal.sig) → Buf (Elt Ideal) ℓ) : Prop :=
  ∀ c : Dev Cert.PeerIdeal.nD,
    (Cert.Pre_peer_finite.fn (F := Ideal) (m ((c.tc : Thread Cert.PeerIdeal.nD Cert.PeerIdeal.τ).loc Cert.PeerIdeal.main_arg0)) (m ((c.tc : Thread Cert.PeerIdeal.nD Cert.PeerIdeal.τ).loc Cert.PeerIdeal.main_arg1)) (m ((c.tc : Thread Cert.PeerIdeal.nD Cert.PeerIdeal.τ).loc Cert.PeerIdeal.main_arg2)) (m ((c.tc : Thread Cert.PeerIdeal.nD Cert.PeerIdeal.τ).loc Cert.PeerIdeal.main_arg3)) (m ((c.tc : Thread Cert.PeerIdeal.nD Cert.PeerIdeal.τ).loc Cert.PeerIdeal.main_arg4)) (m ((c.tc : Thread Cert.PeerIdeal.nD Cert.PeerIdeal.τ).loc Cert.PeerIdeal.main_arg5)) (m ((c.tc : Thread Cert.PeerIdeal.nD Cert.PeerIdeal.τ).loc Cert.PeerIdeal.main_arg6))) = (fun _ => 1#1)

def Pre_PeerRefIdeal (m : (ℓ : Loc Cert.PeerRefIdeal.nD Cert.PeerRefIdeal.τ Cert.PeerRefIdeal.sig) → Buf (Elt Ideal) ℓ) : Prop :=
  True

def Pre_PeerRefIdeal_peer_finite [hPre_peer_finite : Cert.Pre_peer_finite.Facts] (m : (ℓ : Loc Cert.PeerRefIdeal.nD Cert.PeerRefIdeal.τ Cert.PeerRefIdeal.sig) → Buf (Elt Ideal) ℓ) : Prop :=
  ∀ c : Dev Cert.PeerRefIdeal.nD,
    (Cert.Pre_peer_finite.fn (F := Ideal) (m ((c.tc : Thread Cert.PeerRefIdeal.nD Cert.PeerRefIdeal.τ).loc Cert.PeerRefIdeal.main_arg0)) (m ((c.tc : Thread Cert.PeerRefIdeal.nD Cert.PeerRefIdeal.τ).loc Cert.PeerRefIdeal.main_arg1)) (m ((c.tc : Thread Cert.PeerRefIdeal.nD Cert.PeerRefIdeal.τ).loc Cert.PeerRefIdeal.main_arg2)) (m ((c.tc : Thread Cert.PeerRefIdeal.nD Cert.PeerRefIdeal.τ).loc Cert.PeerRefIdeal.main_arg3)) (m ((c.tc : Thread Cert.PeerRefIdeal.nD Cert.PeerRefIdeal.τ).loc Cert.PeerRefIdeal.main_arg4)) (m ((c.tc : Thread Cert.PeerRefIdeal.nD Cert.PeerRefIdeal.τ).loc Cert.PeerRefIdeal.main_arg5)) (m ((c.tc : Thread Cert.PeerRefIdeal.nD Cert.PeerRefIdeal.τ).loc Cert.PeerRefIdeal.main_arg6))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ProjForget (m : (ℓ : Loc Cert.ProjForget.nD Cert.ProjForget.τ Cert.ProjForget.sig) → Buf (Elt Bits) ℓ) : Prop :=
  True

def Pre_ProjForgetIdeal (m : (ℓ : Loc Cert.ProjForgetIdeal.nD Cert.ProjForgetIdeal.τ Cert.ProjForgetIdeal.sig) → Buf (Elt Ideal) ℓ) : Prop :=
  True

def Pre_ProjForgetRefIdeal (m : (ℓ : Loc Cert.ProjForgetRefIdeal.nD Cert.ProjForgetRefIdeal.τ Cert.ProjForgetRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_NormOut (m : (ℓ : Loc Cert.NormOut.nD Cert.NormOut.τ Cert.NormOut.sig) → Buf (Elt Bits) ℓ) : Prop :=
  True

def Pre_NormOutIdeal (m : (ℓ : Loc Cert.NormOutIdeal.nD Cert.NormOutIdeal.τ Cert.NormOutIdeal.sig) → Buf (Elt Ideal) ℓ) : Prop :=
  True

def Pre_NormOutRefIdeal (m : (ℓ : Loc Cert.NormOutRefIdeal.nD Cert.NormOutRefIdeal.τ Cert.NormOutRefIdeal.sig) → Buf (Elt Ideal) ℓ) : Prop :=
  True

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstRefIdeal (m : (ℓ : Loc Cert.NormFirstRefIdeal.nD Cert.NormFirstRefIdeal.τ Cert.NormFirstRefIdeal.sig) → Buf (Elt Ideal) ℓ) : Prop :=
  True

def Pre_Decay (m : (ℓ : Loc Cert.Decay.nD Cert.Decay.τ Cert.Decay.sig) → Buf (Elt Bits) ℓ) : Prop :=
  True

def Pre_DecayIdeal (m : (ℓ : Loc Cert.DecayIdeal.nD Cert.DecayIdeal.τ Cert.DecayIdeal.sig) → Buf (Elt Ideal) ℓ) : Prop :=
  True

def Pre_DecayRefIdeal (m : (ℓ : Loc Cert.DecayRefIdeal.nD Cert.DecayRefIdeal.τ Cert.DecayRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_finite [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel_finite m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_ProjFox [hProjFox : Cert.ProjFox.Facts] : Prop :=
  ∀ (m : (ℓ : Loc Cert.ProjFox.nD Cert.ProjFox.τ Cert.ProjFox.sig) → Buf (Elt Bits) ℓ) (g : Dev Cert.ProjFox.nD → PrngReg), Pre_ProjFox m →
    θ_run (Cert.ProjFox.defs (F := Bits)) (onTc (τ := Cert.ProjFox.τ) (Cert.ProjFox.main (F := Bits))) ⟨m, fun _ => 0, g⟩ (fun r => (∀ c : Dev Cert.ProjFox.nD,
      r.2.mem ((c.tc : Thread Cert.ProjFox.nD Cert.ProjFox.τ).loc Cert.ProjFox.main_arg0) = m ((c.tc : Thread Cert.ProjFox.nD Cert.ProjFox.τ).loc Cert.ProjFox.main_arg0)
      ∧ r.2.mem ((c.tc : Thread Cert.ProjFox.nD Cert.ProjFox.τ).loc Cert.ProjFox.main_arg1) = m ((c.tc : Thread Cert.ProjFox.nD Cert.ProjFox.τ).loc Cert.ProjFox.main_arg1)
      ∧ r.2.mem ((c.tc : Thread Cert.ProjFox.nD Cert.ProjFox.τ).loc Cert.ProjFox.main_arg2) = m ((c.tc : Thread Cert.ProjFox.nD Cert.ProjFox.τ).loc Cert.ProjFox.main_arg2))
      ∧ r.2.sem = fun _ => 0)

def quiescent_ProjFoxIdeal [hProjFoxIdeal : Cert.ProjFoxIdeal.Facts] : Prop :=
  ∀ (m : (ℓ : Loc Cert.ProjFoxIdeal.nD Cert.ProjFoxIdeal.τ Cert.ProjFoxIdeal.sig) → Buf (Elt Ideal) ℓ) (g : Dev Cert.ProjFoxIdeal.nD → PrngReg), Pre_ProjFoxIdeal m →
    θ_run (Cert.ProjFoxIdeal.defs (F := Ideal)) (onTc (τ := Cert.ProjFoxIdeal.τ) (Cert.ProjFoxIdeal.main (F := Ideal))) ⟨m, fun _ => 0, g⟩ (fun r => (∀ c : Dev Cert.ProjFoxIdeal.nD,
      r.2.mem ((c.tc : Thread Cert.ProjFoxIdeal.nD Cert.ProjFoxIdeal.τ).loc Cert.ProjFoxIdeal.main_arg0) = m ((c.tc : Thread Cert.ProjFoxIdeal.nD Cert.ProjFoxIdeal.τ).loc Cert.ProjFoxIdeal.main_arg0)
      ∧ r.2.mem ((c.tc : Thread Cert.ProjFoxIdeal.nD Cert.ProjFoxIdeal.τ).loc Cert.ProjFoxIdeal.main_arg1) = m ((c.tc : Thread Cert.ProjFoxIdeal.nD Cert.ProjFoxIdeal.τ).loc Cert.ProjFoxIdeal.main_arg1)
      ∧ r.2.mem ((c.tc : Thread Cert.ProjFoxIdeal.nD Cert.ProjFoxIdeal.τ).loc Cert.ProjFoxIdeal.main_arg2) = m ((c.tc : Thread Cert.ProjFoxIdeal.nD Cert.ProjFoxIdeal.τ).loc Cert.ProjFoxIdeal.main_arg2))
      ∧ r.2.sem = fun _ => 0)

def quiescent_ProjFoxRefIdeal [hProjFoxRefIdeal : Cert.ProjFoxRefIdeal.Facts] : Prop :=
  ∀ (m : (ℓ : Loc Cert.ProjFoxRefIdeal.nD Cert.ProjFoxRefIdeal.τ Cert.ProjFoxRefIdeal.sig) → Buf (Elt Ideal) ℓ) (g : Dev Cert.ProjFoxRefIdeal.nD → PrngReg), Pre_ProjFoxRefIdeal m →
    θ_run (Cert.ProjFoxRefIdeal.defs (F := Ideal)) (onTc (τ := Cert.ProjFoxRefIdeal.τ) (Cert.ProjFoxRefIdeal.main (F := Ideal))) ⟨m, fun _ => 0, g⟩ (fun r => (∀ c : Dev Cert.ProjFoxRefIdeal.nD,
      r.2.mem ((c.tc : Thread Cert.ProjFoxRefIdeal.nD Cert.ProjFoxRefIdeal.τ).loc Cert.ProjFoxRefIdeal.main_arg0) = m ((c.tc : Thread Cert.ProjFoxRefIdeal.nD Cert.ProjFoxRefIdeal.τ).loc Cert.ProjFoxRefIdeal.main_arg0)
      ∧ r.2.mem ((c.tc : Thread Cert.ProjFoxRefIdeal.nD Cert.ProjFoxRefIdeal.τ).loc Cert.ProjFoxRefIdeal.main_arg1) = m ((c.tc : Thread Cert.ProjFoxRefIdeal.nD Cert.ProjFoxRefIdeal.τ).loc Cert.ProjFoxRefIdeal.main_arg1)
      ∧ r.2.mem ((c.tc : Thread Cert.ProjFoxRefIdeal.nD Cert.ProjFoxRefIdeal.τ).loc Cert.ProjFoxRefIdeal.main_arg2) = m ((c.tc : Thread Cert.ProjFoxRefIdeal.nD Cert.ProjFoxRefIdeal.τ).loc Cert.ProjFoxRefIdeal.main_arg2))
      ∧ r.2.sem = fun _ => 0)

def quiescent_ProjPool [hProjPool : Cert.ProjPool.Facts] : Prop :=
  ∀ (m : (ℓ : Loc Cert.ProjPool.nD Cert.ProjPool.τ Cert.ProjPool.sig) → Buf (Elt Bits) ℓ) (g : Dev Cert.ProjPool.nD → PrngReg), Pre_ProjPool m →
    θ_run (Cert.ProjPool.defs (F := Bits)) (onTc (τ := Cert.ProjPool.τ) (Cert.ProjPool.main (F := Bits))) ⟨m, fun _ => 0, g⟩ (fun r => (∀ c : Dev Cert.ProjPool.nD,
      r.2.mem ((c.tc : Thread Cert.ProjPool.nD Cert.ProjPool.τ).loc Cert.ProjPool.main_arg0) = m ((c.tc : Thread Cert.ProjPool.nD Cert.ProjPool.τ).loc Cert.ProjPool.main_arg0)
      ∧ r.2.mem ((c.tc : Thread Cert.ProjPool.nD Cert.ProjPool.τ).loc Cert.ProjPool.main_arg1) = m ((c.tc : Thread Cert.ProjPool.nD Cert.ProjPool.τ).loc Cert.ProjPool.main_arg1)
      ∧ r.2.mem ((c.tc : Thread Cert.ProjPool.nD Cert.ProjPool.τ).loc Cert.ProjPool.main_arg2) = m ((c.tc : Thread Cert.ProjPool.nD Cert.ProjPool.τ).loc Cert.ProjPool.main_arg2))
      ∧ r.2.sem = fun _ => 0)

def quiescent_ProjPoolIdeal [hProjPoolIdeal : Cert.ProjPoolIdeal.Facts] : Prop :=
  ∀ (m : (ℓ : Loc Cert.ProjPoolIdeal.nD Cert.ProjPoolIdeal.τ Cert.ProjPoolIdeal.sig) → Buf (Elt Ideal) ℓ) (g : Dev Cert.ProjPoolIdeal.nD → PrngReg), Pre_ProjPoolIdeal m →
    θ_run (Cert.ProjPoolIdeal.defs (F := Ideal)) (onTc (τ := Cert.ProjPoolIdeal.τ) (Cert.ProjPoolIdeal.main (F := Ideal))) ⟨m, fun _ => 0, g⟩ (fun r => (∀ c : Dev Cert.ProjPoolIdeal.nD,
      r.2.mem ((c.tc : Thread Cert.ProjPoolIdeal.nD Cert.ProjPoolIdeal.τ).loc Cert.ProjPoolIdeal.main_arg0) = m ((c.tc : Thread Cert.ProjPoolIdeal.nD Cert.ProjPoolIdeal.τ).loc Cert.ProjPoolIdeal.main_arg0)
      ∧ r.2.mem ((c.tc : Thread Cert.ProjPoolIdeal.nD Cert.ProjPoolIdeal.τ).loc Cert.ProjPoolIdeal.main_arg1) = m ((c.tc : Thread Cert.ProjPoolIdeal.nD Cert.ProjPoolIdeal.τ).loc Cert.ProjPoolIdeal.main_arg1)
      ∧ r.2.mem ((c.tc : Thread Cert.ProjPoolIdeal.nD Cert.ProjPoolIdeal.τ).loc Cert.ProjPoolIdeal.main_arg2) = m ((c.tc : Thread Cert.ProjPoolIdeal.nD Cert.ProjPoolIdeal.τ).loc Cert.ProjPoolIdeal.main_arg2))
      ∧ r.2.sem = fun _ => 0)

def quiescent_ProjPoolRefIdeal [hProjPoolRefIdeal : Cert.ProjPoolRefIdeal.Facts] : Prop :=
  ∀ (m : (ℓ : Loc Cert.ProjPoolRefIdeal.nD Cert.ProjPoolRefIdeal.τ Cert.ProjPoolRefIdeal.sig) → Buf (Elt Ideal) ℓ) (g : Dev Cert.ProjPoolRefIdeal.nD → PrngReg), Pre_ProjPoolRefIdeal m →
    θ_run (Cert.ProjPoolRefIdeal.defs (F := Ideal)) (onTc (τ := Cert.ProjPoolRefIdeal.τ) (Cert.ProjPoolRefIdeal.main (F := Ideal))) ⟨m, fun _ => 0, g⟩ (fun r => (∀ c : Dev Cert.ProjPoolRefIdeal.nD,
      r.2.mem ((c.tc : Thread Cert.ProjPoolRefIdeal.nD Cert.ProjPoolRefIdeal.τ).loc Cert.ProjPoolRefIdeal.main_arg0) = m ((c.tc : Thread Cert.ProjPoolRefIdeal.nD Cert.ProjPoolRefIdeal.τ).loc Cert.ProjPoolRefIdeal.main_arg0)
      ∧ r.2.mem ((c.tc : Thread Cert.ProjPoolRefIdeal.nD Cert.ProjPoolRefIdeal.τ).loc Cert.ProjPoolRefIdeal.main_arg1) = m ((c.tc : Thread Cert.ProjPoolRefIdeal.nD Cert.ProjPoolRefIdeal.τ).loc Cert.ProjPoolRefIdeal.main_arg1)
      ∧ r.2.mem ((c.tc : Thread Cert.ProjPoolRefIdeal.nD Cert.ProjPoolRefIdeal.τ).loc Cert.ProjPoolRefIdeal.main_arg2) = m ((c.tc : Thread Cert.ProjPoolRefIdeal.nD Cert.ProjPoolRefIdeal.τ).loc Cert.ProjPoolRefIdeal.main_arg2))
      ∧ r.2.sem = fun _ => 0)

def quiescent_ProjChunk [hProjChunk : Cert.ProjChunk.Facts] : Prop :=
  ∀ (m : (ℓ : Loc Cert.ProjChunk.nD Cert.ProjChunk.τ Cert.ProjChunk.sig) → Buf (Elt Bits) ℓ) (g : Dev Cert.ProjChunk.nD → PrngReg), Pre_ProjChunk m →
    θ_run (Cert.ProjChunk.defs (F := Bits)) (onTc (τ := Cert.ProjChunk.τ) (Cert.ProjChunk.main (F := Bits))) ⟨m, fun _ => 0, g⟩ (fun r => (∀ c : Dev Cert.ProjChunk.nD,
      r.2.mem ((c.tc : Thread Cert.ProjChunk.nD Cert.ProjChunk.τ).loc Cert.ProjChunk.main_arg0) = m ((c.tc : Thread Cert.ProjChunk.nD Cert.ProjChunk.τ).loc Cert.ProjChunk.main_arg0)
      ∧ r.2.mem ((c.tc : Thread Cert.ProjChunk.nD Cert.ProjChunk.τ).loc Cert.ProjChunk.main_arg1) = m ((c.tc : Thread Cert.ProjChunk.nD Cert.ProjChunk.τ).loc Cert.ProjChunk.main_arg1)
      ∧ r.2.mem ((c.tc : Thread Cert.ProjChunk.nD Cert.ProjChunk.τ).loc Cert.ProjChunk.main_arg2) = m ((c.tc : Thread Cert.ProjChunk.nD Cert.ProjChunk.τ).loc Cert.ProjChunk.main_arg2))
      ∧ r.2.sem = fun _ => 0)

def quiescent_ProjChunkIdeal [hProjChunkIdeal : Cert.ProjChunkIdeal.Facts] : Prop :=
  ∀ (m : (ℓ : Loc Cert.ProjChunkIdeal.nD Cert.ProjChunkIdeal.τ Cert.ProjChunkIdeal.sig) → Buf (Elt Ideal) ℓ) (g : Dev Cert.ProjChunkIdeal.nD → PrngReg), Pre_ProjChunkIdeal m →
    θ_run (Cert.ProjChunkIdeal.defs (F := Ideal)) (onTc (τ := Cert.ProjChunkIdeal.τ) (Cert.ProjChunkIdeal.main (F := Ideal))) ⟨m, fun _ => 0, g⟩ (fun r => (∀ c : Dev Cert.ProjChunkIdeal.nD,
      r.2.mem ((c.tc : Thread Cert.ProjChunkIdeal.nD Cert.ProjChunkIdeal.τ).loc Cert.ProjChunkIdeal.main_arg0) = m ((c.tc : Thread Cert.ProjChunkIdeal.nD Cert.ProjChunkIdeal.τ).loc Cert.ProjChunkIdeal.main_arg0)
      ∧ r.2.mem ((c.tc : Thread Cert.ProjChunkIdeal.nD Cert.ProjChunkIdeal.τ).loc Cert.ProjChunkIdeal.main_arg1) = m ((c.tc : Thread Cert.ProjChunkIdeal.nD Cert.ProjChunkIdeal.τ).loc Cert.ProjChunkIdeal.main_arg1)
      ∧ r.2.mem ((c.tc : Thread Cert.ProjChunkIdeal.nD Cert.ProjChunkIdeal.τ).loc Cert.ProjChunkIdeal.main_arg2) = m ((c.tc : Thread Cert.ProjChunkIdeal.nD Cert.ProjChunkIdeal.τ).loc Cert.ProjChunkIdeal.main_arg2))
      ∧ r.2.sem = fun _ => 0)

def quiescent_ProjChunkRefIdeal [hProjChunkRefIdeal : Cert.ProjChunkRefIdeal.Facts] : Prop :=
  ∀ (m : (ℓ : Loc Cert.ProjChunkRefIdeal.nD Cert.ProjChunkRefIdeal.τ Cert.ProjChunkRefIdeal.sig) → Buf (Elt Ideal) ℓ) (g : Dev Cert.ProjChunkRefIdeal.nD → PrngReg), Pre_ProjChunkRefIdeal m →
    θ_run (Cert.ProjChunkRefIdeal.defs (F := Ideal)) (onTc (τ := Cert.ProjChunkRefIdeal.τ) (Cert.ProjChunkRefIdeal.main (F := Ideal))) ⟨m, fun _ => 0, g⟩ (fun r => (∀ c : Dev Cert.ProjChunkRefIdeal.nD,
      r.2.mem ((c.tc : Thread Cert.ProjChunkRefIdeal.nD Cert.ProjChunkRefIdeal.τ).loc Cert.ProjChunkRefIdeal.main_arg0) = m ((c.tc : Thread Cert.ProjChunkRefIdeal.nD Cert.ProjChunkRefIdeal.τ).loc Cert.ProjChunkRefIdeal.main_arg0)
      ∧ r.2.mem ((c.tc : Thread Cert.ProjChunkRefIdeal.nD Cert.ProjChunkRefIdeal.τ).loc Cert.ProjChunkRefIdeal.main_arg1) = m ((c.tc : Thread Cert.ProjChunkRefIdeal.nD Cert.ProjChunkRefIdeal.τ).loc Cert.ProjChunkRefIdeal.main_arg1)
      ∧ r.2.mem ((c.tc : Thread Cert.ProjChunkRefIdeal.nD Cert.ProjChunkRefIdeal.τ).loc Cert.ProjChunkRefIdeal.main_arg2) = m ((c.tc : Thread Cert.ProjChunkRefIdeal.nD Cert.ProjChunkRefIdeal.τ).loc Cert.ProjChunkRefIdeal.main_arg2))
      ∧ r.2.sem = fun _ => 0)

def quiescent_Chunk [hChunk : Cert.Chunk.Facts] : Prop :=
  ∀ (m : (ℓ : Loc Cert.Chunk.nD Cert.Chunk.τ Cert.Chunk.sig) → Buf (Elt Bits) ℓ) (g : Dev Cert.Chunk.nD → PrngReg), Pre_Chunk m →
    θ_run (Cert.Chunk.defs (F := Bits)) (onTc (τ := Cert.Chunk.τ) (Cert.Chunk.main (F := Bits))) ⟨m, fun _ => 0, g⟩ (fun r => (∀ c : Dev Cert.Chunk.nD,
      r.2.mem ((c.tc : Thread Cert.Chunk.nD Cert.Chunk.τ).loc Cert.Chunk.main_arg0) = m ((c.tc : Thread Cert.Chunk.nD Cert.Chunk.τ).loc Cert.Chunk.main_arg0)
      ∧ r.2.mem ((c.tc : Thread Cert.Chunk.nD Cert.Chunk.τ).loc Cert.Chunk.main_arg1) = m ((c.tc : Thread Cert.Chunk.nD Cert.Chunk.τ).loc Cert.Chunk.main_arg1))
      ∧ r.2.sem = fun _ => 0)

def quiescent_Chunk_pre_chunk_finite [hChunk : Cert.Chunk.Facts] [hPre_chunk_finite : Cert.Pre_chunk_finite.Facts] : Prop :=
  ∀ (m : (ℓ : Loc Cert.Chunk.nD Cert.Chunk.τ Cert.Chunk.sig) → Buf (Elt Bits) ℓ) (g : Dev Cert.Chunk.nD → PrngReg), Pre_Chunk_chunk_finite m →
    θ_run (Cert.Chunk.defs (F := Bits)) (onTc (τ := Cert.Chunk.τ) (Cert.Chunk.main (F := Bits))) ⟨m, fun _ => 0, g⟩ (fun r => (∀ c : Dev Cert.Chunk.nD,
      r.2.mem ((c.tc : Thread Cert.Chunk.nD Cert.Chunk.τ).loc Cert.Chunk.main_arg0) = m ((c.tc : Thread Cert.Chunk.nD Cert.Chunk.τ).loc Cert.Chunk.main_arg0)
      ∧ r.2.mem ((c.tc : Thread Cert.Chunk.nD Cert.Chunk.τ).loc Cert.Chunk.main_arg1) = m ((c.tc : Thread Cert.Chunk.nD Cert.Chunk.τ).loc Cert.Chunk.main_arg1))
      ∧ r.2.sem = fun _ => 0)

def quiescent_ChunkIdeal [hChunkIdeal : Cert.ChunkIdeal.Facts] [hPre_chunk_finite : Cert.Pre_chunk_finite.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1))
      ∧ r.2.sem = fun _ => 0)

def quiescent_ChunkRefIdeal [hChunkRefIdeal : Cert.ChunkRefIdeal.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1))
      ∧ r.2.sem = fun _ => 0)

def quiescent_ChunkRefIdeal_pre_chunk_finite [hChunkRefIdeal : Cert.ChunkRefIdeal.Facts] [hPre_chunk_finite : Cert.Pre_chunk_finite.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal_chunk_finite m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1))
      ∧ r.2.sem = fun _ => 0)

def quiescent_Peer [hPeer : Cert.Peer.Facts] : Prop :=
  ∀ (m : (ℓ : Loc Cert.Peer.nD Cert.Peer.τ Cert.Peer.sig) → Buf (Elt Bits) ℓ) (g : Dev Cert.Peer.nD → PrngReg), Pre_Peer m →
    θ_run (Cert.Peer.defs (F := Bits)) (onTc (τ := Cert.Peer.τ) (Cert.Peer.main (F := Bits))) ⟨m, fun _ => 0, g⟩ (fun r => (∀ c : Dev Cert.Peer.nD,
      r.2.mem ((c.tc : Thread Cert.Peer.nD Cert.Peer.τ).loc Cert.Peer.main_arg0) = m ((c.tc : Thread Cert.Peer.nD Cert.Peer.τ).loc Cert.Peer.main_arg0)
      ∧ r.2.mem ((c.tc : Thread Cert.Peer.nD Cert.Peer.τ).loc Cert.Peer.main_arg1) = m ((c.tc : Thread Cert.Peer.nD Cert.Peer.τ).loc Cert.Peer.main_arg1)
      ∧ r.2.mem ((c.tc : Thread Cert.Peer.nD Cert.Peer.τ).loc Cert.Peer.main_arg2) = m ((c.tc : Thread Cert.Peer.nD Cert.Peer.τ).loc Cert.Peer.main_arg2)
      ∧ r.2.mem ((c.tc : Thread Cert.Peer.nD Cert.Peer.τ).loc Cert.Peer.main_arg3) = m ((c.tc : Thread Cert.Peer.nD Cert.Peer.τ).loc Cert.Peer.main_arg3)
      ∧ r.2.mem ((c.tc : Thread Cert.Peer.nD Cert.Peer.τ).loc Cert.Peer.main_arg4) = m ((c.tc : Thread Cert.Peer.nD Cert.Peer.τ).loc Cert.Peer.main_arg4)
      ∧ r.2.mem ((c.tc : Thread Cert.Peer.nD Cert.Peer.τ).loc Cert.Peer.main_arg5) = m ((c.tc : Thread Cert.Peer.nD Cert.Peer.τ).loc Cert.Peer.main_arg5)
      ∧ r.2.mem ((c.tc : Thread Cert.Peer.nD Cert.Peer.τ).loc Cert.Peer.main_arg6) = m ((c.tc : Thread Cert.Peer.nD Cert.Peer.τ).loc Cert.Peer.main_arg6))
      ∧ r.2.sem = fun _ => 0)

def quiescent_Peer_pre_peer_finite [hPeer : Cert.Peer.Facts] [hPre_peer_finite : Cert.Pre_peer_finite.Facts] : Prop :=
  ∀ (m : (ℓ : Loc Cert.Peer.nD Cert.Peer.τ Cert.Peer.sig) → Buf (Elt Bits) ℓ) (g : Dev Cert.Peer.nD → PrngReg), Pre_Peer_peer_finite m →
    θ_run (Cert.Peer.defs (F := Bits)) (onTc (τ := Cert.Peer.τ) (Cert.Peer.main (F := Bits))) ⟨m, fun _ => 0, g⟩ (fun r => (∀ c : Dev Cert.Peer.nD,
      r.2.mem ((c.tc : Thread Cert.Peer.nD Cert.Peer.τ).loc Cert.Peer.main_arg0) = m ((c.tc : Thread Cert.Peer.nD Cert.Peer.τ).loc Cert.Peer.main_arg0)
      ∧ r.2.mem ((c.tc : Thread Cert.Peer.nD Cert.Peer.τ).loc Cert.Peer.main_arg1) = m ((c.tc : Thread Cert.Peer.nD Cert.Peer.τ).loc Cert.Peer.main_arg1)
      ∧ r.2.mem ((c.tc : Thread Cert.Peer.nD Cert.Peer.τ).loc Cert.Peer.main_arg2) = m ((c.tc : Thread Cert.Peer.nD Cert.Peer.τ).loc Cert.Peer.main_arg2)
      ∧ r.2.mem ((c.tc : Thread Cert.Peer.nD Cert.Peer.τ).loc Cert.Peer.main_arg3) = m ((c.tc : Thread Cert.Peer.nD Cert.Peer.τ).loc Cert.Peer.main_arg3)
      ∧ r.2.mem ((c.tc : Thread Cert.Peer.nD Cert.Peer.τ).loc Cert.Peer.main_arg4) = m ((c.tc : Thread Cert.Peer.nD Cert.Peer.τ).loc Cert.Peer.main_arg4)
      ∧ r.2.mem ((c.tc : Thread Cert.Peer.nD Cert.Peer.τ).loc Cert.Peer.main_arg5) = m ((c.tc : Thread Cert.Peer.nD Cert.Peer.τ).loc Cert.Peer.main_arg5)
      ∧ r.2.mem ((c.tc : Thread Cert.Peer.nD Cert.Peer.τ).loc Cert.Peer.main_arg6) = m ((c.tc : Thread Cert.Peer.nD Cert.Peer.τ).loc Cert.Peer.main_arg6))
      ∧ r.2.sem = fun _ => 0)

def quiescent_PeerIdeal [hPeerIdeal : Cert.PeerIdeal.Facts] [hPre_peer_finite : Cert.Pre_peer_finite.Facts] : Prop :=
  ∀ (m : (ℓ : Loc Cert.PeerIdeal.nD Cert.PeerIdeal.τ Cert.PeerIdeal.sig) → Buf (Elt Ideal) ℓ) (g : Dev Cert.PeerIdeal.nD → PrngReg), Pre_PeerIdeal m →
    θ_run (Cert.PeerIdeal.defs (F := Ideal)) (onTc (τ := Cert.PeerIdeal.τ) (Cert.PeerIdeal.main (F := Ideal))) ⟨m, fun _ => 0, g⟩ (fun r => (∀ c : Dev Cert.PeerIdeal.nD,
      r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
      ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
      ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
      ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
      ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
      ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
      ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6))
      ∧ r.2.sem = fun _ => 0)

def quiescent_PeerRefIdeal [hPeerRefIdeal : Cert.PeerRefIdeal.Facts] : Prop :=
  ∀ (m : (ℓ : Loc Cert.PeerRefIdeal.nD Cert.PeerRefIdeal.τ Cert.PeerRefIdeal.sig) → Buf (Elt Ideal) ℓ) (g : Dev Cert.PeerRefIdeal.nD → PrngReg), Pre_PeerRefIdeal m →
    θ_run (Cert.PeerRefIdeal.defs (F := Ideal)) (onTc (τ := Cert.PeerRefIdeal.τ) (Cert.PeerRefIdeal.main (F := Ideal))) ⟨m, fun _ => 0, g⟩ (fun r => (∀ c : Dev Cert.PeerRefIdeal.nD,
      r.2.mem ((c.tc : Thread Cert.PeerRefIdeal.nD Cert.PeerRefIdeal.τ).loc Cert.PeerRefIdeal.main_arg0) = m ((c.tc : Thread Cert.PeerRefIdeal.nD Cert.PeerRefIdeal.τ).loc Cert.PeerRefIdeal.main_arg0)
      ∧ r.2.mem ((c.tc : Thread Cert.PeerRefIdeal.nD Cert.PeerRefIdeal.τ).loc Cert.PeerRefIdeal.main_arg1) = m ((c.tc : Thread Cert.PeerRefIdeal.nD Cert.PeerRefIdeal.τ).loc Cert.PeerRefIdeal.main_arg1)
      ∧ r.2.mem ((c.tc : Thread Cert.PeerRefIdeal.nD Cert.PeerRefIdeal.τ).loc Cert.PeerRefIdeal.main_arg2) = m ((c.tc : Thread Cert.PeerRefIdeal.nD Cert.PeerRefIdeal.τ).loc Cert.PeerRefIdeal.main_arg2)
      ∧ r.2.mem ((c.tc : Thread Cert.PeerRefIdeal.nD Cert.PeerRefIdeal.τ).loc Cert.PeerRefIdeal.main_arg3) = m ((c.tc : Thread Cert.PeerRefIdeal.nD Cert.PeerRefIdeal.τ).loc Cert.PeerRefIdeal.main_arg3)
      ∧ r.2.mem ((c.tc : Thread Cert.PeerRefIdeal.nD Cert.PeerRefIdeal.τ).loc Cert.PeerRefIdeal.main_arg4) = m ((c.tc : Thread Cert.PeerRefIdeal.nD Cert.PeerRefIdeal.τ).loc Cert.PeerRefIdeal.main_arg4)
      ∧ r.2.mem ((c.tc : Thread Cert.PeerRefIdeal.nD Cert.PeerRefIdeal.τ).loc Cert.PeerRefIdeal.main_arg5) = m ((c.tc : Thread Cert.PeerRefIdeal.nD Cert.PeerRefIdeal.τ).loc Cert.PeerRefIdeal.main_arg5)
      ∧ r.2.mem ((c.tc : Thread Cert.PeerRefIdeal.nD Cert.PeerRefIdeal.τ).loc Cert.PeerRefIdeal.main_arg6) = m ((c.tc : Thread Cert.PeerRefIdeal.nD Cert.PeerRefIdeal.τ).loc Cert.PeerRefIdeal.main_arg6))
      ∧ r.2.sem = fun _ => 0)

def quiescent_PeerRefIdeal_pre_peer_finite [hPeerRefIdeal : Cert.PeerRefIdeal.Facts] [hPre_peer_finite : Cert.Pre_peer_finite.Facts] : Prop :=
  ∀ (m : (ℓ : Loc Cert.PeerRefIdeal.nD Cert.PeerRefIdeal.τ Cert.PeerRefIdeal.sig) → Buf (Elt Ideal) ℓ) (g : Dev Cert.PeerRefIdeal.nD → PrngReg), Pre_PeerRefIdeal_peer_finite m →
    θ_run (Cert.PeerRefIdeal.defs (F := Ideal)) (onTc (τ := Cert.PeerRefIdeal.τ) (Cert.PeerRefIdeal.main (F := Ideal))) ⟨m, fun _ => 0, g⟩ (fun r => (∀ c : Dev Cert.PeerRefIdeal.nD,
      r.2.mem ((c.tc : Thread Cert.PeerRefIdeal.nD Cert.PeerRefIdeal.τ).loc Cert.PeerRefIdeal.main_arg0) = m ((c.tc : Thread Cert.PeerRefIdeal.nD Cert.PeerRefIdeal.τ).loc Cert.PeerRefIdeal.main_arg0)
      ∧ r.2.mem ((c.tc : Thread Cert.PeerRefIdeal.nD Cert.PeerRefIdeal.τ).loc Cert.PeerRefIdeal.main_arg1) = m ((c.tc : Thread Cert.PeerRefIdeal.nD Cert.PeerRefIdeal.τ).loc Cert.PeerRefIdeal.main_arg1)
      ∧ r.2.mem ((c.tc : Thread Cert.PeerRefIdeal.nD Cert.PeerRefIdeal.τ).loc Cert.PeerRefIdeal.main_arg2) = m ((c.tc : Thread Cert.PeerRefIdeal.nD Cert.PeerRefIdeal.τ).loc Cert.PeerRefIdeal.main_arg2)
      ∧ r.2.mem ((c.tc : Thread Cert.PeerRefIdeal.nD Cert.PeerRefIdeal.τ).loc Cert.PeerRefIdeal.main_arg3) = m ((c.tc : Thread Cert.PeerRefIdeal.nD Cert.PeerRefIdeal.τ).loc Cert.PeerRefIdeal.main_arg3)
      ∧ r.2.mem ((c.tc : Thread Cert.PeerRefIdeal.nD Cert.PeerRefIdeal.τ).loc Cert.PeerRefIdeal.main_arg4) = m ((c.tc : Thread Cert.PeerRefIdeal.nD Cert.PeerRefIdeal.τ).loc Cert.PeerRefIdeal.main_arg4)
      ∧ r.2.mem ((c.tc : Thread Cert.PeerRefIdeal.nD Cert.PeerRefIdeal.τ).loc Cert.PeerRefIdeal.main_arg5) = m ((c.tc : Thread Cert.PeerRefIdeal.nD Cert.PeerRefIdeal.τ).loc Cert.PeerRefIdeal.main_arg5)
      ∧ r.2.mem ((c.tc : Thread Cert.PeerRefIdeal.nD Cert.PeerRefIdeal.τ).loc Cert.PeerRefIdeal.main_arg6) = m ((c.tc : Thread Cert.PeerRefIdeal.nD Cert.PeerRefIdeal.τ).loc Cert.PeerRefIdeal.main_arg6))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_ProjForget [hProjForget : Cert.ProjForget.Facts] : Prop :=
  ∀ (m : (ℓ : Loc Cert.ProjForget.nD Cert.ProjForget.τ Cert.ProjForget.sig) → Buf (Elt Bits) ℓ) (g : Dev Cert.ProjForget.nD → PrngReg), Pre_ProjForget m →
    θ_run (Cert.ProjForget.defs (F := Bits)) (onTc (τ := Cert.ProjForget.τ) (Cert.ProjForget.main (F := Bits))) ⟨m, fun _ => 0, g⟩ (fun r => (∀ c : Dev Cert.ProjForget.nD,
      r.2.mem ((c.tc : Thread Cert.ProjForget.nD Cert.ProjForget.τ).loc Cert.ProjForget.main_arg0) = m ((c.tc : Thread Cert.ProjForget.nD Cert.ProjForget.τ).loc Cert.ProjForget.main_arg0)
      ∧ r.2.mem ((c.tc : Thread Cert.ProjForget.nD Cert.ProjForget.τ).loc Cert.ProjForget.main_arg1) = m ((c.tc : Thread Cert.ProjForget.nD Cert.ProjForget.τ).loc Cert.ProjForget.main_arg1)
      ∧ r.2.mem ((c.tc : Thread Cert.ProjForget.nD Cert.ProjForget.τ).loc Cert.ProjForget.main_arg2) = m ((c.tc : Thread Cert.ProjForget.nD Cert.ProjForget.τ).loc Cert.ProjForget.main_arg2))
      ∧ r.2.sem = fun _ => 0)

def quiescent_ProjForgetIdeal [hProjForgetIdeal : Cert.ProjForgetIdeal.Facts] : Prop :=
  ∀ (m : (ℓ : Loc Cert.ProjForgetIdeal.nD Cert.ProjForgetIdeal.τ Cert.ProjForgetIdeal.sig) → Buf (Elt Ideal) ℓ) (g : Dev Cert.ProjForgetIdeal.nD → PrngReg), Pre_ProjForgetIdeal m →
    θ_run (Cert.ProjForgetIdeal.defs (F := Ideal)) (onTc (τ := Cert.ProjForgetIdeal.τ) (Cert.ProjForgetIdeal.main (F := Ideal))) ⟨m, fun _ => 0, g⟩ (fun r => (∀ c : Dev Cert.ProjForgetIdeal.nD,
      r.2.mem ((c.tc : Thread Cert.ProjForgetIdeal.nD Cert.ProjForgetIdeal.τ).loc Cert.ProjForgetIdeal.main_arg0) = m ((c.tc : Thread Cert.ProjForgetIdeal.nD Cert.ProjForgetIdeal.τ).loc Cert.ProjForgetIdeal.main_arg0)
      ∧ r.2.mem ((c.tc : Thread Cert.ProjForgetIdeal.nD Cert.ProjForgetIdeal.τ).loc Cert.ProjForgetIdeal.main_arg1) = m ((c.tc : Thread Cert.ProjForgetIdeal.nD Cert.ProjForgetIdeal.τ).loc Cert.ProjForgetIdeal.main_arg1)
      ∧ r.2.mem ((c.tc : Thread Cert.ProjForgetIdeal.nD Cert.ProjForgetIdeal.τ).loc Cert.ProjForgetIdeal.main_arg2) = m ((c.tc : Thread Cert.ProjForgetIdeal.nD Cert.ProjForgetIdeal.τ).loc Cert.ProjForgetIdeal.main_arg2))
      ∧ r.2.sem = fun _ => 0)

def quiescent_ProjForgetRefIdeal [hProjForgetRefIdeal : Cert.ProjForgetRefIdeal.Facts] : Prop :=
  ∀ (m : (ℓ : Loc Cert.ProjForgetRefIdeal.nD Cert.ProjForgetRefIdeal.τ Cert.ProjForgetRefIdeal.sig) → Buf (Elt Ideal) ℓ) (g : Dev Cert.ProjForgetRefIdeal.nD → PrngReg), Pre_ProjForgetRefIdeal m →
    θ_run (Cert.ProjForgetRefIdeal.defs (F := Ideal)) (onTc (τ := Cert.ProjForgetRefIdeal.τ) (Cert.ProjForgetRefIdeal.main (F := Ideal))) ⟨m, fun _ => 0, g⟩ (fun r => (∀ c : Dev Cert.ProjForgetRefIdeal.nD,
      r.2.mem ((c.tc : Thread Cert.ProjForgetRefIdeal.nD Cert.ProjForgetRefIdeal.τ).loc Cert.ProjForgetRefIdeal.main_arg0) = m ((c.tc : Thread Cert.ProjForgetRefIdeal.nD Cert.ProjForgetRefIdeal.τ).loc Cert.ProjForgetRefIdeal.main_arg0)
      ∧ r.2.mem ((c.tc : Thread Cert.ProjForgetRefIdeal.nD Cert.ProjForgetRefIdeal.τ).loc Cert.ProjForgetRefIdeal.main_arg1) = m ((c.tc : Thread Cert.ProjForgetRefIdeal.nD Cert.ProjForgetRefIdeal.τ).loc Cert.ProjForgetRefIdeal.main_arg1)
      ∧ r.2.mem ((c.tc : Thread Cert.ProjForgetRefIdeal.nD Cert.ProjForgetRefIdeal.τ).loc Cert.ProjForgetRefIdeal.main_arg2) = m ((c.tc : Thread Cert.ProjForgetRefIdeal.nD Cert.ProjForgetRefIdeal.τ).loc Cert.ProjForgetRefIdeal.main_arg2))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2))
      ∧ r.2.sem = fun _ => 0)

def quiescent_NormOut [hNormOut : Cert.NormOut.Facts] : Prop :=
  ∀ (m : (ℓ : Loc Cert.NormOut.nD Cert.NormOut.τ Cert.NormOut.sig) → Buf (Elt Bits) ℓ) (g : Dev Cert.NormOut.nD → PrngReg), Pre_NormOut m →
    θ_run (Cert.NormOut.defs (F := Bits)) (onTc (τ := Cert.NormOut.τ) (Cert.NormOut.main (F := Bits))) ⟨m, fun _ => 0, g⟩ (fun r => (∀ c : Dev Cert.NormOut.nD,
      r.2.mem ((c.tc : Thread Cert.NormOut.nD Cert.NormOut.τ).loc Cert.NormOut.main_arg0) = m ((c.tc : Thread Cert.NormOut.nD Cert.NormOut.τ).loc Cert.NormOut.main_arg0)
      ∧ r.2.mem ((c.tc : Thread Cert.NormOut.nD Cert.NormOut.τ).loc Cert.NormOut.main_arg1) = m ((c.tc : Thread Cert.NormOut.nD Cert.NormOut.τ).loc Cert.NormOut.main_arg1)
      ∧ r.2.mem ((c.tc : Thread Cert.NormOut.nD Cert.NormOut.τ).loc Cert.NormOut.main_arg2) = m ((c.tc : Thread Cert.NormOut.nD Cert.NormOut.τ).loc Cert.NormOut.main_arg2))
      ∧ r.2.sem = fun _ => 0)

def quiescent_NormOutIdeal [hNormOutIdeal : Cert.NormOutIdeal.Facts] : Prop :=
  ∀ (m : (ℓ : Loc Cert.NormOutIdeal.nD Cert.NormOutIdeal.τ Cert.NormOutIdeal.sig) → Buf (Elt Ideal) ℓ) (g : Dev Cert.NormOutIdeal.nD → PrngReg), Pre_NormOutIdeal m →
    θ_run (Cert.NormOutIdeal.defs (F := Ideal)) (onTc (τ := Cert.NormOutIdeal.τ) (Cert.NormOutIdeal.main (F := Ideal))) ⟨m, fun _ => 0, g⟩ (fun r => (∀ c : Dev Cert.NormOutIdeal.nD,
      r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
      ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1)
      ∧ r.2.mem ((c.tc : Thread Cert.NormOutIdeal.nD Cert.NormOutIdeal.τ).loc Cert.NormOutIdeal.main_arg2) = m ((c.tc : Thread Cert.NormOutIdeal.nD Cert.NormOutIdeal.τ).loc Cert.NormOutIdeal.main_arg2))
      ∧ r.2.sem = fun _ => 0)

def quiescent_NormOutRefIdeal [hNormOutRefIdeal : Cert.NormOutRefIdeal.Facts] : Prop :=
  ∀ (m : (ℓ : Loc Cert.NormOutRefIdeal.nD Cert.NormOutRefIdeal.τ Cert.NormOutRefIdeal.sig) → Buf (Elt Ideal) ℓ) (g : Dev Cert.NormOutRefIdeal.nD → PrngReg), Pre_NormOutRefIdeal m →
    θ_run (Cert.NormOutRefIdeal.defs (F := Ideal)) (onTc (τ := Cert.NormOutRefIdeal.τ) (Cert.NormOutRefIdeal.main (F := Ideal))) ⟨m, fun _ => 0, g⟩ (fun r => (∀ c : Dev Cert.NormOutRefIdeal.nD,
      r.2.mem ((c.tc : Thread Cert.NormOutRefIdeal.nD Cert.NormOutRefIdeal.τ).loc Cert.NormOutRefIdeal.main_arg0) = m ((c.tc : Thread Cert.NormOutRefIdeal.nD Cert.NormOutRefIdeal.τ).loc Cert.NormOutRefIdeal.main_arg0)
      ∧ r.2.mem ((c.tc : Thread Cert.NormOutRefIdeal.nD Cert.NormOutRefIdeal.τ).loc Cert.NormOutRefIdeal.main_arg1) = m ((c.tc : Thread Cert.NormOutRefIdeal.nD Cert.NormOutRefIdeal.τ).loc Cert.NormOutRefIdeal.main_arg1)
      ∧ r.2.mem ((c.tc : Thread Cert.NormOutRefIdeal.nD Cert.NormOutRefIdeal.τ).loc Cert.NormOutRefIdeal.main_arg2) = m ((c.tc : Thread Cert.NormOutRefIdeal.nD Cert.NormOutRefIdeal.τ).loc Cert.NormOutRefIdeal.main_arg2))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1))
      ∧ r.2.sem = fun _ => 0)

def quiescent_Decay [hDecay : Cert.Decay.Facts] : Prop :=
  ∀ (m : (ℓ : Loc Cert.Decay.nD Cert.Decay.τ Cert.Decay.sig) → Buf (Elt Bits) ℓ) (g : Dev Cert.Decay.nD → PrngReg), Pre_Decay m →
    θ_run (Cert.Decay.defs (F := Bits)) (onTc (τ := Cert.Decay.τ) (Cert.Decay.main (F := Bits))) ⟨m, fun _ => 0, g⟩ (fun r => (∀ c : Dev Cert.Decay.nD,
      r.2.mem ((c.tc : Thread Cert.Decay.nD Cert.Decay.τ).loc Cert.Decay.main_arg0) = m ((c.tc : Thread Cert.Decay.nD Cert.Decay.τ).loc Cert.Decay.main_arg0))
      ∧ r.2.sem = fun _ => 0)

def quiescent_DecayIdeal [hDecayIdeal : Cert.DecayIdeal.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0))
      ∧ r.2.sem = fun _ => 0)

def quiescent_DecayRefIdeal [hDecayRefIdeal : Cert.DecayRefIdeal.Facts] : Prop :=
  ∀ (m : (ℓ : Loc Cert.DecayRefIdeal.nD Cert.DecayRefIdeal.τ Cert.DecayRefIdeal.sig) → Buf (Elt Ideal) ℓ) (g : Dev Cert.DecayRefIdeal.nD → PrngReg), Pre_DecayRefIdeal m →
    θ_run (Cert.DecayRefIdeal.defs (F := Ideal)) (onTc (τ := Cert.DecayRefIdeal.τ) (Cert.DecayRefIdeal.main (F := Ideal))) ⟨m, fun _ => 0, g⟩ (fun r => (∀ c : Dev Cert.DecayRefIdeal.nD,
      r.2.mem ((c.tc : Thread Cert.DecayRefIdeal.nD Cert.DecayRefIdeal.τ).loc Cert.DecayRefIdeal.main_arg0) = m ((c.tc : Thread Cert.DecayRefIdeal.nD Cert.DecayRefIdeal.τ).loc Cert.DecayRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v5) = v0 c
          ∧ r.2.mem ((c.tc : Thread Cert.FfnRefIdeal.nD Cert.FfnRefIdeal.τ).loc Cert.FfnRefIdeal.main_v20) = v1 c
          ∧ r.2.mem ((c.tc : Thread Cert.FfnRefIdeal.nD Cert.FfnRefIdeal.τ).loc Cert.FfnRefIdeal.main_v26) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_ProjFox_ProjFoxIdeal : Prop :=
  True

def algebraic_ProjFoxIdeal_ProjFoxRefIdeal [hProjFoxIdeal : Cert.ProjFoxIdeal.Facts] [hProjFoxRefIdeal : Cert.ProjFoxRefIdeal.Facts] : Prop :=
  ∀ (m : (ℓ : Loc Cert.ProjFoxIdeal.nD Cert.ProjFoxIdeal.τ Cert.ProjFoxIdeal.sig) → Buf (Elt Ideal) ℓ) (g : Dev Cert.ProjFoxIdeal.nD → PrngReg)
    (m' : (ℓ : Loc Cert.ProjFoxRefIdeal.nD Cert.ProjFoxRefIdeal.τ Cert.ProjFoxRefIdeal.sig) → Buf (Elt Ideal) ℓ) (g' : Dev Cert.ProjFoxRefIdeal.nD → PrngReg), Pre_ProjFoxIdeal m →
    (∀ c : Dev Cert.ProjFoxIdeal.nD,
      m' ((c.tc : Thread Cert.ProjFoxRefIdeal.nD Cert.ProjFoxRefIdeal.τ).loc Cert.ProjFoxRefIdeal.main_arg0) = m ((c.tc : Thread Cert.ProjFoxIdeal.nD Cert.ProjFoxIdeal.τ).loc Cert.ProjFoxIdeal.main_arg0)
      ∧ m' ((c.tc : Thread Cert.ProjFoxRefIdeal.nD Cert.ProjFoxRefIdeal.τ).loc Cert.ProjFoxRefIdeal.main_arg1) = m ((c.tc : Thread Cert.ProjFoxIdeal.nD Cert.ProjFoxIdeal.τ).loc Cert.ProjFoxIdeal.main_arg1)
      ∧ m' ((c.tc : Thread Cert.ProjFoxRefIdeal.nD Cert.ProjFoxRefIdeal.τ).loc Cert.ProjFoxRefIdeal.main_arg2) = m ((c.tc : Thread Cert.ProjFoxIdeal.nD Cert.ProjFoxIdeal.τ).loc Cert.ProjFoxIdeal.main_arg2)) →
    ∃ (v0 : (c : Dev Cert.ProjFoxIdeal.nD) → Buf (Elt Ideal) ((c.tc : Thread Cert.ProjFoxIdeal.nD Cert.ProjFoxIdeal.τ).loc Cert.ProjFoxIdeal.main_v0)),
      θ_run (Cert.ProjFoxIdeal.defs (F := Ideal)) (onTc (τ := Cert.ProjFoxIdeal.τ) (Cert.ProjFoxIdeal.main (F := Ideal))) ⟨m, fun _ => 0, g⟩ (fun r => ∀ c : Dev Cert.ProjFoxIdeal.nD,
          r.2.mem ((c.tc : Thread Cert.ProjFoxIdeal.nD Cert.ProjFoxIdeal.τ).loc Cert.ProjFoxIdeal.main_v0) = v0 c
          ∧ r.2.mem ((c.tc : Thread Cert.ProjFoxIdeal.nD Cert.ProjFoxIdeal.τ).loc Cert.ProjFoxIdeal.main_arg0) = m ((c.tc : Thread Cert.ProjFoxIdeal.nD Cert.ProjFoxIdeal.τ).loc Cert.ProjFoxIdeal.main_arg0)
          ∧ r.2.mem ((c.tc : Thread Cert.ProjFoxIdeal.nD Cert.ProjFoxIdeal.τ).loc Cert.ProjFoxIdeal.main_arg1) = m ((c.tc : Thread Cert.ProjFoxIdeal.nD Cert.ProjFoxIdeal.τ).loc Cert.ProjFoxIdeal.main_arg1)
          ∧ r.2.mem ((c.tc : Thread Cert.ProjFoxIdeal.nD Cert.ProjFoxIdeal.τ).loc Cert.ProjFoxIdeal.main_arg2) = m ((c.tc : Thread Cert.ProjFoxIdeal.nD Cert.ProjFoxIdeal.τ).loc Cert.ProjFoxIdeal.main_arg2))
      ∧ θ_run (Cert.ProjFoxRefIdeal.defs (F := Ideal)) (onTc (τ := Cert.ProjFoxRefIdeal.τ) (Cert.ProjFoxRefIdeal.main (F := Ideal))) ⟨m', fun _ => 0, g'⟩ (fun r => ∀ c : Dev Cert.ProjFoxRefIdeal.nD,
          r.2.mem ((c.tc : Thread Cert.ProjFoxRefIdeal.nD Cert.ProjFoxRefIdeal.τ).loc Cert.ProjFoxRefIdeal.main_v9) = v0 c
          ∧ r.2.mem ((c.tc : Thread Cert.ProjFoxRefIdeal.nD Cert.ProjFoxRefIdeal.τ).loc Cert.ProjFoxRefIdeal.main_arg0) = m' ((c.tc : Thread Cert.ProjFoxRefIdeal.nD Cert.ProjFoxRefIdeal.τ).loc Cert.ProjFoxRefIdeal.main_arg0)
          ∧ r.2.mem ((c.tc : Thread Cert.ProjFoxRefIdeal.nD Cert.ProjFoxRefIdeal.τ).loc Cert.ProjFoxRefIdeal.main_arg1) = m' ((c.tc : Thread Cert.ProjFoxRefIdeal.nD Cert.ProjFoxRefIdeal.τ).loc Cert.ProjFoxRefIdeal.main_arg1)
          ∧ r.2.mem ((c.tc : Thread Cert.ProjFoxRefIdeal.nD Cert.ProjFoxRefIdeal.τ).loc Cert.ProjFoxRefIdeal.main_arg2) = m' ((c.tc : Thread Cert.ProjFoxRefIdeal.nD Cert.ProjFoxRefIdeal.τ).loc Cert.ProjFoxRefIdeal.main_arg2))

def preserves_ProjPool_ProjPoolIdeal : Prop :=
  True

def algebraic_ProjPoolIdeal_ProjPoolRefIdeal [hProjPoolIdeal : Cert.ProjPoolIdeal.Facts] [hProjPoolRefIdeal : Cert.ProjPoolRefIdeal.Facts] : Prop :=
  ∀ (m : (ℓ : Loc Cert.ProjPoolIdeal.nD Cert.ProjPoolIdeal.τ Cert.ProjPoolIdeal.sig) → Buf (Elt Ideal) ℓ) (g : Dev Cert.ProjPoolIdeal.nD → PrngReg)
    (m' : (ℓ : Loc Cert.ProjPoolRefIdeal.nD Cert.ProjPoolRefIdeal.τ Cert.ProjPoolRefIdeal.sig) → Buf (Elt Ideal) ℓ) (g' : Dev Cert.ProjPoolRefIdeal.nD → PrngReg), Pre_ProjPoolIdeal m →
    (∀ c : Dev Cert.ProjPoolIdeal.nD,
      m' ((c.tc : Thread Cert.ProjPoolRefIdeal.nD Cert.ProjPoolRefIdeal.τ).loc Cert.ProjPoolRefIdeal.main_arg0) = m ((c.tc : Thread Cert.ProjPoolIdeal.nD Cert.ProjPoolIdeal.τ).loc Cert.ProjPoolIdeal.main_arg0)
      ∧ m' ((c.tc : Thread Cert.ProjPoolRefIdeal.nD Cert.ProjPoolRefIdeal.τ).loc Cert.ProjPoolRefIdeal.main_arg1) = m ((c.tc : Thread Cert.ProjPoolIdeal.nD Cert.ProjPoolIdeal.τ).loc Cert.ProjPoolIdeal.main_arg1)
      ∧ m' ((c.tc : Thread Cert.ProjPoolRefIdeal.nD Cert.ProjPoolRefIdeal.τ).loc Cert.ProjPoolRefIdeal.main_arg2) = m ((c.tc : Thread Cert.ProjPoolIdeal.nD Cert.ProjPoolIdeal.τ).loc Cert.ProjPoolIdeal.main_arg2)) →
    ∃ (v0 : (c : Dev Cert.ProjPoolIdeal.nD) → Buf (Elt Ideal) ((c.tc : Thread Cert.ProjPoolIdeal.nD Cert.ProjPoolIdeal.τ).loc Cert.ProjPoolIdeal.main_v0)),
      θ_run (Cert.ProjPoolIdeal.defs (F := Ideal)) (onTc (τ := Cert.ProjPoolIdeal.τ) (Cert.ProjPoolIdeal.main (F := Ideal))) ⟨m, fun _ => 0, g⟩ (fun r => ∀ c : Dev Cert.ProjPoolIdeal.nD,
          r.2.mem ((c.tc : Thread Cert.ProjPoolIdeal.nD Cert.ProjPoolIdeal.τ).loc Cert.ProjPoolIdeal.main_v0) = v0 c
          ∧ r.2.mem ((c.tc : Thread Cert.ProjPoolIdeal.nD Cert.ProjPoolIdeal.τ).loc Cert.ProjPoolIdeal.main_arg0) = m ((c.tc : Thread Cert.ProjPoolIdeal.nD Cert.ProjPoolIdeal.τ).loc Cert.ProjPoolIdeal.main_arg0)
          ∧ r.2.mem ((c.tc : Thread Cert.ProjPoolIdeal.nD Cert.ProjPoolIdeal.τ).loc Cert.ProjPoolIdeal.main_arg1) = m ((c.tc : Thread Cert.ProjPoolIdeal.nD Cert.ProjPoolIdeal.τ).loc Cert.ProjPoolIdeal.main_arg1)
          ∧ r.2.mem ((c.tc : Thread Cert.ProjPoolIdeal.nD Cert.ProjPoolIdeal.τ).loc Cert.ProjPoolIdeal.main_arg2) = m ((c.tc : Thread Cert.ProjPoolIdeal.nD Cert.ProjPoolIdeal.τ).loc Cert.ProjPoolIdeal.main_arg2))
      ∧ θ_run (Cert.ProjPoolRefIdeal.defs (F := Ideal)) (onTc (τ := Cert.ProjPoolRefIdeal.τ) (Cert.ProjPoolRefIdeal.main (F := Ideal))) ⟨m', fun _ => 0, g'⟩ (fun r => ∀ c : Dev Cert.ProjPoolRefIdeal.nD,
          r.2.mem ((c.tc : Thread Cert.ProjPoolRefIdeal.nD Cert.ProjPoolRefIdeal.τ).loc Cert.ProjPoolRefIdeal.main_v8) = v0 c
          ∧ r.2.mem ((c.tc : Thread Cert.ProjPoolRefIdeal.nD Cert.ProjPoolRefIdeal.τ).loc Cert.ProjPoolRefIdeal.main_arg0) = m' ((c.tc : Thread Cert.ProjPoolRefIdeal.nD Cert.ProjPoolRefIdeal.τ).loc Cert.ProjPoolRefIdeal.main_arg0)
          ∧ r.2.mem ((c.tc : Thread Cert.ProjPoolRefIdeal.nD Cert.ProjPoolRefIdeal.τ).loc Cert.ProjPoolRefIdeal.main_arg1) = m' ((c.tc : Thread Cert.ProjPoolRefIdeal.nD Cert.ProjPoolRefIdeal.τ).loc Cert.ProjPoolRefIdeal.main_arg1)
          ∧ r.2.mem ((c.tc : Thread Cert.ProjPoolRefIdeal.nD Cert.ProjPoolRefIdeal.τ).loc Cert.ProjPoolRefIdeal.main_arg2) = m' ((c.tc : Thread Cert.ProjPoolRefIdeal.nD Cert.ProjPoolRefIdeal.τ).loc Cert.ProjPoolRefIdeal.main_arg2))

def preserves_ProjChunk_ProjChunkIdeal : Prop :=
  True

def algebraic_ProjChunkIdeal_ProjChunkRefIdeal [hProjChunkIdeal : Cert.ProjChunkIdeal.Facts] [hProjChunkRefIdeal : Cert.ProjChunkRefIdeal.Facts] : Prop :=
  ∀ (m : (ℓ : Loc Cert.ProjChunkIdeal.nD Cert.ProjChunkIdeal.τ Cert.ProjChunkIdeal.sig) → Buf (Elt Ideal) ℓ) (g : Dev Cert.ProjChunkIdeal.nD → PrngReg)
    (m' : (ℓ : Loc Cert.ProjChunkRefIdeal.nD Cert.ProjChunkRefIdeal.τ Cert.ProjChunkRefIdeal.sig) → Buf (Elt Ideal) ℓ) (g' : Dev Cert.ProjChunkRefIdeal.nD → PrngReg), Pre_ProjChunkIdeal m →
    (∀ c : Dev Cert.ProjChunkIdeal.nD,
      m' ((c.tc : Thread Cert.ProjChunkRefIdeal.nD Cert.ProjChunkRefIdeal.τ).loc Cert.ProjChunkRefIdeal.main_arg0) = m ((c.tc : Thread Cert.ProjChunkIdeal.nD Cert.ProjChunkIdeal.τ).loc Cert.ProjChunkIdeal.main_arg0)
      ∧ m' ((c.tc : Thread Cert.ProjChunkRefIdeal.nD Cert.ProjChunkRefIdeal.τ).loc Cert.ProjChunkRefIdeal.main_arg1) = m ((c.tc : Thread Cert.ProjChunkIdeal.nD Cert.ProjChunkIdeal.τ).loc Cert.ProjChunkIdeal.main_arg1)
      ∧ m' ((c.tc : Thread Cert.ProjChunkRefIdeal.nD Cert.ProjChunkRefIdeal.τ).loc Cert.ProjChunkRefIdeal.main_arg2) = m ((c.tc : Thread Cert.ProjChunkIdeal.nD Cert.ProjChunkIdeal.τ).loc Cert.ProjChunkIdeal.main_arg2)) →
    ∃ (v0 : (c : Dev Cert.ProjChunkIdeal.nD) → Buf (Elt Ideal) ((c.tc : Thread Cert.ProjChunkIdeal.nD Cert.ProjChunkIdeal.τ).loc Cert.ProjChunkIdeal.main_v0)),
      θ_run (Cert.ProjChunkIdeal.defs (F := Ideal)) (onTc (τ := Cert.ProjChunkIdeal.τ) (Cert.ProjChunkIdeal.main (F := Ideal))) ⟨m, fun _ => 0, g⟩ (fun r => ∀ c : Dev Cert.ProjChunkIdeal.nD,
          r.2.mem ((c.tc : Thread Cert.ProjChunkIdeal.nD Cert.ProjChunkIdeal.τ).loc Cert.ProjChunkIdeal.main_v0) = v0 c
          ∧ r.2.mem ((c.tc : Thread Cert.ProjChunkIdeal.nD Cert.ProjChunkIdeal.τ).loc Cert.ProjChunkIdeal.main_arg0) = m ((c.tc : Thread Cert.ProjChunkIdeal.nD Cert.ProjChunkIdeal.τ).loc Cert.ProjChunkIdeal.main_arg0)
          ∧ r.2.mem ((c.tc : Thread Cert.ProjChunkIdeal.nD Cert.ProjChunkIdeal.τ).loc Cert.ProjChunkIdeal.main_arg1) = m ((c.tc : Thread Cert.ProjChunkIdeal.nD Cert.ProjChunkIdeal.τ).loc Cert.ProjChunkIdeal.main_arg1)
          ∧ r.2.mem ((c.tc : Thread Cert.ProjChunkIdeal.nD Cert.ProjChunkIdeal.τ).loc Cert.ProjChunkIdeal.main_arg2) = m ((c.tc : Thread Cert.ProjChunkIdeal.nD Cert.ProjChunkIdeal.τ).loc Cert.ProjChunkIdeal.main_arg2))
      ∧ θ_run (Cert.ProjChunkRefIdeal.defs (F := Ideal)) (onTc (τ := Cert.ProjChunkRefIdeal.τ) (Cert.ProjChunkRefIdeal.main (F := Ideal))) ⟨m', fun _ => 0, g'⟩ (fun r => ∀ c : Dev Cert.ProjChunkRefIdeal.nD,
          r.2.mem ((c.tc : Thread Cert.ProjChunkRefIdeal.nD Cert.ProjChunkRefIdeal.τ).loc Cert.ProjChunkRefIdeal.main_v9) = v0 c
          ∧ r.2.mem ((c.tc : Thread Cert.ProjChunkRefIdeal.nD Cert.ProjChunkRefIdeal.τ).loc Cert.ProjChunkRefIdeal.main_arg0) = m' ((c.tc : Thread Cert.ProjChunkRefIdeal.nD Cert.ProjChunkRefIdeal.τ).loc Cert.ProjChunkRefIdeal.main_arg0)
          ∧ r.2.mem ((c.tc : Thread Cert.ProjChunkRefIdeal.nD Cert.ProjChunkRefIdeal.τ).loc Cert.ProjChunkRefIdeal.main_arg1) = m' ((c.tc : Thread Cert.ProjChunkRefIdeal.nD Cert.ProjChunkRefIdeal.τ).loc Cert.ProjChunkRefIdeal.main_arg1)
          ∧ r.2.mem ((c.tc : Thread Cert.ProjChunkRefIdeal.nD Cert.ProjChunkRefIdeal.τ).loc Cert.ProjChunkRefIdeal.main_arg2) = m' ((c.tc : Thread Cert.ProjChunkRefIdeal.nD Cert.ProjChunkRefIdeal.τ).loc Cert.ProjChunkRefIdeal.main_arg2))

def preserves_Chunk_ChunkIdeal : Prop :=
  IdealRules.named_const.Statement Cert.ChunkIdeal.κ "mask" .f32 0xF149F2CA#32 ⊥

def algebraic_ChunkIdeal_ChunkRefIdeal [hChunkIdeal : Cert.ChunkIdeal.Facts] [hChunkRefIdeal : Cert.ChunkRefIdeal.Facts] [hPre_chunk_finite : Cert.Pre_chunk_finite.Facts] : Prop :=
  ∀ (m : (ℓ : Loc Cert.ChunkIdeal.nD Cert.ChunkIdeal.τ Cert.ChunkIdeal.sig) → Buf (Elt Ideal) ℓ) (g : Dev Cert.ChunkIdeal.nD → PrngReg)
    (m' : (ℓ : Loc Cert.ChunkRefIdeal.nD Cert.ChunkRefIdeal.τ Cert.ChunkRefIdeal.sig) → Buf (Elt Ideal) ℓ) (g' : Dev Cert.ChunkRefIdeal.nD → PrngReg), Pre_ChunkIdeal m →
    (∀ c : Dev Cert.ChunkIdeal.nD,
      m' ((c.tc : Thread Cert.ChunkRefIdeal.nD Cert.ChunkRefIdeal.τ).loc Cert.ChunkRefIdeal.main_arg0) = m ((c.tc : Thread Cert.ChunkIdeal.nD Cert.ChunkIdeal.τ).loc Cert.ChunkIdeal.main_arg0)
      ∧ m' ((c.tc : Thread Cert.ChunkRefIdeal.nD Cert.ChunkRefIdeal.τ).loc Cert.ChunkRefIdeal.main_arg1) = m ((c.tc : Thread Cert.ChunkIdeal.nD Cert.ChunkIdeal.τ).loc Cert.ChunkIdeal.main_arg1)) →
    ∃ (v0 : (c : Dev Cert.ChunkIdeal.nD) → Buf (Elt Ideal) ((c.tc : Thread Cert.ChunkIdeal.nD Cert.ChunkIdeal.τ).loc Cert.ChunkIdeal.main_v0)),
      θ_run (Cert.ChunkIdeal.defs (F := Ideal)) (onTc (τ := Cert.ChunkIdeal.τ) (Cert.ChunkIdeal.main (F := Ideal))) ⟨m, fun _ => 0, g⟩ (fun r => ∀ c : Dev Cert.ChunkIdeal.nD,
          r.2.mem ((c.tc : Thread Cert.ChunkIdeal.nD Cert.ChunkIdeal.τ).loc Cert.ChunkIdeal.main_v0) = v0 c
          ∧ r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
          ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1))
      ∧ θ_run (Cert.ChunkRefIdeal.defs (F := Ideal)) (onTc (τ := Cert.ChunkRefIdeal.τ) (Cert.ChunkRefIdeal.main (F := Ideal))) ⟨m', fun _ => 0, g'⟩ (fun r => ∀ c : Dev Cert.ChunkRefIdeal.nD,
          r.2.mem ((c.tc : Thread Cert.ChunkRefIdeal.nD Cert.ChunkRefIdeal.τ).loc Cert.ChunkRefIdeal.main_v63) = v0 c
          ∧ r.2.mem ((c.tc : Thread Cert.ChunkRefIdeal.nD Cert.ChunkRefIdeal.τ).loc Cert.ChunkRefIdeal.main_arg0) = m' ((c.tc : Thread Cert.ChunkRefIdeal.nD Cert.ChunkRefIdeal.τ).loc Cert.ChunkRefIdeal.main_arg0)
          ∧ r.2.mem ((c.tc : Thread Cert.ChunkRefIdeal.nD Cert.ChunkRefIdeal.τ).loc Cert.ChunkRefIdeal.main_arg1) = m' ((c.tc : Thread Cert.ChunkRefIdeal.nD Cert.ChunkRefIdeal.τ).loc Cert.ChunkRefIdeal.main_arg1))

def preserves_Peer_PeerIdeal : Prop :=
  True

def algebraic_PeerIdeal_PeerRefIdeal [hPeerIdeal : Cert.PeerIdeal.Facts] [hPeerRefIdeal : Cert.PeerRefIdeal.Facts] [hPre_peer_finite : Cert.Pre_peer_finite.Facts] : Prop :=
  ∀ (m : (ℓ : Loc Cert.PeerIdeal.nD Cert.PeerIdeal.τ Cert.PeerIdeal.sig) → Buf (Elt Ideal) ℓ) (g : Dev Cert.PeerIdeal.nD → PrngReg)
    (m' : (ℓ : Loc Cert.PeerRefIdeal.nD Cert.PeerRefIdeal.τ Cert.PeerRefIdeal.sig) → Buf (Elt Ideal) ℓ) (g' : Dev Cert.PeerRefIdeal.nD → PrngReg), Pre_PeerIdeal m →
    (∀ c : Dev Cert.PeerIdeal.nD,
      m' ((c.tc : Thread Cert.PeerRefIdeal.nD Cert.PeerRefIdeal.τ).loc Cert.PeerRefIdeal.main_arg0) = m ((c.tc : Thread Cert.PeerIdeal.nD Cert.PeerIdeal.τ).loc Cert.PeerIdeal.main_arg0)
      ∧ m' ((c.tc : Thread Cert.PeerRefIdeal.nD Cert.PeerRefIdeal.τ).loc Cert.PeerRefIdeal.main_arg1) = m ((c.tc : Thread Cert.PeerIdeal.nD Cert.PeerIdeal.τ).loc Cert.PeerIdeal.main_arg1)
      ∧ m' ((c.tc : Thread Cert.PeerRefIdeal.nD Cert.PeerRefIdeal.τ).loc Cert.PeerRefIdeal.main_arg2) = m ((c.tc : Thread Cert.PeerIdeal.nD Cert.PeerIdeal.τ).loc Cert.PeerIdeal.main_arg2)
      ∧ m' ((c.tc : Thread Cert.PeerRefIdeal.nD Cert.PeerRefIdeal.τ).loc Cert.PeerRefIdeal.main_arg3) = m ((c.tc : Thread Cert.PeerIdeal.nD Cert.PeerIdeal.τ).loc Cert.PeerIdeal.main_arg3)
      ∧ m' ((c.tc : Thread Cert.PeerRefIdeal.nD Cert.PeerRefIdeal.τ).loc Cert.PeerRefIdeal.main_arg4) = m ((c.tc : Thread Cert.PeerIdeal.nD Cert.PeerIdeal.τ).loc Cert.PeerIdeal.main_arg4)
      ∧ m' ((c.tc : Thread Cert.PeerRefIdeal.nD Cert.PeerRefIdeal.τ).loc Cert.PeerRefIdeal.main_arg5) = m ((c.tc : Thread Cert.PeerIdeal.nD Cert.PeerIdeal.τ).loc Cert.PeerIdeal.main_arg5)
      ∧ m' ((c.tc : Thread Cert.PeerRefIdeal.nD Cert.PeerRefIdeal.τ).loc Cert.PeerRefIdeal.main_arg6) = m ((c.tc : Thread Cert.PeerIdeal.nD Cert.PeerIdeal.τ).loc Cert.PeerIdeal.main_arg6)) →
    ∃ (v0 : (c : Dev Cert.PeerIdeal.nD) → Buf (Elt Ideal) ((c.tc : Thread Cert.PeerIdeal.nD Cert.PeerIdeal.τ).loc Cert.PeerIdeal.main_v0)),
      θ_run (Cert.PeerIdeal.defs (F := Ideal)) (onTc (τ := Cert.PeerIdeal.τ) (Cert.PeerIdeal.main (F := Ideal))) ⟨m, fun _ => 0, g⟩ (fun r => ∀ c : Dev Cert.PeerIdeal.nD,
          r.2.mem ((c.tc : Thread Cert.PeerIdeal.nD Cert.PeerIdeal.τ).loc Cert.PeerIdeal.main_v0) = v0 c
          ∧ r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
          ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
          ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
          ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
          ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
          ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
          ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6))
      ∧ θ_run (Cert.PeerRefIdeal.defs (F := Ideal)) (onTc (τ := Cert.PeerRefIdeal.τ) (Cert.PeerRefIdeal.main (F := Ideal))) ⟨m', fun _ => 0, g'⟩ (fun r => ∀ c : Dev Cert.PeerRefIdeal.nD,
          r.2.mem ((c.tc : Thread Cert.PeerRefIdeal.nD Cert.PeerRefIdeal.τ).loc Cert.PeerRefIdeal.main_v39) = v0 c
          ∧ r.2.mem ((c.tc : Thread Cert.PeerRefIdeal.nD Cert.PeerRefIdeal.τ).loc Cert.PeerRefIdeal.main_arg0) = m' ((c.tc : Thread Cert.PeerRefIdeal.nD Cert.PeerRefIdeal.τ).loc Cert.PeerRefIdeal.main_arg0)
          ∧ r.2.mem ((c.tc : Thread Cert.PeerRefIdeal.nD Cert.PeerRefIdeal.τ).loc Cert.PeerRefIdeal.main_arg1) = m' ((c.tc : Thread Cert.PeerRefIdeal.nD Cert.PeerRefIdeal.τ).loc Cert.PeerRefIdeal.main_arg1)
          ∧ r.2.mem ((c.tc : Thread Cert.PeerRefIdeal.nD Cert.PeerRefIdeal.τ).loc Cert.PeerRefIdeal.main_arg2) = m' ((c.tc : Thread Cert.PeerRefIdeal.nD Cert.PeerRefIdeal.τ).loc Cert.PeerRefIdeal.main_arg2)
          ∧ r.2.mem ((c.tc : Thread Cert.PeerRefIdeal.nD Cert.PeerRefIdeal.τ).loc Cert.PeerRefIdeal.main_arg3) = m' ((c.tc : Thread Cert.PeerRefIdeal.nD Cert.PeerRefIdeal.τ).loc Cert.PeerRefIdeal.main_arg3)
          ∧ r.2.mem ((c.tc : Thread Cert.PeerRefIdeal.nD Cert.PeerRefIdeal.τ).loc Cert.PeerRefIdeal.main_arg4) = m' ((c.tc : Thread Cert.PeerRefIdeal.nD Cert.PeerRefIdeal.τ).loc Cert.PeerRefIdeal.main_arg4)
          ∧ r.2.mem ((c.tc : Thread Cert.PeerRefIdeal.nD Cert.PeerRefIdeal.τ).loc Cert.PeerRefIdeal.main_arg5) = m' ((c.tc : Thread Cert.PeerRefIdeal.nD Cert.PeerRefIdeal.τ).loc Cert.PeerRefIdeal.main_arg5)
          ∧ r.2.mem ((c.tc : Thread Cert.PeerRefIdeal.nD Cert.PeerRefIdeal.τ).loc Cert.PeerRefIdeal.main_arg6) = m' ((c.tc : Thread Cert.PeerRefIdeal.nD Cert.PeerRefIdeal.τ).loc Cert.PeerRefIdeal.main_arg6))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v96) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v26) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_ProjForget_ProjForgetIdeal : Prop :=
  True

def algebraic_ProjForgetIdeal_ProjForgetRefIdeal [hProjForgetIdeal : Cert.ProjForgetIdeal.Facts] [hProjForgetRefIdeal : Cert.ProjForgetRefIdeal.Facts] : Prop :=
  ∀ (m : (ℓ : Loc Cert.ProjForgetIdeal.nD Cert.ProjForgetIdeal.τ Cert.ProjForgetIdeal.sig) → Buf (Elt Ideal) ℓ) (g : Dev Cert.ProjForgetIdeal.nD → PrngReg)
    (m' : (ℓ : Loc Cert.ProjForgetRefIdeal.nD Cert.ProjForgetRefIdeal.τ Cert.ProjForgetRefIdeal.sig) → Buf (Elt Ideal) ℓ) (g' : Dev Cert.ProjForgetRefIdeal.nD → PrngReg), Pre_ProjForgetIdeal m →
    (∀ c : Dev Cert.ProjForgetIdeal.nD,
      m' ((c.tc : Thread Cert.ProjForgetRefIdeal.nD Cert.ProjForgetRefIdeal.τ).loc Cert.ProjForgetRefIdeal.main_arg0) = m ((c.tc : Thread Cert.ProjForgetIdeal.nD Cert.ProjForgetIdeal.τ).loc Cert.ProjForgetIdeal.main_arg0)
      ∧ m' ((c.tc : Thread Cert.ProjForgetRefIdeal.nD Cert.ProjForgetRefIdeal.τ).loc Cert.ProjForgetRefIdeal.main_arg1) = m ((c.tc : Thread Cert.ProjForgetIdeal.nD Cert.ProjForgetIdeal.τ).loc Cert.ProjForgetIdeal.main_arg1)
      ∧ m' ((c.tc : Thread Cert.ProjForgetRefIdeal.nD Cert.ProjForgetRefIdeal.τ).loc Cert.ProjForgetRefIdeal.main_arg2) = m ((c.tc : Thread Cert.ProjForgetIdeal.nD Cert.ProjForgetIdeal.τ).loc Cert.ProjForgetIdeal.main_arg2)) →
    ∃ (v0 : (c : Dev Cert.ProjForgetIdeal.nD) → Buf (Elt Ideal) ((c.tc : Thread Cert.ProjForgetIdeal.nD Cert.ProjForgetIdeal.τ).loc Cert.ProjForgetIdeal.main_v0)),
      θ_run (Cert.ProjForgetIdeal.defs (F := Ideal)) (onTc (τ := Cert.ProjForgetIdeal.τ) (Cert.ProjForgetIdeal.main (F := Ideal))) ⟨m, fun _ => 0, g⟩ (fun r => ∀ c : Dev Cert.ProjForgetIdeal.nD,
          r.2.mem ((c.tc : Thread Cert.ProjForgetIdeal.nD Cert.ProjForgetIdeal.τ).loc Cert.ProjForgetIdeal.main_v0) = v0 c
          ∧ r.2.mem ((c.tc : Thread Cert.ProjForgetIdeal.nD Cert.ProjForgetIdeal.τ).loc Cert.ProjForgetIdeal.main_arg0) = m ((c.tc : Thread Cert.ProjForgetIdeal.nD Cert.ProjForgetIdeal.τ).loc Cert.ProjForgetIdeal.main_arg0)
          ∧ r.2.mem ((c.tc : Thread Cert.ProjForgetIdeal.nD Cert.ProjForgetIdeal.τ).loc Cert.ProjForgetIdeal.main_arg1) = m ((c.tc : Thread Cert.ProjForgetIdeal.nD Cert.ProjForgetIdeal.τ).loc Cert.ProjForgetIdeal.main_arg1)
          ∧ r.2.mem ((c.tc : Thread Cert.ProjForgetIdeal.nD Cert.ProjForgetIdeal.τ).loc Cert.ProjForgetIdeal.main_arg2) = m ((c.tc : Thread Cert.ProjForgetIdeal.nD Cert.ProjForgetIdeal.τ).loc Cert.ProjForgetIdeal.main_arg2))
      ∧ θ_run (Cert.ProjForgetRefIdeal.defs (F := Ideal)) (onTc (τ := Cert.ProjForgetRefIdeal.τ) (Cert.ProjForgetRefIdeal.main (F := Ideal))) ⟨m', fun _ => 0, g'⟩ (fun r => ∀ c : Dev Cert.ProjForgetRefIdeal.nD,
          r.2.mem ((c.tc : Thread Cert.ProjForgetRefIdeal.nD Cert.ProjForgetRefIdeal.τ).loc Cert.ProjForgetRefIdeal.main_v8) = v0 c
          ∧ r.2.mem ((c.tc : Thread Cert.ProjForgetRefIdeal.nD Cert.ProjForgetRefIdeal.τ).loc Cert.ProjForgetRefIdeal.main_arg0) = m' ((c.tc : Thread Cert.ProjForgetRefIdeal.nD Cert.ProjForgetRefIdeal.τ).loc Cert.ProjForgetRefIdeal.main_arg0)
          ∧ r.2.mem ((c.tc : Thread Cert.ProjForgetRefIdeal.nD Cert.ProjForgetRefIdeal.τ).loc Cert.ProjForgetRefIdeal.main_arg1) = m' ((c.tc : Thread Cert.ProjForgetRefIdeal.nD Cert.ProjForgetRefIdeal.τ).loc Cert.ProjForgetRefIdeal.main_arg1)
          ∧ r.2.mem ((c.tc : Thread Cert.ProjForgetRefIdeal.nD Cert.ProjForgetRefIdeal.τ).loc Cert.ProjForgetRefIdeal.main_arg2) = m' ((c.tc : Thread Cert.ProjForgetRefIdeal.nD Cert.ProjForgetRefIdeal.τ).loc Cert.ProjForgetRefIdeal.main_arg2))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v0) = v0 c
          ∧ r.2.mem ((c.tc : Thread Cert.NormInRefIdeal.nD Cert.NormInRefIdeal.τ).loc Cert.NormInRefIdeal.main_v16) = v1 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2))

def preserves_NormOut_NormOutIdeal : Prop :=
  True

def algebraic_NormOutIdeal_NormOutRefIdeal [hNormOutIdeal : Cert.NormOutIdeal.Facts] [hNormOutRefIdeal : Cert.NormOutRefIdeal.Facts] : Prop :=
  ∀ (m : (ℓ : Loc Cert.NormOutIdeal.nD Cert.NormOutIdeal.τ Cert.NormOutIdeal.sig) → Buf (Elt Ideal) ℓ) (g : Dev Cert.NormOutIdeal.nD → PrngReg)
    (m' : (ℓ : Loc Cert.NormOutRefIdeal.nD Cert.NormOutRefIdeal.τ Cert.NormOutRefIdeal.sig) → Buf (Elt Ideal) ℓ) (g' : Dev Cert.NormOutRefIdeal.nD → PrngReg), Pre_NormOutIdeal m →
    (∀ c : Dev Cert.NormOutIdeal.nD,
      m' ((c.tc : Thread Cert.NormOutRefIdeal.nD Cert.NormOutRefIdeal.τ).loc Cert.NormOutRefIdeal.main_arg0) = m ((c.tc : Thread Cert.NormOutIdeal.nD Cert.NormOutIdeal.τ).loc Cert.NormOutIdeal.main_arg0)
      ∧ m' ((c.tc : Thread Cert.NormOutRefIdeal.nD Cert.NormOutRefIdeal.τ).loc Cert.NormOutRefIdeal.main_arg1) = m ((c.tc : Thread Cert.NormOutIdeal.nD Cert.NormOutIdeal.τ).loc Cert.NormOutIdeal.main_arg1)
      ∧ m' ((c.tc : Thread Cert.NormOutRefIdeal.nD Cert.NormOutRefIdeal.τ).loc Cert.NormOutRefIdeal.main_arg2) = m ((c.tc : Thread Cert.NormOutIdeal.nD Cert.NormOutIdeal.τ).loc Cert.NormOutIdeal.main_arg2)) →
    ∃ (v0 : (c : Dev Cert.NormOutIdeal.nD) → Buf (Elt Ideal) ((c.tc : Thread Cert.NormOutIdeal.nD Cert.NormOutIdeal.τ).loc Cert.NormOutIdeal.main_v0)),
      θ_run (Cert.NormOutIdeal.defs (F := Ideal)) (onTc (τ := Cert.NormOutIdeal.τ) (Cert.NormOutIdeal.main (F := Ideal))) ⟨m, fun _ => 0, g⟩ (fun r => ∀ c : Dev Cert.NormOutIdeal.nD,
          r.2.mem ((c.tc : Thread Cert.NormOutIdeal.nD Cert.NormOutIdeal.τ).loc Cert.NormOutIdeal.main_v0) = v0 c
          ∧ r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
          ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1)
          ∧ r.2.mem ((c.tc : Thread Cert.NormOutIdeal.nD Cert.NormOutIdeal.τ).loc Cert.NormOutIdeal.main_arg2) = m ((c.tc : Thread Cert.NormOutIdeal.nD Cert.NormOutIdeal.τ).loc Cert.NormOutIdeal.main_arg2))
      ∧ θ_run (Cert.NormOutRefIdeal.defs (F := Ideal)) (onTc (τ := Cert.NormOutRefIdeal.τ) (Cert.NormOutRefIdeal.main (F := Ideal))) ⟨m', fun _ => 0, g'⟩ (fun r => ∀ c : Dev Cert.NormOutRefIdeal.nD,
          r.2.mem ((c.tc : Thread Cert.NormOutRefIdeal.nD Cert.NormOutRefIdeal.τ).loc Cert.NormOutRefIdeal.main_v14) = v0 c
          ∧ r.2.mem ((c.tc : Thread Cert.NormOutRefIdeal.nD Cert.NormOutRefIdeal.τ).loc Cert.NormOutRefIdeal.main_arg0) = m' ((c.tc : Thread Cert.NormOutRefIdeal.nD Cert.NormOutRefIdeal.τ).loc Cert.NormOutRefIdeal.main_arg0)
          ∧ r.2.mem ((c.tc : Thread Cert.NormOutRefIdeal.nD Cert.NormOutRefIdeal.τ).loc Cert.NormOutRefIdeal.main_arg1) = m' ((c.tc : Thread Cert.NormOutRefIdeal.nD Cert.NormOutRefIdeal.τ).loc Cert.NormOutRefIdeal.main_arg1)
          ∧ r.2.mem ((c.tc : Thread Cert.NormOutRefIdeal.nD Cert.NormOutRefIdeal.τ).loc Cert.NormOutRefIdeal.main_arg2) = m' ((c.tc : Thread Cert.NormOutRefIdeal.nD Cert.NormOutRefIdeal.τ).loc Cert.NormOutRefIdeal.main_arg2))

def preserves_NormFirst_NormFirstIdeal : Prop :=
  True

def algebraic_NormFirstIdeal_NormFirstRefIdeal [hNormFirstIdeal : Cert.NormFirstIdeal.Facts] [hNormFirstRefIdeal : Cert.NormFirstRefIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)) →
    ∃ (v0 : (c : Dev Cert.NormFirstIdeal.nD) → Buf (Elt Ideal) ((c.tc : Thread Cert.NormFirstIdeal.nD Cert.NormFirstIdeal.τ).loc Cert.NormFirstIdeal.main_v0)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v0) = v0 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v15) = v0 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1))

def preserves_Decay_DecayIdeal : Prop :=
  True

def algebraic_DecayIdeal_DecayRefIdeal [hDecayIdeal : Cert.DecayIdeal.Facts] [hDecayRefIdeal : Cert.DecayRefIdeal.Facts] : Prop :=
  ∀ (m : (ℓ : Loc Cert.DecayIdeal.nD Cert.DecayIdeal.τ Cert.DecayIdeal.sig) → Buf (Elt Ideal) ℓ) (g : Dev Cert.DecayIdeal.nD → PrngReg)
    (m' : (ℓ : Loc Cert.DecayRefIdeal.nD Cert.DecayRefIdeal.τ Cert.DecayRefIdeal.sig) → Buf (Elt Ideal) ℓ) (g' : Dev Cert.DecayRefIdeal.nD → PrngReg), Pre_DecayIdeal m →
    (∀ c : Dev Cert.DecayIdeal.nD,
      m' ((c.tc : Thread Cert.DecayRefIdeal.nD Cert.DecayRefIdeal.τ).loc Cert.DecayRefIdeal.main_arg0) = m ((c.tc : Thread Cert.DecayIdeal.nD Cert.DecayIdeal.τ).loc Cert.DecayIdeal.main_arg0)) →
    ∃ (v0 : (c : Dev Cert.DecayIdeal.nD) → Buf (Elt Ideal) ((c.tc : Thread Cert.DecayIdeal.nD Cert.DecayIdeal.τ).loc Cert.DecayIdeal.main_v0_0)) (v1 : (c : Dev Cert.DecayIdeal.nD) → Buf (Elt Ideal) ((c.tc : Thread Cert.DecayIdeal.nD Cert.DecayIdeal.τ).loc Cert.DecayIdeal.main_v0_1)),
      θ_run (Cert.DecayIdeal.defs (F := Ideal)) (onTc (τ := Cert.DecayIdeal.τ) (Cert.DecayIdeal.main (F := Ideal))) ⟨m, fun _ => 0, g⟩ (fun r => ∀ c : Dev Cert.DecayIdeal.nD,
          r.2.mem ((c.tc : Thread Cert.DecayIdeal.nD Cert.DecayIdeal.τ).loc Cert.DecayIdeal.main_v0_0) = v0 c
          ∧ r.2.mem ((c.tc : Thread Cert.DecayIdeal.nD Cert.DecayIdeal.τ).loc Cert.DecayIdeal.main_v0_1) = v1 c
          ∧ r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0))
      ∧ θ_run (Cert.DecayRefIdeal.defs (F := Ideal)) (onTc (τ := Cert.DecayRefIdeal.τ) (Cert.DecayRefIdeal.main (F := Ideal))) ⟨m', fun _ => 0, g'⟩ (fun r => ∀ c : Dev Cert.DecayRefIdeal.nD,
          r.2.mem ((c.tc : Thread Cert.DecayRefIdeal.nD Cert.DecayRefIdeal.τ).loc Cert.DecayRefIdeal.main_v5) = v0 c
          ∧ r.2.mem ((c.tc : Thread Cert.DecayRefIdeal.nD Cert.DecayRefIdeal.τ).loc Cert.DecayRefIdeal.main_v6) = v1 c
          ∧ r.2.mem ((c.tc : Thread Cert.DecayRefIdeal.nD Cert.DecayRefIdeal.τ).loc Cert.DecayRefIdeal.main_arg0) = m' ((c.tc : Thread Cert.DecayRefIdeal.nD Cert.DecayRefIdeal.τ).loc Cert.DecayRefIdeal.main_arg0))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hProjFox : Cert.ProjFox.Facts) (hProjFoxIdeal : Cert.ProjFoxIdeal.Facts) (hProjFoxRefIdeal : Cert.ProjFoxRefIdeal.Facts) (hProjPool : Cert.ProjPool.Facts) (hProjPoolIdeal : Cert.ProjPoolIdeal.Facts) (hProjPoolRefIdeal : Cert.ProjPoolRefIdeal.Facts) (hProjChunk : Cert.ProjChunk.Facts) (hProjChunkIdeal : Cert.ProjChunkIdeal.Facts) (hProjChunkRefIdeal : Cert.ProjChunkRefIdeal.Facts) (hChunk : Cert.Chunk.Facts) (hChunkIdeal : Cert.ChunkIdeal.Facts) (hChunkRefIdeal : Cert.ChunkRefIdeal.Facts) (hPeer : Cert.Peer.Facts) (hPeerIdeal : Cert.PeerIdeal.Facts) (hPeerRefIdeal : Cert.PeerRefIdeal.Facts) (hPool : Cert.Pool.Facts) (hPoolIdeal : Cert.PoolIdeal.Facts) (hPoolRefIdeal : Cert.PoolRefIdeal.Facts) (hConv : Cert.Conv.Facts) (hConvIdeal : Cert.ConvIdeal.Facts) (hConvRefIdeal : Cert.ConvRefIdeal.Facts) (hProjForget : Cert.ProjForget.Facts) (hProjForgetIdeal : Cert.ProjForgetIdeal.Facts) (hProjForgetRefIdeal : Cert.ProjForgetRefIdeal.Facts) (hNormIn : Cert.NormIn.Facts) (hNormInIdeal : Cert.NormInIdeal.Facts) (hNormInRefIdeal : Cert.NormInRefIdeal.Facts) (hNormOut : Cert.NormOut.Facts) (hNormOutIdeal : Cert.NormOutIdeal.Facts) (hNormOutRefIdeal : Cert.NormOutRefIdeal.Facts) (hNormFirst : Cert.NormFirst.Facts) (hNormFirstIdeal : Cert.NormFirstIdeal.Facts) (hNormFirstRefIdeal : Cert.NormFirstRefIdeal.Facts) (hDecay : Cert.Decay.Facts) (hDecayIdeal : Cert.DecayIdeal.Facts) (hDecayRefIdeal : Cert.DecayRefIdeal.Facts) (hPre_finite : Cert.Pre_finite.Facts) (hPre_chunk_finite : Cert.Pre_chunk_finite.Facts) (hPre_peer_finite : Cert.Pre_peer_finite.Facts),
    quiescent_Kernel (hKernel := hKernel)
    ∧ quiescent_Kernel_pre_finite (hKernel := hKernel) (hPre_finite := hPre_finite)
    ∧ quiescent_KernelIdeal (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_ProjFox (hProjFox := hProjFox)
    ∧ quiescent_ProjFoxIdeal (hProjFoxIdeal := hProjFoxIdeal)
    ∧ quiescent_ProjFoxRefIdeal (hProjFoxRefIdeal := hProjFoxRefIdeal)
    ∧ quiescent_ProjPool (hProjPool := hProjPool)
    ∧ quiescent_ProjPoolIdeal (hProjPoolIdeal := hProjPoolIdeal)
    ∧ quiescent_ProjPoolRefIdeal (hProjPoolRefIdeal := hProjPoolRefIdeal)
    ∧ quiescent_ProjChunk (hProjChunk := hProjChunk)
    ∧ quiescent_ProjChunkIdeal (hProjChunkIdeal := hProjChunkIdeal)
    ∧ quiescent_ProjChunkRefIdeal (hProjChunkRefIdeal := hProjChunkRefIdeal)
    ∧ quiescent_Chunk (hChunk := hChunk)
    ∧ quiescent_Chunk_pre_chunk_finite (hChunk := hChunk) (hPre_chunk_finite := hPre_chunk_finite)
    ∧ quiescent_ChunkIdeal (hChunkIdeal := hChunkIdeal) (hPre_chunk_finite := hPre_chunk_finite)
    ∧ quiescent_ChunkRefIdeal (hChunkRefIdeal := hChunkRefIdeal)
    ∧ quiescent_ChunkRefIdeal_pre_chunk_finite (hChunkRefIdeal := hChunkRefIdeal) (hPre_chunk_finite := hPre_chunk_finite)
    ∧ quiescent_Peer (hPeer := hPeer)
    ∧ quiescent_Peer_pre_peer_finite (hPeer := hPeer) (hPre_peer_finite := hPre_peer_finite)
    ∧ quiescent_PeerIdeal (hPeerIdeal := hPeerIdeal) (hPre_peer_finite := hPre_peer_finite)
    ∧ quiescent_PeerRefIdeal (hPeerRefIdeal := hPeerRefIdeal)
    ∧ quiescent_PeerRefIdeal_pre_peer_finite (hPeerRefIdeal := hPeerRefIdeal) (hPre_peer_finite := hPre_peer_finite)
    ∧ quiescent_Pool (hPool := hPool)
    ∧ quiescent_PoolIdeal (hPoolIdeal := hPoolIdeal)
    ∧ quiescent_PoolRefIdeal (hPoolRefIdeal := hPoolRefIdeal)
    ∧ quiescent_Conv (hConv := hConv)
    ∧ quiescent_ConvIdeal (hConvIdeal := hConvIdeal)
    ∧ quiescent_ConvRefIdeal (hConvRefIdeal := hConvRefIdeal)
    ∧ quiescent_ProjForget (hProjForget := hProjForget)
    ∧ quiescent_ProjForgetIdeal (hProjForgetIdeal := hProjForgetIdeal)
    ∧ quiescent_ProjForgetRefIdeal (hProjForgetRefIdeal := hProjForgetRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_NormOut (hNormOut := hNormOut)
    ∧ quiescent_NormOutIdeal (hNormOutIdeal := hNormOutIdeal)
    ∧ quiescent_NormOutRefIdeal (hNormOutRefIdeal := hNormOutRefIdeal)
    ∧ quiescent_NormFirst (hNormFirst := hNormFirst)
    ∧ quiescent_NormFirstIdeal (hNormFirstIdeal := hNormFirstIdeal)
    ∧ quiescent_NormFirstRefIdeal (hNormFirstRefIdeal := hNormFirstRefIdeal)
    ∧ quiescent_Decay (hDecay := hDecay)
    ∧ quiescent_DecayIdeal (hDecayIdeal := hDecayIdeal)
    ∧ quiescent_DecayRefIdeal (hDecayRefIdeal := hDecayRefIdeal)
    ∧ preserves_Kernel_KernelIdeal
    ∧ algebraic_KernelIdeal_ReferenceIdeal (hKernelIdeal := hKernelIdeal) (hReferenceIdeal := hReferenceIdeal) (hPre_finite := hPre_finite)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_ProjFox_ProjFoxIdeal
    ∧ algebraic_ProjFoxIdeal_ProjFoxRefIdeal (hProjFoxIdeal := hProjFoxIdeal) (hProjFoxRefIdeal := hProjFoxRefIdeal)
    ∧ preserves_ProjPool_ProjPoolIdeal
    ∧ algebraic_ProjPoolIdeal_ProjPoolRefIdeal (hProjPoolIdeal := hProjPoolIdeal) (hProjPoolRefIdeal := hProjPoolRefIdeal)
    ∧ preserves_ProjChunk_ProjChunkIdeal
    ∧ algebraic_ProjChunkIdeal_ProjChunkRefIdeal (hProjChunkIdeal := hProjChunkIdeal) (hProjChunkRefIdeal := hProjChunkRefIdeal)
    ∧ preserves_Chunk_ChunkIdeal
    ∧ algebraic_ChunkIdeal_ChunkRefIdeal (hChunkIdeal := hChunkIdeal) (hChunkRefIdeal := hChunkRefIdeal) (hPre_chunk_finite := hPre_chunk_finite)
    ∧ preserves_Peer_PeerIdeal
    ∧ algebraic_PeerIdeal_PeerRefIdeal (hPeerIdeal := hPeerIdeal) (hPeerRefIdeal := hPeerRefIdeal) (hPre_peer_finite := hPre_peer_finite)
    ∧ preserves_Pool_PoolIdeal
    ∧ algebraic_PoolIdeal_PoolRefIdeal (hPoolIdeal := hPoolIdeal) (hPoolRefIdeal := hPoolRefIdeal)
    ∧ preserves_Conv_ConvIdeal
    ∧ algebraic_ConvIdeal_ConvRefIdeal (hConvIdeal := hConvIdeal) (hConvRefIdeal := hConvRefIdeal)
    ∧ preserves_ProjForget_ProjForgetIdeal
    ∧ algebraic_ProjForgetIdeal_ProjForgetRefIdeal (hProjForgetIdeal := hProjForgetIdeal) (hProjForgetRefIdeal := hProjForgetRefIdeal)
    ∧ preserves_NormIn_NormInIdeal
    ∧ algebraic_NormInIdeal_NormInRefIdeal (hNormInIdeal := hNormInIdeal) (hNormInRefIdeal := hNormInRefIdeal)
    ∧ preserves_NormOut_NormOutIdeal
    ∧ algebraic_NormOutIdeal_NormOutRefIdeal (hNormOutIdeal := hNormOutIdeal) (hNormOutRefIdeal := hNormOutRefIdeal)
    ∧ preserves_NormFirst_NormFirstIdeal
    ∧ algebraic_NormFirstIdeal_NormFirstRefIdeal (hNormFirstIdeal := hNormFirstIdeal) (hNormFirstRefIdeal := hNormFirstRefIdeal)
    ∧ preserves_Decay_DecayIdeal
    ∧ algebraic_DecayIdeal_DecayRefIdeal (hDecayIdeal := hDecayIdeal) (hDecayRefIdeal := hDecayRefIdeal)
-- ==== Pre_chunk_finite.lean ====
abbrev S4x2048x1536 : Shape := ⟨3, ![4, 2048, 1536]⟩
abbrev S8x256x768 : Shape := ⟨3, ![8, 256, 768]⟩
abbrev S4x2048x1024 : Shape := ⟨3, ![4, 2048, 1024]⟩
abbrev S_ : Shape := ⟨0, ![]⟩

class Facts : Prop where
  slices_S4x2048x1536_S4x2048x1024_0_0_0 : S4x2048x1536.Slices ![0, 0, 0] S4x2048x1024
  bitsLt_bf16_f32 : FTy.bits .bf16 < FTy.bits .f32
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8x256x768 : S_.BroadcastsInDim S8x256x768 (![] : Fin 0 → Fin S8x256x768.rank)
  reducesTo_S8x256x768_S_d0_1_2 : S8x256x768.ReducesTo [0, 1, 2] S_

variable [Facts]

def fn {F : FTy → Type} [FloatOps F] (main_arg0 : FVec F S4x2048x1536 .bf16) (main_arg1 : FVec F S8x256x768 .f32) : IVec S_ 1 :=
  let main_v0 : FVec F S4x2048x1024 .bf16 := (extractStridedSlice S4x2048x1024 ![0, 0, 0] · slices_S4x2048x1536_S4x2048x1024_0_0_0) main_arg0
  let main_v1 : FVec F S4x2048x1024 .f32 := (extf .f32 · bitsLt_bf16_f32) main_v0
  let main_v2 : FVec F S4x2048x1024 .f32 := Host.absf main_v1
  let main_cst : FVec F S_ .f32 := constant S_ .f32 0x7F800000#32
  let main_v3 : FVec F S4x2048x1024 .f32 := broadcastInDim S4x2048x1024 ![] bcast_S_S4x2048x1024 main_cst
  let main_v4 : IVec S4x2048x1024 1 := cmpf .olt main_v2 main_v3
  let main_c : IVec S_ 1 := constantI S_ 1 1#1
  let main_v5 : IVec S_ 1 := (fun x v => Host.reduce IntOp.andi x v reducesTo_S4x2048x1024_S_d0_1_2 h_S_) main_v4 main_c
  let main_v6 : FVec F S8x256x768 .f32 := Host.absf main_arg1
  let main_cst_0 : FVec F S_ .f32 := constant S_ .f32 0x7F800000#32
  let main_v7 : FVec F S8x256x768 .f32 := broadcastInDim S8x256x768 ![] bcast_S_S8x256x768 main_cst_0
  let main_v8 : IVec S8x256x768 1 := cmpf .olt main_v6 main_v7
  let main_c_1 : IVec S_ 1 := constantI S_ 1 1#1
  let main_v9 : IVec S_ 1 := (fun x v => Host.reduce IntOp.andi x v reducesTo_S8x256x768_S_d0_1_2 h_S_) main_v8 main_c_1
  let main_v10 : IVec S_ 1 := andi main_v5 main_v9
  main_v10
-- ==== Pre_finite.lean ====
abbrev S4x2048x1536 : Shape := ⟨3, ![4, 2048, 1536]⟩
abbrev S4x4x2048 : Shape := ⟨3, ![4, 4, 2048]⟩
abbrev S4x2048x1024 : Shape := ⟨3, ![4, 2048, 1024]⟩
abbrev S_ : Shape := ⟨0, ![]⟩

class Facts : Prop where
  slices_S4x2048x1536_S4x2048x1024_0_0_0 : S4x2048x1536.Slices ![0, 0, 0] S4x2048x1024
  bitsLt_bf16_f32 : FTy.bits .bf16 < FTy.bits .f32
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x4x2048 : S_.BroadcastsInDim S4x4x2048 (![] : Fin 0 → Fin S4x4x2048.rank)
  reducesTo_S4x4x2048_S_d0_1_2 : S4x4x2048.ReducesTo [0, 1, 2] S_

variable [Facts]

def fn {F : FTy → Type} [FloatOps F] (main_arg0 : FVec F S4x2048x1536 .bf16) (main_arg1 : FVec F S4x4x2048 .f32) : IVec S_ 1 :=
  let main_v0 : FVec F S4x2048x1024 .bf16 := (extractStridedSlice S4x2048x1024 ![0, 0, 0] · slices_S4x2048x1536_S4x2048x1024_0_0_0) main_arg0
  let main_v1 : FVec F S4x2048x1024 .f32 := (extf .f32 · bitsLt_bf16_f32) main_v0
  let main_v2 : FVec F S4x2048x1024 .f32 := Host.absf main_v1
  let main_cst : FVec F S_ .f32 := constant S_ .f32 0x7F800000#32
  let main_v3 : FVec F S4x2048x1024 .f32 := broadcastInDim S4x2048x1024 ![] bcast_S_S4x2048x1024 main_cst
  let main_v4 : IVec S4x2048x1024 1 := cmpf .olt main_v2 main_v3
  let main_c : IVec S_ 1 := constantI S_ 1 1#1
  let main_v5 : IVec S_ 1 := (fun x v => Host.reduce IntOp.andi x v reducesTo_S4x2048x1024_S_d0_1_2 h_S_) main_v4 main_c
  let main_v6 : FVec F S4x4x2048 .f32 := Host.absf main_arg1
  let main_cst_0 : FVec F S_ .f32 := constant S_ .f32 0x7F800000#32
  let main_v7 : FVec F S4x4x2048 .f32 := broadcastInDim S4x4x2048 ![] bcast_S_S4x4x2048 main_cst_0
  let main_v8 : IVec S4x4x2048 1 := cmpf .olt main_v6 main_v7
  let main_c_1 : IVec S_ 1 := constantI S_ 1 1#1
  let main_v9 : IVec S_ 1 := (fun x v => Host.reduce IntOp.andi x v reducesTo_S4x4x2048_S_d0_1_2 h_S_) main_v8 main_c_1
  let main_v10 : IVec S_ 1 := andi main_v5 main_v9
  main_v10
-- ==== Pre_peer_finite.lean ====
abbrev S8192x2048 : Shape := ⟨2, ![8192, 2048]⟩
abbrev S2x16384x2048 : Shape := ⟨3, ![2, 16384, 2048]⟩
abbrev S8x128x8192 : Shape := ⟨3, ![8, 128, 8192]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2x16384x2048 : S_.BroadcastsInDim S2x16384x2048 (![] : Fin 0 → Fin S2x16384x2048.rank)
  reducesTo_S2x16384x2048_S_d0_1_2 : S2x16384x2048.ReducesTo [0, 1, 2] S_

variable [Facts]

def fn {F : FTy → Type} [FloatOps F] (main_arg0 : FVec F S8192x2048 .bf16) (main_arg1 : FVec F S2x16384x2048 .bf16) (main_arg2 : FVec F S2x16384x2048 .bf16) (main_arg3 : FVec F S8x128x8192 .bf16) (main_arg4 : FVec F S8x128x8192 .bf16) (main_arg5 : FVec F S8x128x8192 .f32) (main_arg6 : FVec F S8x128x8192 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S2x16384x2048 .f32 := (extf .f32 · bitsLt_bf16_f32) main_arg1
  let main_v6 : FVec F S2x16384x2048 .f32 := Host.absf main_v5
  let main_cst_0 : FVec F S_ .f32 := constant S_ .f32 0x7F800000#32
  let main_v7 : FVec F S2x16384x2048 .f32 := broadcastInDim S2x16384x2048 ![] bcast_S_S2x16384x2048 main_cst_0
  let main_v8 : IVec S2x16384x2048 1 := cmpf .olt main_v6 main_v7
  let main_c_1 : IVec S_ 1 := constantI S_ 1 1#1
  let main_v9 : IVec S_ 1 := (fun x v => Host.reduce IntOp.andi x v reducesTo_S2x16384x2048_S_d0_1_2 h_S_) main_v8 main_c_1
  let main_v10 : IVec S_ 1 := andi main_v4 main_v9
  main_v10
-- ==== Kernel.lean ====
abbrev S4x2048x1536 : Shape := ⟨3, ![4, 2048, 1536]⟩
abbrev S4x4x2048 : Shape := ⟨3, ![4, 4, 2048]⟩
abbrev S4x4x2048x1 : Shape := ⟨4, ![4, 4, 2048, 1]⟩
abbrev S4x4x2048x128 : Shape := ⟨4, ![4, 4, 2048, 128]⟩
abbrev S4x4x4x1x512 : Shape := ⟨5, ![4, 4, 4, 1, 512]⟩
abbrev S4x4x4x8x512 : Shape := ⟨5, ![4, 4, 4, 8, 512]⟩
abbrev S4x2048x512 : Shape := ⟨3, ![4, 2048, 512]⟩
abbrev S1x512x128 : Shape := ⟨3, ![1, 512, 128]⟩
abbrev S1x2048x128 : Shape := ⟨3, ![1, 2048, 128]⟩
abbrev S1x1x512x128 : Shape := ⟨4, ![1, 1, 512, 128]⟩
abbrev S1x1x4x8x512 : Shape := ⟨5, ![1, 1, 4, 8, 512]⟩
abbrev S512x128 : Shape := ⟨2, ![512, 128]⟩
abbrev S512x512 : Shape := ⟨2, ![512, 512]⟩
abbrev S512x1 : Shape := ⟨2, ![512, 1]⟩
abbrev S1x1x1x8x512 : Shape := ⟨5, ![1, 1, 1, 8, 512]⟩
abbrev S8x512 : Shape := ⟨2, ![8, 512]⟩
abbrev S1x512 : Shape := ⟨2, ![1, 512]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S4x2048x1536, .bf16⟩
  | .hbm, ⟨1, _⟩ => ⟨S4x4x2048, .f32⟩
  | .hbm, ⟨2, _⟩ => ⟨S4x4x2048x1, .f32⟩
  | .hbm, ⟨3, _⟩ => ⟨S4x4x2048x128, .f32⟩
  | .hbm, ⟨4, _⟩ => ⟨S4x4x4x1x512, .f32⟩
  | .hbm, ⟨5, _⟩ => ⟨S4x4x4x8x512, .f32⟩
  | .hbm, ⟨6, _⟩ => ⟨S4x2048x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x512x128, .f32⟩
  | .local _ .vmem, ⟨7, _⟩ => ⟨S1x1x512x128, .f32⟩
  | .local _ .vmem, ⟨8, _⟩ => ⟨S1x1x4x8x512, .f32⟩
  | .local _ .vmem, ⟨9, _⟩ => ⟨S1x1x4x8x512, .f32⟩
  | .local _ .vmem, ⟨10, _⟩ => ⟨S1x512x128, .bf16⟩
  | .local _ .vmem, ⟨11, _⟩ => ⟨S1x512x128, .bf16⟩
  | _, _ => ⟨S4x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v10 : BitVec 32 := Scalar.addi arg2 c1_i32
  let v11 : BitVec 32 := Scalar.subi v10 c0_i32
  let c1_i32_8 : BitVec 32 := 1#32
  let v13 : BitVec 32 := Scalar.divsi v11 c1_i32_8
  let v14 : BitVec 32 := Scalar.muli v13 c1_i32_8
  let v15 : BitVec 32 := Scalar.addi c0_i32 v14
  let c1_i32_9 : BitVec 32 := 1#32
  ⟨c0_i32, v15, c1_i32_9⟩
def k0_mult1 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c512_i32 : BitVec 32 := 512#32
  let v24 : BitVec 32 := Scalar.muli arg9 c512_i32
  v24
def k0_off1 (i : grid0.Coords) (k0_t1 : Fin (k0_t1_loop i).trips) : Fin 3 → Nat :=
  let c0_14 : Index := 0#32
  let c0_i32 : BitVec 32 := 0#32
  let c1_i32_9 : BitVec 32 := 1#32
  let arg9 : BitVec 32 := Scf.iv c0_i32 c1_i32_9 k0_t1
  let c512_i32 : BitVec 32 := 512#32
  let v24 : BitVec 32 := Scalar.muli arg9 c512_i32
  let v25 : BitVec 32 := v24
  let v26 : Index := Scalar.indexCast v25
  let c0_15 : Index := 0#32
  ![0, v26.toNat, 0]
def k0_off2 (i : grid0.Coords) (k0_t1 : Fin (k0_t1_loop i).trips) : Fin 5 → Nat :=
  let c0_20 : Index := 0#32
  let c0_21 : Index := 0#32
  let c0_i32 : BitVec 32 := 0#32
  let c1_i32_9 : BitVec 32 := 1#32
  let arg9 : BitVec 32 := Scf.iv c0_i32 c1_i32_9 k0_t1
  let v35 : Index := Scalar.indexCast arg9
  let c0_22 : Index := 0#32
  let c0_23 : Index := 0#32
  ![0, 0, v35.toNat, 0, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v10 : BitVec 32 := Scalar.addi arg2 c1_i32
  let v11 : BitVec 32 := Scalar.subi v10 c0_i32
  let c1_i32_8 : BitVec 32 := 1#32
  let v13 : BitVec 32 := Scalar.divsi v11 c1_i32_8
  let v14 : BitVec 32 := Scalar.muli v13 c1_i32_8
  let v15 : BitVec 32 := Scalar.addi c0_i32 v14
  let v12 : BitVec 32 := Scalar.addi c0_i32 v11
  let c1_i32_10 : BitVec 32 := 1#32
  ⟨v15, v12, c1_i32_10⟩
def k0_mult2 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v10 : BitVec 32 := Scalar.addi arg2 c1_i32
  let v11 : BitVec 32 := Scalar.subi v10 c0_i32
  let c1_i32_8 : BitVec 32 := 1#32
  let v13 : BitVec 32 := Scalar.divsi v11 c1_i32_8
  let v14 : BitVec 32 := Scalar.muli v13 c1_i32_8
  let v15 : BitVec 32 := Scalar.addi c0_i32 v14
  let c1_i32_10 : BitVec 32 := 1#32
  let arg9 : BitVec 32 := Scf.iv v15 c1_i32_10 k0_t2
  let c512_i32 : BitVec 32 := 512#32
  let v24 : BitVec 32 := Scalar.muli arg9 c512_i32
  v24
def k0_off3 (i : grid0.Coords) (k0_t2 : Fin (k0_t2_loop i).trips) : Fin 3 → Nat :=
  let c0_14 : Index := 0#32
  let c0_i32 : BitVec 32 := 0#32
  let arg2 : BitVec 32 := BitVec.ofNat 32 (i 2).val
  let c1_i32 : BitVec 32 := 1#32
  let v10 : BitVec 32 := Scalar.addi arg2 c1_i32
  let v11 : BitVec 32 := Scalar.subi v10 c0_i32
  let c1_i32_8 : BitVec 32 := 1#32
  let v13 : BitVec 32 := Scalar.divsi v11 c1_i32_8
  let v14 : BitVec 32 := Scalar.muli v13 c1_i32_8
  let v15 : BitVec 32 := Scalar.addi c0_i32 v14
  let c1_i32_10 : BitVec 32 := 1#32
  let arg9 : BitVec 32 := Scf.iv v15 c1_i32_10 k0_t2
  let c512_i32 : BitVec 32 := 512#32
  let v24 : BitVec 32 := Scalar.muli arg9 c512_i32
  let v25 : BitVec 32 := v24
  let v26 : Index := Scalar.indexCast v25
  let c0_15 : Index := 0#32
  ![0, v26.toNat, 0]
def k0_off4 (i : grid0.Coords) (k0_t2 : Fin (k0_t2_loop i).trips) : Fin 5 → Nat :=
  let c0_20 : Index := 0#32
  let c0_21 : Index := 0#32
  let c0_i32 : BitVec 32 := 0#32
  let arg2 : BitVec 32 := BitVec.ofNat 32 (i 2).val
  let c1_i32 : BitVec 32 := 1#32
  let v10 : BitVec 32 := Scalar.addi arg2 c1_i32
  let v11 : BitVec 32 := Scalar.subi v10 c0_i32
  let c1_i32_8 : BitVec 32 := 1#32
  let v13 : BitVec 32 := Scalar.divsi v11 c1_i32_8
  let v14 : BitVec 32 := Scalar.muli v13 c1_i32_8
  let v15 : BitVec 32 := Scalar.addi c0_i32 v14
  let c1_i32_10 : BitVec 32 := 1#32
  let arg9 : BitVec 32 := Scf.iv v15 c1_i32_10 k0_t2
  let v35 : Index := Scalar.indexCast arg9
  let c0_22 : Index := 0#32
  let c0_23 : Index := 0#32
  ![0, 0, v35.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x2048x1536 : Shape := ⟨3, ![4, 2048, 1536]⟩
abbrev S4x4x2048 : Shape := ⟨3, ![4, 4, 2048]⟩
abbrev S4x2048x512 : Shape := ⟨3, ![4, 2048, 512]⟩
abbrev S4x2048x4x128 : Shape := ⟨4, ![4, 2048, 4, 128]⟩
abbrev S4x4x2048x2048 : Shape := ⟨4, ![4, 4, 2048, 2048]⟩
abbrev S_ : Shape := ⟨0, ![]⟩
abbrev S4x4x2048x1 : Shape := ⟨4, ![4, 4, 2048, 1]⟩
abbrev S4x4x1x2048 : Shape := ⟨4, ![4, 4, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x4x128x2048 : Shape := ⟨4, ![4, 4, 128, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x1536, .bf16⟩
  | .hbm, ⟨1, _⟩ => ⟨S4x4x2048, .f32⟩
  | .hbm, ⟨2, _⟩ => ⟨S4x2048x1536, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x2048x4x128, .f32⟩
  | .hbm, ⟨7, _⟩ => ⟨S4x2048x4x128, .f32⟩
  | .hbm, ⟨8, _⟩ => ⟨S4x2048x4x128, .f32⟩
  | .hbm, ⟨9, _⟩ => ⟨S4x4x2048x2048, .f32⟩
  | .hbm, ⟨10, _⟩ => ⟨S_, .f32⟩
  | .hbm, ⟨11, _⟩ => ⟨S4x4x2048x2048, .f32⟩
  | .hbm, ⟨12, _⟩ => ⟨S4x4x2048x2048, .f32⟩
  | .hbm, ⟨13, _⟩ => ⟨S4x4x2048x1, .f32⟩
  | .hbm, ⟨14, _⟩ => ⟨S4x4x1x2048, .f32⟩
  | .hbm, ⟨15, _⟩ => ⟨S4x4x2048x2048, .f32⟩
  | .hbm, ⟨16, _⟩ => ⟨S4x4x2048x2048, .f32⟩
  | .hbm, ⟨17, _⟩ => ⟨S4x4x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S4x4x2048x2048, .f32⟩
  | .hbm, ⟨26, _⟩ => ⟨S_, .f32⟩
  | .hbm, ⟨27, _⟩ => ⟨S_, .f32⟩
  | .hbm, ⟨28, _⟩ => ⟨S4x4x2048x2048, .i1⟩
  | .hbm, ⟨29, _⟩ => ⟨S4x4x2048x2048, .f32⟩
  | .hbm, ⟨30, _⟩ => ⟨S4x4x2048x2048, .f32⟩
  | .hbm, ⟨31, _⟩ => ⟨S_, .f32⟩
  | .hbm, ⟨32, _⟩ => ⟨S4x4x2048, .f32⟩
  | .hbm, ⟨33, _⟩ => ⟨S_, .f32⟩
  | .hbm, ⟨34, _⟩ => ⟨S4x4x2048, .f32⟩
  | .hbm, ⟨35, _⟩ => ⟨S4x4x2048, .f32⟩
  | .hbm, ⟨36, _⟩ => ⟨S4x4x2048x1, .f32⟩
  | .hbm, ⟨37, _⟩ => ⟨S4x4x2048x2048, .f32⟩
  | .hbm, ⟨38, _⟩ => ⟨S4x4x2048x2048, .f32⟩
  | .hbm, ⟨39, _⟩ => ⟨S4x4x2048x2048, .f32⟩
  | .hbm, ⟨40, _⟩ => ⟨S_, .f32⟩
  | .hbm, ⟨41, _⟩ => ⟨S4x4x2048, .f32⟩
  | .hbm, ⟨42, _⟩ => ⟨S4x4x2048x1, .f32⟩
  | .hbm, ⟨43, _⟩ => ⟨S4x4x2048x2048, .f32⟩
  | .hbm, ⟨44, _⟩ => ⟨S4x4x2048x2048, .f32⟩
  | .hbm, ⟨45, _⟩ => ⟨S4x4x2048x2048, .bf16⟩
  | .hbm, ⟨46, _⟩ => ⟨S4x4x2048x2048, .f32⟩
  | .hbm, ⟨47, _⟩ => ⟨S4x4x128x2048, .f32⟩
  | .hbm, ⟨48, _⟩ => ⟨S4x2048x4x128, .f32⟩
  | .hbm, ⟨49, _⟩ => ⟨S4x2048x512, .f32⟩
  | .hbm, ⟨50, _⟩ => ⟨S4x2048x512, .bf16⟩
  | _, _ => ⟨S4x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Merge.lean ====
abbrev S8192x2048 : Shape := ⟨2, ![8192, 2048]⟩
abbrev S8192x512 : Shape := ⟨2, ![8192, 512]⟩
abbrev S2x2048x11776 : Shape := ⟨3, ![2, 2048, 11776]⟩
abbrev S2x1x11776 : Shape := ⟨3, ![2, 1, 11776]⟩
abbrev S2x4x512x2048 : Shape := ⟨4, ![2, 4, 512, 2048]⟩
abbrev S1024x2048 : Shape := ⟨2, ![1024, 2048]⟩
abbrev S1024x512 : Shape := ⟨2, ![1024, 512]⟩
abbrev S1x2048x512 : Shape := ⟨3, ![1, 2048, 512]⟩
abbrev S1x1x512 : Shape := ⟨3, ![1, 1, 512]⟩
abbrev S1x4x512x512 : Shape := ⟨4, ![1, 4, 512, 512]⟩
abbrev S2048x512 : Shape := ⟨2, ![2048, 512]⟩
abbrev S1x512 : Shape := ⟨2, ![1, 512]⟩
abbrev S1x1x512x512 : Shape := ⟨4, ![1, 1, 512, 512]⟩
abbrev S512x512 : Shape := ⟨2, ![512, 512]⟩

abbrev nBuf : Space → Nat
  | .hbm => 9
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S2x2048x11776, .bf16⟩
  | .hbm, ⟨6, _⟩ => ⟨S2x1x11776, .f32⟩
  | .hbm, ⟨7, _⟩ => ⟨S2x4x512x2048, .bf16⟩
  | .hbm, ⟨8, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x2048x512, .bf16⟩
  | .local _ .vmem, ⟨17, _⟩ => ⟨S1x2048x512, .bf16⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1x4x512x512, .bf16⟩
  | .local _ .vmem, ⟨27, _⟩ => ⟨S1x4x512x512, .bf16⟩
  | .local _ .vmem, ⟨28, _⟩ => ⟨S1024x512, .bf16⟩
  | .local _ .vmem, ⟨29, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c1_i32 : BitVec 32 := 1#32
  let c0_i32 : BitVec 32 := 0#32
  let c0_i32_0 : BitVec 32 := 0#32
  ![c1_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c1_i32 : BitVec 32 := 1#32
  let c0_i32 : BitVec 32 := 0#32
  let c0_i32_0 : BitVec 32 := 0#32
  ![c1_i32.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_11 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c1_i32 : BitVec 32 := 1#32
  let c0_i32 : BitVec 32 := 0#32
  let c0_i32_0 : BitVec 32 := 0#32
  ![c1_i32.toNat, c0_i32.toNat, v0.toNat]

def cc0_transform_12 (i : grid0.Coords) : Fin 3 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c1_i32 : BitVec 32 := 1#32
  let c0_i32 : BitVec 32 := 0#32
  let c0_i32_0 : BitVec 32 := 0#32
  ![c1_i32.toNat, c0_i32.toNat, v0.toNat]

def cc0_transform_13 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x4x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeRefIdeal.lean ====
abbrev S8192x2048 : Shape := ⟨2, ![8192, 2048]⟩
abbrev S8192x512 : Shape := ⟨2, ![8192, 512]⟩
abbrev S2x2048x11776 : Shape := ⟨3, ![2, 2048, 11776]⟩
abbrev S2x1x11776 : Shape := ⟨3, ![2, 1, 11776]⟩
abbrev S2x4x512x2048 : Shape := ⟨4, ![2, 4, 512, 2048]⟩
abbrev S1x2048x11776 : Shape := ⟨3, ![1, 2048, 11776]⟩
abbrev S2048x11776 : Shape := ⟨2, ![2048, 11776]⟩
abbrev S2048x8192 : Shape := ⟨2, ![2048, 8192]⟩
abbrev S8192x8192 : Shape := ⟨2, ![8192, 8192]⟩
abbrev S1x1x8192 : Shape := ⟨3, ![1, 1, 8192]⟩
abbrev S8192 : Shape := ⟨1, ![8192]⟩
abbrev S1x8192 : Shape := ⟨2, ![1, 8192]⟩
abbrev S8192x1x512 : Shape := ⟨3, ![8192, 1, 512]⟩
abbrev S8192x4x512 : Shape := ⟨3, ![8192, 4, 512]⟩
abbrev S1x4x512x2048 : Shape := ⟨4, ![1, 4, 512, 2048]⟩
abbrev S4x512x2048 : Shape := ⟨3, ![4, 512, 2048]⟩
abbrev S4x2048x8192 : Shape := ⟨3, ![4, 2048, 8192]⟩
abbrev S8192x4x2048 : Shape := ⟨3, ![8192, 4, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S2x2048x11776, .bf16⟩
  | .hbm, ⟨6, _⟩ => ⟨S2x1x11776, .f32⟩
  | .hbm, ⟨7, _⟩ => ⟨S2x4x512x2048, .bf16⟩
  | .hbm, ⟨8, _⟩ => ⟨S8192x2048, .f32⟩
  | .hbm, ⟨9, _⟩ => ⟨S1x2048x11776, .bf16⟩
  | .hbm, ⟨10, _⟩ => ⟨S2048x11776, .bf16⟩
  | .hbm, ⟨11, _⟩ => ⟨S2048x8192, .bf16⟩
  | .hbm, ⟨12, _⟩ => ⟨S2048x8192, .f32⟩
  | .hbm, ⟨13, _⟩ => ⟨S8192x8192, .f32⟩
  | .hbm, ⟨14, _⟩ => ⟨S1x1x8192, .f32⟩
  | .hbm, ⟨15, _⟩ => ⟨S8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x1x512, .bf16⟩
  | .hbm, ⟨20, _⟩ => ⟨S8192x1x512, .bf16⟩
  | .hbm, ⟨21, _⟩ => ⟨S8192x1x512, .bf16⟩
  | .hbm, ⟨22, _⟩ => ⟨S8192x1x512, .bf16⟩
  | .hbm, ⟨23, _⟩ => ⟨S8192x4x512, .bf16⟩
  | .hbm, ⟨24, _⟩ => ⟨S8192x4x512, .f32⟩
  | .hbm, ⟨25, _⟩ => ⟨S1x4x512x2048, .bf16⟩
  | .hbm, ⟨26, _⟩ => ⟨S4x512x2048, .bf16⟩
  | .hbm, ⟨27, _⟩ => ⟨S4x512x2048, .f32⟩
  | .hbm, ⟨28, _⟩ => ⟨S4x2048x8192, .f32⟩
  | .hbm, ⟨29, _⟩ => ⟨S8192x4x2048, .f32⟩
  | .hbm, ⟨30, _⟩ => ⟨S8192x4x2048, .f32⟩
  | .hbm, ⟨31, _⟩ => ⟨S8192x4x2048, .f32⟩
  | .hbm, ⟨32, _⟩ => ⟨S8192x4x2048, .f32⟩
  | .hbm, ⟨33, _⟩ => ⟨S_, .f32⟩
  | .hbm, ⟨34, _⟩ => ⟨S8192x4x2048, .f32⟩
  | .hbm, ⟨35, _⟩ => ⟨S8192x4x2048, .f32⟩
  | .hbm, ⟨36, _⟩ => ⟨S_, .f32⟩
  | .hbm, ⟨37, _⟩ => ⟨S8192x4x2048, .f32⟩
  | .hbm, ⟨38, _⟩ => ⟨S8192x4x2048, .f32⟩
  | .hbm, ⟨39, _⟩ => ⟨S8192x4x2048, .f32⟩
  | .hbm, ⟨40, _⟩ => ⟨S_, .f32⟩
  | .hbm, ⟨41, _⟩ => ⟨S8192x2048, .f32⟩
  | .hbm, ⟨42, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Ffn.lean ====
abbrev S8192x2048 : Shape := ⟨2, ![8192, 2048]⟩
abbrev S2x2048x2048 : Shape := ⟨3, ![2, 2048, 2048]⟩
abbrev S2x1x2048 : Shape := ⟨3, ![2, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S512 : Shape := ⟨1, ![512]⟩
abbrev S512x1 : Shape := ⟨2, ![512, 1]⟩
abbrev S1x2048 : Shape := ⟨2, ![1, 2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S2x1x2048, .f32⟩
  | .hbm, ⟨4, _⟩ => ⟨S2x2048x2048, .bf16⟩
  | .hbm, ⟨5, _⟩ => ⟨S8192x2048, .f32⟩
  | .hbm, ⟨6, _⟩ => ⟨S8192x2048, .bf16⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S8192x2048 : Shape := ⟨2, ![8192, 2048]⟩
abbrev S2x2048x2048 : Shape := ⟨3, ![2, 2048, 2048]⟩
abbrev S2x1x2048 : Shape := ⟨3, ![2, 1, 2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x1x2048 : Shape := ⟨3, ![1, 1, 2048]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S2x1x2048, .f32⟩
  | .hbm, ⟨4, _⟩ => ⟨S2x2048x2048, .bf16⟩
  | .hbm, ⟨5, _⟩ => ⟨S8192x2048, .f32⟩
  | .hbm, ⟨6, _⟩ => ⟨S1x2048x2048, .bf16⟩
  | .hbm, ⟨7, _⟩ => ⟨S2048x2048, .bf16⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x1x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | .hbm, ⟨29, _⟩ => ⟨S8192x2048, .f32⟩
  | .hbm, ⟨30, _⟩ => ⟨S1x2048x2048, .bf16⟩
  | .hbm, ⟨31, _⟩ => ⟨S2048x2048, .bf16⟩
  | .hbm, ⟨32, _⟩ => ⟨S2048x2048, .f32⟩
  | .hbm, ⟨33, _⟩ => ⟨S8192x2048, .f32⟩
  | .hbm, ⟨34, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== ProjFox.lean ====
abbrev S8192x2048 : Shape := ⟨2, ![8192, 2048]⟩
abbrev S2x2048x1536 : Shape := ⟨3, ![2, 2048, 1536]⟩
abbrev S2x1x1536 : Shape := ⟨3, ![2, 1, 1536]⟩
abbrev S8192x1536 : Shape := ⟨2, ![8192, 1536]⟩
abbrev S1024x2048 : Shape := ⟨2, ![1024, 2048]⟩
abbrev S1x2048x512 : Shape := ⟨3, ![1, 2048, 512]⟩
abbrev S1x1x512 : Shape := ⟨3, ![1, 1, 512]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x1536, .bf16⟩
  | .hbm, ⟨2, _⟩ => ⟨S2x1x1536, .f32⟩
  | .hbm, ⟨3, _⟩ => ⟨S8192x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1x512, .f32⟩
  | .local _ .vmem, ⟨5, _⟩ => ⟨S1x1x512, .f32⟩
  | .local _ .vmem, ⟨6, _⟩ => ⟨S1024x512, .bf16⟩
  | .local _ .vmem, ⟨7, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjFoxRefIdeal.lean ====
abbrev S8192x2048 : Shape := ⟨2, ![8192, 2048]⟩
abbrev S2x2048x1536 : Shape := ⟨3, ![2, 2048, 1536]⟩
abbrev S2x1x1536 : Shape := ⟨3, ![2, 1, 1536]⟩
abbrev S1x2048x1536 : Shape := ⟨3, ![1, 2048, 1536]⟩
abbrev S2048x1536 : Shape := ⟨2, ![2048, 1536]⟩
abbrev S8192x1536 : Shape := ⟨2, ![8192, 1536]⟩
abbrev S1x1x1536 : Shape := ⟨3, ![1, 1, 1536]⟩
abbrev S1x1536 : Shape := ⟨2, ![1, 1536]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x1536, .bf16⟩
  | .hbm, ⟨2, _⟩ => ⟨S2x1x1536, .f32⟩
  | .hbm, ⟨3, _⟩ => ⟨S8192x2048, .f32⟩
  | .hbm, ⟨4, _⟩ => ⟨S1x2048x1536, .bf16⟩
  | .hbm, ⟨5, _⟩ => ⟨S2048x1536, .bf16⟩
  | .hbm, ⟨6, _⟩ => ⟨S2048x1536, .f32⟩
  | .hbm, ⟨7, _⟩ => ⟨S8192x1536, .f32⟩
  | .hbm, ⟨8, _⟩ => ⟨S1x1x1536, .f32⟩
  | .hbm, ⟨9, _⟩ => ⟨S1x1536, .f32⟩
  | .hbm, ⟨10, _⟩ => ⟨S8192x1536, .f32⟩
  | .hbm, ⟨11, _⟩ => ⟨S8192x1536, .f32⟩
  | .hbm, ⟨12, _⟩ => ⟨S8192x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ProjPool.lean ====
abbrev S8192x2048 : Shape := ⟨2, ![8192, 2048]⟩
abbrev S2x2048x11776 : Shape := ⟨3, ![2, 2048, 11776]⟩
abbrev S2x1x11776 : Shape := ⟨3, ![2, 1, 11776]⟩
abbrev S1024x2048 : Shape := ⟨2, ![1024, 2048]⟩
abbrev S1x2048x512 : Shape := ⟨3, ![1, 2048, 512]⟩
abbrev S1x1x512 : Shape := ⟨3, ![1, 1, 512]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x11776, .bf16⟩
  | .hbm, ⟨2, _⟩ => ⟨S2x1x11776, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1x512, .f32⟩
  | .local _ .vmem, ⟨5, _⟩ => ⟨S1x1x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjPoolRefIdeal.lean ====
abbrev S8192x2048 : Shape := ⟨2, ![8192, 2048]⟩
abbrev S2x2048x11776 : Shape := ⟨3, ![2, 2048, 11776]⟩
abbrev S2x1x11776 : Shape := ⟨3, ![2, 1, 11776]⟩
abbrev S1x2048x2048 : Shape := ⟨3, ![1, 2048, 2048]⟩
abbrev S2048x2048 : Shape := ⟨2, ![2048, 2048]⟩
abbrev S1x1x2048 : Shape := ⟨3, ![1, 1, 2048]⟩
abbrev S1x2048 : Shape := ⟨2, ![1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11776, .bf16⟩
  | .hbm, ⟨2, _⟩ => ⟨S2x1x11776, .f32⟩
  | .hbm, ⟨3, _⟩ => ⟨S8192x2048, .f32⟩
  | .hbm, ⟨4, _⟩ => ⟨S1x2048x2048, .bf16⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S1x1x2048, .f32⟩
  | .hbm, ⟨9, _⟩ => ⟨S1x2048, .f32⟩
  | .hbm, ⟨10, _⟩ => ⟨S8192x2048, .f32⟩
  | .hbm, ⟨11, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjChunk.lean ====
abbrev S8192x2048 : Shape := ⟨2, ![8192, 2048]⟩
abbrev S2x2048x11776 : Shape := ⟨3, ![2, 2048, 11776]⟩
abbrev S2x1x11776 : Shape := ⟨3, ![2, 1, 11776]⟩
abbrev S8192x1536 : Shape := ⟨2, ![8192, 1536]⟩
abbrev S1024x2048 : Shape := ⟨2, ![1024, 2048]⟩
abbrev S1x2048x512 : Shape := ⟨3, ![1, 2048, 512]⟩
abbrev S1x1x512 : Shape := ⟨3, ![1, 1, 512]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x11776, .bf16⟩
  | .hbm, ⟨2, _⟩ => ⟨S2x1x11776, .f32⟩
  | .hbm, ⟨3, _⟩ => ⟨S8192x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1x512, .f32⟩
  | .local _ .vmem, ⟨5, _⟩ => ⟨S1x1x512, .f32⟩
  | .local _ .vmem, ⟨6, _⟩ => ⟨S1024x512, .bf16⟩
  | .local _ .vmem, ⟨7, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjChunkRefIdeal.lean ====
abbrev S8192x2048 : Shape := ⟨2, ![8192, 2048]⟩
abbrev S2x2048x11776 : Shape := ⟨3, ![2, 2048, 11776]⟩
abbrev S2x1x11776 : Shape := ⟨3, ![2, 1, 11776]⟩
abbrev S1x2048x1536 : Shape := ⟨3, ![1, 2048, 1536]⟩
abbrev S2048x1536 : Shape := ⟨2, ![2048, 1536]⟩
abbrev S8192x1536 : Shape := ⟨2, ![8192, 1536]⟩
abbrev S1x1x1536 : Shape := ⟨3, ![1, 1, 1536]⟩
abbrev S1x1536 : Shape := ⟨2, ![1, 1536]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11776, .bf16⟩
  | .hbm, ⟨2, _⟩ => ⟨S2x1x11776, .f32⟩
  | .hbm, ⟨3, _⟩ => ⟨S8192x2048, .f32⟩
  | .hbm, ⟨4, _⟩ => ⟨S1x2048x1536, .bf16⟩
  | .hbm, ⟨5, _⟩ => ⟨S2048x1536, .bf16⟩
  | .hbm, ⟨6, _⟩ => ⟨S2048x1536, .f32⟩
  | .hbm, ⟨7, _⟩ => ⟨S8192x1536, .f32⟩
  | .hbm, ⟨8, _⟩ => ⟨S1x1x1536, .f32⟩
  | .hbm, ⟨9, _⟩ => ⟨S1x1536, .f32⟩
  | .hbm, ⟨10, _⟩ => ⟨S8192x1536, .f32⟩
  | .hbm, ⟨11, _⟩ => ⟨S8192x1536, .f32⟩
  | .hbm, ⟨12, _⟩ => ⟨S8192x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Chunk.lean ====
abbrev S4x2048x1536 : Shape := ⟨3, ![4, 2048, 1536]⟩
abbrev S8x256x768 : Shape := ⟨3, ![8, 256, 768]⟩
abbrev S4x2048x512 : Shape := ⟨3, ![4, 2048, 512]⟩
abbrev S1x256x512 : Shape := ⟨3, ![1, 256, 512]⟩
abbrev S1x2048x512 : Shape := ⟨3, ![1, 2048, 512]⟩
abbrev S4x256x768 : Shape := ⟨3, ![4, 256, 768]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 3
  | .vmem => 9
  | .smem => 0
  | _ => 0

abbrev bufTy : (tb : Table) → Fin (tcTables nBuf tb) → BufTy
  | .hbm, ⟨0, _⟩ => ⟨S4x2048x1536, .bf16⟩
  | .hbm, ⟨1, _⟩ => ⟨S8x256x768, .f32⟩
  | .hbm, ⟨2, _⟩ => ⟨S4x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S4x256x768, .f32⟩
  | .local _ .vmem, ⟨7, _⟩ => ⟨S1x256x512, .bf16⟩
  | .local _ .vmem, ⟨8, _⟩ => ⟨S1x256x512, .bf16⟩
  | _, _ => ⟨S4x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c2_i32 : BitVec 32 := 2#32
  let v2 : BitVec 32 := Scalar.subi arg1 c2_i32
  let c0_i32 : BitVec 32 := 0#32
  let v3 : BitVec 32 := Scalar.addi v2 c0_i32
  let c0_i32_2 : BitVec 32 := 0#32
  let v4 : BitVec 32 := Scalar.maxsi v3 c0_i32_2
  let c256_i32 : BitVec 32 := 256#32
  let v5 : BitVec 32 := Scalar.muli v4 c256_i32
  v5
def k0_off1 (i : grid0.Coords) (c0_i32 : BitVec 32) : Fin 3 → Nat :=
  let c0_3 : Index := 0#32
  let arg1 : BitVec 32 := BitVec.ofNat 32 (i 1).val
  let c2_i32 : BitVec 32 := 2#32
  let v2 : BitVec 32 := Scalar.subi arg1 c2_i32
  let v3 : BitVec 32 := Scalar.addi v2 c0_i32
  let c0_i32_2 : BitVec 32 := 0#32
  let v4 : BitVec 32 := Scalar.maxsi v3 c0_i32_2
  let c256_i32 : BitVec 32 := 256#32
  let v5 : BitVec 32 := Scalar.muli v4 c256_i32
  let v6 : BitVec 32 := v5
  let v7 : Index := Scalar.indexCast v6
  let c0_4 : Index := 0#32
  ![0, v7.toNat, 0]
def k0_mult2 (i : grid0.Coords) : BitVec 32 :=
  let arg1 : BitVec 32 := BitVec.ofNat 32 (i 1).val
  let c2_i32_13 : BitVec 32 := 2#32
  let v22 : BitVec 32 := Scalar.subi arg1 c2_i32_13
  let c1_i32 : BitVec 32 := 1#32
  let v23 : BitVec 32 := Scalar.addi v22 c1_i32
  let c0_i32_14 : BitVec 32 := 0#32
  let v24 : BitVec 32 := Scalar.maxsi v23 c0_i32_14
  let c256_i32_15 : BitVec 32 := 256#32
  let v25 : BitVec 32 := Scalar.muli v24 c256_i32_15
  v25
def k0_mult3 (i : grid0.Coords) : BitVec 32 :=
  let arg1 : BitVec 32 := BitVec.ofNat 32 (i 1).val
  let c2_i32_26 : BitVec 32 := 2#32
  let v42 : BitVec 32 := Scalar.subi arg1 c2_i32_26
  let c2_i32_27 : BitVec 32 := 2#32
  let v43 : BitVec 32 := Scalar.addi v42 c2_i32_27
  let c0_i32_28 : BitVec 32 := 0#32
  let v44 : BitVec 32 := Scalar.maxsi v43 c0_i32_28
  let c256_i32_29 : BitVec 32 := 256#32
  let v45 : BitVec 32 := Scalar.muli v44 c256_i32_29
  v45
def k0_mult4 (i : grid0.Coords) : BitVec 32 :=
  let arg1 : BitVec 32 := BitVec.ofNat 32 (i 1).val
  let c2_i32_56 : BitVec 32 := 2#32
  let v107 : BitVec 32 := Scalar.subi arg1 c2_i32_56
  let c0_i32_57 : BitVec 32 := 0#32
  let v108 : BitVec 32 := Scalar.addi v107 c0_i32_57
  let c0_i32_58 : BitVec 32 := 0#32
  let v109 : BitVec 32 := Scalar.maxsi v108 c0_i32_58
  let c256_i32_59 : BitVec 32 := 256#32
  let v110 : BitVec 32 := Scalar.muli v109 c256_i32_59
  v110
def k0_off2 (i : grid0.Coords) (c0_i32_57 : BitVec 32) : Fin 3 → Nat :=
  let c0_60 : Index := 0#32
  let arg1 : BitVec 32 := BitVec.ofNat 32 (i 1).val
  let c2_i32_56 : BitVec 32 := 2#32
  let v107 : BitVec 32 := Scalar.subi arg1 c2_i32_56
  let v108 : BitVec 32 := Scalar.addi v107 c0_i32_57
  let c0_i32_58 : BitVec 32 := 0#32
  let v109 : BitVec 32 := Scalar.maxsi v108 c0_i32_58
  let c256_i32_59 : BitVec 32 := 256#32
  let v110 : BitVec 32 := Scalar.muli v109 c256_i32_59
  let v111 : BitVec 32 := v110
  let v112 : Index := Scalar.indexCast v111
  let c128_61 : Index := 128#32
  ![0, v112.toNat, 128]
def k0_mult5 (i : grid0.Coords) : BitVec 32 :=
  let arg1 : BitVec 32 := BitVec.ofNat 32 (i 1).val
  let c2_i32_70 : BitVec 32 := 2#32
  let v127 : BitVec 32 := Scalar.subi arg1 c2_i32_70
  let c1_i32_71 : BitVec 32 := 1#32
  let v128 : BitVec 32 := Scalar.addi v127 c1_i32_71
  let c0_i32_72 : BitVec 32 := 0#32
  let v129 : BitVec 32 := Scalar.maxsi v128 c0_i32_72
  let c256_i32_73 : BitVec 32 := 256#32
  let v130 : BitVec 32 := Scalar.muli v129 c256_i32_73
  v130
def k0_mult6 (i : grid0.Coords) : BitVec 32 :=
  let arg1 : BitVec 32 := BitVec.ofNat 32 (i 1).val
  let c2_i32_85 : BitVec 32 := 2#32
  let v147 : BitVec 32 := Scalar.subi arg1 c2_i32_85
  let c2_i32_86 : BitVec 32 := 2#32
  let v148 : BitVec 32 := Scalar.addi v147 c2_i32_86
  let c0_i32_87 : BitVec 32 := 0#32
  let v149 : BitVec 32 := Scalar.maxsi v148 c0_i32_87
  let c256_i32_88 : BitVec 32 := 256#32
  let v150 : BitVec 32 := Scalar.muli v149 c256_i32_88
  v150
def k0_mult7 (i : grid0.Coords) : BitVec 32 :=
  let arg1 : BitVec 32 := BitVec.ofNat 32 (i 1).val
  let c2_i32_117 : BitVec 32 := 2#32
  let v212 : BitVec 32 := Scalar.subi arg1 c2_i32_117
  let c0_i32_118 : BitVec 32 := 0#32
  let v213 : BitVec 32 := Scalar.addi v212 c0_i32_118
  let c0_i32_119 : BitVec 32 := 0#32
  let v214 : BitVec 32 := Scalar.maxsi v213 c0_i32_119
  let c256_i32_120 : BitVec 32 := 256#32
  let v215 : BitVec 32 := Scalar.muli v214 c256_i32_120
  v215
def k0_off3 (i : grid0.Coords) (c0_i32_118 : BitVec 32) : Fin 3 → Nat :=
  let c0_121 : Index := 0#32
  let arg1 : BitVec 32 := BitVec.ofNat 32 (i 1).val
  let c2_i32_117 : BitVec 32 := 2#32
  let v212 : BitVec 32 := Scalar.subi arg1 c2_i32_117
  let v213 : BitVec 32 := Scalar.addi v212 c0_i32_118
  let c0_i32_119 : BitVec 32 := 0#32
  let v214 : BitVec 32 := Scalar.maxsi v213 c0_i32_119
  let c256_i32_120 : BitVec 32 := 256#32
  let v215 : BitVec 32 := Scalar.muli v214 c256_i32_120
  let v216 : BitVec 32 := v215
  let v217 : Index := Scalar.indexCast v216
  let c256_122 : Index := 256#32
  ![0, v217.toNat, 256]
def k0_mult8 (i : grid0.Coords) : BitVec 32 :=
  let arg1 : BitVec 32 := BitVec.ofNat 32 (i 1).val
  let c2_i32_131 : BitVec 32 := 2#32
  let v232 : BitVec 32 := Scalar.subi arg1 c2_i32_131
  let c1_i32_132 : BitVec 32 := 1#32
  let v233 : BitVec 32 := Scalar.addi v232 c1_i32_132
  let c0_i32_133 : BitVec 32 := 0#32
  let v234 : BitVec 32 := Scalar.maxsi v233 c0_i32_133
  let c256_i32_134 : BitVec 32 := 256#32
  let v235 : BitVec 32 := Scalar.muli v234 c256_i32_134
  v235
def k0_mult9 (i : grid0.Coords) : BitVec 32 :=
  let arg1 : BitVec 32 := BitVec.ofNat 32 (i 1).val
  let c2_i32_146 : BitVec 32 := 2#32
  let v252 : BitVec 32 := Scalar.subi arg1 c2_i32_146
  let c2_i32_147 : BitVec 32 := 2#32
  let v253 : BitVec 32 := Scalar.addi v252 c2_i32_147
  let c0_i32_148 : BitVec 32 := 0#32
  let v254 : BitVec 32 := Scalar.maxsi v253 c0_i32_148
  let c256_i32_149 : BitVec 32 := 256#32
  let v255 : BitVec 32 := Scalar.muli v254 c256_i32_149
  v255
def k0_mult10 (i : grid0.Coords) : BitVec 32 :=
  let arg1 : BitVec 32 := BitVec.ofNat 32 (i 1).val
  let c2_i32_177 : BitVec 32 := 2#32
  let v317 : BitVec 32 := Scalar.subi arg1 c2_i32_177
  let c0_i32_178 : BitVec 32 := 0#32
  let v318 : BitVec 32 := Scalar.addi v317 c0_i32_178
  let c0_i32_179 : BitVec 32 := 0#32
  let v319 : BitVec 32 := Scalar.maxsi v318 c0_i32_179
  let c256_i32_180 : BitVec 32 := 256#32
  let v320 : BitVec 32 := Scalar.muli v319 c256_i32_180
  v320
def k0_off4 (i : grid0.Coords) (c0_i32_178 : BitVec 32) : Fin 3 → Nat :=
  let c0_181 : Index := 0#32
  let arg1 : BitVec 32 := BitVec.ofNat 32 (i 1).val
  let c2_i32_177 : BitVec 32 := 2#32
  let v317 : BitVec 32 := Scalar.subi arg1 c2_i32_177
  let v318 : BitVec 32 := Scalar.addi v317 c0_i32_178
  let c0_i32_179 : BitVec 32 := 0#32
  let v319 : BitVec 32 := Scalar.maxsi v318 c0_i32_179
  let c256_i32_180 : BitVec 32 := 256#32
  let v320 : BitVec 32 := Scalar.muli v319 c256_i32_180
  let v321 : BitVec 32 := v320
  let v322 : Index := Scalar.indexCast v321
  let c384_182 : Index := 384#32
  ![0, v322.toNat, 384]
def k0_mult11 (i : grid0.Coords) : BitVec 32 :=
  let arg1 : BitVec 32 := BitVec.ofNat 32 (i 1).val
  let c2_i32_191 : BitVec 32 := 2#32
  let v337 : BitVec 32 := Scalar.subi arg1 c2_i32_191
  let c1_i32_192 : BitVec 32 := 1#32
  let v338 : BitVec 32 := Scalar.addi v337 c1_i32_192
  let c0_i32_193 : BitVec 32 := 0#32
  let v339 : BitVec 32 := Scalar.maxsi v338 c0_i32_193
  let c256_i32_194 : BitVec 32 := 256#32
  let v340 : BitVec 32 := Scalar.muli v339 c256_i32_194
  v340
def k0_mult12 (i : grid0.Coords) : BitVec 32 :=
  let arg1 : BitVec 32 := BitVec.ofNat 32 (i 1).val
  let c2_i32_206 : BitVec 32 := 2#32
  let v357 : BitVec 32 := Scalar.subi arg1 c2_i32_206
  let c2_i32_207 : BitVec 32 := 2#32
  let v358 : BitVec 32 := Scalar.addi v357 c2_i32_207
  let c0_i32_208 : BitVec 32 := 0#32
  let v359 : BitVec 32 := Scalar.maxsi v358 c0_i32_208
  let c256_i32_209 : BitVec 32 := 256#32
  let v360 : BitVec 32 := Scalar.muli v359 c256_i32_209
  v360
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ChunkIdeal.lean ====
variable {F : FTy → Type} [FloatOps F] [Named F]
def κ : String → Option EReal := fun
  | "mask" => some ⊥
  | _ => none
-- ==== ChunkRefIdeal.lean ====
abbrev S4x2048x1536 : Shape := ⟨3, ![4, 2048, 1536]⟩
abbrev S8x256x768 : Shape := ⟨3, ![8, 256, 768]⟩
abbrev S4x2048x512 : Shape := ⟨3, ![4, 2048, 512]⟩
abbrev S4x8x256x4x128 : Shape := ⟨5, ![4, 8, 256, 4, 128]⟩
abbrev S_ : Shape := ⟨0, ![]⟩
abbrev S4x10x256x4x128 : Shape := ⟨5, ![4, 10, 256, 4, 128]⟩
abbrev S4x8x1x256x4x128 : Shape := ⟨6, ![4, 8, 1, 256, 4, 128]⟩
abbrev S4x8x3x256x4x128 : Shape := ⟨6, ![4, 8, 3, 256, 4, 128]⟩
abbrev S4x8x768x4x128 : Shape := ⟨5, ![4, 8, 768, 4, 128]⟩
abbrev S4x8x4x256x768 : Shape := ⟨5, ![4, 8, 4, 256, 768]⟩
abbrev S8 : Shape := ⟨1, ![8]⟩
abbrev S8x1 : Shape := ⟨2, ![8, 1]⟩
abbrev S768 : Shape := ⟨1, ![768]⟩
abbrev S1x768 : Shape := ⟨2, ![1, 768]⟩
abbrev S8x768 : Shape := ⟨2, ![8, 768]⟩
abbrev S1x8x1x1x768 : Shape := ⟨5, ![1, 8, 1, 1, 768]⟩
abbrev S4x256x768 : Shape := ⟨3, ![4, 256, 768]⟩
abbrev S1x1x4x256x768 : Shape := ⟨5, ![1, 1, 4, 256, 768]⟩
abbrev S4x8x4x256 : Shape := ⟨4, ![4, 8, 4, 256]⟩
abbrev S4x8x4x256x1 : Shape := ⟨5, ![4, 8, 4, 256, 1]⟩
abbrev S4x8x4x128x256 : Shape := ⟨5, ![4, 8, 4, 128, 256]⟩

abbrev nBuf : Space → Nat
  | .hbm => 81
  | .vmem => 0
  | .smem => 0
  | _ => 0

abbrev bufTy : (tb : Table) → Fin (tcTables nBuf tb) → BufTy
  | .hbm, ⟨0, _⟩ => ⟨S4x2048x1536, .bf16⟩
  | .hbm, ⟨1, _⟩ => ⟨S8x256x768, .f32⟩
  | .hbm, ⟨2, _⟩ => ⟨S4x2048x1536, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x8x256x4x128, .f32⟩
  | .hbm, ⟨7, _⟩ => ⟨S4x8x256x4x128, .f32⟩
  | .hbm, ⟨8, _⟩ => ⟨S4x8x256x4x128, .f32⟩
  | .hbm, ⟨9, _⟩ => ⟨S_, .i32⟩
  | .hbm, ⟨10, _⟩ => ⟨S_, .f32⟩
  | .hbm, ⟨11, _⟩ => ⟨S4x10x256x4x128, .f32⟩
  | .hbm, ⟨12, _⟩ => ⟨S4x8x256x4x128, .f32⟩
  | .hbm, ⟨13, _⟩ => ⟨S4x8x256x4x128, .f32⟩
  | .hbm, ⟨14, _⟩ => ⟨S4x8x256x4x128, .f32⟩
  | .hbm, ⟨15, _⟩ => ⟨S4x8x1x256x4x128, .f32⟩
  | .hbm, ⟨16, _⟩ => ⟨S4x8x1x256x4x128, .f32⟩
  | .hbm, ⟨17, _⟩ => ⟨S4x8x1x256x4x128, .f32⟩
  | .hbm, ⟨18, _⟩ => ⟨S4x8x3x256x4x128, .f32⟩
  | .hbm, ⟨19, _⟩ => ⟨S4x8x768x4x128, .f32⟩
  | .hbm, ⟨20, _⟩ => ⟨S4x8x4x256x768, .f32⟩
  | .hbm, ⟨21, _⟩ => ⟨S_, .f32⟩
  | .hbm, ⟨22, _⟩ => ⟨S4x8x4x256x768, .f32⟩
  | .hbm, ⟨23, _⟩ => ⟨S4x8x4x256x768, .f32⟩
  | .hbm, ⟨24, _⟩ => ⟨S8, .i32⟩
  | .hbm, ⟨25, _⟩ => ⟨S8x1, .i32⟩
  | .hbm, ⟨26, _⟩ => ⟨S_, .i32⟩
  | .hbm, ⟨27, _⟩ => ⟨S8x1, .i32⟩
  | .hbm, ⟨28, _⟩ => ⟨S8x1, .i32⟩
  | .hbm, ⟨29, _⟩ => ⟨S_, .i32⟩
  | .hbm, ⟨30, _⟩ => ⟨S8x1, .i32⟩
  | .hbm, ⟨31, _⟩ => ⟨S8x1, .i32⟩
  | .hbm, ⟨32, _⟩ => ⟨S768, .i32⟩
  | .hbm, ⟨33, _⟩ => ⟨S1x768, .i32⟩
  | .hbm, ⟨34, _⟩ => ⟨S8x768, .i32⟩
  | .hbm, ⟨35, _⟩ => ⟨S8x768, .i32⟩
  | .hbm, ⟨36, _⟩ => ⟨S8x768, .i32⟩
  | .hbm, ⟨37, _⟩ => ⟨S_, .i32⟩
  | .hbm, ⟨38, _⟩ => ⟨S8x768, .i32⟩
  | .hbm, ⟨39, _⟩ => ⟨S8x768, .i1⟩
  | .hbm, ⟨40, _⟩ => ⟨S1x8x1x1x768, .i1⟩
  | .hbm, ⟨41, _⟩ => ⟨S4x256x768, .f32⟩
  | .hbm, ⟨42, _⟩ => ⟨S1x1x4x256x768, .f32⟩
  | .hbm, ⟨43, _⟩ => ⟨S4x8x4x256x768, .f32⟩
  | .hbm, ⟨44, _⟩ => ⟨S4x8x4x256x768, .f32⟩
  | .hbm, ⟨45, _⟩ => ⟨S_, .f32⟩
  | .hbm, ⟨46, _⟩ => ⟨S_, .f32⟩
  | .hbm, ⟨47, _⟩ => ⟨S4x8x4x256x768, .i1⟩
  | .hbm, ⟨48, _⟩ => ⟨S4x8x4x256x768, .f32⟩
  | .hbm, ⟨49, _⟩ => ⟨S4x8x4x256x768, .f32⟩
  | .hbm, ⟨50, _⟩ => ⟨S_, .f32⟩
  | .hbm, ⟨51, _⟩ => ⟨S4x8x4x256, .f32⟩
  | .hbm, ⟨52, _⟩ => ⟨S_, .f32⟩
  | .hbm, ⟨53, _⟩ => ⟨S4x8x4x256, .f32⟩
  | .hbm, ⟨54, _⟩ => ⟨S4x8x4x256, .f32⟩
  | .hbm, ⟨55, _⟩ => ⟨S4x8x4x256x1, .f32⟩
  | .hbm, ⟨56, _⟩ => ⟨S4x8x4x256x768, .f32⟩
  | .hbm, ⟨57, _⟩ => ⟨S4x8x4x256x768, .f32⟩
  | .hbm, ⟨58, _⟩ => ⟨S4x8x4x256x768, .f32⟩
  | .hbm, ⟨59, _⟩ => ⟨S_, .f32⟩
  | .hbm, ⟨60, _⟩ => ⟨S4x8x4x256, .f32⟩
  | .hbm, ⟨61, _⟩ => ⟨S4x8x4x256x1, .f32⟩
  | .hbm, ⟨62, _⟩ => ⟨S4x8x4x256x768, .f32⟩
  | .hbm, ⟨63, _⟩ => ⟨S4x8x4x256x768, .f32⟩
  | .hbm, ⟨64, _⟩ => ⟨S4x8x4x256x768, .bf16⟩
  | .hbm, ⟨65, _⟩ => ⟨S4x8x4x256x768, .f32⟩
  | .hbm, ⟨66, _⟩ => ⟨S_, .i32⟩
  | .hbm, ⟨67, _⟩ => ⟨S_, .f32⟩
  | .hbm, ⟨68, _⟩ => ⟨S4x10x256x4x128, .f32⟩
  | .hbm, ⟨69, _⟩ => ⟨S4x8x256x4x128, .f32⟩
  | .hbm, ⟨70, _⟩ => ⟨S4x8x256x4x128, .f32⟩
  | .hbm, ⟨71, _⟩ => ⟨S4x8x256x4x128, .f32⟩
  | .hbm, ⟨72, _⟩ => ⟨S4x8x1x256x4x128, .f32⟩
  | .hbm, ⟨73, _⟩ => ⟨S4x8x1x256x4x128, .f32⟩
  | .hbm, ⟨74, _⟩ => ⟨S4x8x1x256x4x128, .f32⟩
  | .hbm, ⟨75, _⟩ => ⟨S4x8x3x256x4x128, .f32⟩
  | .hbm, ⟨76, _⟩ => ⟨S4x8x768x4x128, .f32⟩
  | .hbm, ⟨77, _⟩ => ⟨S4x8x4x128x256, .f32⟩
  | .hbm, ⟨78, _⟩ => ⟨S4x8x256x4x128, .f32⟩
  | .hbm, ⟨79, _⟩ => ⟨S4x2048x512, .f32⟩
  | .hbm, ⟨80, _⟩ => ⟨S4x2048x512, .bf16⟩
  | _, _ => ⟨S4x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_7 : Ref sig .tc := ⟨.hbm, 66, rfl⟩
abbrev main_call2_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Peer.lean ====
abbrev S8192x2048 : Shape := ⟨2, ![8192, 2048]⟩
abbrev S2x16384x2048 : Shape := ⟨3, ![2, 16384, 2048]⟩
abbrev S8x128x8192 : Shape := ⟨3, ![8, 128, 8192]⟩
abbrev S512x2048 : Shape := ⟨2, ![512, 2048]⟩
abbrev S1x1024x2048 : Shape := ⟨3, ![1, 1024, 2048]⟩
abbrev S8x128x512 : Shape := ⟨3, ![8, 128, 512]⟩
abbrev S1024x2048 : Shape := ⟨2, ![1024, 2048]⟩
abbrev S1024x512 : Shape := ⟨2, ![1024, 512]⟩
abbrev S1x1x512 : Shape := ⟨3, ![1, 1, 512]⟩
abbrev S1x512 : Shape := ⟨2, ![1, 512]⟩
abbrev S16x512 : Shape := ⟨2, ![16, 512]⟩
abbrev S1x16x512 : Shape := ⟨3, ![1, 16, 512]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S2x16384x2048, .bf16⟩
  | .hbm, ⟨2, _⟩ => ⟨S2x16384x2048, .bf16⟩
  | .hbm, ⟨3, _⟩ => ⟨S8x128x8192, .bf16⟩
  | .hbm, ⟨4, _⟩ => ⟨S8x128x8192, .bf16⟩
  | .hbm, ⟨5, _⟩ => ⟨S8x128x8192, .f32⟩
  | .hbm, ⟨6, _⟩ => ⟨S8x128x8192, .f32⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x2048, .f32⟩
  | .local _ .vmem, ⟨15, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def k0_off1 (i : grid0.Coords) (c0_i32_8 : BitVec 32) : Fin 3 → Nat :=
  let c0_9 : Index := 0#32
  let arg1 : BitVec 32 := BitVec.ofNat 32 (i 1).val
  let c8_i32 : BitVec 32 := 8#32
  let v19 : BitVec 32 := Scalar.muli arg1 c8_i32
  let v20 : BitVec 32 := Scalar.addi v19 c0_i32_8
  let v21 : Index := Scalar.indexCast v20
  let c0_10 : Index := 0#32
  ![0, v21.toNat, 0]
def k0_off2 (i : grid0.Coords) (c0_i32_8 : BitVec 32) : Fin 3 → Nat :=
  let c1 : Index := 1#32
  let arg1 : BitVec 32 := BitVec.ofNat 32 (i 1).val
  let c8_i32 : BitVec 32 := 8#32
  let v19 : BitVec 32 := Scalar.muli arg1 c8_i32
  let v20 : BitVec 32 := Scalar.addi v19 c0_i32_8
  let v105 : Index := Scalar.indexCast v20
  let c0_62 : Index := 0#32
  ![1, v105.toNat, 0]
def k0_off3 (i : grid0.Coords) (c0_i32_8 : BitVec 32) : Fin 3 → Nat :=
  let c2 : Index := 2#32
  let arg1 : BitVec 32 := BitVec.ofNat 32 (i 1).val
  let c8_i32 : BitVec 32 := 8#32
  let v19 : BitVec 32 := Scalar.muli arg1 c8_i32
  let v20 : BitVec 32 := Scalar.addi v19 c0_i32_8
  let v197 : Index := Scalar.indexCast v20
  let c0_121 : Index := 0#32
  ![2, v197.toNat, 0]
def k0_off4 (i : grid0.Coords) (c0_i32_8 : BitVec 32) : Fin 3 → Nat :=
  let c3 : Index := 3#32
  let arg1 : BitVec 32 := BitVec.ofNat 32 (i 1).val
  let c8_i32 : BitVec 32 := 8#32
  let v19 : BitVec 32 := Scalar.muli arg1 c8_i32
  let v20 : BitVec 32 := Scalar.addi v19 c0_i32_8
  let v289 : Index := Scalar.indexCast v20
  let c0_180 : Index := 0#32
  ![3, v289.toNat, 0]
def k0_off5 (i : grid0.Coords) (c0_i32_8 : BitVec 32) : Fin 3 → Nat :=
  let c4 : Index := 4#32
  let arg1 : BitVec 32 := BitVec.ofNat 32 (i 1).val
  let c8_i32 : BitVec 32 := 8#32
  let v19 : BitVec 32 := Scalar.muli arg1 c8_i32
  let v20 : BitVec 32 := Scalar.addi v19 c0_i32_8
  let v381 : Index := Scalar.indexCast v20
  let c0_239 : Index := 0#32
  ![4, v381.toNat, 0]
def k0_off6 (i : grid0.Coords) (c0_i32_8 : BitVec 32) : Fin 3 → Nat :=
  let c5 : Index := 5#32
  let arg1 : BitVec 32 := BitVec.ofNat 32 (i 1).val
  let c8_i32 : BitVec 32 := 8#32
  let v19 : BitVec 32 := Scalar.muli arg1 c8_i32
  let v20 : BitVec 32 := Scalar.addi v19 c0_i32_8
  let v473 : Index := Scalar.indexCast v20
  let c0_298 : Index := 0#32
  ![5, v473.toNat, 0]
def k0_off7 (i : grid0.Coords) (c0_i32_8 : BitVec 32) : Fin 3 → Nat :=
  let c6 : Index := 6#32
  let arg1 : BitVec 32 := BitVec.ofNat 32 (i 1).val
  let c8_i32 : BitVec 32 := 8#32
  let v19 : BitVec 32 := Scalar.muli arg1 c8_i32
  let v20 : BitVec 32 := Scalar.addi v19 c0_i32_8
  let v565 : Index := Scalar.indexCast v20
  let c0_357 : Index := 0#32
  ![6, v565.toNat, 0]
def k0_off8 (i : grid0.Coords) (c0_i32_8 : BitVec 32) : Fin 3 → Nat :=
  let c7 : Index := 7#32
  let arg1 : BitVec 32 := BitVec.ofNat 32 (i 1).val
  let c8_i32 : BitVec 32 := 8#32
  let v19 : BitVec 32 := Scalar.muli arg1 c8_i32
  let v20 : BitVec 32 := Scalar.addi v19 c0_i32_8
  let v657 : Index := Scalar.indexCast v20
  let c0_416 : Index := 0#32
  ![7, v657.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== PeerRefIdeal.lean ====
abbrev S8192x2048 : Shape := ⟨2, ![8192, 2048]⟩
abbrev S2x16384x2048 : Shape := ⟨3, ![2, 16384, 2048]⟩
abbrev S8x128x8192 : Shape := ⟨3, ![8, 128, 8192]⟩
abbrev S1x16384x2048 : Shape := ⟨3, ![1, 16384, 2048]⟩
abbrev S16384x2048 : Shape := ⟨2, ![16384, 2048]⟩
abbrev S2048x16384 : Shape := ⟨2, ![2048, 16384]⟩
abbrev S8192x16384 : Shape := ⟨2, ![8192, 16384]⟩
abbrev S_ : Shape := ⟨0, ![]⟩
abbrev S8x1x128x8192 : Shape := ⟨4, ![8, 1, 128, 8192]⟩
abbrev S8x128x1x8192 : Shape := ⟨4, ![8, 128, 1, 8192]⟩
abbrev S8x128x128x8192 : Shape := ⟨4, ![8, 128, 128, 8192]⟩
abbrev S128x128x8192 : Shape := ⟨3, ![128, 128, 8192]⟩
abbrev S16384x8192 : Shape := ⟨2, ![16384, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x16384x2048, .bf16⟩
  | .hbm, ⟨2, _⟩ => ⟨S2x16384x2048, .bf16⟩
  | .hbm, ⟨3, _⟩ => ⟨S8x128x8192, .bf16⟩
  | .hbm, ⟨4, _⟩ => ⟨S8x128x8192, .bf16⟩
  | .hbm, ⟨5, _⟩ => ⟨S8x128x8192, .f32⟩
  | .hbm, ⟨6, _⟩ => ⟨S8x128x8192, .f32⟩
  | .hbm, ⟨7, _⟩ => ⟨S8192x2048, .f32⟩
  | .hbm, ⟨8, _⟩ => ⟨S1x16384x2048, .bf16⟩
  | .hbm, ⟨9, _⟩ => ⟨S16384x2048, .bf16⟩
  | .hbm, ⟨10, _⟩ => ⟨S16384x2048, .f32⟩
  | .hbm, ⟨11, _⟩ => ⟨S2048x16384, .f32⟩
  | .hbm, ⟨12, _⟩ => ⟨S8192x16384, .f32⟩
  | .hbm, ⟨13, _⟩ => ⟨S_, .f32⟩
  | .hbm, ⟨14, _⟩ => ⟨S8192x16384, .f32⟩
  | .hbm, ⟨15, _⟩ => ⟨S8192x16384, .f32⟩
  | .hbm, ⟨16, _⟩ => ⟨S_, .f32⟩
  | .hbm, ⟨17, _⟩ => ⟨S8192x16384, .f32⟩
  | .hbm, ⟨18, _⟩ => ⟨S8192x16384, .f32⟩
  | .hbm, ⟨19, _⟩ => ⟨S8192x16384, .f32⟩
  | .hbm, ⟨20, _⟩ => ⟨S8192x16384, .f32⟩
  | .hbm, ⟨21, _⟩ => ⟨S_, .f32⟩
  | .hbm, ⟨22, _⟩ => ⟨S8192x16384, .f32⟩
  | .hbm, ⟨23, _⟩ => ⟨S8192x16384, .f32⟩
  | .hbm, ⟨24, _⟩ => ⟨S8192x16384, .f32⟩
  | .hbm, ⟨25, _⟩ => ⟨S8192x16384, .f32⟩
  | .hbm, ⟨26, _⟩ => ⟨S_, .f32⟩
  | .hbm, ⟨27, _⟩ => ⟨S8192x16384, .f32⟩
  | .hbm, ⟨28, _⟩ => ⟨S8192x16384, .f32⟩
  | .hbm, ⟨29, _⟩ => ⟨S8192x16384, .f32⟩
  | .hbm, ⟨30, _⟩ => ⟨S8x128x8192, .f32⟩
  | .hbm, ⟨31, _⟩ => ⟨S8x1x128x8192, .f32⟩
  | .hbm, ⟨32, _⟩ => ⟨S8x128x8192, .f32⟩
  | .hbm, ⟨33, _⟩ => ⟨S8x1x128x8192, .f32⟩
  | .hbm, ⟨34, _⟩ => ⟨S8x128x1x8192, .f32⟩
  | .hbm, ⟨35, _⟩ => ⟨S8x128x128x8192, .f32⟩
  | .hbm, ⟨36, _⟩ => ⟨S8x128x128x8192, .f32⟩
  | .hbm, ⟨37, _⟩ => ⟨S8x128x128x8192, .i1⟩
  | .hbm, ⟨38, _⟩ => ⟨S8x128x1x8192, .f32⟩
  | .hbm, ⟨39, _⟩ => ⟨S8x128x128x8192, .f32⟩
  | .hbm, ⟨40, _⟩ => ⟨S8x128x128x8192, .f32⟩
  | .hbm, ⟨41, _⟩ => ⟨S8x128x128x8192, .f32⟩
  | .hbm, ⟨42, _⟩ => ⟨S_, .f32⟩
  | .hbm, ⟨43, _⟩ => ⟨S_, .f32⟩
  | .hbm, ⟨44, _⟩ => ⟨S8x128x128x8192, .f32⟩
  | .hbm, ⟨45, _⟩ => ⟨S8x128x128x8192, .f32⟩
  | .hbm, ⟨46, _⟩ => ⟨S_, .f32⟩
  | .hbm, ⟨47, _⟩ => ⟨S128x128x8192, .f32⟩
  | .hbm, ⟨48, _⟩ => ⟨S16384x8192, .f32⟩
  | .hbm, ⟨49, _⟩ => ⟨S8192x16384, .f32⟩
  | .hbm, ⟨50, _⟩ => ⟨S8192x16384, .f32⟩
  | .hbm, ⟨51, _⟩ => ⟨S1x16384x2048, .bf16⟩
  | .hbm, ⟨52, _⟩ => ⟨S16384x2048, .bf16⟩
  | .hbm, ⟨53, _⟩ => ⟨S16384x2048, .f32⟩
  | .hbm, ⟨54, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Pool.lean ====
abbrev S4x2048x2048 : Shape := ⟨3, ![4, 2048, 2048]⟩
abbrev S2x4x128x128 : Shape := ⟨4, ![2, 4, 128, 128]⟩
abbrev S2x1x512 : Shape := ⟨3, ![2, 1, 512]⟩
abbrev S4x2048x512 : Shape := ⟨3, ![4, 2048, 512]⟩
abbrev S1x2048x512 : Shape := ⟨3, ![1, 2048, 512]⟩
abbrev S1x4x128x128 : Shape := ⟨4, ![1, 4, 128, 128]⟩
abbrev S1x1x512 : Shape := ⟨3, ![1, 1, 512]⟩
abbrev S2048x128 : Shape := ⟨2, ![2048, 128]⟩
abbrev S1x2048x128 : Shape := ⟨3, ![1, 2048, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x4x128x128, .bf16⟩
  | .hbm, ⟨2, _⟩ => ⟨S2x1x512, .f32⟩
  | .hbm, ⟨3, _⟩ => ⟨S4x2048x512, .bf16⟩
  | .local _ .vmem, ⟨0, _⟩ => ⟨S1x2048x512, .f32⟩
  | .local _ .vmem, ⟨1, _⟩ => ⟨S1x2048x512, .f32⟩
  | .local _ .vmem, ⟨2, _⟩ => ⟨S1x4x128x128, .bf16⟩
  | .local _ .vmem, ⟨3, _⟩ => ⟨S1x1x512, .f32⟩
  | .local _ .vmem, ⟨4, _⟩ => ⟨S1x2048x512, .bf16⟩
  | .local _ .vmem, ⟨5, _⟩ => ⟨S1x2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolRefIdeal.lean ====
abbrev S4x2048x2048 : Shape := ⟨3, ![4, 2048, 2048]⟩
abbrev S2x4x128x128 : Shape := ⟨4, ![2, 4, 128, 128]⟩
abbrev S2x1x512 : Shape := ⟨3, ![2, 1, 512]⟩
abbrev S4x2048x512 : Shape := ⟨3, ![4, 2048, 512]⟩
abbrev S_ : Shape := ⟨0, ![]⟩
abbrev S4x2064x512 : Shape := ⟨3, ![4, 2064, 512]⟩
abbrev S2048 : Shape := ⟨1, ![2048]⟩
abbrev S4x2048x128 : Shape := ⟨3, ![4, 2048, 128]⟩
abbrev S1x2048x1 : Shape := ⟨3, ![1, 2048, 1]⟩
abbrev S4x2048x1x128 : Shape := ⟨4, ![4, 2048, 1, 128]⟩
abbrev S4x2048x4x128 : Shape := ⟨4, ![4, 2048, 4, 128]⟩
abbrev S1x4x128x128 : Shape := ⟨4, ![1, 4, 128, 128]⟩
abbrev S4x128x128 : Shape := ⟨3, ![4, 128, 128]⟩
abbrev S4x128x4x2048 : Shape := ⟨4, ![4, 128, 4, 2048]⟩
abbrev S1x1x512 : Shape := ⟨3, ![1, 1, 512]⟩
abbrev S1x512 : Shape := ⟨2, ![1, 512]⟩

abbrev nBuf : Space → Nat
  | .hbm => 110
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x4x128x128, .bf16⟩
  | .hbm, ⟨2, _⟩ => ⟨S2x1x512, .f32⟩
  | .hbm, ⟨3, _⟩ => ⟨S4x2048x512, .f32⟩
  | .hbm, ⟨4, _⟩ => ⟨S_, .i32⟩
  | .hbm, ⟨5, _⟩ => ⟨S_, .f32⟩
  | .hbm, ⟨6, _⟩ => ⟨S4x2064x512, .f32⟩
  | .hbm, ⟨7, _⟩ => ⟨S4x2048x512, .f32⟩
  | .hbm, ⟨8, _⟩ => ⟨S4x2048x512, .f32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .f32⟩
  | .hbm, ⟨17, _⟩ => ⟨S4x2048x128, .f32⟩
  | .hbm, ⟨18, _⟩ => ⟨S1x2048x1, .f32⟩
  | .hbm, ⟨19, _⟩ => ⟨S4x2048x128, .f32⟩
  | .hbm, ⟨20, _⟩ => ⟨S4x2048x128, .f32⟩
  | .hbm, ⟨21, _⟩ => ⟨S4x2048x128, .f32⟩
  | .hbm, ⟨22, _⟩ => ⟨S4x2048x128, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S4x2048x512, .f32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .f32⟩
  | .hbm, ⟨35, _⟩ => ⟨S4x2048x128, .f32⟩
  | .hbm, ⟨36, _⟩ => ⟨S1x2048x1, .f32⟩
  | .hbm, ⟨37, _⟩ => ⟨S4x2048x128, .f32⟩
  | .hbm, ⟨38, _⟩ => ⟨S4x2048x128, .f32⟩
  | .hbm, ⟨39, _⟩ => ⟨S4x2048x128, .f32⟩
  | .hbm, ⟨40, _⟩ => ⟨S4x2048x128, .f32⟩
  | .hbm, ⟨41, _⟩ => ⟨S4x2048x512, .f32⟩
  | .hbm, ⟨42, _⟩ => ⟨S4x2048x512, .f32⟩
  | .hbm, ⟨43, _⟩ => ⟨S4x2048x512, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .hbm, ⟨47, _⟩ => ⟨S4x2048x512, .f32⟩
  | .hbm, ⟨48, _⟩ => ⟨S4x2048x512, .f32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .f32⟩
  | .hbm, ⟨57, _⟩ => ⟨S4x2048x128, .f32⟩
  | .hbm, ⟨58, _⟩ => ⟨S1x2048x1, .f32⟩
  | .hbm, ⟨59, _⟩ => ⟨S4x2048x128, .f32⟩
  | .hbm, ⟨60, _⟩ => ⟨S4x2048x128, .f32⟩
  | .hbm, ⟨61, _⟩ => ⟨S4x2048x128, .f32⟩
  | .hbm, ⟨62, _⟩ => ⟨S4x2048x128, .f32⟩
  | .hbm, ⟨63, _⟩ => ⟨S4x2048x512, .f32⟩
  | .hbm, ⟨64, _⟩ => ⟨S4x2048x512, .f32⟩
  | .hbm, ⟨65, _⟩ => ⟨S4x2048x512, .f32⟩
  | .hbm, ⟨66, _⟩ => ⟨S4x2048x512, .f32⟩
  | .hbm, ⟨67, _⟩ => ⟨S4x2048x512, .f32⟩
  | .hbm, ⟨68, _⟩ => ⟨S4x2048x512, .f32⟩
  | .hbm, ⟨69, _⟩ => ⟨S4x2048x512, .f32⟩
  | .hbm, ⟨70, _⟩ => ⟨S4x2048x512, .f32⟩
  | .hbm, ⟨71, _⟩ => ⟨S4x2048x512, .f32⟩
  | .hbm, ⟨72, _⟩ => ⟨S4x2048x512, .f32⟩
  | .hbm, ⟨73, _⟩ => ⟨S4x2048x512, .f32⟩
  | .hbm, ⟨74, _⟩ => ⟨S4x2048x512, .f32⟩
  | .hbm, ⟨75, _⟩ => ⟨S4x2048x512, .f32⟩
  | .hbm, ⟨76, _⟩ => ⟨S4x2048x512, .f32⟩
  | .hbm, ⟨77, _⟩ => ⟨S4x2048x512, .f32⟩
  | .hbm, ⟨78, _⟩ => ⟨S4x2048x512, .f32⟩
  | .hbm, ⟨79, _⟩ => ⟨S2048, .i32⟩
  | .hbm, ⟨80, _⟩ => ⟨S_, .i32⟩
  | .hbm, ⟨81, _⟩ => ⟨S2048, .i32⟩
  | .hbm, ⟨82, _⟩ => ⟨S2048, .i32⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S2048, .f32⟩
  | .hbm, ⟨87, _⟩ => ⟨S4x2048x128, .f32⟩
  | .hbm, ⟨88, _⟩ => ⟨S1x2048x1, .f32⟩
  | .hbm, ⟨89, _⟩ => ⟨S4x2048x128, .f32⟩
  | .hbm, ⟨90, _⟩ => ⟨S4x2048x128, .f32⟩
  | .hbm, ⟨91, _⟩ => ⟨S4x2048x128, .f32⟩
  | .hbm, ⟨92, _⟩ => ⟨S4x2048x128, .f32⟩
  | .hbm, ⟨93, _⟩ => ⟨S4x2048x1x128, .f32⟩
  | .hbm, ⟨94, _⟩ => ⟨S4x2048x1x128, .f32⟩
  | .hbm, ⟨95, _⟩ => ⟨S4x2048x1x128, .f32⟩
  | .hbm, ⟨96, _⟩ => ⟨S4x2048x1x128, .f32⟩
  | .hbm, ⟨97, _⟩ => ⟨S4x2048x4x128, .f32⟩
  | .hbm, ⟨98, _⟩ => ⟨S1x4x128x128, .bf16⟩
  | .hbm, ⟨99, _⟩ => ⟨S4x128x128, .bf16⟩
  | .hbm, ⟨100, _⟩ => ⟨S4x128x128, .f32⟩
  | .hbm, ⟨101, _⟩ => ⟨S4x128x4x2048, .f32⟩
  | .hbm, ⟨102, _⟩ => ⟨S4x2048x4x128, .f32⟩
  | .hbm, ⟨103, _⟩ => ⟨S4x2048x512, .f32⟩
  | .hbm, ⟨104, _⟩ => ⟨S1x1x512, .f32⟩
  | .hbm, ⟨105, _⟩ => ⟨S1x512, .f32⟩
  | .hbm, ⟨106, _⟩ => ⟨S1x1x512, .f32⟩
  | .hbm, ⟨107, _⟩ => ⟨S4x2048x512, .f32⟩
  | .hbm, ⟨108, _⟩ => ⟨S4x2048x512, .f32⟩
  | .hbm, ⟨109, _⟩ => ⟨S4x2048x512, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_4 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_c_6 : Ref sig .tc := ⟨.hbm, 80, rfl⟩
abbrev main_v69 : Ref sig .tc := ⟨.hbm, 81, rfl⟩
abbrev main_v70 : Ref sig .tc := ⟨.hbm, 82, rfl⟩
abbrev main_c_7 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩

abbrev nD : Nat := 1
abbrev τ : Topo := Topo.v7x

variable {F : FTy → Type} [FloatOps F]
-- ==== Conv.lean ====
abbrev S4x2048x2048 : Shape := ⟨3, ![4, 2048, 2048]⟩
abbrev S2x8x512 : Shape := ⟨3, ![2, 8, 512]⟩
abbrev S4x2048x512 : Shape := ⟨3, ![4, 2048, 512]⟩
abbrev S1x2048x512 : Shape := ⟨3, ![1, 2048, 512]⟩
abbrev S1x8x512 : Shape := ⟨3, ![1, 8, 512]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 3
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S2x8x512, .f32⟩
  | .hbm, ⟨2, _⟩ => ⟨S4x2048x512, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x8x512, .f32⟩
  | .local _ .vmem, ⟨7, _⟩ => ⟨S1x2048x512, .bf16⟩
  | .local _ .vmem, ⟨8, _⟩ => ⟨S1x2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_1 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRefIdeal.lean ====
abbrev S4x2048x2048 : Shape := ⟨3, ![4, 2048, 2048]⟩
abbrev S2x8x512 : Shape := ⟨3, ![2, 8, 512]⟩
abbrev S4x2048x512 : Shape := ⟨3, ![4, 2048, 512]⟩
abbrev S_ : Shape := ⟨0, ![]⟩
abbrev S4x2050x512 : Shape := ⟨3, ![4, 2050, 512]⟩
abbrev S1x1x512 : Shape := ⟨3, ![1, 1, 512]⟩
abbrev S512 : Shape := ⟨1, ![512]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x8x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S_, .i32⟩
  | .hbm, ⟨7, _⟩ => ⟨S_, .f32⟩
  | .hbm, ⟨8, _⟩ => ⟨S4x2050x512, .f32⟩
  | .hbm, ⟨9, _⟩ => ⟨S1x1x512, .f32⟩
  | .hbm, ⟨10, _⟩ => ⟨S512, .f32⟩
  | .hbm, ⟨11, _⟩ => ⟨S4x2048x512, .f32⟩
  | .hbm, ⟨12, _⟩ => ⟨S1x1x512, .f32⟩
  | .hbm, ⟨13, _⟩ => ⟨S4x2048x512, .f32⟩
  | .hbm, ⟨14, _⟩ => ⟨S4x2048x512, .f32⟩
  | .hbm, ⟨15, _⟩ => ⟨S1x1x512, .f32⟩
  | .hbm, ⟨16, _⟩ => ⟨S512, .f32⟩
  | .hbm, ⟨17, _⟩ => ⟨S4x2048x512, .f32⟩
  | .hbm, ⟨18, _⟩ => ⟨S1x1x512, .f32⟩
  | .hbm, ⟨19, _⟩ => ⟨S4x2048x512, .f32⟩
  | .hbm, ⟨20, _⟩ => ⟨S4x2048x512, .f32⟩
  | .hbm, ⟨21, _⟩ => ⟨S4x2048x512, .f32⟩
  | .hbm, ⟨22, _⟩ => ⟨S1x1x512, .f32⟩
  | .hbm, ⟨23, _⟩ => ⟨S512, .f32⟩
  | .hbm, ⟨24, _⟩ => ⟨S4x2048x512, .f32⟩
  | .hbm, ⟨25, _⟩ => ⟨S1x1x512, .f32⟩
  | .hbm, ⟨26, _⟩ => ⟨S4x2048x512, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S4x2048x512, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== ProjForget.lean ====
abbrev S8192x2048 : Shape := ⟨2, ![8192, 2048]⟩
abbrev S2x2048x512 : Shape := ⟨3, ![2, 2048, 512]⟩
abbrev S2x1x512 : Shape := ⟨3, ![2, 1, 512]⟩
abbrev S8192x512 : Shape := ⟨2, ![8192, 512]⟩
abbrev S1024x2048 : Shape := ⟨2, ![1024, 2048]⟩
abbrev S1x2048x512 : Shape := ⟨3, ![1, 2048, 512]⟩
abbrev S1x1x512 : Shape := ⟨3, ![1, 1, 512]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x512, .bf16⟩
  | .hbm, ⟨2, _⟩ => ⟨S2x1x512, .f32⟩
  | .hbm, ⟨3, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x1x512, .f32⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjForgetRefIdeal.lean ====
abbrev S8192x2048 : Shape := ⟨2, ![8192, 2048]⟩
abbrev S2x2048x512 : Shape := ⟨3, ![2, 2048, 512]⟩
abbrev S2x1x512 : Shape := ⟨3, ![2, 1, 512]⟩
abbrev S1x2048x512 : Shape := ⟨3, ![1, 2048, 512]⟩
abbrev S2048x512 : Shape := ⟨2, ![2048, 512]⟩
abbrev S8192x512 : Shape := ⟨2, ![8192, 512]⟩
abbrev S1x1x512 : Shape := ⟨3, ![1, 1, 512]⟩
abbrev S1x512 : Shape := ⟨2, ![1, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x512, .bf16⟩
  | .hbm, ⟨2, _⟩ => ⟨S2x1x512, .f32⟩
  | .hbm, ⟨3, _⟩ => ⟨S8192x2048, .f32⟩
  | .hbm, ⟨4, _⟩ => ⟨S1x2048x512, .bf16⟩
  | .hbm, ⟨5, _⟩ => ⟨S2048x512, .bf16⟩
  | .hbm, ⟨6, _⟩ => ⟨S2048x512, .f32⟩
  | .hbm, ⟨7, _⟩ => ⟨S8192x512, .f32⟩
  | .hbm, ⟨8, _⟩ => ⟨S1x1x512, .f32⟩
  | .hbm, ⟨9, _⟩ => ⟨S1x512, .f32⟩
  | .hbm, ⟨10, _⟩ => ⟨S8192x512, .f32⟩
  | .hbm, ⟨11, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== NormIn.lean ====
abbrev S8192x2048 : Shape := ⟨2, ![8192, 2048]⟩
abbrev S2x1x2048 : Shape := ⟨3, ![2, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x1x2048, .f32⟩
  | .hbm, ⟨3, _⟩ => ⟨S8192x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormInRefIdeal.lean ====
abbrev S8192x2048 : Shape := ⟨2, ![8192, 2048]⟩
abbrev S2x1x2048 : Shape := ⟨3, ![2, 1, 2048]⟩
abbrev S1x1x2048 : Shape := ⟨3, ![1, 1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x1x2048, .f32⟩
  | .hbm, ⟨3, _⟩ => ⟨S8192x2048, .f32⟩
  | .hbm, ⟨4, _⟩ => ⟨S1x1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== NormOut.lean ====
abbrev S8192x2048 : Shape := ⟨2, ![8192, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormOutRefIdeal.lean ====
abbrev S8192x2048 : Shape := ⟨2, ![8192, 2048]⟩
abbrev S1x1x2048 : Shape := ⟨3, ![1, 1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x1x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== NormFirst.lean ====
abbrev S8192x2048 : Shape := ⟨2, ![8192, 2048]⟩
abbrev S2x1x2048 : Shape := ⟨3, ![2, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S1x2048 : Shape := ⟨2, ![1, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFirstRefIdeal.lean ====
abbrev S8192x2048 : Shape := ⟨2, ![8192, 2048]⟩
abbrev S2x1x2048 : Shape := ⟨3, ![2, 1, 2048]⟩
abbrev S1x1x2048 : Shape := ⟨3, ![1, 1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x2048, .f32⟩
  | .hbm, ⟨2, _⟩ => ⟨S1x1x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Decay.lean ====
abbrev S4x2048x512 : Shape := ⟨3, ![4, 2048, 512]⟩
abbrev S4x4x2048x128 : Shape := ⟨4, ![4, 4, 2048, 128]⟩
abbrev S4x4x4x8x512 : Shape := ⟨5, ![4, 4, 4, 8, 512]⟩
abbrev S1x2048x128 : Shape := ⟨3, ![1, 2048, 128]⟩
abbrev S1x1x2048x128 : Shape := ⟨4, ![1, 1, 2048, 128]⟩
abbrev S1x1x4x8x512 : Shape := ⟨5, ![1, 1, 4, 8, 512]⟩
abbrev S2048x128 : Shape := ⟨2, ![2048, 128]⟩
abbrev S512x128 : Shape := ⟨2, ![512, 128]⟩
abbrev S128x512 : Shape := ⟨2, ![128, 512]⟩
abbrev S8x512 : Shape := ⟨2, ![8, 512]⟩
abbrev S1x1x1x8x512 : Shape := ⟨5, ![1, 1, 1, 8, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x512, .f32⟩
  | .hbm, ⟨1, _⟩ => ⟨S4x4x2048x128, .f32⟩
  | .hbm, ⟨2, _⟩ => ⟨S4x4x4x8x512, .f32⟩
  | .local _ .vmem, ⟨0, _⟩ => ⟨S1x2048x128, .f32⟩
  | .local _ .vmem, ⟨1, _⟩ => ⟨S1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x4x8x512, .f32⟩
  | .local _ .vmem, ⟨5, _⟩ => ⟨S1x1x4x8x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DecayRefIdeal.lean ====
abbrev S4x2048x512 : Shape := ⟨3, ![4, 2048, 512]⟩
abbrev S_ : Shape := ⟨0, ![]⟩
abbrev S4x2048x4x128 : Shape := ⟨4, ![4, 2048, 4, 128]⟩
abbrev S4x2048x4x8 : Shape := ⟨4, ![4, 2048, 4, 8]⟩
abbrev S4x4x512x4x8 : Shape := ⟨5, ![4, 4, 512, 4, 8]⟩
abbrev S4x4x2048x128 : Shape := ⟨4, ![4, 4, 2048, 128]⟩
abbrev S4x4x4x8x512 : Shape := ⟨5, ![4, 4, 4, 8, 512]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S_, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x512, .i1⟩
  | .hbm, ⟨8, _⟩ => ⟨S4x2048x512, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S4x2048x512, .f32⟩
  | .hbm, ⟨16, _⟩ => ⟨S4x2048x512, .f32⟩
  | .hbm, ⟨17, _⟩ => ⟨S_, .f32⟩
  | .hbm, ⟨18, _⟩ => ⟨S_, .f32⟩
  | .hbm, ⟨19, _⟩ => ⟨S4x2048x512, .f32⟩
  | .hbm, ⟨20, _⟩ => ⟨S4x2048x4x128, .f32⟩
  | .hbm, ⟨21, _⟩ => ⟨S4x2048x4x8, .f32⟩
  | .hbm, ⟨22, _⟩ => ⟨S4x4x512x4x8, .f32⟩
  | .hbm, ⟨23, _⟩ => ⟨S4x4x2048x128, .f32⟩
  | .hbm, ⟨24, _⟩ => ⟨S4x4x4x8x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_call0_call0_v1 : Ref sig .tc := ⟨.hbm, 4, rfl⟩
abbrev main_call0_call0_v2 : Ref sig .tc := ⟨.hbm, 5, rfl⟩
abbrev main_call0_call0_v3 : Ref sig .tc := ⟨.hbm, 6, rfl⟩
abbrev main_call0_call0_v4 : Ref sig .tc := ⟨.hbm, 7, rfl⟩
abbrev main_call0_call0_v5 : Ref sig .tc := ⟨.hbm, 8, rfl⟩
abbrev main_call0_call0_v6 : Ref sig .tc := ⟨.hbm, 9, rfl⟩
abbrev main_call0_call0_v7 : Ref sig .tc := ⟨.hbm, 10, rfl⟩
abbrev main_call0_call0_v8 : Ref sig .tc := ⟨.hbm, 11, rfl⟩
abbrev main_call0_call0_v9 : Ref sig .tc := ⟨.hbm, 12, rfl⟩
abbrev main_call0_call0_v10 : Ref sig .tc := ⟨.hbm, 13, rfl⟩
abbrev main_call0_call0_v11 : Ref sig .tc := ⟨.hbm, 14, rfl⟩
abbrev main_call0_v1 : Ref sig .tc := ⟨.hbm, 15, rfl⟩
abbrev main_v0 : Ref sig .tc := ⟨.hbm, 16, rfl⟩
abbrev main_call1_call0_cst : Ref sig .tc := ⟨.hbm, 17, rfl⟩
abbrev main_call1_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Proof.FoxBody.lean ====
/-
  What one grid point of the attention kernel leaves in its output block: the keyed loop's state after its trips, divided at the end.
-/
module

public import proofs.«01_k».proof.Proof.Gen.KernelIdeal.Value
public import Idealize.ShloMosaic.Lib.Pipeline.ValueKit

@[expose] public section

set_option maxRecDepth 16384

noncomputable section

namespace Cert.KernelIdeal.Fox

open Cert.KernelIdeal Cert.KernelIdeal.Gen Idealize.ShloMosaic Idealize.ShloMosaic.TcCoe Idealize.SL.Sem
open Idealize.ShloMosaic.Tactic

variable {F : FTy → Type} [FloatOps F] [Named F]

/-- One trip of the loop over key blocks, as a function of what the point loaded and of the state it was handed: the new maximum, the new
    sum of exponentials and the new weighted sum. -/
abbrev step (i : grid0.Coords) (x0 : Vec F S1x512x128 .bf16) (x1 x2 : Vec F S1x2048x128 .bf16) (x3 : Vec F S1x1x512x128 .f32)
    (x4 : Vec F S1x1x4x8x512 .f32) (k : Fin (k0_t1_loop i).trips)
    (s : FVec F S512x1 .f32 × FVec F S512x1 .f32 × FVec F S512x128 .f32) :
    FVec F S512x1 .f32 × FVec F S512x1 .f32 × FVec F S512x128 .f32 :=
  let kb : Vec F S1x512x128 .bf16 := View.ld x1 (Rect.unit (s := S1x2048x128) (k0_off1 i k) S1x512x128.size (k0_off1_inb i k))
  let vb : Vec F S1x512x128 .bf16 := View.ld x2 (Rect.unit (s := S1x2048x128) (k0_off1 i k) S1x512x128.size (k0_off1_inb i k))
  let cb : Vec F S1x1x1x8x512 .f32 := View.ld x4 (Rect.unit (s := S1x1x4x8x512) (k0_off2 i k) S1x1x1x8x512.size (k0_off2_inb i k))
  (k0_pay7 i x0 x3 k s.1 kb cb, k0_pay10 i x0 x3 k s.1 s.2.1 kb cb, k0_pay11 i x0 x3 k s.1 s.2.2 kb vb cb)

theorem trip_eq (c : Dev nD) (i : grid0.Coords) (a3 : Memref sig .tc .vmem S1x512x128 .bf16) (h3 : a3.IsWhole) (a4 : Memref sig .tc .vmem S1x2048x128 .bf16) (h4 : a4.IsWhole) (a5 : Memref sig .tc .vmem S1x2048x128 .bf16) (h5 : a5.IsWhole) (a6 : Memref sig .tc .vmem S1x1x512x128 .f32) (h6 : a6.IsWhole) (a7 : Memref sig .tc .vmem S1x1x4x8x512 .f32) (h7 : a7.IsWhole) (a8 : Memref sig .tc .vmem S1x512x128 .bf16) (h8 : a8.IsWhole)
    (x0 : Vec F S1x512x128 .bf16) (x1 x2 : Vec F S1x2048x128 .bf16) (x3 : Vec F S1x1x512x128 .f32) (x4 : Vec F S1x1x4x8x512 .f32)
    (k : Fin (k0_t1_loop i).trips) (s : FVec F S512x1 .f32 × FVec F S512x1 .f32 × FVec F S512x128 .f32) :
    tripR_k0_t1 (F := F) Variants.none c none i a3 h3 a4 h4 a5 h5 a6 h6 a7 h7 a8 h8 x0 x3 (h4.unread x1) (h5.unread x2) (h7.unread x4) k s
      = step i x0 x1 x2 x3 x4 k s := by
  delta tripR_k0_t1
  delta trip_k0_t1
  dsimp only
  sl_unfold_words
  simp only [View.readAt_eq_ld, h4.read_unread, h5.read_unread, h7.read_unread]
  rfl

/-- The loop's state before trip `n`: `⊥`, zero and zero before the first. -/
def state (i : grid0.Coords) (x0 : Vec F S1x512x128 .bf16) (x1 x2 : Vec F S1x2048x128 .bf16) (x3 : Vec F S1x1x512x128 .f32)
    (x4 : Vec F S1x1x4x8x512 .f32) : ℕ → FVec F S512x1 .f32 × FVec F S512x1 .f32 × FVec F S512x128 .f32
  | 0 => (k0_pay3, k0_pay4, k0_pay5)
  | n + 1 => if h : n < (k0_t1_loop i).trips then step i x0 x1 x2 x3 x4 ⟨n, h⟩ (state i x0 x1 x2 x3 x4 n) else state i x0 x1 x2 x3 x4 n

theorem loop_eq (c : Dev nD) (i : grid0.Coords) (a3 : Memref sig .tc .vmem S1x512x128 .bf16) (h3 : a3.IsWhole) (a4 : Memref sig .tc .vmem S1x2048x128 .bf16) (h4 : a4.IsWhole) (a5 : Memref sig .tc .vmem S1x2048x128 .bf16) (h5 : a5.IsWhole) (a6 : Memref sig .tc .vmem S1x1x512x128 .f32) (h6 : a6.IsWhole) (a7 : Memref sig .tc .vmem S1x1x4x8x512 .f32) (h7 : a7.IsWhole) (a8 : Memref sig .tc .vmem S1x512x128 .bf16) (h8 : a8.IsWhole)
    (x0 : Vec F S1x512x128 .bf16) (x1 x2 : Vec F S1x2048x128 .bf16) (x3 : Vec F S1x1x512x128 .f32) (x4 : Vec F S1x1x4x8x512 .f32)
    (n : ℕ) (hn : n ≤ (k0_t1_loop i).trips) :
    st_k0_t1 (F := F) Variants.none c none i a3 h3 a4 h4 a5 h5 a6 h6 a7 h7 a8 h8 x0 x3 (h4.unread x1) (h5.unread x2) (h7.unread x4)
      (k0_pay3, k0_pay4, k0_pay5) n = state i x0 x1 x2 x3 x4 n := by
  induction n with
  | zero => rfl
  | succ n ih =>
    have h : n < (k0_t1_loop i).trips := hn
    have e := st_k0_t1_succ (F := F) Variants.none c none i a3 h3 a4 h4 a5 h5 a6 h6 a7 h7 a8 h8 x0 x3 (h4.unread x1) (h5.unread x2)
      (h7.unread x4) (k0_pay3, k0_pay4, k0_pay5) ⟨n, h⟩
    rw [ih h.le, trip_eq] at e
    rw [state, dif_pos h]
    exact e

theorem hz3 : (![0, 0, 0] : Fin 3 → Nat) = fun _ => 0 := by decide
theorem hz4 : (![0, 0, 0, 0] : Fin 4 → Nat) = fun _ => 0 := by decide

/-- The remainder loop after the main one makes no trip. -/
theorem rest_trips (i : grid0.Coords) : (k0_t2_loop i).trips = 0 := Nat.le_zero.mp (k0_t2_abs i).2.1

theorem rest_eq (c : Dev nD) (i : grid0.Coords) (a3 : Memref sig .tc .vmem S1x512x128 .bf16) (h3 : a3.IsWhole) (a4 : Memref sig .tc .vmem S1x2048x128 .bf16) (h4 : a4.IsWhole) (a5 : Memref sig .tc .vmem S1x2048x128 .bf16) (h5 : a5.IsWhole) (a6 : Memref sig .tc .vmem S1x1x512x128 .f32) (h6 : a6.IsWhole) (a7 : Memref sig .tc .vmem S1x1x4x8x512 .f32) (h7 : a7.IsWhole) (a8 : Memref sig .tc .vmem S1x512x128 .bf16) (h8 : a8.IsWhole)
    (x0 : Vec F S1x512x128 .bf16) (x1 x2 : Vec F S1x2048x128 .bf16) (x3 : Vec F S1x1x512x128 .f32) (x4 : Vec F S1x1x4x8x512 .f32)
    (s : FVec F S512x1 .f32 × FVec F S512x1 .f32 × FVec F S512x128 .f32) :
    st_k0_t2 (F := F) Variants.none c none i a3 h3 a4 h4 a5 h5 a6 h6 a7 h7 a8 h8 x0 x3 (h4.unread x1) (h5.unread x2) (h7.unread x4)
      s (k0_t2_loop i).trips = s := by
  rw [rest_trips]; rfl

/-- What the point's store leaves: the weighted sum over the sum of exponentials, after the loop's last trip. -/
theorem out_eq (c : Dev nD) (i : grid0.Coords) (a3 : Memref sig .tc .vmem S1x512x128 .bf16) (h3 : a3.IsWhole) (a4 : Memref sig .tc .vmem S1x2048x128 .bf16) (h4 : a4.IsWhole) (a5 : Memref sig .tc .vmem S1x2048x128 .bf16) (h5 : a5.IsWhole) (a6 : Memref sig .tc .vmem S1x1x512x128 .f32) (h6 : a6.IsWhole) (a7 : Memref sig .tc .vmem S1x1x4x8x512 .f32) (h7 : a7.IsWhole) (a8 : Memref sig .tc .vmem S1x512x128 .bf16) (h8 : a8.IsWhole)
    (x0 : Vec F S1x512x128 .bf16) (x1 x2 : Vec F S1x2048x128 .bf16) (x3 : Vec F S1x1x512x128 .f32) (x4 : Vec F S1x1x4x8x512 .f32) :
    out0_A_5 c i a3 h3 a4 h4 a5 h5 a6 h6 a7 h7 a8 h8 x0 x1 x2 x3 x4
      = k0_pay18 (state i x0 x1 x2 x3 x4 (k0_t1_loop i).trips).2.1 (state i x0 x1 x2 x3 x4 (k0_t1_loop i).trips).2.2 := by
  unfold out0_A_5
  rw [View.read_writes_eq_canon _ _ _ (cover0_A_5 c i a3 h3 a4 h4 a5 h5 a6 h6 a7 h7 a8 h8 x0 x1 x2 x3 x4)]
  unfold kernelRun0_A
  dsimp only
  sl_unfold_words
  rw [View.canon_unit_zero (S := S1x512x128) hz3]
  simp only [View.readAt_eq_ld, h3.read_unread, h6.read_unread, View.ld_unit_zero (S := S1x512x128) hz3, View.ld_unit_zero (S := S1x1x512x128) hz4]
  have e2 := fun s => rest_eq c i a3 h3 a4 h4 a5 h5 a6 h6 a7 h7 a8 h8 x0 x1 x2 x3 x4 s
  refine (congrArg₂ k0_pay18 (congrArg (fun s => s.2.1) (e2 _)) (congrArg (fun s => s.2.2) (e2 _))).trans ?_
  exact congrArg (fun s => k0_pay18 s.2.1 s.2.2) (loop_eq c i a3 h3 a4 h4 a5 h5 a6 h6 a7 h7 a8 h8 x0 x1 x2 x3 x4 _ le_rfl)

end Cert.KernelIdeal.Fox

end
-- ==== Proof.Softmax.lean ====
/-
  The arithmetic of one attention row over the extended reals. A row has logits `s k` and values `v k`, `k = 0, 1, …`.
  The softmax can be taken in one pass over all keys, or block by block with a running maximum and rescaled running sums;
  this file proves that the two agree.
-/
module

public import Idealize.ShloMosaic.PureOps.Ideal

@[expose] public section

noncomputable section

namespace Cert.Row

open Idealize.ShloMosaic

/-- The largest of the first `n` logits (`⊥` for none). -/
def top (s : ℕ → EReal) (n : ℕ) : EReal := (Finset.range n).sup s

/-- The sum of the first `n` exponentials, each taken relative to the largest of the first `n` logits. -/
def mass (s : ℕ → EReal) (n : ℕ) : EReal := ∑ k ∈ Finset.range n, Ideal.exp (s k - top s n)

/-- The same sum with each exponential multiplied by its key's value. -/
def acc (s v : ℕ → EReal) (n : ℕ) : EReal := ∑ k ∈ Finset.range n, Ideal.exp (s k - top s n) * v k

/-- An exponential is never negative. -/
theorem exp_nonneg (x : EReal) : 0 ≤ Ideal.exp x := by
  induction x with
  | bot => simp
  | top => simp
  | coe r => rw [Ideal.exp_coe]; exact_mod_cast (Real.exp_pos r).le

/-- An exponential of something below `⊤` is below `⊤`. -/
theorem exp_ne_top {x : EReal} (h : x ≠ ⊤) : Ideal.exp x ≠ ⊤ := by
  induction x with
  | bot => simp
  | top => exact absurd rfl h
  | coe r => rw [Ideal.exp_coe]; exact EReal.coe_ne_top _

/-- Rescaling from an old maximum `M` to a new one `M'`: the two exponentials multiply to one. -/
theorem exp_rescale {x M M' : EReal} (hx : x ≤ M) (hM : M ≤ M') (ht : M' ≠ ⊤) :
    Ideal.exp (M - M') * Ideal.exp (x - M) = Ideal.exp (x - M') := by
  have hMt : M ≠ ⊤ := fun e => ht (top_le_iff.mp (e ▸ hM))
  induction M with
  | top => exact absurd rfl hMt
  | bot =>
    obtain rfl : x = ⊥ := le_bot_iff.mp hx
    simp [sub_eq_add_neg]
  | coe r =>
    induction M' with
    | top => exact absurd rfl ht
    | bot => exact absurd (le_bot_iff.mp hM) (EReal.coe_ne_bot r)
    | coe r' =>
      induction x with
      | top => exact absurd (top_le_iff.mp hx) (EReal.coe_ne_top r)
      | bot => simp [sub_eq_add_neg]
      | coe a =>
        rw [← EReal.coe_sub, ← EReal.coe_sub, ← EReal.coe_sub, Ideal.exp_coe, Ideal.exp_coe, Ideal.exp_coe, ← EReal.coe_mul,
          ← Real.exp_add]
        congr 2
        ring

/-- A finite non-negative factor goes into a sum of any extended reals. -/
theorem mul_sum {ι : Type*} (S : Finset ι) (f : ι → EReal) {a : EReal} (h0 : 0 ≤ a) (ht : a ≠ ⊤) :
    a * ∑ k ∈ S, f k = ∑ k ∈ S, a * f k := by
  classical
  induction S using Finset.induction_on with
  | empty => simp
  | insert i S hi ih =>
    rw [Finset.sum_insert hi, Finset.sum_insert hi, EReal.left_distrib_of_nonneg_of_ne_top h0 ht, ih]

theorem le_top {s : ℕ → EReal} {n k : ℕ} (h : k < n) : s k ≤ top s n := Finset.le_sup (Finset.mem_range.mpr h)

/-- The running maximum only grows. -/
theorem top_mono (s : ℕ → EReal) {n n' : ℕ} (h : n ≤ n') : top s n ≤ top s n' :=
  Finset.sup_mono (Finset.range_mono h)

/-- The running maximum is below `⊤` where every logit is. -/
theorem top_ne_top {s : ℕ → EReal} (hs : ∀ k, s k ≠ ⊤) (n : ℕ) : top s n ≠ ⊤ :=
  ((Finset.sup_lt_iff (bot_lt_top)).mpr fun k _ => lt_top_iff_ne_top.mpr (hs k)).ne

/-- A maximum taken by a fold is the supremum. -/
theorem fold_max {ι : Type*} (S : Finset ι) (f : ι → EReal) : S.fold max ⊥ f = S.sup f := rfl

/-- A sum over the first `n + B` keys is the sum over the first `n` and the sum over the block after them. -/
theorem sum_block (f : ℕ → EReal) (n B : ℕ) :
    ∑ k ∈ Finset.range (n + B), f k = ∑ k ∈ Finset.range n, f k + ∑ k : Fin B, f (n + k.val) := by
  rw [Finset.sum_range_add, Fin.sum_univ_eq_sum_range fun k => f (n + k)]

/-- The maximum after one more block of `B` keys. -/
theorem top_block (s : ℕ → EReal) (n B : ℕ) :
    top s (n + B) = max (top s n) (Finset.univ.fold max ⊥ fun k : Fin B => s (n + k.val)) := by
  rw [fold_max]
  apply le_antisymm
  · refine Finset.sup_le fun k hk => ?_
    rcases lt_or_ge k n with h | h
    · exact le_max_of_le_left (le_top h)
    · have hk' := Finset.mem_range.mp hk
      refine le_max_of_le_right ?_
      have := Finset.le_sup (f := fun k : Fin B => s (n + k.val)) (Finset.mem_univ (⟨k - n, by omega⟩ : Fin B))
      rwa [show n + (k - n) = k by omega] at this
  · refine max_le (top_mono s (Nat.le_add_right n B)) (Finset.sup_le fun k _ => le_top ?_)
    have := k.isLt
    omega

/-- The factor that rescales from an old maximum to a new one is finite. -/
theorem exp_sub_ne_top {M M' : EReal} (hM : M ≤ M') (ht : M' ≠ ⊤) : Ideal.exp (M - M') ≠ ⊤ := by
  refine exp_ne_top fun e => ?_
  induction M with
  | bot => simp [sub_eq_add_neg] at e
  | top => exact ht (top_le_iff.mp hM)
  | coe r =>
    induction M' with
    | top => exact ht rfl
    | bot => exact absurd (le_bot_iff.mp hM) (EReal.coe_ne_bot r)
    | coe r' => rw [← EReal.coe_sub] at e; exact EReal.coe_ne_top _ e

/-- The sum of exponentials after one more block: the old sum rescaled to the new maximum, and the block's own terms. -/
theorem mass_block {s : ℕ → EReal} (hs : ∀ k, s k ≠ ⊤) (n B : ℕ) :
    mass s (n + B) = Ideal.exp (top s n - top s (n + B)) * mass s n
      + ∑ k : Fin B, Ideal.exp (s (n + k.val) - top s (n + B)) := by
  have hm := top_mono s (Nat.le_add_right n B)
  have ht := top_ne_top hs (n + B)
  conv_lhs => rw [mass, sum_block]
  conv_rhs => rw [mass, mul_sum _ _ (exp_nonneg _) (exp_sub_ne_top hm ht)]
  congr 1
  exact Finset.sum_congr rfl fun k hk => (exp_rescale (le_top (Finset.mem_range.mp hk)) hm ht).symm

/-- The weighted sum after one more block, likewise. -/
theorem acc_block {s : ℕ → EReal} (v : ℕ → EReal) (hs : ∀ k, s k ≠ ⊤) (n B : ℕ) :
    acc s v (n + B) = Ideal.exp (top s n - top s (n + B)) * acc s v n
      + ∑ k : Fin B, Ideal.exp (s (n + k.val) - top s (n + B)) * v (n + k.val) := by
  have hm := top_mono s (Nat.le_add_right n B)
  have ht := top_ne_top hs (n + B)
  conv_lhs => rw [acc, sum_block]
  conv_rhs => rw [acc, mul_sum _ _ (exp_nonneg _) (exp_sub_ne_top hm ht)]
  congr 1
  exact Finset.sum_congr rfl fun k hk => by
    rw [← mul_assoc, exp_rescale (le_top (Finset.mem_range.mp hk)) hm ht]

/-! ## Keys that are masked away, and the division at the end -/

/-- Masked keys do not move the maximum. -/
theorem top_masked {s : ℕ → EReal} {n N : ℕ} (h : n ≤ N) (hb : ∀ k, n ≤ k → s k = ⊥) : top s N = top s n := by
  refine le_antisymm (Finset.sup_le fun k _ => ?_) (top_mono s h)
  rcases lt_or_ge k n with hk | hk
  · exact le_top hk
  · rw [hb k hk]; exact bot_le

/-- A masked key's exponential is zero. -/
theorem exp_bot_sub (M : EReal) : Ideal.exp (⊥ - M) = 0 := by
  simp [sub_eq_add_neg]

/-- Masked keys add nothing to the sum of exponentials. -/
theorem mass_masked {s : ℕ → EReal} {n N : ℕ} (h : n ≤ N) (hb : ∀ k, n ≤ k → s k = ⊥) : mass s N = mass s n := by
  unfold mass
  rw [top_masked h hb]
  refine (Finset.sum_subset (Finset.range_mono h) fun k _ hk => ?_).symm
  rw [hb k (by simpa using hk), exp_bot_sub]

/-- Where some logit is real and none is `⊤`, the sum of exponentials is a positive real. -/
theorem mass_real {s : ℕ → EReal} (hs : ∀ k, s k ≠ ⊤) {n q : ℕ} (hq : q < n) (hr : s q ≠ ⊥) :
    ∃ r : ℝ, 0 < r ∧ mass s n = r := by
  have ht := top_ne_top hs n
  have hle : s q ≤ top s n := le_top hq
  have term : ∀ k ∈ Finset.range n, ∃ r : ℝ, 0 ≤ r ∧ Ideal.exp (s k - top s n) = r := fun k hk => by
    have h := exp_sub_ne_top (le_top (s := s) (Finset.mem_range.mp hk)) ht
    have h0 := exp_nonneg (s k - top s n)
    generalize Ideal.exp (s k - top s n) = x at h h0
    induction x with
    | top => exact absurd rfl h
    | bot => simp at h0
    | coe r => exact ⟨r, by exact_mod_cast h0, rfl⟩
  have pos : 0 < Ideal.exp (s q - top s n) := by
    generalize top s n = M at ht hle
    have hst := hs q
    generalize s q = x at hr hle hst
    induction x with
    | top => exact absurd rfl hst
    | bot => exact absurd rfl hr
    | coe a =>
      induction M with
      | top => exact absurd rfl ht
      | bot => exact absurd (le_bot_iff.mp hle) (EReal.coe_ne_bot a)
      | coe b => rw [← EReal.coe_sub, Ideal.exp_coe]; exact_mod_cast Real.exp_pos _
  choose! r hr0 hre using term
  refine ⟨∑ k ∈ Finset.range n, r k, ?_, ?_⟩
  · refine Finset.sum_pos' hr0 ⟨q, Finset.mem_range.mpr hq, ?_⟩
    rw [hre q (Finset.mem_range.mpr hq)] at pos
    exact_mod_cast pos
  · rw [mass, Finset.sum_congr rfl hre]
    exact (map_sum (⟨⟨Real.toEReal, rfl⟩, fun _ _ => rfl⟩ : ℝ →+ EReal) r (Finset.range n)).symm

/-- THE ROW'S EQUATION. The weighted sum over the keys up to `n`, divided once by the sum of exponentials, is the sum over all `N` keys of
    the softmax weight times the value, where every key from `n` on is masked. -/
theorem acc_div_mass {s v : ℕ → EReal} (hs : ∀ k, s k ≠ ⊤) {n N q : ℕ} (h : n ≤ N) (hb : ∀ k, n ≤ k → s k = ⊥) (hq : q < n)
    (hr : s q ≠ ⊥) :
    Ideal.div (acc s v n) (mass s n)
      = ∑ k ∈ Finset.range N, Ideal.div (Ideal.exp (s k - top s N)) (mass s N) * v k := by
  obtain ⟨L, hL, e⟩ := mass_real hs hq hr
  rw [mass_masked h hb, top_masked h hb, e]
  have hL0 : ((L : ℝ) : EReal) ≠ 0 := by exact_mod_cast hL.ne'
  have hi0 : (0 : EReal) ≤ ((L : ℝ) : EReal)⁻¹ := by rw [← EReal.coe_inv]; exact_mod_cast (inv_pos.mpr hL).le
  have hit : ((L : ℝ) : EReal)⁻¹ ≠ ⊤ := by rw [← EReal.coe_inv]; exact EReal.coe_ne_top _
  simp only [Ideal.div, if_neg hL0]
  rw [acc, mul_comm, mul_sum _ _ hi0 hit]
  rw [← Finset.sum_subset (Finset.range_mono h) fun k _ hk => by
    rw [hb k (by simpa using hk), exp_bot_sub, zero_mul, zero_mul]]
  exact Finset.sum_congr rfl fun k _ => by rw [← mul_assoc, mul_comm (_⁻¹)]

end Cert.Row

end
-- ==== Proof.FoxStep.lean ====
/-
  One trip of the key-block loop, read at a row and a lane over the extended reals, and the loop's state as the running maximum, the running
  sum of exponentials and the running weighted sum of a row's logits.
-/
module

public import proofs.«01_k».proof.Proof.FoxBody
public import proofs.«01_k».proof.Proof.Softmax
public import Idealize.ShloMosaic.Lib.Pointwise

@[expose] public section

set_option maxRecDepth 16384

noncomputable section

namespace Cert.KernelIdeal.Fox

open Cert.KernelIdeal Cert.KernelIdeal.Gen Idealize.ShloMosaic Idealize.ShloMosaic.TcCoe Idealize.SL.Sem
open Cert

/-- The pattern of minus infinity denotes the least extended real. -/
theorem bot_bits : Ideal.ofBits .f32 0xFF800000#32 = ⊥ := by
  simp [Ideal.ofBits, Ideal.ieee]

/-- The mask constant denotes the least extended real. -/
theorem mask_bot : (Named.named (F := Ideal) κ "mask" (φ := .f32) 0xF149F2CA#32) = ⊥ :=
  IdealRules.named_const.ideal_named_scalar _ _ _ _ rfl

/-- The kernel's logit of a row against a key of one block: the scaled product plus the difference of the cumulated gates where the key is
    not in the future, and the least extended real elsewhere. -/
theorem logits_apply (i : grid0.Coords) (x0 : Vec Ideal S1x512x128 .bf16) (x3 : Vec Ideal S1x1x512x128 .f32)
    (k : Fin (k0_t1_loop i).trips) (kb : Vec Ideal S1x512x128 .bf16) (cb : Vec Ideal S1x1x1x8x512 .f32) (r c : Fin 512)
    (g : EReal) (hg : ∀ l, x3 (ix4 0 0 r l) = g) :
    k0_pay6 i x0 x3 k kb cb (ix2 r c)
      = if k.val < (i 2).val ∨ c.val ≤ r.val then
          (∑ x : Fin 128, x0 (ix3 0 r x) * kb (ix3 0 c x)) * Ideal.ofBits .f32 0x3DB504F3#32 + (g - cb (ix5 0 0 0 0 c))
        else ⊥ := by
  pointwise [k0_pay6, k0_pay1, k0_pay2]
  have hk : k.val < 4 := k.isLt.trans_le (k0_t1_abs i).2.1
  have h2 : (i 2).val < 4 := (i 2).isLt
  have hr := r.isLt
  have hc := c.isLt
  have e1 : Scalar.cmpi .slt (Scf.iv 0#32 1#32 k.val) (BitVec.ofNat 32 (i 2).val) = BitVec.ofBool (decide (k.val < (i 2).val)) := by
    have : Scf.iv 0#32 1#32 k.val = BitVec.ofNat 32 k.val := by simp [Scf.iv]
    rw [this]
    exact WordCmp.cmpi_slt_ofNat (by omega) (by omega)
  have e2 : IntOp.cmpi .sle (BitVec.ofNat 32 c.val) (BitVec.ofNat 32 r.val) = BitVec.ofBool (decide (c.val ≤ r.val)) :=
    WordCmp.cmpi_sle_ofNat (by omega) (by omega)
  rw [mask_bot]
  simp only [hg, dite_eq_ite, ite_self]
  refine (congrArg (fun b => Scalar.select b _ _) (congrArg₂ IntOp.ori e1 e2)).trans ?_
  rw [WordCmp.ori_ofBool, WordCmp.select_ofBool]
  simp

/-- The new maximum of a row. -/
theorem max_apply (i : grid0.Coords) (x0 : Vec Ideal S1x512x128 .bf16) (x3 : Vec Ideal S1x1x512x128 .f32)
    (k : Fin (k0_t1_loop i).trips) (s : FVec Ideal S512x1 .f32) (kb : Vec Ideal S1x512x128 .bf16) (cb : Vec Ideal S1x1x1x8x512 .f32) (r : Fin 512) :
    k0_pay7 i x0 x3 k s kb cb (ix2 r 0)
      = max (s (ix2 r 0)) (Finset.univ.fold max ⊥ fun x : Fin 512 => k0_pay6 i x0 x3 k kb cb (ix2 r x)) := by
  pointwise [k0_pay7]
  rw [bot_bits]
  try rfl

/-- The factor the old sums of a row are multiplied by. -/
theorem alpha_apply (i : grid0.Coords) (x0 : Vec Ideal S1x512x128 .bf16) (x3 : Vec Ideal S1x1x512x128 .f32)
    (k : Fin (k0_t1_loop i).trips) (s : FVec Ideal S512x1 .f32) (kb : Vec Ideal S1x512x128 .bf16) (cb : Vec Ideal S1x1x1x8x512 .f32) (r : Fin 512) :
    k0_pay8 i x0 x3 k s kb cb (ix2 r 0) = Ideal.exp (s (ix2 r 0) - k0_pay7 i x0 x3 k s kb cb (ix2 r 0)) := by
  pointwise [k0_pay8]
  try rfl

/-- The exponential of a logit less the new maximum. -/
theorem p_apply (i : grid0.Coords) (x0 : Vec Ideal S1x512x128 .bf16) (x3 : Vec Ideal S1x1x512x128 .f32)
    (k : Fin (k0_t1_loop i).trips) (s : FVec Ideal S512x1 .f32) (kb : Vec Ideal S1x512x128 .bf16) (cb : Vec Ideal S1x1x1x8x512 .f32) (r c : Fin 512) :
    k0_pay9 i x0 x3 k s kb cb (ix2 r c)
      = Ideal.exp (k0_pay6 i x0 x3 k kb cb (ix2 r c) - k0_pay7 i x0 x3 k s kb cb (ix2 r 0)) := by
  pointwise [k0_pay9]
  try rfl

/-- The new sum of exponentials of a row. -/
theorem mass_apply (i : grid0.Coords) (x0 : Vec Ideal S1x512x128 .bf16) (x3 : Vec Ideal S1x1x512x128 .f32)
    (k : Fin (k0_t1_loop i).trips) (s l : FVec Ideal S512x1 .f32) (kb : Vec Ideal S1x512x128 .bf16) (cb : Vec Ideal S1x1x1x8x512 .f32) (r : Fin 512) :
    k0_pay10 i x0 x3 k s l kb cb (ix2 r 0)
      = k0_pay8 i x0 x3 k s kb cb (ix2 r 0) * l (ix2 r 0) + ∑ x : Fin 512, k0_pay9 i x0 x3 k s kb cb (ix2 r x) := by
  pointwise [k0_pay10]
  try rfl

/-- The new weighted sum of a row at a lane. -/
theorem acc_apply (i : grid0.Coords) (x0 : Vec Ideal S1x512x128 .bf16) (x3 : Vec Ideal S1x1x512x128 .f32)
    (k : Fin (k0_t1_loop i).trips) (s : FVec Ideal S512x1 .f32) (l : FVec Ideal S512x128 .f32) (kb vb : Vec Ideal S1x512x128 .bf16)
    (cb : Vec Ideal S1x1x1x8x512 .f32) (r : Fin 512) (c : Fin 128) :
    k0_pay11 i x0 x3 k s l kb vb cb (ix2 r c)
      = k0_pay8 i x0 x3 k s kb cb (ix2 r 0) * l (ix2 r c) + ∑ x : Fin 512, k0_pay9 i x0 x3 k s kb cb (ix2 r x) * vb (ix3 0 x c) := by
  pointwise [k0_pay11]
  try rfl

/-- The block's result at a row and a lane: the weighted sum over the sum of exponentials. -/
theorem out_apply (l : FVec Ideal S512x1 .f32) (a : FVec Ideal S512x128 .f32) (r : Fin 512) (c : Fin 128) :
    k0_pay18 l a (ix3 0 r c) = Ideal.div (a (ix2 r c)) (l (ix2 r 0)) := by
  pointwise [k0_pay18]
  try rfl

/-- The state before the first trip: the least extended real, zero and zero. -/
theorem init_apply (r : Fin 512) (c : Fin 128) :
    k0_pay3 (F := Ideal) (ix2 r 0) = ⊥ ∧ k0_pay4 (F := Ideal) (ix2 r 0) = 0 ∧ k0_pay5 (F := Ideal) (ix2 r c) = 0 := by
  pointwise [k0_pay3, k0_pay4, k0_pay5]
  exact mask_bot

/-- The loop makes one trip more than the index of the query block. -/
theorem trips_eq (i : grid0.Coords) : (k0_t1_loop i).trips = (i 2).val + 1 := by
  have h : ∀ a : Fin 4, Scf.Loop.trips (w := 32) ⟨0#32, Scalar.addi 0#32 (Scalar.muli (Scalar.divsi (Scalar.subi (Scalar.addi (BitVec.ofNat 32 a.val) 1#32) 0#32) 1#32) 1#32), 1#32⟩ = a.val + 1 := by
    decide +kernel
  exact h (i 2)

/-- The keys (or values) a trip loads: the block's rows. -/
theorem ld_rows (i : grid0.Coords) (x : Vec Ideal S1x2048x128 .bf16) (k : Fin (k0_t1_loop i).trips) (c : Fin 512) (d : Fin 128)
    (h : 512 * k.val + c.val < 2048) :
    (View.ld x (Rect.unit (s := S1x2048x128) (k0_off1 i k) S1x512x128.size (k0_off1_inb i k)) : Vec Ideal S1x512x128 .bf16) (ix3 0 c d)
      = x (ix3 0 ⟨512 * k.val + c.val, h⟩ d) := by
  refine congrArg x (funext fun a => Fin.ext ?_)
  have e := congrFun (k0_off1_eq i k) a
  fin_cases a <;> simp [Rect.unit, ix3] at e ⊢ <;> omega

/-- The cumulated gates a trip loads: the block's lanes. -/
theorem ld_gates (i : grid0.Coords) (x : Vec Ideal S1x1x4x8x512 .f32) (k : Fin (k0_t1_loop i).trips) (c : Fin 512) (h : k.val < 4) :
    (View.ld x (Rect.unit (s := S1x1x4x8x512) (k0_off2 i k) S1x1x1x8x512.size (k0_off2_inb i k)) : Vec Ideal S1x1x1x8x512 .f32) (ix5 0 0 0 0 c)
      = x (ix5 0 0 ⟨k.val, h⟩ 0 c) := by
  refine congrArg x (funext fun a => Fin.ext ?_)
  have e := congrFun (k0_off2_eq i k) a
  fin_cases a <;> simp [Rect.unit, ix5] at e ⊢ <;> omega

/-- The state of a row before trip `n`: the maximum, the sum of exponentials and the weighted sums of its first `512 n` logits, when every
    block's logits and values are those of two sequences. -/
theorem state_row (i : grid0.Coords) (x0 : Vec Ideal S1x512x128 .bf16) (x1 x2 : Vec Ideal S1x2048x128 .bf16) (x3 : Vec Ideal S1x1x512x128 .f32)
    (x4 : Vec Ideal S1x1x4x8x512 .f32) (r : Fin 512) (s : ℕ → EReal) (v : Fin 128 → ℕ → EReal) (hs : ∀ k, s k ≠ ⊤)
    (hl : ∀ (k : Fin (k0_t1_loop i).trips) (c : Fin 512),
      k0_pay6 i x0 x3 k (View.ld x1 (Rect.unit (s := S1x2048x128) (k0_off1 i k) S1x512x128.size (k0_off1_inb i k)))
        (View.ld x4 (Rect.unit (s := S1x1x4x8x512) (k0_off2 i k) S1x1x1x8x512.size (k0_off2_inb i k))) (ix2 r c) = s (512 * k.val + c.val))
    (hv : ∀ (k : Fin (k0_t1_loop i).trips) (c : Fin 512) (d : Fin 128),
      (View.ld x2 (Rect.unit (s := S1x2048x128) (k0_off1 i k) S1x512x128.size (k0_off1_inb i k)) : Vec Ideal S1x512x128 .bf16) (ix3 0 c d)
        = v d (512 * k.val + c.val))
    (n : ℕ) (hn : n ≤ (k0_t1_loop i).trips) :
    (state i x0 x1 x2 x3 x4 n).1 (ix2 r 0) = Row.top s (512 * n)
      ∧ (state i x0 x1 x2 x3 x4 n).2.1 (ix2 r 0) = Row.mass s (512 * n)
      ∧ ∀ d, (state i x0 x1 x2 x3 x4 n).2.2 (ix2 r d) = Row.acc s (v d) (512 * n) := by
  induction n with
  | zero =>
    refine ⟨(init_apply r 0).1.trans ?_, (init_apply r 0).2.1.trans ?_, fun d => (init_apply r d).2.2.trans ?_⟩
    · simp [Row.top]
    · simp [Row.mass]
    · simp [Row.acc]
  | succ n ih =>
    have h : n < (k0_t1_loop i).trips := hn
    obtain ⟨i1, i2, i3⟩ := ih h.le
    rw [state, dif_pos h]
    have e : 512 * (n + 1) = 512 * n + 512 := by ring
    rw [e]
    have hm : k0_pay7 i x0 x3 ⟨n, h⟩ (state i x0 x1 x2 x3 x4 n).1
        (View.ld x1 (Rect.unit (s := S1x2048x128) (k0_off1 i ⟨n, h⟩) S1x512x128.size (k0_off1_inb i ⟨n, h⟩)))
        (View.ld x4 (Rect.unit (s := S1x1x4x8x512) (k0_off2 i ⟨n, h⟩) S1x1x1x8x512.size (k0_off2_inb i ⟨n, h⟩))) (ix2 r 0)
        = Row.top s (512 * n + 512) := by
      rw [max_apply, i1, Row.top_block]
      simp only [hl]
    refine ⟨hm, ?_, fun d => ?_⟩
    · refine (mass_apply ..).trans ?_
      rw [alpha_apply, i1, i2, hm, Row.mass_block hs]
      simp only [p_apply, hm, hl]
    · refine (acc_apply ..).trans ?_
      rw [alpha_apply, i1, i3, hm, Row.acc_block _ hs]
      simp only [p_apply, hm, hl, hv]

end Cert.KernelIdeal.Fox

end
-- ==== Proof.FoxArray.lean ====
/-
  What the attention kernel leaves in its result array: at every query and lane the softmax-weighted sum of the values.
-/
module

public import proofs.«01_k».proof.Proof.FoxStep

@[expose] public section

set_option maxRecDepth 16384

noncomputable section

namespace Cert.KernelIdeal.Fox

open Cert.KernelIdeal Cert.KernelIdeal.Gen Idealize.ShloMosaic Idealize.ShloMosaic.TcCoe Idealize.SL.Sem
open Cert

/-- The masked logit of query `q` against key `k` in batch `b` and head `h`: the scaled product plus the difference of the cumulated gates for
    a key that is not in the future, and the least extended real for every other. -/
def logit (x : FVec Ideal S4x2048x1536 .bf16) (g : FVec Ideal S4x4x2048 .f32) (b h : Fin 4) (q : Fin 2048) (k : ℕ) : EReal :=
  if hk : k < 2048 then
    if k ≤ q.val then
      (∑ d : Fin 128, x (ix3 b q ⟨128 * h.val + d.val, by omega⟩) * x (ix3 b ⟨k, hk⟩ ⟨512 + (128 * h.val + d.val), by omega⟩))
          * Ideal.ofBits .f32 0x3DB504F3#32
        + (g (ix3 b h q) - g (ix3 b h ⟨k, hk⟩))
    else ⊥
  else ⊥

/-- Lane `d` of the value at key `k` in batch `b` and head `h`. -/
def value (x : FVec Ideal S4x2048x1536 .bf16) (b h : Fin 4) (d : Fin 128) (k : ℕ) : EReal :=
  if hk : k < 2048 then x (ix3 b ⟨k, hk⟩ ⟨1024 + (128 * h.val + d.val), by omega⟩) else 0

/-- The attention at batch `b`, query `q`, head `h` and lane `d`: the values weighted by the softmax of the query's logits over all keys. -/
def attend (x : FVec Ideal S4x2048x1536 .bf16) (g : FVec Ideal S4x4x2048 .f32) (b h : Fin 4) (q : Fin 2048) (d : Fin 128) : EReal :=
  ∑ k ∈ Finset.range 2048,
    Ideal.div (Ideal.exp (logit x g b h q k - Row.top (logit x g b h q) 2048)) (Row.mass (logit x g b h q) 2048) * value x b h d k

/-- The pattern of the scale denotes a real. -/
theorem scale_real : ∃ s : ℝ, Ideal.ofBits .f32 0x3DB504F3#32 = (s : EReal) := by
  simp only [Ideal.ofBits, Ideal.ieee]
  rw [if_neg (by decide), if_neg (by decide)]
  exact ⟨_, rfl⟩

/-- A logit of a key that is not in the future is a real, where the queries, the keys and the cumulated gates are. -/
theorem logit_real {x : FVec Ideal S4x2048x1536 .bf16} {g : FVec Ideal S4x4x2048 .f32}
    (hx : ∀ (b : Fin 4) (q : Fin 2048) (l : Fin 1536), l.val < 1024 → ∃ r : ℝ, x (ix3 b q l) = (r : EReal))
    (hg : ∀ (b h : Fin 4) (q : Fin 2048), ∃ r : ℝ, g (ix3 b h q) = (r : EReal))
    (b h : Fin 4) (q : Fin 2048) (k : ℕ) (hk : k ≤ q.val) : ∃ r : ℝ, logit x g b h q k = (r : EReal) := by
  have hk' : k < 2048 := hk.trans_lt q.isLt
  rw [logit, dif_pos hk', if_pos hk]
  obtain ⟨s, es⟩ := scale_real
  obtain ⟨gq, eq⟩ := hg b h q
  obtain ⟨gk, ek⟩ := hg b h ⟨k, hk'⟩
  choose u hu using fun d : Fin 128 => hx b q ⟨128 * h.val + d.val, by omega⟩ (by show 128 * h.val + d.val < 1024; omega)
  choose w hw using fun d : Fin 128 => hx b ⟨k, hk'⟩ ⟨512 + (128 * h.val + d.val), by omega⟩ (by show 512 + (128 * h.val + d.val) < 1024; omega)
  refine ⟨(∑ d : Fin 128, u d * w d) * s + (gq - gk), ?_⟩
  rw [es, eq, ek]
  have e : (∑ d : Fin 128, x (ix3 b q ⟨128 * h.val + d.val, by omega⟩) * x (ix3 b ⟨k, hk'⟩ ⟨512 + (128 * h.val + d.val), by omega⟩))
      = ((∑ d : Fin 128, u d * w d : ℝ) : EReal) := by
    simp only [hu, hw, ← EReal.coe_mul]
    exact (map_sum (⟨⟨Real.toEReal, rfl⟩, fun _ _ => rfl⟩ : ℝ →+ EReal) _ _).symm
  rw [e, EReal.coe_add, EReal.coe_mul, EReal.coe_sub]

/-- No logit is the greatest extended real. -/
theorem logit_ne_top {x : FVec Ideal S4x2048x1536 .bf16} {g : FVec Ideal S4x4x2048 .f32}
    (hx : ∀ (b : Fin 4) (q : Fin 2048) (l : Fin 1536), l.val < 1024 → ∃ r : ℝ, x (ix3 b q l) = (r : EReal))
    (hg : ∀ (b h : Fin 4) (q : Fin 2048), ∃ r : ℝ, g (ix3 b h q) = (r : EReal))
    (b h : Fin 4) (q : Fin 2048) (k : ℕ) : logit x g b h q k ≠ ⊤ := by
  by_cases hk : k ≤ q.val
  · obtain ⟨r, e⟩ := logit_real hx hg b h q k hk
    rw [e]; exact EReal.coe_ne_top r
  · unfold logit
    split_ifs <;> simp

/-- A key after the query is masked. -/
theorem logit_future (x : FVec Ideal S4x2048x1536 .bf16) (g : FVec Ideal S4x4x2048 .f32) (b h : Fin 4) (q : Fin 2048) (k : ℕ)
    (hk : q.val < k) : logit x g b h q k = ⊥ := by
  unfold logit
  split_ifs <;> first | rfl | omega

/-- A block's row at a lane, when the blocks the point loaded are the rows of two arrays: the attention at that query, head and lane. -/
theorem block_row (i : grid0.Coords) (x0 : Vec Ideal S1x512x128 .bf16) (x1 x2 : Vec Ideal S1x2048x128 .bf16) (x3 : Vec Ideal S1x1x512x128 .f32)
    (x4 : Vec Ideal S1x1x4x8x512 .f32) (x : FVec Ideal S4x2048x1536 .bf16) (g : FVec Ideal S4x4x2048 .f32)
    (hx : ∀ (b : Fin 4) (q : Fin 2048) (l : Fin 1536), l.val < 1024 → ∃ r : ℝ, x (ix3 b q l) = (r : EReal))
    (hg : ∀ (b h : Fin 4) (q : Fin 2048), ∃ r : ℝ, g (ix3 b h q) = (r : EReal))
    (b h : Fin 4) (j : ℕ) (hj : j < 4) (hi : (i 2).val = j)
    (h0 : ∀ (r : Fin 512) (d : Fin 128), x0 (ix3 0 r d) = x (ix3 b ⟨512 * j + r.val, by omega⟩ ⟨128 * h.val + d.val, by omega⟩))
    (h1 : ∀ (k : Fin 2048) (d : Fin 128), x1 (ix3 0 k d) = x (ix3 b k ⟨512 + (128 * h.val + d.val), by omega⟩))
    (h2 : ∀ (k : Fin 2048) (d : Fin 128), x2 (ix3 0 k d) = x (ix3 b k ⟨1024 + (128 * h.val + d.val), by omega⟩))
    (h3 : ∀ (r : Fin 512) (l : Fin 128), x3 (ix4 0 0 r l) = g (ix3 b h ⟨512 * j + r.val, by omega⟩))
    (h4 : ∀ (a : Fin 4) (l : Fin 8) (c : Fin 512), x4 (ix5 0 0 a l c) = g (ix3 b h ⟨512 * a.val + c.val, by omega⟩))
    (r : Fin 512) (d : Fin 128) :
    k0_pay18 (state i x0 x1 x2 x3 x4 (k0_t1_loop i).trips).2.1 (state i x0 x1 x2 x3 x4 (k0_t1_loop i).trips).2.2 (ix3 0 r d)
      = attend x g b h ⟨512 * j + r.val, by omega⟩ d := by
  have hr := r.isLt
  set q : Fin 2048 := ⟨512 * j + r.val, by omega⟩ with hq
  have ht := trips_eq i
  rw [hi] at ht
  have hl : ∀ (k : Fin (k0_t1_loop i).trips) (c : Fin 512),
      k0_pay6 i x0 x3 k (View.ld x1 (Rect.unit (s := S1x2048x128) (k0_off1 i k) S1x512x128.size (k0_off1_inb i k)))
        (View.ld x4 (Rect.unit (s := S1x1x4x8x512) (k0_off2 i k) S1x1x1x8x512.size (k0_off2_inb i k))) (ix2 r c)
        = logit x g b h q (512 * k.val + c.val) := by
    intro k c
    have hk : k.val < j + 1 := lt_of_lt_of_eq k.isLt ht
    have hc := c.isLt
    have hkc : 512 * k.val + c.val < 2048 := by omega
    rw [logits_apply i x0 x3 k _ _ r c (g (ix3 b h q)) (fun l => h3 r l), logit, dif_pos hkc]
    have hiff : (k.val < (i 2).val ∨ c.val ≤ r.val) ↔ 512 * k.val + c.val ≤ q.val := by
      rw [hi, hq]; show _ ↔ 512 * k.val + c.val ≤ 512 * j + r.val; omega
    refine (if_congr hiff ?_ rfl)
    rw [ld_gates i x4 k c (by omega), h4]
    congr 2
    refine Finset.sum_congr rfl fun y _ => ?_
    rw [ld_rows i x1 k c y hkc, h0, h1]
  have hv : ∀ (k : Fin (k0_t1_loop i).trips) (c : Fin 512) (d : Fin 128),
      (View.ld x2 (Rect.unit (s := S1x2048x128) (k0_off1 i k) S1x512x128.size (k0_off1_inb i k)) : Vec Ideal S1x512x128 .bf16) (ix3 0 c d)
        = value x b h d (512 * k.val + c.val) := by
    intro k c d
    have hk : k.val < j + 1 := lt_of_lt_of_eq k.isLt ht
    have hc := c.isLt
    have hkc : 512 * k.val + c.val < 2048 := by omega
    rw [ld_rows i x2 k c d hkc, h2, value, dif_pos hkc]
  have hs := logit_ne_top hx hg b h q
  obtain ⟨-, e1, e2⟩ := state_row i x0 x1 x2 x3 x4 r (logit x g b h q) (value x b h) hs hl hv _ le_rfl
  rw [out_apply, e1, e2 d, ht]
  obtain ⟨z, hz⟩ := logit_real hx hg b h q q.val le_rfl
  exact Row.acc_div_mass hs (by omega) (fun k hk => logit_future x g b h q k (by show 512 * j + r.val < k; omega))
    (q := q.val) (by show 512 * j + r.val < _; omega) (by rw [hz]; exact EReal.coe_ne_bot z)

/-- Each window's block index at a grid point. -/
theorem idx : ∀ t : Fin cfg0.N,
    win0_0.index t = ![(grid0.coords t 0).val, (grid0.coords t 2).val, (grid0.coords t 1).val]
      ∧ win0_1.index t = ![(grid0.coords t 0).val, 0, 4 + (grid0.coords t 1).val]
      ∧ win0_2.index t = ![(grid0.coords t 0).val, 0, 8 + (grid0.coords t 1).val]
      ∧ win0_3.index t = ![(grid0.coords t 0).val, (grid0.coords t 1).val, (grid0.coords t 2).val, 0]
      ∧ win0_4.index t = ![(grid0.coords t 0).val, (grid0.coords t 1).val, 0, 0, 0]
      ∧ win0_5.index t = ![(grid0.coords t 0).val, (grid0.coords t 2).val, (grid0.coords t 1).val] :=
  (by decide +kernel : ∀ t : Fin grid0.N, _)

variable (m : (ℓ : Loc nD τ sig) → Buf (Elt Ideal) ℓ)

/-- The first argument's array: queries, keys and values side by side. -/
abbrev X (c : Dev nD) : FVec Ideal S4x2048x1536 .bf16 := m ((c : Thread nD τ).loc main_arg0)
/-- The second argument's array: the cumulated log gates. -/
abbrev G (c : Dev nD) : FVec Ideal S4x4x2048 .f32 := m ((c : Thread nD τ).loc main_arg1)

/-- A row of the query block a grid point loads. -/
theorem blk_q (c : Dev nD) (t : Fin cfg0.N) (r : Fin 512) (d : Fin 128) (hq hl) :
    (iblk m c 0 t : Vec Ideal S1x512x128 .bf16) (ix3 0 r d)
      = X m c (ix3 (grid0.coords t 0) ⟨512 * (grid0.coords t 2).val + r.val, hq⟩ ⟨128 * (grid0.coords t 1).val + d.val, hl⟩) := by
  blk_ext [iblk, V, idx t]

/-- A row of the keys a grid point loads. -/
theorem blk_k (c : Dev nD) (t : Fin cfg0.N) (k : Fin 2048) (d : Fin 128) (hl) :
    (iblk m c 1 t : Vec Ideal S1x2048x128 .bf16) (ix3 0 k d)
      = X m c (ix3 (grid0.coords t 0) k ⟨512 + (128 * (grid0.coords t 1).val + d.val), hl⟩) := by
  blk_ext [iblk, V, idx t]

/-- A row of the values a grid point loads. -/
theorem blk_v (c : Dev nD) (t : Fin cfg0.N) (k : Fin 2048) (d : Fin 128) (hl) :
    (iblk m c 2 t : Vec Ideal S1x2048x128 .bf16) (ix3 0 k d)
      = X m c (ix3 (grid0.coords t 0) k ⟨1024 + (128 * (grid0.coords t 1).val + d.val), hl⟩) := by
  blk_ext [iblk, V, idx t]

/-- The cumulated gate of a query, as a grid point loads it. -/
theorem blk_col (c : Dev nD) (t : Fin cfg0.N) (r : Fin 512) (l : Fin 128) (hq) :
    (iblk m c 3 t : Vec Ideal S1x1x512x128 .f32) (ix4 0 0 r l)
      = G m c (ix3 (grid0.coords t 0) (grid0.coords t 1) ⟨512 * (grid0.coords t 2).val + r.val, hq⟩) := by
  blk_ext! [iblk, V, idx t]

/-- The cumulated gate of a key, as a grid point loads it. -/
theorem blk_row (c : Dev nD) (t : Fin cfg0.N) (a : Fin 4) (l : Fin 8) (k : Fin 512) (hq) :
    (iblk m c 4 t : Vec Ideal S1x1x4x8x512 .f32) (ix5 0 0 a l k)
      = G m c (ix3 (grid0.coords t 0) (grid0.coords t 1) ⟨512 * a.val + k.val, hq⟩) := by
  blk_ext! [iblk, V, idx t]

/-- The result array as a function of the two arguments: at batch `b`, query `q` and lane `l`, the attention of head `l / 128` at lane
    `l % 128`. -/
def result (x : FVec Ideal S4x2048x1536 .bf16) (g : FVec Ideal S4x4x2048 .f32) : FVec Ideal S4x2048x512 .bf16 := fun j =>
  attend x g (j 0) ⟨(j 2).val / 128, by have : (j 2).val < 512 := (j 2).isLt; omega⟩ (j 1) ⟨(j 2).val % 128, Nat.mod_lt _ (by omega)⟩

/-- THE KERNEL'S RESULT ARRAY is the attention of its arguments. -/
theorem final (c : Dev nD)
    (hx : ∀ (b : Fin 4) (q : Fin 2048) (l : Fin 1536), l.val < 1024 → ∃ r : ℝ, X m c (ix3 b q l) = (r : EReal))
    (hg : ∀ (b h : Fin 4) (q : Fin 2048), ∃ r : ℝ, G m c (ix3 b h q) = (r : EReal)) :
    (dats m 0 c).arrAt 5 cfg0.N = result (X m c) (G m c) := by
  refine (dats m 0 c).arrAt_eq_of_covers 5 _ (by decide +kernel) fun t hf y => ?_
  blk_simp
  rw [after0_5]
  unfold outsAt0
  rw [out_eq]
  idx_vars y
  obtain rfl : y0 = 0 := Subsingleton.elim _ _
  have h1 : (grid0.coords t 1).val < 4 := (grid0.coords t 1).isLt
  have h2 : (grid0.coords t 2).val < 4 := (grid0.coords t 2).isLt
  have hy1 := y1.isLt
  have hy2 := y2.isLt
  refine (block_row (grid0.coords t) _ _ _ _ _ (X m c) (G m c) hx hg (grid0.coords t 0) (grid0.coords t 1) (grid0.coords t 2).val h2 rfl
    (fun r d => blk_q m c t r d _ _) (fun k d => blk_k m c t k d _) (fun k d => blk_v m c t k d _) (fun r l => blk_col m c t r l _)
    (fun a l k => blk_row m c t a l k _) y1 y2).trans ?_
  have e : ((View.whole main_v4).slice (win0_5.rect t)).emb (ix3 0 y1 y2)
      = (ix3 (grid0.coords t 0) ⟨512 * (grid0.coords t 2).val + y1.val, by omega⟩ ⟨128 * (grid0.coords t 1).val + y2.val, by omega⟩ :
          S4x2048x512.Idx) := by
    blk_ext [idx t]
  rw [e]
  refine congrArg₂ (fun h d => attend (X m c) (G m c) (grid0.coords t 0) h ⟨512 * (grid0.coords t 2).val + y1.val, by omega⟩ d)
    (Fin.ext ?_) (Fin.ext ?_)
  · show (grid0.coords t 1).val = (128 * (grid0.coords t 1).val + y2.val) / 128
    omega
  · show y2.val = (128 * (grid0.coords t 1).val + y2.val) % 128
    omega

end Cert.KernelIdeal.Fox

end
-- ==== Proof.FoxRefMax.lean ====
/-
  The reference's maximum over the keys, at a query.
-/
module

public import proofs.«01_k».proof.Proof.FoxArray
public import proofs.«01_k».proof.Proof.Gen.ReferenceIdeal.Read

@[expose] public section

set_option maxRecDepth 16384

noncomputable section

namespace Cert.ReferenceIdeal.Fox

open Cert.ReferenceIdeal Cert.ReferenceIdeal.Gen Cert.ReferenceIdeal.Read Idealize.ShloMosaic Idealize.ShloMosaic.TcCoe Idealize.SL.Sem
open Cert

/-- The maximum over the last axis, at an index: a fold over that axis from the least extended real. -/
theorem reduce_at (y : FVec Ideal S4x4x2048x2048 .f32) (b h : Fin 4) (q : Fin 2048) :
    (Host.reduce FloatOps.maximumf y (val_main_cst_1 (F := Ideal)) reducesTo_S4x4x2048x2048_S4x4x2048_d3 h_S_ : FVec Ideal S4x4x2048 .f32) (ix3 b h q)
      = Finset.univ.fold max (Ideal.ofBits .f32 0xFF800000#32) fun k : Fin 2048 => y (ix4 b h q k) := by
  pointwise [val_main_cst_1]

end Cert.ReferenceIdeal.Fox

end
-- ==== Proof.FoxRefRow.lean ====
/-
  The reference's masked logits, their maximum and the sum of their exponentials, at a query.
-/
module

public import proofs.«01_k».proof.Proof.FoxRefMax

@[expose] public section

set_option maxRecDepth 16384

noncomputable section

namespace Cert.ReferenceIdeal.Fox

open Cert.ReferenceIdeal Cert.ReferenceIdeal.Gen Cert.ReferenceIdeal.Read Idealize.ShloMosaic Idealize.ShloMosaic.TcCoe Idealize.SL.Sem
open Cert
open Cert.KernelIdeal.Fox (logit bot_bits)

variable (x : FVec Ideal S4x2048x1536 .bf16) (g : FVec Ideal S4x4x2048 .f32)

/-- The reference's masked logit of a query against a key. -/
theorem logits_at (b h : Fin 4) (q k : Fin 2048) : val_main_v23 (F := Ideal) x g (ix4 b h q k) = logit x g b h q k.val := by
  rw [logit, dif_pos k.isLt]
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v5, val_main_v4,
    val_main_v2, val_main_v1, val_main_v0, val_main_cst, val_main_call0_v1]
  have hq := q.isLt
  have hk := k.isLt
  have e : IntOp.cmpi .sle (BitVec.ofNat 32 k.val) (BitVec.ofNat 32 q.val) = BitVec.ofBool (decide (k.val ≤ q.val)) :=
    WordCmp.cmpi_sle_ofNat (by omega) (by omega)
  have ec : ∀ d : ℕ, h.val * 128 + d = 128 * h.val + d := fun d => by ring
  simp only [ec]
  have em : val_main_call0_v2 (F := Ideal) (ix4 b h q k) = ⊥ := by
    rw [val_main_call0_v2_apply, val_main_call0_v0_apply, val_main_cst_0_apply]; exact bot_bits
  rw [em]
  refine (congrArg (fun b => Scalar.select b _ _) e).trans ?_
  rw [WordCmp.select_ofBool]
  simp

/-- The reference's maximum over the keys. -/
theorem max_at (b h : Fin 4) (q : Fin 2048) : val_main_v26 (F := Ideal) x g (ix3 b h q) = Row.top (logit x g b h q) 2048 := by
  have e : val_main_v24 (F := Ideal) x g (ix3 b h q) = Finset.univ.fold max (Ideal.ofBits .f32 0xFF800000#32) fun k : Fin 2048 =>
      logit x g b h q k.val := by
    refine (reduce_at (val_main_v23 (F := Ideal) x g) b h q).trans ?_
    exact congrArg (fun f => Finset.univ.fold max (Ideal.ofBits .f32 0xFF800000#32) f) (funext fun k => logits_at x g b h q k)
  have e' : val_main_v25 (F := Ideal) (ix3 b h q) = Ideal.ofBits .f32 0xFF800000#32 := by
    pointwise [val_main_v25, val_main_cst_2]
  rw [val_main_v26_apply, e, e', bot_bits]
  have t := Row.top_block (logit x g b h q) 0 2048
  simp only [zero_add] at t
  rw [t]
  have z : Row.top (logit x g b h q) 0 = ⊥ := by simp [Row.top]
  rw [z]
  rfl

/-- The reference's exponential of a logit less the maximum. -/
theorem exp_at (b h : Fin 4) (q k : Fin 2048) :
    val_main_v30 (F := Ideal) x g (ix4 b h q k) = Ideal.exp (logit x g b h q k.val - Row.top (logit x g b h q) 2048) := by
  rw [← logits_at, ← max_at]
  pointwise [val_main_v30, val_main_v29, val_main_v28, val_main_v27]

/-- The reference's sum of exponentials. -/
theorem mass_at (b h : Fin 4) (q : Fin 2048) : val_main_v31 (F := Ideal) x g (ix3 b h q) = Row.mass (logit x g b h q) 2048 := by
  have e : val_main_v31 (F := Ideal) x g (ix3 b h q) = ∑ k : Fin 2048, val_main_v30 (F := Ideal) x g (ix4 b h q k) := by
    pointwise [val_main_v31, val_main_cst_3]
  rw [e, Row.mass, Finset.sum_range]
  exact Finset.sum_congr rfl fun k _ => exp_at x g b h q k

end Cert.ReferenceIdeal.Fox

end
-- ==== Proof.FoxRef.lean ====
/-
  What the reference computes: the same attention of its two arguments.
-/
module

public import proofs.«01_k».proof.Proof.FoxRefRow

@[expose] public section

set_option maxRecDepth 16384

noncomputable section

namespace Cert.ReferenceIdeal.Fox

open Cert.ReferenceIdeal Cert.ReferenceIdeal.Gen Cert.ReferenceIdeal.Read Idealize.ShloMosaic Idealize.ShloMosaic.TcCoe Idealize.SL.Sem
open Cert
open Cert.KernelIdeal.Fox (logit value attend result)

variable (x : FVec Ideal S4x2048x1536 .bf16) (g : FVec Ideal S4x4x2048 .f32)

/-- THE REFERENCE'S RESULT is the attention of its arguments. -/
theorem out_eq : val_main_v40 (F := Ideal) x g = result x g := by
  funext j
  idx_vars j
  have e : val_main_v40 (F := Ideal) x g (ix3 j0 j1 j2)
      = ∑ k : Fin 2048, x (ix3 j0 k ⟨1024 + j2.val, by omega⟩)
          * Ideal.div (val_main_v30 (F := Ideal) x g (ix4 j0 ⟨j2.val / 128, by omega⟩ j1 k))
              (val_main_v31 (F := Ideal) x g (ix3 j0 ⟨j2.val / 128, by omega⟩ j1)) := by
    pointwise [val_main_v40, val_main_v39, val_main_v38, val_main_v37, val_main_v36, val_main_v35, val_main_v34, val_main_v33, val_main_v32,
      val_main_v6, val_main_v3, val_main_v0]
  rw [e]
  show _ = attend x g j0 ⟨j2.val / 128, _⟩ j1 ⟨j2.val % 128, _⟩
  rw [attend, Finset.sum_range]
  refine Finset.sum_congr rfl fun k _ => ?_
  rw [exp_at, mass_at, mul_comm, value, dif_pos k.isLt]
  congr 3
  refine Fin.ext ?_
  show 1024 + j2.val = 1024 + (128 * (j2.val / 128) + j2.val % 128)
  omega

end Cert.ReferenceIdeal.Fox

end
-- ==== Proof.FoxPre.lean ====
/-
  What the precondition says over the extended reals: the queries, the keys and the cumulated log gates are reals.
-/
module

public import proofs.«01_k».proof.Pre_finite
public import Idealize.ShloMosaic.Lib.Pointwise
public import Idealize.ShloMosaic.Lib.IdealHost
public import Idealize.ShloMosaic.Lib.WordCmp
public import Idealize.ShloMosaic.Lib.ReduceAll
public import Idealize.ShloMosaic.Lib.Affine

@[expose] public section

set_option maxRecDepth 16384

noncomputable section

namespace Cert.Pre_finite

open Idealize.ShloMosaic

/-- The side conditions of the precondition's operations. -/
instance facts : Cert.Pre_finite.Facts where
  slices_S4x2048x1536_S4x2048x1024_0_0_0 := by decide
  bitsLt_bf16_f32 := by decide
  bcast_S_S4x2048x1024 := by decide
  reducesTo_S4x2048x1024_S_d0_1_2 := by decide
  h_S_ := by decide
  bcast_S_S4x4x2048 := by decide
  reducesTo_S4x4x2048_S_d0_1_2 := by decide

/-- An extended real whose absolute value is below the pattern of infinity is a real. -/
theorem real_of_abs_lt {a : EReal} (h : FloatOps.cmpf (F := Ideal) (φ := .f32) .olt (FloatOps.absf (F := Ideal) (φ := .f32) a) (Ideal.ofBits .f32 0x7F800000#32) = 1#1) :
    ∃ r : ℝ, a = (r : EReal) := by
  have e : Ideal.ofBits .f32 0x7F800000#32 = ⊤ := by simp [Ideal.ofBits, Ideal.ieee]
  rw [e] at h
  have h' : max a (-a) < ⊤ := of_decide_eq_true ((WordCmp.ofBool_eq_one_iff _).mp h)
  induction a using EReal.rec with
  | bot => simp at h'
  | coe r => exact ⟨r, rfl⟩
  | top => simp at h'

/-- Where the precondition holds, every query, key and cumulated log gate is a real. -/
theorem real_of_fn (x : FVec Ideal S4x2048x1536 .bf16) (g : FVec Ideal S4x4x2048 .f32) (h : fn (F := Ideal) x g = fun _ => 1#1) :
    (∀ (b : Fin 4) (q : Fin 2048) (l : Fin 1536), l.val < 1024 → ∃ r : ℝ, x (ix3 b q l) = (r : EReal))
      ∧ ∀ (b h : Fin 4) (q : Fin 2048), ∃ r : ℝ, g (ix3 b h q) = (r : EReal) := by
  haveI : Subsingleton S_.Idx := ⟨fun a b => funext fun i => i.elim0⟩
  obtain ⟨h1, h2⟩ := IntOp.andi_eq_one.mp (congrFun h ix0)
  refine ⟨fun b q l hl => ?_, fun b hd q => ?_⟩
  · have e := Host.reduce_andi_all _ _ _ _ _ h1 (ix3 b q ⟨l.val, hl⟩)
    refine real_of_abs_lt (a := x (ix3 b q l)) (Eq.trans ?_ e)
    symm
    pointwise
  · have e := Host.reduce_andi_all _ _ _ _ _ h2 (ix3 b hd q)
    refine real_of_abs_lt (a := g (ix3 b hd q)) (Eq.trans ?_ e)
    symm
    pointwise

end Cert.Pre_finite

end
-- ==== Proof.FoxClaim.lean ====
/-
  The claims about the attention kernel.
-/
module

public import proofs.«01_k».proof.Defs
public import proofs.«01_k».proof.Proof.FoxRef
public import proofs.«01_k».proof.Proof.FoxPre
public import proofs.«01_k».proof.Proof.Gen.Kernel.Frame
public import Idealize.ShloMosaic.Adequacy
public import Idealize.ShloMosaic.Init

@[expose] public section

noncomputable section

namespace Cert.Proof

open Idealize.ShloMosaic Idealize.SL.Sem

/-- The attention kernel ends, its arguments and counters as they were. -/
theorem fox_frame : Cert.quiescent_Kernel := fun m ρ _ => Cert.Kernel.Gen.frame m ρ

theorem fox_frame_pre : Cert.quiescent_Kernel_pre_finite := fun m ρ _ => Cert.Kernel.Gen.frame m ρ

/-- So does the idealized one. -/
theorem fox_ideal_frame : Cert.quiescent_KernelIdeal := fun m ρ _ => Cert.KernelIdeal.Gen.frame m ρ

/-- And so does the reference. -/
theorem fox_ref_frame : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run m ρ)

theorem fox_ref_frame_pre : Cert.quiescent_ReferenceIdeal_pre_finite := fun m ρ _ => fox_ref_frame m ρ trivial

/-- The mask constant of the idealized kernel is the least extended real. -/
theorem fox_preserves : Cert.preserves_Kernel_KernelIdeal :=
  IdealRules.named_const.statement Cert.KernelIdeal.κ "mask" .f32 0xF149F2CA#32 ⊥ rfl

/-- The idealized kernel and the reference end with one result. -/
theorem fox_algebraic : Cert.algebraic_KernelIdeal_ReferenceIdeal := by
  intro m ρ m' ρ' hpre hagree
  refine ⟨fun c => Cert.KernelIdeal.Fox.result (Cert.KernelIdeal.Fox.X m c) (Cert.KernelIdeal.Fox.G m c), ?_, ?_⟩
  · refine (θ_run Cert.KernelIdeal.defs _ _).mono (fun r h c => ⟨(h c).1.trans ?_, (h c).2⟩) (Cert.KernelIdeal.Value.run_blocks m ρ)
    obtain ⟨hx, hg⟩ := Cert.Pre_finite.real_of_fn _ _ (hpre c)
    exact Cert.KernelIdeal.Fox.final m c hx hg
  · refine (θ_run Cert.ReferenceIdeal.defs _ _).mono (fun r h c => ⟨(h c).1.trans ?_, (h c).2⟩) (Cert.ReferenceIdeal.Value.run m' ρ')
    rw [Cert.ReferenceIdeal.Read.val_main_v40_eq, Cert.ReferenceIdeal.Fox.out_eq, (hagree c).1, (hagree c).2]

end Cert.Proof

end
-- ==== Proof.MergeValue.lean ====
/-
  What the merge call leaves in its result array: at every row and column the four branches' projections, each times its sigmoid gate, summed.
-/
module

public import proofs.«01_k».proof.Proof.Gen.MergeIdeal.Value
public import Idealize.ShloMosaic.Lib.Pipeline.ValueKit
public import Idealize.ShloMosaic.Lib.Pointwise

@[expose] public section

set_option maxRecDepth 16384

noncomputable section

namespace Cert.MergeIdeal.Value

open Cert.MergeIdeal Cert.MergeIdeal.Gen Idealize.ShloMosaic Idealize.ShloMosaic.TcCoe Idealize.SL.Sem
open Cert

/-- The logit of branch `n`'s gate at row `r` and column `d`: the row's product with the second layer's gate weights of that branch and
    column, plus the bias. -/
def logit (x : FVec Ideal S8192x2048 .bf16) (w : FVec Ideal S2x2048x11776 .bf16) (b : FVec Ideal S2x1x11776 .f32) (n : Fin 4)
    (r : Fin 8192) (d : Fin 2048) : EReal :=
  (∑ k : Fin 2048, x (ix2 r k) * w (ix3 1 k ⟨3584 + (n.val * 2048 + d.val), by omega⟩)) + b (ix3 1 0 ⟨3584 + (n.val * 2048 + d.val), by omega⟩)

/-- Branch `n`'s projection at row `r` and column `d`. -/
def branch (y : FVec Ideal S8192x512 .bf16) (v : FVec Ideal S2x4x512x2048 .bf16) (n : Fin 4) (r : Fin 8192) (d : Fin 2048) : EReal :=
  ∑ c : Fin 512, y (ix2 r c) * v (ix4 1 n c d)

/-- The merged row: the sum over the branches of gate times projection. -/
def result (x : FVec Ideal S8192x2048 .bf16) (y0 y1 y2 y3 : FVec Ideal S8192x512 .bf16) (w : FVec Ideal S2x2048x11776 .bf16)
    (b : FVec Ideal S2x1x11776 .f32) (v : FVec Ideal S2x4x512x2048 .bf16) : FVec Ideal S8192x2048 .bf16 := fun j =>
  Ideal.logistic (logit x w b 0 (j 0) (j 1)) * branch y0 v 0 (j 0) (j 1) + Ideal.logistic (logit x w b 1 (j 0) (j 1)) * branch y1 v 1 (j 0) (j 1)
    + Ideal.logistic (logit x w b 2 (j 0) (j 1)) * branch y2 v 2 (j 0) (j 1) + Ideal.logistic (logit x w b 3 (j 0) (j 1)) * branch y3 v 3 (j 0) (j 1)

/-- The first two branches' share of one entry of the block a grid point stores, from the blocks it loaded. -/
theorem half_apply (x : Vec Ideal S1024x2048 .bf16) (w0 w1 : Vec Ideal S1x2048x512 .bf16) (b0 b1 : Vec Ideal S1x1x512 .f32)
    (y0 y1 : Vec Ideal S1024x512 .bf16) (v0 v1 : Vec Ideal S1x1x512x512 .bf16) (r : Fin 1024) (d : Fin 512) :
    k0_pay1 x w0 b0 y0 v0 w1 b1 y1 v1 (ix2 r d)
      = Ideal.logistic ((∑ k : Fin 2048, x (ix2 r k) * w0 (ix3 0 k d)) + b0 (ix3 0 0 d)) * (∑ c : Fin 512, y0 (ix2 r c) * v0 (ix4 0 0 c d))
        + Ideal.logistic ((∑ k : Fin 2048, x (ix2 r k) * w1 (ix3 0 k d)) + b1 (ix3 0 0 d)) * (∑ c : Fin 512, y1 (ix2 r c) * v1 (ix4 0 0 c d)) := by
  pointwise [k0_pay1]

/-- One entry of the block a grid point stores, from the first two branches' share of it and the blocks the point loaded. -/
theorem whole_apply (x : Vec Ideal S1024x2048 .bf16) (s : FVec Ideal S1024x512 .f32) (w0 w1 : Vec Ideal S1x2048x512 .bf16)
    (b0 b1 : Vec Ideal S1x1x512 .f32) (y0 y1 : Vec Ideal S1024x512 .bf16) (v0 v1 : Vec Ideal S1x1x512x512 .bf16) (r : Fin 1024) (d : Fin 512) :
    k0_pay2 x s w0 b0 y0 v0 w1 b1 y1 v1 (ix2 r d)
      = s (ix2 r d)
        + Ideal.logistic ((∑ k : Fin 2048, x (ix2 r k) * w0 (ix3 0 k d)) + b0 (ix3 0 0 d)) * (∑ c : Fin 512, y0 (ix2 r c) * v0 (ix4 0 0 c d))
        + Ideal.logistic ((∑ k : Fin 2048, x (ix2 r k) * w1 (ix3 0 k d)) + b1 (ix3 0 0 d)) * (∑ c : Fin 512, y1 (ix2 r c) * v1 (ix4 0 0 c d)) := by
  pointwise [k0_pay2]

/-- Each window's block index at a grid point. -/
theorem idx : ∀ t : Fin cfg0.N,
    win0_0.index t = ![(grid0.coords t 0).val, 0]
      ∧ win0_1.index t = ![(grid0.coords t 0).val, 0]
      ∧ win0_2.index t = ![(grid0.coords t 0).val, 0]
      ∧ win0_3.index t = ![(grid0.coords t 0).val, 0]
      ∧ win0_4.index t = ![(grid0.coords t 0).val, 0]
      ∧ win0_5.index t = ![1, 0, 7 + (grid0.coords t 1).val]
      ∧ win0_6.index t = ![1, 0, 11 + (grid0.coords t 1).val]
      ∧ win0_7.index t = ![1, 0, 15 + (grid0.coords t 1).val]
      ∧ win0_8.index t = ![1, 0, 19 + (grid0.coords t 1).val]
      ∧ win0_9.index t = ![1, 0, 7 + (grid0.coords t 1).val]
      ∧ win0_10.index t = ![1, 0, 11 + (grid0.coords t 1).val]
      ∧ win0_11.index t = ![1, 0, 15 + (grid0.coords t 1).val]
      ∧ win0_12.index t = ![1, 0, 19 + (grid0.coords t 1).val]
      ∧ win0_13.index t = ![1, 0, 0, (grid0.coords t 1).val]
      ∧ win0_14.index t = ![(grid0.coords t 0).val, (grid0.coords t 1).val] :=
  (by decide +kernel : ∀ t : Fin grid0.N, _)

variable (m : (ℓ : Loc nD τ sig) → Buf (Elt Ideal) ℓ)

/-- The normed state. -/
abbrev X (c : Dev nD) : FVec Ideal S8192x2048 .bf16 := m ((c : Thread nD τ).loc main_arg0)
/-- The first branch. -/
abbrev Y0 (c : Dev nD) : FVec Ideal S8192x512 .bf16 := m ((c : Thread nD τ).loc main_arg1)
/-- The second branch. -/
abbrev Y1 (c : Dev nD) : FVec Ideal S8192x512 .bf16 := m ((c : Thread nD τ).loc main_arg2)
/-- The third branch. -/
abbrev Y2 (c : Dev nD) : FVec Ideal S8192x512 .bf16 := m ((c : Thread nD τ).loc main_arg3)
/-- The fourth branch. -/
abbrev Y3 (c : Dev nD) : FVec Ideal S8192x512 .bf16 := m ((c : Thread nD τ).loc main_arg4)
/-- Both layers' input weights, the gates' among them. -/
abbrev W (c : Dev nD) : FVec Ideal S2x2048x11776 .bf16 := m ((c : Thread nD τ).loc main_arg5)
/-- Both layers' biases. -/
abbrev B (c : Dev nD) : FVec Ideal S2x1x11776 .f32 := m ((c : Thread nD τ).loc main_arg6)
/-- Both layers' branch weights. -/
abbrev U (c : Dev nD) : FVec Ideal S2x4x512x2048 .bf16 := m ((c : Thread nD τ).loc main_arg7)

/-- The rows of the normed state a grid point loads. -/
theorem blk_x (c : Dev nD) (t : Fin cfg0.N) (r : Fin 1024) (k : Fin 2048) (hr) :
    (iblk m c 0 t : Vec Ideal S1024x2048 .bf16) (ix2 r k) = X m c (ix2 ⟨1024 * (grid0.coords t 0).val + r.val, hr⟩ k) := by
  blk_ext [iblk, V, idx t]

/-- All branches' weights a grid point loads. -/
theorem blk_v (c : Dev nD) (t : Fin cfg0.N) (n : Fin 4) (k d : Fin 512) (hd) :
    (iblk m c 13 t : Vec Ideal S1x4x512x512 .bf16) (ix4 0 n k d) = U m c (ix4 1 n k ⟨512 * (grid0.coords t 1).val + d.val, hd⟩) := by
  blk_ext [iblk, V, idx t]

/-- The rows of the first branch a grid point loads. -/
theorem blk_y0 (c : Dev nD) (t : Fin cfg0.N) (r : Fin 1024) (k : Fin 512) (hr) :
    (iblk m c 1 t : Vec Ideal S1024x512 .bf16) (ix2 r k) = Y0 m c (ix2 ⟨1024 * (grid0.coords t 0).val + r.val, hr⟩ k) := by
  blk_ext [iblk, V, idx t]

/-- The gate weights of the first branch a grid point loads. -/
theorem blk_w0 (c : Dev nD) (t : Fin cfg0.N) (k : Fin 2048) (d : Fin 512) (hd) :
    (iblk m c 5 t : Vec Ideal S1x2048x512 .bf16) (ix3 0 k d)
      = W m c (ix3 1 k ⟨3584 + (0 * 2048 + (512 * (grid0.coords t 1).val + d.val)), hd⟩) := by
  blk_ext [iblk, V, idx t]

/-- The gate biases of the first branch a grid point loads. -/
theorem blk_b0 (c : Dev nD) (t : Fin cfg0.N) (d : Fin 512) (hd) :
    (iblk m c 9 t : Vec Ideal S1x1x512 .f32) (ix3 0 0 d)
      = B m c (ix3 1 0 ⟨3584 + (0 * 2048 + (512 * (grid0.coords t 1).val + d.val)), hd⟩) := by
  blk_ext [iblk, V, idx t]

/-- The first branch's weights, out of those a grid point loads. -/
theorem blk_v0 (c : Dev nD) (t : Fin cfg0.N) (k d : Fin 512) (hd) :
    (View.ld (iblk m c 13 t : Vec Ideal S1x4x512x512 .bf16) r0_4 : Vec Ideal S1x1x512x512 .bf16) (ix4 0 0 k d)
      = U m c (ix4 1 0 k ⟨512 * (grid0.coords t 1).val + d.val, hd⟩) := by
  refine Eq.trans (congrArg (iblk m c 13 t : Vec Ideal S1x4x512x512 .bf16) (?_ : _ = ix4 0 0 k d)) (blk_v m c t 0 k d hd)
  refine funext fun a => Fin.ext ?_
  fin_cases a <;> simp [Rect.unit, ix4]

/-- The rows of the second branch a grid point loads. -/
theorem blk_y1 (c : Dev nD) (t : Fin cfg0.N) (r : Fin 1024) (k : Fin 512) (hr) :
    (iblk m c 2 t : Vec Ideal S1024x512 .bf16) (ix2 r k) = Y1 m c (ix2 ⟨1024 * (grid0.coords t 0).val + r.val, hr⟩ k) := by
  blk_ext [iblk, V, idx t]

/-- The gate weights of the second branch a grid point loads. -/
theorem blk_w1 (c : Dev nD) (t : Fin cfg0.N) (k : Fin 2048) (d : Fin 512) (hd) :
    (iblk m c 6 t : Vec Ideal S1x2048x512 .bf16) (ix3 0 k d)
      = W m c (ix3 1 k ⟨3584 + (1 * 2048 + (512 * (grid0.coords t 1).val + d.val)), hd⟩) := by
  blk_ext [iblk, V, idx t]

/-- The gate biases of the second branch a grid point loads. -/
theorem blk_b1 (c : Dev nD) (t : Fin cfg0.N) (d : Fin 512) (hd) :
    (iblk m c 10 t : Vec Ideal S1x1x512 .f32) (ix3 0 0 d)
      = B m c (ix3 1 0 ⟨3584 + (1 * 2048 + (512 * (grid0.coords t 1).val + d.val)), hd⟩) := by
  blk_ext [iblk, V, idx t]

/-- The second branch's weights, out of those a grid point loads. -/
theorem blk_v1 (c : Dev nD) (t : Fin cfg0.N) (k d : Fin 512) (hd) :
    (View.ld (iblk m c 13 t : Vec Ideal S1x4x512x512 .bf16) r0_5 : Vec Ideal S1x1x512x512 .bf16) (ix4 0 0 k d)
      = U m c (ix4 1 1 k ⟨512 * (grid0.coords t 1).val + d.val, hd⟩) := by
  refine Eq.trans (congrArg (iblk m c 13 t : Vec Ideal S1x4x512x512 .bf16) (?_ : _ = ix4 0 1 k d)) (blk_v m c t 1 k d hd)
  refine funext fun a => Fin.ext ?_
  fin_cases a <;> simp [Rect.unit, ix4]

/-- The rows of the third branch a grid point loads. -/
theorem blk_y2 (c : Dev nD) (t : Fin cfg0.N) (r : Fin 1024) (k : Fin 512) (hr) :
    (iblk m c 3 t : Vec Ideal S1024x512 .bf16) (ix2 r k) = Y2 m c (ix2 ⟨1024 * (grid0.coords t 0).val + r.val, hr⟩ k) := by
  blk_ext [iblk, V, idx t]

/-- The gate weights of the third branch a grid point loads. -/
theorem blk_w2 (c : Dev nD) (t : Fin cfg0.N) (k : Fin 2048) (d : Fin 512) (hd) :
    (iblk m c 7 t : Vec Ideal S1x2048x512 .bf16) (ix3 0 k d)
      = W m c (ix3 1 k ⟨3584 + (2 * 2048 + (512 * (grid0.coords t 1).val + d.val)), hd⟩) := by
  blk_ext [iblk, V, idx t]

/-- The gate biases of the third branch a grid point loads. -/
theorem blk_b2 (c : Dev nD) (t : Fin cfg0.N) (d : Fin 512) (hd) :
    (iblk m c 11 t : Vec Ideal S1x1x512 .f32) (ix3 0 0 d)
      = B m c (ix3 1 0 ⟨3584 + (2 * 2048 + (512 * (grid0.coords t 1).val + d.val)), hd⟩) := by
  blk_ext [iblk, V, idx t]

/-- The third branch's weights, out of those a grid point loads. -/
theorem blk_v2 (c : Dev nD) (t : Fin cfg0.N) (k d : Fin 512) (hd) :
    (View.ld (iblk m c 13 t : Vec Ideal S1x4x512x512 .bf16) r0_6 : Vec Ideal S1x1x512x512 .bf16) (ix4 0 0 k d)
      = U m c (ix4 1 2 k ⟨512 * (grid0.coords t 1).val + d.val, hd⟩) := by
  refine Eq.trans (congrArg (iblk m c 13 t : Vec Ideal S1x4x512x512 .bf16) (?_ : _ = ix4 0 2 k d)) (blk_v m c t 2 k d hd)
  refine funext fun a => Fin.ext ?_
  fin_cases a <;> simp [Rect.unit, ix4]

/-- The rows of the fourth branch a grid point loads. -/
theorem blk_y3 (c : Dev nD) (t : Fin cfg0.N) (r : Fin 1024) (k : Fin 512) (hr) :
    (iblk m c 4 t : Vec Ideal S1024x512 .bf16) (ix2 r k) = Y3 m c (ix2 ⟨1024 * (grid0.coords t 0).val + r.val, hr⟩ k) := by
  blk_ext [iblk, V, idx t]

/-- The gate weights of the fourth branch a grid point loads. -/
theorem blk_w3 (c : Dev nD) (t : Fin cfg0.N) (k : Fin 2048) (d : Fin 512) (hd) :
    (iblk m c 8 t : Vec Ideal S1x2048x512 .bf16) (ix3 0 k d)
      = W m c (ix3 1 k ⟨3584 + (3 * 2048 + (512 * (grid0.coords t 1).val + d.val)), hd⟩) := by
  blk_ext [iblk, V, idx t]

/-- The gate biases of the fourth branch a grid point loads. -/
theorem blk_b3 (c : Dev nD) (t : Fin cfg0.N) (d : Fin 512) (hd) :
    (iblk m c 12 t : Vec Ideal S1x1x512 .f32) (ix3 0 0 d)
      = B m c (ix3 1 0 ⟨3584 + (3 * 2048 + (512 * (grid0.coords t 1).val + d.val)), hd⟩) := by
  blk_ext [iblk, V, idx t]

/-- The fourth branch's weights, out of those a grid point loads. -/
theorem blk_v3 (c : Dev nD) (t : Fin cfg0.N) (k d : Fin 512) (hd) :
    (View.ld (iblk m c 13 t : Vec Ideal S1x4x512x512 .bf16) r0_7 : Vec Ideal S1x1x512x512 .bf16) (ix4 0 0 k d)
      = U m c (ix4 1 3 k ⟨512 * (grid0.coords t 1).val + d.val, hd⟩) := by
  refine Eq.trans (congrArg (iblk m c 13 t : Vec Ideal S1x4x512x512 .bf16) (?_ : _ = ix4 0 3 k d)) (blk_v m c t 3 k d hd)
  refine funext fun a => Fin.ext ?_
  fin_cases a <;> simp [Rect.unit, ix4]

/-- THE KERNEL'S RESULT ARRAY is the gated sum of its branches. -/
theorem final (c : Dev nD) :
    (dats m 0 c).arrAt 14 cfg0.N = result (X m c) (Y0 m c) (Y1 m c) (Y2 m c) (Y3 m c) (W m c) (B m c) (U m c) := by
  refine (dats m 0 c).arrAt_eq_of_covers 14 _ (by decide +kernel) fun t hf y => ?_
  blk_simp
  rw [after0_14]
  frame_out
  idx_vars y
  have h0 : (grid0.coords t 0).val < 8 := (grid0.coords t 0).isLt
  have h1 : (grid0.coords t 1).val < 4 := (grid0.coords t 1).isLt
  have hy0 := y0.isLt
  have hy1 := y1.isLt
  rw [whole_apply, half_apply]
  have e : ((View.whole main_v0).slice (win0_14.rect t)).emb (ix2 y0 y1)
      = (ix2 ⟨1024 * (grid0.coords t 0).val + y0.val, by omega⟩ ⟨512 * (grid0.coords t 1).val + y1.val, by omega⟩ : S8192x2048.Idx) := by
    blk_ext [idx t]
  rw [e, blk_b0 m c t y1 (by omega), blk_b1 m c t y1 (by omega), blk_b2 m c t y1 (by omega), blk_b3 m c t y1 (by omega)]
  simp only [blk_x m c t y0 _ (by omega), blk_y0 m c t y0 _ (by omega), blk_y1 m c t y0 _ (by omega), blk_y2 m c t y0 _ (by omega),
    blk_y3 m c t y0 _ (by omega), blk_w0 m c t _ y1 (by omega), blk_w1 m c t _ y1 (by omega), blk_w2 m c t _ y1 (by omega),
    blk_w3 m c t _ y1 (by omega), blk_v0 m c t _ y1 (by omega), blk_v1 m c t _ y1 (by omega), blk_v2 m c t _ y1 (by omega),
    blk_v3 m c t _ y1 (by omega)]
  rfl

end Cert.MergeIdeal.Value

end
-- ==== Proof.MergeRef.lean ====
/-
  What the merge's reference computes: the same gated sum of its arguments.
-/
module

public import proofs.«01_k».proof.Proof.MergeValue
public import proofs.«01_k».proof.Proof.Gen.MergeRefIdeal.Read

@[expose] public section

set_option maxRecDepth 16384

noncomputable section

namespace Cert.MergeRefIdeal.Read

open Cert.MergeRefIdeal Cert.MergeRefIdeal.Gen Idealize.ShloMosaic Idealize.ShloMosaic.TcCoe Idealize.SL.Sem
open Cert
open Cert.MergeIdeal.Value (logit branch result)

variable (x : FVec Ideal S8192x2048 .bf16) (y0 y1 y2 y3 : FVec Ideal S8192x512 .bf16) (w : FVec Ideal S2x2048x11776 .bf16)
  (b : FVec Ideal S2x1x11776 .f32) (v : FVec Ideal S2x4x512x2048 .bf16)

/-- The sigmoid of the gates' logits. -/
theorem gate_at (r : Fin 8192) (n : Fin 4) (d : Fin 2048) :
    val_main_v28 (F := Ideal) x w b (ix3 r n d) = Ideal.logistic (logit x w b n r d) := by
  have e : val_main_v22 (F := Ideal) x w b (ix3 r n d) = logit x w b n r d := by
    unfold logit
    pointwise [val_main_v22, val_main_v10, val_main_v9, val_main_v8, val_main_v7, val_main_v6, val_main_v5, val_main_v4, val_main_v3,
      val_main_v2, val_main_v1, val_main_v0]
  rw [← e]
  pointwise [val_main_v28, val_main_v27, val_main_cst_0, val_main_v26, val_main_v25, val_main_cst, val_main_v24, val_main_v23]
  rfl

/-- The first of the stacked branches. -/
theorem stack0 (r : Fin 8192) (c : Fin 512) : val_main_v16 (F := Ideal) y0 y1 y2 y3 (ix3 r 0 c) = y0 (ix2 r c) := by
  pointwise [val_main_v16, val_main_v15, val_main_v14, val_main_v13, val_main_v12, val_main_v11]

/-- The second of the stacked branches. -/
theorem stack1 (r : Fin 8192) (c : Fin 512) : val_main_v16 (F := Ideal) y0 y1 y2 y3 (ix3 r 1 c) = y1 (ix2 r c) := by
  pointwise [val_main_v16, val_main_v15, val_main_v14, val_main_v13, val_main_v12, val_main_v11]

/-- The third of the stacked branches. -/
theorem stack2 (r : Fin 8192) (c : Fin 512) : val_main_v16 (F := Ideal) y0 y1 y2 y3 (ix3 r 2 c) = y2 (ix2 r c) := by
  pointwise [val_main_v16, val_main_v15, val_main_v14, val_main_v13, val_main_v12, val_main_v11]

/-- The fourth of the stacked branches. -/
theorem stack3 (r : Fin 8192) (c : Fin 512) : val_main_v16 (F := Ideal) y0 y1 y2 y3 (ix3 r 3 c) = y3 (ix2 r c) := by
  pointwise [val_main_v16, val_main_v15, val_main_v14, val_main_v13, val_main_v12, val_main_v11]

/-- The branches' projections, as products with the stacked branches. -/
theorem branch_at (r : Fin 8192) (n : Fin 4) (d : Fin 2048) :
    val_main_v21 (F := Ideal) y0 y1 y2 y3 v (ix3 r n d)
      = ∑ c : Fin 512, val_main_v16 (F := Ideal) y0 y1 y2 y3 (ix3 r n c) * v (ix4 1 n c d) := by
  have e : val_main_v21 (F := Ideal) y0 y1 y2 y3 v (ix3 r n d)
      = ∑ c : Fin 512, v (ix4 1 n c d) * val_main_v16 (F := Ideal) y0 y1 y2 y3 (ix3 r n c) := by
    pointwise [val_main_v21, val_main_v20, val_main_v19, val_main_v18, val_main_v17]
  rw [e]
  exact Finset.sum_congr rfl fun c _ => mul_comm _ _

/-- THE REFERENCE'S RESULT is the gated sum of its branches. -/
theorem out_eq : val_main_v31 (F := Ideal) x y0 y1 y2 y3 w b v = result x y0 y1 y2 y3 w b v := by
  funext j
  idx_vars j
  have e : val_main_v31 (F := Ideal) x y0 y1 y2 y3 w b v (ix2 j0 j1)
      = ∑ n : Fin 4, val_main_v28 (F := Ideal) x w b (ix3 j0 n j1) * val_main_v21 (F := Ideal) y0 y1 y2 y3 v (ix3 j0 n j1) := by
    pointwise [val_main_v31, val_main_v30, val_main_v29, val_main_cst_1]
  rw [e, Fin.sum_univ_four]
  simp only [gate_at, branch_at, stack0, stack1, stack2, stack3]
  rfl

end Cert.MergeRefIdeal.Read

end
-- ==== Proof.MergeClaim.lean ====
/-
  The claims about the merge call.
-/
module

public import proofs.«01_k».proof.Defs
public import proofs.«01_k».proof.Proof.MergeRef
public import proofs.«01_k».proof.Proof.Gen.Merge.Frame
public import Idealize.ShloMosaic.Adequacy
public import Idealize.ShloMosaic.Init

@[expose] public section

noncomputable section

namespace Cert.Proof

open Idealize.ShloMosaic Idealize.SL.Sem

/-- The merge call ends, its arguments and counters as they were. -/
theorem merge_frame : Cert.quiescent_Merge := fun m ρ _ => Cert.Merge.Gen.frame m ρ

/-- So does its idealization. -/
theorem merge_ideal_frame : Cert.quiescent_MergeIdeal := fun m ρ _ => Cert.MergeIdeal.Gen.frame m ρ

/-- And so does its reference. -/
theorem merge_ref_frame : Cert.quiescent_MergeRefIdeal := fun m ρ _ =>
  (θ_run _ _ _).mono (fun r h => ⟨fun c => (h c).2, Idealize.ShloMosaic.sem_eq_zero_of_no_sems (by decide) r.2⟩)
    (Cert.MergeRefIdeal.Value.run m ρ)

/-- The idealization rewrites no operation. -/
theorem merge_preserves : Cert.preserves_Merge_MergeIdeal := trivial

/-- The idealized kernel and its reference end with one result. -/
theorem merge_algebraic : Cert.algebraic_MergeIdeal_MergeRefIdeal := by
  intro m ρ m' ρ' _ hagree
  refine ⟨fun c => Cert.MergeIdeal.Value.result (Cert.MergeIdeal.Value.X m c) (Cert.MergeIdeal.Value.Y0 m c) (Cert.MergeIdeal.Value.Y1 m c) (Cert.MergeIdeal.Value.Y2 m c) (Cert.MergeIdeal.Value.Y3 m c) (Cert.MergeIdeal.Value.W m c) (Cert.MergeIdeal.Value.B m c) (Cert.MergeIdeal.Value.U m c), ?_, ?_⟩
  · exact (θ_run Cert.MergeIdeal.defs _ _).mono (fun r h c => ⟨(h c).1.trans (Cert.MergeIdeal.Value.final m c), (h c).2⟩)
      (Cert.MergeIdeal.Value.run_blocks m ρ)
  · refine (θ_run Cert.MergeRefIdeal.defs _ _).mono (fun r h c => ⟨(h c).1.trans ?_, (h c).2⟩) (Cert.MergeRefIdeal.Value.run m' ρ')
    obtain ⟨e0, e1, e2, e3, e4, e5, e6, e7⟩ := hagree c
    rw [Cert.MergeRefIdeal.Read.val_main_v31_eq, Cert.MergeRefIdeal.Read.out_eq, e0, e1, e2, e3, e4, e5, e6, e7]

end Cert.Proof

end
-- ==== Proof.FfnValue.lean ====
/-
  What the call between the mixers and the experts leaves in its three result arrays: the residual stream, its norm, and the norm's
  product with the query weights.
-/
module

public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnIdeal.Value

open Cert.FfnIdeal Cert.FfnIdeal.Gen Idealize.ShloMosaic Idealize.ShloMosaic.TcCoe Idealize.SL.Sem
open Cert

/-- The root-mean-square norm of a row `h` at lane `d`, times the gain `g`: the entry times the inverse root of the mean square plus the
    constant that keeps it from zero. -/
def rms (h : Fin 2048 → EReal) (g : EReal) (d : Fin 2048) : EReal :=
  h d * Ideal.rsqrt (Ideal.div (∑ e : Fin 2048, h e * h e) (Ideal.ofBits .f32 0x45000000#32) + Ideal.ofBits .f32 0x358637BD#32) * g

/-- The residual stream after the mixers: what it was, plus the merged row's product with the second layer's output weights. -/
def stream (a : FVec Ideal S8192x2048 .bf16) (wo : FVec Ideal S2x2048x2048 .bf16) (h : FVec Ideal S8192x2048 .f32) :
    FVec Ideal S8192x2048 .f32 := fun j =>
  h (ix2 (j 0) (j 1)) + ∑ k : Fin 2048, a (ix2 (j 0) k) * wo (ix3 1 k (j 1))

/-- The norm of that stream's rows with the second layer's gains. -/
def normed (a : FVec Ideal S8192x2048 .bf16) (wo : FVec Ideal S2x2048x2048 .bf16) (h : FVec Ideal S8192x2048 .f32)
    (g : FVec Ideal S2x1x2048 .f32) : FVec Ideal S8192x2048 .bf16 := fun j =>
  rms (fun e => stream a wo h (ix2 (j 0) e)) (g (ix3 1 0 (j 1))) (j 1)

/-- The queries: the normed rows' product with the second layer's query weights. -/
def query (a : FVec Ideal S8192x2048 .bf16) (wo : FVec Ideal S2x2048x2048 .bf16) (h : FVec Ideal S8192x2048 .f32)
    (g : FVec Ideal S2x1x2048 .f32) (wq : FVec Ideal S2x2048x2048 .bf16) : FVec Ideal S8192x2048 .bf16 := fun j =>
  ∑ k : Fin 2048, normed a wo h g (ix2 (j 0) k) * wq (ix3 1 k (j 1))

/-- One entry of the first stored block, from the blocks a grid point loaded. -/
theorem stream_block (h : Vec Ideal S512x2048 .f32) (a : Vec Ideal S512x2048 .bf16) (wo : Vec Ideal S1x2048x2048 .bf16) (r : Fin 512)
    (d : Fin 2048) : k0_pay1 h a wo (ix2 r d) = h (ix2 r d) + ∑ k : Fin 2048, a (ix2 r k) * wo (ix3 0 k d) := by
  pointwise [k0_pay1]

/-- One entry of the second stored block: the norm of the first one's row. -/
theorem normed_block (h : Vec Ideal S512x2048 .f32) (a : Vec Ideal S512x2048 .bf16) (wo : Vec Ideal S1x2048x2048 .bf16)
    (g : Vec Ideal S1x1x2048 .f32) (r : Fin 512) (d : Fin 2048) :
    k0_pay2 h a wo g (ix2 r d) = rms (fun e => k0_pay1 h a wo (ix2 r e)) (g (ix3 0 0 d)) d := by
  unfold rms
  pointwise [k0_pay2]

/-- One entry of the third stored block: the product of the second one's row. -/
theorem query_block (h : Vec Ideal S512x2048 .f32) (a : Vec Ideal S512x2048 .bf16) (wo : Vec Ideal S1x2048x2048 .bf16)
    (g : Vec Ideal S1x1x2048 .f32) (wq : Vec Ideal S1x2048x2048 .bf16) (r : Fin 512) (d : Fin 2048) :
    k0_pay3 h a wo g wq (ix2 r d) = ∑ k : Fin 2048, k0_pay2 h a wo g (ix2 r k) * wq (ix3 0 k d) := by
  pointwise [k0_pay3]

/-- Each window's block index at a grid point. -/
theorem idx : ∀ t : Fin cfg0.N,
    win0_0.index t = ![(grid0.coords t 0).val, 0]
      ∧ win0_1.index t = ![1, 0, 0]
      ∧ win0_2.index t = ![(grid0.coords t 0).val, 0]
      ∧ win0_3.index t = ![1, 0, 0]
      ∧ win0_4.index t = ![1, 0, 0]
      ∧ win0_5.index t = ![(grid0.coords t 0).val, 0]
      ∧ win0_6.index t = ![(grid0.coords t 0).val, 0]
      ∧ win0_7.index t = ![(grid0.coords t 0).val, 0] :=
  (by decide +kernel : ∀ t : Fin grid0.N, _)

variable (m : (ℓ : Loc nD τ sig) → Buf (Elt Ideal) ℓ)

/-- The merged rows. -/
abbrev A (c : Dev nD) : FVec Ideal S8192x2048 .bf16 := m ((c : Thread nD τ).loc main_arg0)
/-- Both layers' output weights. -/
abbrev Wo (c : Dev nD) : FVec Ideal S2x2048x2048 .bf16 := m ((c : Thread nD τ).loc main_arg1)
/-- The residual stream. -/
abbrev H (c : Dev nD) : FVec Ideal S8192x2048 .f32 := m ((c : Thread nD τ).loc main_arg2)
/-- Both layers' gains. -/
abbrev G (c : Dev nD) : FVec Ideal S2x1x2048 .f32 := m ((c : Thread nD τ).loc main_arg3)
/-- Both layers' query weights. -/
abbrev Wq (c : Dev nD) : FVec Ideal S2x2048x2048 .bf16 := m ((c : Thread nD τ).loc main_arg4)

/-- The merged rows a grid point loads. -/
theorem blk_a (c : Dev nD) (t : Fin cfg0.N) (r : Fin 512) (k : Fin 2048) (hr) :
    (iblk m c 0 t : Vec Ideal S512x2048 .bf16) (ix2 r k) = A m c (ix2 ⟨512 * (grid0.coords t 0).val + r.val, hr⟩ k) := by
  blk_ext [iblk, V, idx t]

/-- The rows of the residual stream a grid point loads. -/
theorem blk_h (c : Dev nD) (t : Fin cfg0.N) (r : Fin 512) (k : Fin 2048) (hr) :
    (iblk m c 2 t : Vec Ideal S512x2048 .f32) (ix2 r k) = H m c (ix2 ⟨512 * (grid0.coords t 0).val + r.val, hr⟩ k) := by
  blk_ext [iblk, V, idx t]

/-- The output weights a grid point loads. -/
theorem blk_wo (c : Dev nD) (t : Fin cfg0.N) (k d : Fin 2048) :
    (iblk m c 1 t : Vec Ideal S1x2048x2048 .bf16) (ix3 0 k d) = Wo m c (ix3 1 k d) := by
  blk_ext [iblk, V, idx t]

/-- The gains a grid point loads. -/
theorem blk_g (c : Dev nD) (t : Fin cfg0.N) (d : Fin 2048) :
    (iblk m c 3 t : Vec Ideal S1x1x2048 .f32) (ix3 0 0 d) = G m c (ix3 1 0 d) := by
  blk_ext [iblk, V, idx t]

/-- The query weights a grid point loads. -/
theorem blk_wq (c : Dev nD) (t : Fin cfg0.N) (k d : Fin 2048) :
    (iblk m c 4 t : Vec Ideal S1x2048x2048 .bf16) (ix3 0 k d) = Wq m c (ix3 1 k d) := by
  blk_ext [iblk, V, idx t]

/-- The first block a grid point stores holds the stream's rows. -/
theorem stream_at (c : Dev nD) (t : Fin cfg0.N) (r : Fin 512) (d : Fin 2048) (hr) :
    k0_pay1 (iblk m c 2 t : Vec Ideal S512x2048 .f32) (iblk m c 0 t : Vec Ideal S512x2048 .bf16) (iblk m c 1 t : Vec Ideal S1x2048x2048 .bf16) (ix2 r d)
      = stream (A m c) (Wo m c) (H m c) (ix2 ⟨512 * (grid0.coords t 0).val + r.val, hr⟩ d) := by
  rw [stream_block, blk_h m c t r d hr]
  simp only [blk_a m c t r _ hr, blk_wo m c t]
  rfl

/-- The second block a grid point stores holds the normed rows. -/
theorem normed_at (c : Dev nD) (t : Fin cfg0.N) (r : Fin 512) (d : Fin 2048) (hr) :
    k0_pay2 (iblk m c 2 t : Vec Ideal S512x2048 .f32) (iblk m c 0 t : Vec Ideal S512x2048 .bf16) (iblk m c 1 t : Vec Ideal S1x2048x2048 .bf16)
        (iblk m c 3 t : Vec Ideal S1x1x2048 .f32) (ix2 r d)
      = normed (A m c) (Wo m c) (H m c) (G m c) (ix2 ⟨512 * (grid0.coords t 0).val + r.val, hr⟩ d) := by
  rw [normed_block, blk_g m c t]
  simp only [stream_at m c t r _ hr]
  rfl

/-- The third block a grid point stores holds the queries. -/
theorem query_at (c : Dev nD) (t : Fin cfg0.N) (r : Fin 512) (d : Fin 2048) (hr) :
    k0_pay3 (iblk m c 2 t : Vec Ideal S512x2048 .f32) (iblk m c 0 t : Vec Ideal S512x2048 .bf16) (iblk m c 1 t : Vec Ideal S1x2048x2048 .bf16)
        (iblk m c 3 t : Vec Ideal S1x1x2048 .f32) (iblk m c 4 t : Vec Ideal S1x2048x2048 .bf16) (ix2 r d)
      = query (A m c) (Wo m c) (H m c) (G m c) (Wq m c) (ix2 ⟨512 * (grid0.coords t 0).val + r.val, hr⟩ d) := by
  rw [query_block]
  simp only [normed_at m c t r _ hr, blk_wq m c t]
  rfl

/-- THE KERNEL'S FIRST RESULT ARRAY is the residual stream. -/
theorem final_stream (c : Dev nD) : (dats m 0 c).arrAt 5 cfg0.N = stream (A m c) (Wo m c) (H m c) := by
  refine (dats m 0 c).arrAt_eq_of_covers 5 _ (by decide +kernel) fun t hf y => ?_
  blk_simp
  rw [after0_5]
  frame_out
  idx_vars y
  have h0 : (grid0.coords t 0).val < 16 := (grid0.coords t 0).isLt
  have hy0 := y0.isLt
  have e : ((View.whole main_v0_0).slice (win0_5.rect t)).emb (ix2 y0 y1)
      = (ix2 ⟨512 * (grid0.coords t 0).val + y0.val, by omega⟩ y1 : S8192x2048.Idx) := by
    blk_ext [idx t]
  rw [e]
  exact stream_at m c t y0 y1 (by omega)

/-- THE KERNEL'S SECOND RESULT ARRAY is the stream's norm. -/
theorem final_normed (c : Dev nD) : (dats m 0 c).arrAt 6 cfg0.N = normed (A m c) (Wo m c) (H m c) (G m c) := by
  refine (dats m 0 c).arrAt_eq_of_covers 6 _ (by decide +kernel) fun t hf y => ?_
  blk_simp
  rw [after0_6]
  frame_out
  idx_vars y
  have h0 : (grid0.coords t 0).val < 16 := (grid0.coords t 0).isLt
  have hy0 := y0.isLt
  have e : ((View.whole main_v0_1).slice (win0_6.rect t)).emb (ix2 y0 y1)
      = (ix2 ⟨512 * (grid0.coords t 0).val + y0.val, by omega⟩ y1 : S8192x2048.Idx) := by
    blk_ext [idx t]
  rw [e]
  exact normed_at m c t y0 y1 (by omega)

/-- THE KERNEL'S THIRD RESULT ARRAY is the norm's product with the query weights. -/
theorem final_query (c : Dev nD) : (dats m 0 c).arrAt 7 cfg0.N = query (A m c) (Wo m c) (H m c) (G m c) (Wq m c) := by
  refine (dats m 0 c).arrAt_eq_of_covers 7 _ (by decide +kernel) fun t hf y => ?_
  blk_simp
  rw [after0_7]
  frame_out
  idx_vars y
  have h0 : (grid0.coords t 0).val < 16 := (grid0.coords t 0).isLt
  have hy0 := y0.isLt
  have e : ((View.whole main_v0_2).slice (win0_7.rect t)).emb (ix2 y0 y1)
      = (ix2 ⟨512 * (grid0.coords t 0).val + y0.val, by omega⟩ y1 : S8192x2048.Idx) := by
    blk_ext [idx t]
  rw [e]
  exact query_at m c t y0 y1 (by omega)

end Cert.FfnIdeal.Value

end
-- ==== Proof.FfnRef.lean ====
/-
  What the reference of the call between the mixers and the experts computes: the same three arrays.
-/
module

public import proofs.«01_k».proof.Proof.FfnValue
public import proofs.«01_k».proof.Proof.Gen.FfnRefIdeal.Read

@[expose] public section

set_option maxRecDepth 16384

noncomputable section

namespace Cert.FfnRefIdeal.Read

open Cert.FfnRefIdeal Cert.FfnRefIdeal.Gen Idealize.ShloMosaic Idealize.ShloMosaic.TcCoe Idealize.SL.Sem
open Cert
open Cert.FfnIdeal.Value (rms stream normed query)

variable (a : FVec Ideal S8192x2048 .bf16) (wo : FVec Ideal S2x2048x2048 .bf16) (h : FVec Ideal S8192x2048 .f32)
  (g : FVec Ideal S2x1x2048 .f32) (wq : FVec Ideal S2x2048x2048 .bf16)

/-- THE REFERENCE'S FIRST RESULT is the residual stream. -/
theorem stream_eq : val_main_v5 (F := Ideal) a wo h = stream a wo h := by
  funext j
  idx_vars j
  have e : val_main_v5 (F := Ideal) a wo h (ix2 j0 j1) = h (ix2 j0 j1) + ∑ k : Fin 2048, a (ix2 j0 k) * wo (ix3 1 k j1) := by
    pointwise [val_main_v5, val_main_v4, val_main_v3, val_main_v2, val_main_v1, val_main_v0]
  exact e

/-- THE REFERENCE'S SECOND RESULT is the stream's norm. -/
theorem normed_eq : val_main_v20 (F := Ideal) a wo h g = normed a wo h g := by
  funext j
  idx_vars j
  have e : val_main_v20 (F := Ideal) a wo h g (ix2 j0 j1)
      = rms (fun e => val_main_v5 (F := Ideal) a wo h (ix2 j0 e)) (g (ix3 1 0 j1)) j1 := by
    unfold rms
    pointwise [val_main_v20, val_main_v19, val_main_v18, val_main_v17, val_main_v16, val_main_v15, val_main_v14, val_main_v13, val_main_v12,
      val_main_v11, val_main_cst_1, val_main_v10, val_main_v9, val_main_cst_0, val_main_v8, val_main_v7, val_main_cst, val_main_v6]
  rw [e, stream_eq]
  rfl

/-- THE REFERENCE'S THIRD RESULT is the norm's product with the query weights. -/
theorem query_eq : val_main_v26 (F := Ideal) a wo h g wq = query a wo h g wq := by
  funext j
  idx_vars j
  have e : val_main_v26 (F := Ideal) a wo h g wq (ix2 j0 j1)
      = ∑ k : Fin 2048, val_main_v20 (F := Ideal) a wo h g (ix2 j0 k) * wq (ix3 1 k j1) := by
    pointwise [val_main_v26, val_main_v25, val_main_v24, val_main_v23, val_main_v22, val_main_v21]
  rw [e, normed_eq]
  rfl

end Cert.FfnRefIdeal.Read

end
-- ==== Proof.FfnClaim.lean ====
/-
  The claims about the call between the mixers and the experts.
-/
module

public import proofs.«01_k».proof.Defs
public import proofs.«01_k».proof.Proof.FfnRef
public import proofs.«01_k».proof.Proof.Gen.Ffn.Frame
public import Idealize.ShloMosaic.Adequacy
public import Idealize.ShloMosaic.Init

@[expose] public section

noncomputable section

namespace Cert.Proof

open Idealize.ShloMosaic Idealize.SL.Sem

/-- The call between the mixers and the experts ends, its arguments and counters as they were. -/
theorem ffn_frame : Cert.quiescent_Ffn := fun m ρ _ => Cert.Ffn.Gen.frame m ρ

/-- So does its idealization. -/
theorem ffn_ideal_frame : Cert.quiescent_FfnIdeal := fun m ρ _ => Cert.FfnIdeal.Gen.frame m ρ

/-- And so does its reference. -/
theorem ffn_ref_frame : Cert.quiescent_FfnRefIdeal := fun m ρ _ =>
  (θ_run _ _ _).mono (fun r h => ⟨fun c => (h c).2.2.2, Idealize.ShloMosaic.sem_eq_zero_of_no_sems (by decide) r.2⟩)
    (Cert.FfnRefIdeal.Value.run m ρ)

/-- The idealization rewrites no operation. -/
theorem ffn_preserves : Cert.preserves_Ffn_FfnIdeal := trivial

/-- The idealized kernel and its reference end with one result. -/
theorem ffn_algebraic : Cert.algebraic_FfnIdeal_FfnRefIdeal := by
  intro m ρ m' ρ' _ hagree
  refine ⟨fun c => Cert.FfnIdeal.Value.stream (Cert.FfnIdeal.Value.A m c) (Cert.FfnIdeal.Value.Wo m c) (Cert.FfnIdeal.Value.H m c), fun c => Cert.FfnIdeal.Value.normed (Cert.FfnIdeal.Value.A m c) (Cert.FfnIdeal.Value.Wo m c) (Cert.FfnIdeal.Value.H m c) (Cert.FfnIdeal.Value.G m c), fun c => Cert.FfnIdeal.Value.query (Cert.FfnIdeal.Value.A m c) (Cert.FfnIdeal.Value.Wo m c) (Cert.FfnIdeal.Value.H m c) (Cert.FfnIdeal.Value.G m c) (Cert.FfnIdeal.Value.Wq m c), ?_, ?_⟩
  · exact (θ_run Cert.FfnIdeal.defs _ _).mono (fun r h c => ⟨(h c).1.trans (Cert.FfnIdeal.Value.final_stream m c), (h c).2.1.trans (Cert.FfnIdeal.Value.final_normed m c), (h c).2.2.1.trans (Cert.FfnIdeal.Value.final_query m c), (h c).2.2.2⟩)
      (Cert.FfnIdeal.Value.run_blocks m ρ)
  · refine (θ_run Cert.FfnRefIdeal.defs _ _).mono (fun r h c => ⟨(h c).1.trans ?_, (h c).2.1.trans ?_, (h c).2.2.1.trans ?_, (h c).2.2.2⟩) (Cert.FfnRefIdeal.Value.run m' ρ')
    · obtain ⟨e0, e1, e2, e3, e4⟩ := hagree c
      rw [Cert.FfnRefIdeal.Read.val_main_v5_eq, Cert.FfnRefIdeal.Read.stream_eq, e0, e1, e2]
    · obtain ⟨e0, e1, e2, e3, e4⟩ := hagree c
      rw [Cert.FfnRefIdeal.Read.val_main_v20_eq, Cert.FfnRefIdeal.Read.normed_eq, e0, e1, e2, e3]
    · obtain ⟨e0, e1, e2, e3, e4⟩ := hagree c
      rw [Cert.FfnRefIdeal.Read.val_main_v26_eq, Cert.FfnRefIdeal.Read.query_eq, e0, e1, e2, e3, e4]

end Cert.Proof

end
-- ==== Proof.ProjFoxValue.lean ====
/-
  What the projection to the queries, keys and values of the forgetting attention leaves in its result array, and that it is what the reference computes.
-/
module

public import proofs.«01_k».proof.Proof.Gen.ProjFoxIdeal.Value
public import proofs.«01_k».proof.Proof.Gen.ProjFoxRefIdeal.Read
public import Idealize.ShloMosaic.Lib.Pipeline.ValueKit
public import Idealize.ShloMosaic.Lib.Pointwise

@[expose] public section

set_option maxRecDepth 16384

noncomputable section

namespace Cert.ProjFoxIdeal.Value

open Cert.ProjFoxIdeal Cert.ProjFoxIdeal.Gen Idealize.ShloMosaic Idealize.ShloMosaic.TcCoe Idealize.SL.Sem
open Cert

/-- The projection at row `r` and column `n`: the row's product with the second layer's column of weights, plus that column's bias. -/
def result (x : FVec Ideal S8192x2048 .bf16) (w : FVec Ideal S2x2048x1536 .bf16) (b : FVec Ideal S2x1x1536 .f32) :
    FVec Ideal S8192x1536 .bf16 := fun j =>
  (∑ k : Fin 2048, x (ix2 (j 0) k) * w (ix3 1 k (j 1))) + b (ix3 1 0 (j 1))

/-- One entry of the block a grid point stores, from the blocks it loaded. -/
theorem block_apply (x : Vec Ideal S1024x2048 .bf16) (w : Vec Ideal S1x2048x512 .bf16) (b : Vec Ideal S1x1x512 .f32)
    (r : Fin 1024) (n : Fin 512) :
    k0_pay1 x w b (ix2 r n) = (∑ k : Fin 2048, x (ix2 r k) * w (ix3 0 k n)) + b (ix3 0 0 n) := by
  pointwise [k0_pay1]

/-- Each window's block index at a grid point. -/
theorem idx : ∀ t : Fin cfg0.N,
    win0_0.index t = ![(grid0.coords t 0).val, 0]
      ∧ win0_1.index t = ![1, 0, (grid0.coords t 1).val]
      ∧ win0_2.index t = ![1, 0, (grid0.coords t 1).val]
      ∧ win0_3.index t = ![(grid0.coords t 0).val, (grid0.coords t 1).val] :=
  (by decide +kernel : ∀ t : Fin grid0.N, _)

variable (m : (ℓ : Loc nD τ sig) → Buf (Elt Ideal) ℓ)

/-- The projected rows. -/
abbrev X (c : Dev nD) : FVec Ideal S8192x2048 .bf16 := m ((c : Thread nD τ).loc main_arg0)
/-- Both layers' weights. -/
abbrev W (c : Dev nD) : FVec Ideal S2x2048x1536 .bf16 := m ((c : Thread nD τ).loc main_arg1)
/-- Both layers' biases. -/
abbrev B (c : Dev nD) : FVec Ideal S2x1x1536 .f32 := m ((c : Thread nD τ).loc main_arg2)

/-- The rows a grid point loads. -/
theorem blk_x (c : Dev nD) (t : Fin cfg0.N) (r : Fin 1024) (k : Fin 2048) (hr) :
    (iblk m c 0 t : Vec Ideal S1024x2048 .bf16) (ix2 r k) = X m c (ix2 ⟨1024 * (grid0.coords t 0).val + r.val, hr⟩ k) := by
  blk_ext [iblk, V, idx t]

/-- The columns of weights a grid point loads. -/
theorem blk_w (c : Dev nD) (t : Fin cfg0.N) (k : Fin 2048) (n : Fin 512) (hn) :
    (iblk m c 1 t : Vec Ideal S1x2048x512 .bf16) (ix3 0 k n) = W m c (ix3 1 k ⟨512 * (grid0.coords t 1).val + n.val, hn⟩) := by
  blk_ext [iblk, V, idx t]

/-- The biases a grid point loads. -/
theorem blk_b (c : Dev nD) (t : Fin cfg0.N) (n : Fin 512) (hn) :
    (iblk m c 2 t : Vec Ideal S1x1x512 .f32) (ix3 0 0 n) = B m c (ix3 1 0 ⟨512 * (grid0.coords t 1).val + n.val, hn⟩) := by
  blk_ext [iblk, V, idx t]

/-- THE KERNEL'S RESULT ARRAY is the projection of its arguments. -/
theorem final (c : Dev nD) : (dats m 0 c).arrAt 3 cfg0.N = result (X m c) (W m c) (B m c) := by
  refine (dats m 0 c).arrAt_eq_of_covers 3 _ (by decide +kernel) fun t hf y => ?_
  blk_simp
  rw [after0_3]
  frame_out
  idx_vars y
  have h0 : (grid0.coords t 0).val < 8 := (grid0.coords t 0).isLt
  have h1 : (grid0.coords t 1).val < 3 := (grid0.coords t 1).isLt
  have hy0 := y0.isLt
  have hy1 := y1.isLt
  rw [block_apply]
  have e : ((View.whole main_v0).slice (win0_3.rect t)).emb (ix2 y0 y1)
      = (ix2 ⟨1024 * (grid0.coords t 0).val + y0.val, by omega⟩ ⟨512 * (grid0.coords t 1).val + y1.val, by omega⟩ : S8192x1536.Idx) := by
    blk_ext [idx t]
  rw [e, blk_b m c t y1 (by omega)]
  simp only [blk_x m c t y0 _ (by omega), blk_w m c t _ y1 (by omega)]
  rfl

end Cert.ProjFoxIdeal.Value

namespace Cert.ProjFoxRefIdeal.Read

open Cert.ProjFoxRefIdeal Cert.ProjFoxRefIdeal.Gen Idealize.ShloMosaic Idealize.ShloMosaic.TcCoe Idealize.SL.Sem
open Cert

/-- THE REFERENCE'S RESULT is the projection of its arguments. -/
theorem out_eq (x : FVec Ideal S8192x2048 .bf16) (w : FVec Ideal S2x2048x1536 .bf16) (b : FVec Ideal S2x1x1536 .f32) :
    val_main_v9 (F := Ideal) x w b = Cert.ProjFoxIdeal.Value.result x w b := by
  funext j
  idx_vars j
  have e : val_main_v9 (F := Ideal) x w b (ix2 j0 j1)
      = (∑ k : Fin 2048, x (ix2 j0 k) * w (ix3 1 k j1)) + b (ix3 1 0 j1) := by
    pointwise [val_main_v9, val_main_v8, val_main_v7, val_main_v6, val_main_v5, val_main_v4, val_main_v3, val_main_v2, val_main_v1, val_main_v0]
  exact e

end Cert.ProjFoxRefIdeal.Read

end
-- ==== Proof.ProjPoolValue.lean ====
/-
  What the projection to the inputs of the pooling and of the convolution leaves in its result array, and that it is what the reference computes.
-/
module

public import proofs.«01_k».proof.Proof.Gen.ProjPoolIdeal.Value
public import proofs.«01_k».proof.Proof.Gen.ProjPoolRefIdeal.Read
public import Idealize.ShloMosaic.Lib.Pipeline.ValueKit
public import Idealize.ShloMosaic.Lib.Pointwise

@[expose] public section

set_option maxRecDepth 16384

noncomputable section

namespace Cert.ProjPoolIdeal.Value

open Cert.ProjPoolIdeal Cert.ProjPoolIdeal.Gen Idealize.ShloMosaic Idealize.ShloMosaic.TcCoe Idealize.SL.Sem
open Cert

/-- The projection at row `r` and column `n`: the row's product with the second layer's column of weights, plus that column's bias. -/
def result (x : FVec Ideal S8192x2048 .bf16) (w : FVec Ideal S2x2048x11776 .bf16) (b : FVec Ideal S2x1x11776 .f32) :
    FVec Ideal S8192x2048 .f32 := fun j =>
  (∑ k : Fin 2048, x (ix2 (j 0) k) * w (ix3 1 k ⟨(j 1).val, by have h : (j 1).val < 2048 := (j 1).isLt; omega⟩)) + b (ix3 1 0 ⟨(j 1).val, by have h : (j 1).val < 2048 := (j 1).isLt; omega⟩)

/-- One entry of the block a grid point stores, from the blocks it loaded. -/
theorem block_apply (x : Vec Ideal S1024x2048 .bf16) (w : Vec Ideal S1x2048x512 .bf16) (b : Vec Ideal S1x1x512 .f32)
    (r : Fin 1024) (n : Fin 512) :
    k0_pay1 x w b (ix2 r n) = (∑ k : Fin 2048, x (ix2 r k) * w (ix3 0 k n)) + b (ix3 0 0 n) := by
  pointwise [k0_pay1]

/-- Each window's block index at a grid point. -/
theorem idx : ∀ t : Fin cfg0.N,
    win0_0.index t = ![(grid0.coords t 0).val, 0]
      ∧ win0_1.index t = ![1, 0, (grid0.coords t 1).val]
      ∧ win0_2.index t = ![1, 0, (grid0.coords t 1).val]
      ∧ win0_3.index t = ![(grid0.coords t 0).val, (grid0.coords t 1).val] :=
  (by decide +kernel : ∀ t : Fin grid0.N, _)

variable (m : (ℓ : Loc nD τ sig) → Buf (Elt Ideal) ℓ)

/-- The projected rows. -/
abbrev X (c : Dev nD) : FVec Ideal S8192x2048 .bf16 := m ((c : Thread nD τ).loc main_arg0)
/-- Both layers' weights. -/
abbrev W (c : Dev nD) : FVec Ideal S2x2048x11776 .bf16 := m ((c : Thread nD τ).loc main_arg1)
/-- Both layers' biases. -/
abbrev B (c : Dev nD) : FVec Ideal S2x1x11776 .f32 := m ((c : Thread nD τ).loc main_arg2)

/-- The rows a grid point loads. -/
theorem blk_x (c : Dev nD) (t : Fin cfg0.N) (r : Fin 1024) (k : Fin 2048) (hr) :
    (iblk m c 0 t : Vec Ideal S1024x2048 .bf16) (ix2 r k) = X m c (ix2 ⟨1024 * (grid0.coords t 0).val + r.val, hr⟩ k) := by
  blk_ext [iblk, V, idx t]

/-- The columns of weights a grid point loads. -/
theorem blk_w (c : Dev nD) (t : Fin cfg0.N) (k : Fin 2048) (n : Fin 512) (hn) :
    (iblk m c 1 t : Vec Ideal S1x2048x512 .bf16) (ix3 0 k n) = W m c (ix3 1 k ⟨512 * (grid0.coords t 1).val + n.val, hn⟩) := by
  blk_ext [iblk, V, idx t]

/-- The biases a grid point loads. -/
theorem blk_b (c : Dev nD) (t : Fin cfg0.N) (n : Fin 512) (hn) :
    (iblk m c 2 t : Vec Ideal S1x1x512 .f32) (ix3 0 0 n) = B m c (ix3 1 0 ⟨512 * (grid0.coords t 1).val + n.val, hn⟩) := by
  blk_ext [iblk, V, idx t]

/-- THE KERNEL'S RESULT ARRAY is the projection of its arguments. -/
theorem final (c : Dev nD) : (dats m 0 c).arrAt 3 cfg0.N = result (X m c) (W m c) (B m c) := by
  refine (dats m 0 c).arrAt_eq_of_covers 3 _ (by decide +kernel) fun t hf y => ?_
  blk_simp
  rw [after0_3]
  frame_out
  idx_vars y
  have h0 : (grid0.coords t 0).val < 8 := (grid0.coords t 0).isLt
  have h1 : (grid0.coords t 1).val < 4 := (grid0.coords t 1).isLt
  have hy0 := y0.isLt
  have hy1 := y1.isLt
  rw [block_apply]
  have e : ((View.whole main_v0).slice (win0_3.rect t)).emb (ix2 y0 y1)
      = (ix2 ⟨1024 * (grid0.coords t 0).val + y0.val, by omega⟩ ⟨512 * (grid0.coords t 1).val + y1.val, by omega⟩ : S8192x2048.Idx) := by
    blk_ext [idx t]
  rw [e, blk_b m c t y1 (by omega)]
  simp only [blk_x m c t y0 _ (by omega), blk_w m c t _ y1 (by omega)]
  rfl

end Cert.ProjPoolIdeal.Value

namespace Cert.ProjPoolRefIdeal.Read

open Cert.ProjPoolRefIdeal Cert.ProjPoolRefIdeal.Gen Idealize.ShloMosaic Idealize.ShloMosaic.TcCoe Idealize.SL.Sem
open Cert

/-- THE REFERENCE'S RESULT is the projection of its arguments. -/
theorem out_eq (x : FVec Ideal S8192x2048 .bf16) (w : FVec Ideal S2x2048x11776 .bf16) (b : FVec Ideal S2x1x11776 .f32) :
    val_main_v8 (F := Ideal) x w b = Cert.ProjPoolIdeal.Value.result x w b := by
  funext j
  idx_vars j
  have e : val_main_v8 (F := Ideal) x w b (ix2 j0 j1)
      = (∑ k : Fin 2048, x (ix2 j0 k) * w (ix3 1 k ⟨j1.val, by omega⟩)) + b (ix3 1 0 ⟨j1.val, by omega⟩) := by
    pointwise [val_main_v8, val_main_v7, val_main_v6, val_main_v5, val_main_v4, val_main_v3, val_main_v2, val_main_v1, val_main_v0]
  exact e

end Cert.ProjPoolRefIdeal.Read

end
-- ==== Proof.ProjChunkValue.lean ====
/-
  What the projection to the queries, keys and values of the chunked attention leaves in its result array, and that it is what the reference computes.
-/
module

public import proofs.«01_k».proof.Proof.Gen.ProjChunkIdeal.Value
public import proofs.«01_k».proof.Proof.Gen.ProjChunkRefIdeal.Read
public import Idealize.ShloMosaic.Lib.Pipeline.ValueKit
public import Idealize.ShloMosaic.Lib.Pointwise

@[expose] public section

set_option maxRecDepth 16384

noncomputable section

namespace Cert.ProjChunkIdeal.Value

open Cert.ProjChunkIdeal Cert.ProjChunkIdeal.Gen Idealize.ShloMosaic Idealize.ShloMosaic.TcCoe Idealize.SL.Sem
open Cert

/-- The projection at row `r` and column `n`: the row's product with the second layer's column of weights, plus that column's bias. -/
def result (x : FVec Ideal S8192x2048 .bf16) (w : FVec Ideal S2x2048x11776 .bf16) (b : FVec Ideal S2x1x11776 .f32) :
    FVec Ideal S8192x1536 .bf16 := fun j =>
  (∑ k : Fin 2048, x (ix2 (j 0) k) * w (ix3 1 k ⟨2048 + (j 1).val, by have h : (j 1).val < 1536 := (j 1).isLt; omega⟩)) + b (ix3 1 0 ⟨2048 + (j 1).val, by have h : (j 1).val < 1536 := (j 1).isLt; omega⟩)

/-- One entry of the block a grid point stores, from the blocks it loaded. -/
theorem block_apply (x : Vec Ideal S1024x2048 .bf16) (w : Vec Ideal S1x2048x512 .bf16) (b : Vec Ideal S1x1x512 .f32)
    (r : Fin 1024) (n : Fin 512) :
    k0_pay1 x w b (ix2 r n) = (∑ k : Fin 2048, x (ix2 r k) * w (ix3 0 k n)) + b (ix3 0 0 n) := by
  pointwise [k0_pay1]

/-- Each window's block index at a grid point. -/
theorem idx : ∀ t : Fin cfg0.N,
    win0_0.index t = ![(grid0.coords t 0).val, 0]
      ∧ win0_1.index t = ![1, 0, 4 + (grid0.coords t 1).val]
      ∧ win0_2.index t = ![1, 0, 4 + (grid0.coords t 1).val]
      ∧ win0_3.index t = ![(grid0.coords t 0).val, (grid0.coords t 1).val] :=
  (by decide +kernel : ∀ t : Fin grid0.N, _)

variable (m : (ℓ : Loc nD τ sig) → Buf (Elt Ideal) ℓ)

/-- The projected rows. -/
abbrev X (c : Dev nD) : FVec Ideal S8192x2048 .bf16 := m ((c : Thread nD τ).loc main_arg0)
/-- Both layers' weights. -/
abbrev W (c : Dev nD) : FVec Ideal S2x2048x11776 .bf16 := m ((c : Thread nD τ).loc main_arg1)
/-- Both layers' biases. -/
abbrev B (c : Dev nD) : FVec Ideal S2x1x11776 .f32 := m ((c : Thread nD τ).loc main_arg2)

/-- The rows a grid point loads. -/
theorem blk_x (c : Dev nD) (t : Fin cfg0.N) (r : Fin 1024) (k : Fin 2048) (hr) :
    (iblk m c 0 t : Vec Ideal S1024x2048 .bf16) (ix2 r k) = X m c (ix2 ⟨1024 * (grid0.coords t 0).val + r.val, hr⟩ k) := by
  blk_ext [iblk, V, idx t]

/-- The columns of weights a grid point loads. -/
theorem blk_w (c : Dev nD) (t : Fin cfg0.N) (k : Fin 2048) (n : Fin 512) (hn) :
    (iblk m c 1 t : Vec Ideal S1x2048x512 .bf16) (ix3 0 k n) = W m c (ix3 1 k ⟨2048 + (512 * (grid0.coords t 1).val + n.val), hn⟩) := by
  blk_ext [iblk, V, idx t]

/-- The biases a grid point loads. -/
theorem blk_b (c : Dev nD) (t : Fin cfg0.N) (n : Fin 512) (hn) :
    (iblk m c 2 t : Vec Ideal S1x1x512 .f32) (ix3 0 0 n) = B m c (ix3 1 0 ⟨2048 + (512 * (grid0.coords t 1).val + n.val), hn⟩) := by
  blk_ext [iblk, V, idx t]

/-- THE KERNEL'S RESULT ARRAY is the projection of its arguments. -/
theorem final (c : Dev nD) : (dats m 0 c).arrAt 3 cfg0.N = result (X m c) (W m c) (B m c) := by
  refine (dats m 0 c).arrAt_eq_of_covers 3 _ (by decide +kernel) fun t hf y => ?_
  blk_simp
  rw [after0_3]
  frame_out
  idx_vars y
  have h0 : (grid0.coords t 0).val < 8 := (grid0.coords t 0).isLt
  have h1 : (grid0.coords t 1).val < 3 := (grid0.coords t 1).isLt
  have hy0 := y0.isLt
  have hy1 := y1.isLt
  rw [block_apply]
  have e : ((View.whole main_v0).slice (win0_3.rect t)).emb (ix2 y0 y1)
      = (ix2 ⟨1024 * (grid0.coords t 0).val + y0.val, by omega⟩ ⟨512 * (grid0.coords t 1).val + y1.val, by omega⟩ : S8192x1536.Idx) := by
    blk_ext [idx t]
  rw [e, blk_b m c t y1 (by omega)]
  simp only [blk_x m c t y0 _ (by omega), blk_w m c t _ y1 (by omega)]
  rfl

end Cert.ProjChunkIdeal.Value

namespace Cert.ProjChunkRefIdeal.Read

open Cert.ProjChunkRefIdeal Cert.ProjChunkRefIdeal.Gen Idealize.ShloMosaic Idealize.ShloMosaic.TcCoe Idealize.SL.Sem
open Cert

/-- THE REFERENCE'S RESULT is the projection of its arguments. -/
theorem out_eq (x : FVec Ideal S8192x2048 .bf16) (w : FVec Ideal S2x2048x11776 .bf16) (b : FVec Ideal S2x1x11776 .f32) :
    val_main_v9 (F := Ideal) x w b = Cert.ProjChunkIdeal.Value.result x w b := by
  funext j
  idx_vars j
  have e : val_main_v9 (F := Ideal) x w b (ix2 j0 j1)
      = (∑ k : Fin 2048, x (ix2 j0 k) * w (ix3 1 k ⟨2048 + j1.val, by omega⟩)) + b (ix3 1 0 ⟨2048 + j1.val, by omega⟩) := by
    pointwise [val_main_v9, val_main_v8, val_main_v7, val_main_v6, val_main_v5, val_main_v4, val_main_v3, val_main_v2, val_main_v1, val_main_v0]
  exact e

end Cert.ProjChunkRefIdeal.Read

end
-- ==== Proof.ProjClaim.lean ====
/-
  The claims about the projections.
-/
module

public import proofs.«01_k».proof.Defs
public import proofs.«01_k».proof.Proof.ProjFoxValue
public import proofs.«01_k».proof.Proof.ProjPoolValue
public import proofs.«01_k».proof.Proof.ProjChunkValue
public import proofs.«01_k».proof.Proof.Gen.ProjFox.Frame
public import proofs.«01_k».proof.Proof.Gen.ProjPool.Frame
public import proofs.«01_k».proof.Proof.Gen.ProjChunk.Frame
public import Idealize.ShloMosaic.Adequacy
public import Idealize.ShloMosaic.Init

@[expose] public section

noncomputable section

namespace Cert.Proof

open Idealize.ShloMosaic Idealize.SL.Sem

/-- The forgetting attention's projection ends, its arguments and counters as they were. -/
theorem proj_fox_frame : Cert.quiescent_ProjFox := fun m ρ _ => Cert.ProjFox.Gen.frame m ρ

/-- So does its idealization. -/
theorem proj_fox_ideal_frame : Cert.quiescent_ProjFoxIdeal := fun m ρ _ => Cert.ProjFoxIdeal.Gen.frame m ρ

/-- And so does its reference. -/
theorem proj_fox_ref_frame : Cert.quiescent_ProjFoxRefIdeal := fun m ρ _ =>
  (θ_run _ _ _).mono (fun r h => ⟨fun c => (h c).2, Idealize.ShloMosaic.sem_eq_zero_of_no_sems (by decide) r.2⟩)
    (Cert.ProjFoxRefIdeal.Value.run m ρ)

/-- The idealization rewrites no operation. -/
theorem proj_fox_preserves : Cert.preserves_ProjFox_ProjFoxIdeal := trivial

/-- The idealized kernel and its reference end with one result. -/
theorem proj_fox_algebraic : Cert.algebraic_ProjFoxIdeal_ProjFoxRefIdeal := by
  intro m ρ m' ρ' _ hagree
  refine ⟨fun c => Cert.ProjFoxIdeal.Value.result (Cert.ProjFoxIdeal.Value.X m c) (Cert.ProjFoxIdeal.Value.W m c) (Cert.ProjFoxIdeal.Value.B m c), ?_, ?_⟩
  · exact (θ_run Cert.ProjFoxIdeal.defs _ _).mono (fun r h c => ⟨(h c).1.trans (Cert.ProjFoxIdeal.Value.final m c), (h c).2⟩)
      (Cert.ProjFoxIdeal.Value.run_blocks m ρ)
  · refine (θ_run Cert.ProjFoxRefIdeal.defs _ _).mono (fun r h c => ⟨(h c).1.trans ?_, (h c).2⟩) (Cert.ProjFoxRefIdeal.Value.run m' ρ')
    obtain ⟨e0, e1, e2⟩ := hagree c
    rw [Cert.ProjFoxRefIdeal.Read.val_main_v9_eq, Cert.ProjFoxRefIdeal.Read.out_eq, e0, e1, e2]

/-- The pooling's and the convolution's projection ends, its arguments and counters as they were. -/
theorem proj_pool_frame : Cert.quiescent_ProjPool := fun m ρ _ => Cert.ProjPool.Gen.frame m ρ

/-- So does its idealization. -/
theorem proj_pool_ideal_frame : Cert.quiescent_ProjPoolIdeal := fun m ρ _ => Cert.ProjPoolIdeal.Gen.frame m ρ

/-- And so does its reference. -/
theorem proj_pool_ref_frame : Cert.quiescent_ProjPoolRefIdeal := fun m ρ _ =>
  (θ_run _ _ _).mono (fun r h => ⟨fun c => (h c).2, Idealize.ShloMosaic.sem_eq_zero_of_no_sems (by decide) r.2⟩)
    (Cert.ProjPoolRefIdeal.Value.run m ρ)

/-- The idealization rewrites no operation. -/
theorem proj_pool_preserves : Cert.preserves_ProjPool_ProjPoolIdeal := trivial

/-- The idealized kernel and its reference end with one result. -/
theorem proj_pool_algebraic : Cert.algebraic_ProjPoolIdeal_ProjPoolRefIdeal := by
  intro m ρ m' ρ' _ hagree
  refine ⟨fun c => Cert.ProjPoolIdeal.Value.result (Cert.ProjPoolIdeal.Value.X m c) (Cert.ProjPoolIdeal.Value.W m c) (Cert.ProjPoolIdeal.Value.B m c), ?_, ?_⟩
  · exact (θ_run Cert.ProjPoolIdeal.defs _ _).mono (fun r h c => ⟨(h c).1.trans (Cert.ProjPoolIdeal.Value.final m c), (h c).2⟩)
      (Cert.ProjPoolIdeal.Value.run_blocks m ρ)
  · refine (θ_run Cert.ProjPoolRefIdeal.defs _ _).mono (fun r h c => ⟨(h c).1.trans ?_, (h c).2⟩) (Cert.ProjPoolRefIdeal.Value.run m' ρ')
    obtain ⟨e0, e1, e2⟩ := hagree c
    rw [Cert.ProjPoolRefIdeal.Read.val_main_v8_eq, Cert.ProjPoolRefIdeal.Read.out_eq, e0, e1, e2]

/-- The chunked attention's projection ends, its arguments and counters as they were. -/
theorem proj_chunk_frame : Cert.quiescent_ProjChunk := fun m ρ _ => Cert.ProjChunk.Gen.frame m ρ

/-- So does its idealization. -/
theorem proj_chunk_ideal_frame : Cert.quiescent_ProjChunkIdeal := fun m ρ _ => Cert.ProjChunkIdeal.Gen.frame m ρ

/-- And so does its reference. -/
theorem proj_chunk_ref_frame : Cert.quiescent_ProjChunkRefIdeal := fun m ρ _ =>
  (θ_run _ _ _).mono (fun r h => ⟨fun c => (h c).2, Idealize.ShloMosaic.sem_eq_zero_of_no_sems (by decide) r.2⟩)
    (Cert.ProjChunkRefIdeal.Value.run m ρ)

/-- The idealization rewrites no operation. -/
theorem proj_chunk_preserves : Cert.preserves_ProjChunk_ProjChunkIdeal := trivial

/-- The idealized kernel and its reference end with one result. -/
theorem proj_chunk_algebraic : Cert.algebraic_ProjChunkIdeal_ProjChunkRefIdeal := by
  intro m ρ m' ρ' _ hagree
  refine ⟨fun c => Cert.ProjChunkIdeal.Value.result (Cert.ProjChunkIdeal.Value.X m c) (Cert.ProjChunkIdeal.Value.W m c) (Cert.ProjChunkIdeal.Value.B m c), ?_, ?_⟩
  · exact (θ_run Cert.ProjChunkIdeal.defs _ _).mono (fun r h c => ⟨(h c).1.trans (Cert.ProjChunkIdeal.Value.final m c), (h c).2⟩)
      (Cert.ProjChunkIdeal.Value.run_blocks m ρ)
  · refine (θ_run Cert.ProjChunkRefIdeal.defs _ _).mono (fun r h c => ⟨(h c).1.trans ?_, (h c).2⟩) (Cert.ProjChunkRefIdeal.Value.run m' ρ')
    obtain ⟨e0, e1, e2⟩ := hagree c
    rw [Cert.ProjChunkRefIdeal.Read.val_main_v9_eq, Cert.ProjChunkRefIdeal.Read.out_eq, e0, e1, e2]

end Cert.Proof

end
-- ==== Proof.ChunkBlock.lean ====
/-
  What one head of the chunked attention computes from the blocks a grid point loaded.
-/
module

public import proofs.«01_k».proof.Proof.Gen.ChunkIdeal.Value
public import Idealize.ShloMosaic.Lib.Pipeline.ValueKit
public import Idealize.ShloMosaic.Lib.Pointwise

@[expose] public section

set_option maxRecDepth 16384

noncomputable section

namespace Cert.ChunkIdeal.Value

open Cert.ChunkIdeal Cert.ChunkIdeal.Gen Idealize.ShloMosaic Idealize.ShloMosaic.TcCoe Idealize.SL.Sem
open Cert

/-- Whether key block `n` of the three, `n` blocks after the block two before the queries', is there. -/
abbrev there (i : grid0.Coords) (n : BitVec 32) : BitVec 1 :=
  Scalar.cmpi .sge (Scalar.addi (Scalar.subi (BitVec.ofNat 32 (i 1).val) 2#32) n) 0#32

/-- The logit of the query in row `r` against key `k` of a key block, `⊥` where the block is not there. -/
def blockLogit (p : BitVec 1) (q k : Vec Ideal S1x256x128 .bf16) (b : Vec Ideal S1x256x256 .f32) (r j : Fin 256) : EReal :=
  Scalar.select p ((∑ d : Fin 128, q (ix3 0 r d) * k (ix3 0 j d)) * Ideal.ofBits .f32 0x3DB504F3#32 + b (ix3 0 r j))
    (Named.named (F := Ideal) κ "mask" 0xF149F2CA#32 : Ideal .f32)

/-- The largest of a block's logits. -/
def most (l : Fin 256 → EReal) : EReal := Finset.univ.fold max (Ideal.ofBits .f32 0xFF800000#32) l

/-- The attention over three key blocks with logits `l0`, `l1`, `l2` and values `w0`, `w1`, `w2`: each block's exponentials relative to the
    largest logit of the three, weighted and summed, over their sum. -/
def blockAttend (l0 l1 l2 w0 w1 w2 : Fin 256 → EReal) : EReal :=
  let M := max (max (most l0) (most l1)) (most l2)
  Ideal.div (∑ k, Ideal.exp (l0 k - M) * w0 k + ∑ k, Ideal.exp (l1 k - M) * w1 k + ∑ k, Ideal.exp (l2 k - M) * w2 k)
    (∑ k, Ideal.exp (l0 k - M) + ∑ k, Ideal.exp (l1 k - M) + ∑ k, Ideal.exp (l2 k - M))

variable (i : grid0.Coords) (q k0 k1 k2 v0 v1 v2 : Vec Ideal S1x256x128 .bf16) (b0 b1 b2 : Vec Ideal S1x256x256 .f32) (r : Fin 256) (d : Fin 128)

/-- One head's attention at row `r` and column `d`. -/
abbrev head : EReal :=
  blockAttend (blockLogit (there i 0#32) q k0 b0 r) (blockLogit (there i 1#32) q k1 b1 r) (blockLogit (there i 2#32) q k2 b2 r)
    (fun j => v0 (ix3 0 j d)) (fun j => v1 (ix3 0 j d)) (fun j => v2 (ix3 0 j d))

/-- What the first head's store holds. -/
theorem head_0 :
    k0_pay11 (k0_pay3 v0) (k0_pay4 i q k0 b0) (k0_pay6 v1) (k0_pay7 (k0_pay2 q) (Scalar.addi (Scalar.subi (BitVec.ofNat 32 (i 1).val)
      2#32) 1#32) (k0_pay5 k1) b1) (k0_pay8 v2) (k0_pay9 (BitVec.ofNat 32 (i 1).val) (k0_pay2 q) k2 b2) (k0_pay10 (k0_pay2 q) (k0_pay4
      i q k0 b0) (Scalar.addi (Scalar.subi (BitVec.ofNat 32 (i 1).val) 2#32) 1#32) (k0_pay5 k1) b1) (ix3 0 r d)
      = head i q k0 k1 k2 v0 v1 v2 b0 b1 b2 r d := by
  pointwise [k0_pay2, k0_pay3, k0_pay4, k0_pay5, k0_pay6, k0_pay7, k0_pay8, k0_pay9, k0_pay10, k0_pay11, head, blockAttend, most, blockLogit]
  all_goals rfl

/-- What the second head's store holds. -/
theorem head_1 :
    k0_pay25 (k0_pay13 v0) (k0_pay15 v1) (k0_pay17 (Scalar.addi (Scalar.subi (BitVec.ofNat 32 (i 1).val) 2#32) 1#32) (k0_pay16
      (k0_pay12 q) k1 b1)) (k0_pay18 v2) (k0_pay19 (BitVec.ofNat 32 (i 1).val) (k0_pay12 q) k2 b2) (k0_pay20 (BitVec.ofNat 32 (i
      1).val) (k0_pay12 q) (k0_pay14 (k0_pay12 q) (Scalar.addi (Scalar.subi (BitVec.ofNat 32 (i 1).val) 2#32) 0#32) k0 b0) (Scalar.addi
      (Scalar.subi (BitVec.ofNat 32 (i 1).val) 2#32) 1#32) (k0_pay16 (k0_pay12 q) k1 b1) k2 b2) k0_pay21 k0_pay22 (k0_pay23
      (BitVec.ofNat 32 (i 1).val) (k0_pay12 q) (k0_pay14 (k0_pay12 q) (Scalar.addi (Scalar.subi (BitVec.ofNat 32 (i 1).val) 2#32) 0#32)
      k0 b0) (Scalar.addi (Scalar.subi (BitVec.ofNat 32 (i 1).val) 2#32) 1#32) (k0_pay16 (k0_pay12 q) k1 b1) k2 b2) (k0_pay24
      (BitVec.ofNat 32 (i 1).val) (k0_pay12 q) (k0_pay14 (k0_pay12 q) (Scalar.addi (Scalar.subi (BitVec.ofNat 32 (i 1).val) 2#32) 0#32)
      k0 b0) (Scalar.addi (Scalar.subi (BitVec.ofNat 32 (i 1).val) 2#32) 1#32) (k0_pay16 (k0_pay12 q) k1 b1) k2 b2) (ix3 0 r d)
      = head i q k0 k1 k2 v0 v1 v2 b0 b1 b2 r d := by
  pointwise [k0_pay12, k0_pay13, k0_pay14, k0_pay15, k0_pay16, k0_pay17, k0_pay18, k0_pay19, k0_pay20, k0_pay21, k0_pay22, k0_pay23, k0_pay24, k0_pay25, head, blockAttend, most, blockLogit]
  all_goals rfl

/-- What the third head's store holds. -/
theorem head_2 :
    k0_pay40 (k0_pay30 v1) (k0_pay32 v2) (k0_pay33 (k0_pay26 q) (Scalar.addi (Scalar.subi (BitVec.ofNat 32 (i 1).val) 2#32) 2#32) k2
      b2) (k0_pay34 (k0_pay26 q) (k0_pay29 (k0_pay26 q) (Scalar.addi (Scalar.subi (BitVec.ofNat 32 (i 1).val) 2#32) 0#32) (k0_pay27 k0)
      b0) (k0_pay31 (BitVec.ofNat 32 (i 1).val) (k0_pay26 q) k1 b1) (Scalar.addi (Scalar.subi (BitVec.ofNat 32 (i 1).val) 2#32) 2#32)
      k2 b2) (k0_pay36 (k0_pay26 q) (k0_pay29 (k0_pay26 q) (Scalar.addi (Scalar.subi (BitVec.ofNat 32 (i 1).val) 2#32) 0#32) (k0_pay27
      k0) b0) (k0_pay31 (BitVec.ofNat 32 (i 1).val) (k0_pay26 q) k1 b1) (Scalar.addi (Scalar.subi (BitVec.ofNat 32 (i 1).val) 2#32)
      2#32) k2 b2) (k0_pay37 (k0_pay26 q) (k0_pay28 v0) (k0_pay29 (k0_pay26 q) (Scalar.addi (Scalar.subi (BitVec.ofNat 32 (i 1).val)
      2#32) 0#32) (k0_pay27 k0) b0) (k0_pay31 (BitVec.ofNat 32 (i 1).val) (k0_pay26 q) k1 b1) (Scalar.addi (Scalar.subi (BitVec.ofNat
      32 (i 1).val) 2#32) 2#32) k2 b2) (k0_pay38 (k0_pay26 q) (k0_pay29 (k0_pay26 q) (Scalar.addi (Scalar.subi (BitVec.ofNat 32 (i
      1).val) 2#32) 0#32) (k0_pay27 k0) b0) (k0_pay31 (BitVec.ofNat 32 (i 1).val) (k0_pay26 q) k1 b1) (Scalar.addi (Scalar.subi
      (BitVec.ofNat 32 (i 1).val) 2#32) 2#32) k2 b2) (k0_pay39 (k0_pay26 q) (k0_pay29 (k0_pay26 q) (Scalar.addi (Scalar.subi
      (BitVec.ofNat 32 (i 1).val) 2#32) 0#32) (k0_pay27 k0) b0) (k0_pay31 (BitVec.ofNat 32 (i 1).val) (k0_pay26 q) k1 b1) (Scalar.addi
      (Scalar.subi (BitVec.ofNat 32 (i 1).val) 2#32) 2#32) k2 b2) (ix3 0 r d)
      = head i q k0 k1 k2 v0 v1 v2 b0 b1 b2 r d := by
  pointwise [k0_pay26, k0_pay27, k0_pay28, k0_pay29, k0_pay30, k0_pay31, k0_pay32, k0_pay33, k0_pay34, k0_pay35, k0_pay36, k0_pay37, k0_pay38, k0_pay39, k0_pay40, head, blockAttend, most, blockLogit]
  all_goals rfl

/-- What the fourth head's store holds. -/
theorem head_3 :
    k0_pay1 (k0_pay49 v2) (k0_pay54 (k0_pay41 q) (k0_pay42 v0) (k0_pay45 (Scalar.addi (Scalar.subi (BitVec.ofNat 32 (i 1).val) 2#32)
      0#32) (k0_pay43 q k0) (k0_pay44 b0)) (k0_pay46 v1) (k0_pay47 (BitVec.ofNat 32 (i 1).val) (k0_pay41 q) k1 b1) (Scalar.addi
      (Scalar.subi (BitVec.ofNat 32 (i 1).val) 2#32) 2#32) (k0_pay48 k2) b2) (k0_pay55 (k0_pay41 q) (k0_pay45 (Scalar.addi (Scalar.subi
      (BitVec.ofNat 32 (i 1).val) 2#32) 0#32) (k0_pay43 q k0) (k0_pay44 b0)) (k0_pay47 (BitVec.ofNat 32 (i 1).val) (k0_pay41 q) k1 b1)
      (Scalar.addi (Scalar.subi (BitVec.ofNat 32 (i 1).val) 2#32) 2#32) (k0_pay48 k2) b2) (k0_pay56 (k0_pay41 q) (k0_pay45 (Scalar.addi
      (Scalar.subi (BitVec.ofNat 32 (i 1).val) 2#32) 0#32) (k0_pay43 q k0) (k0_pay44 b0)) (k0_pay47 (BitVec.ofNat 32 (i 1).val)
      (k0_pay41 q) k1 b1) (Scalar.addi (Scalar.subi (BitVec.ofNat 32 (i 1).val) 2#32) 2#32) (k0_pay48 k2) b2) (ix3 0 r d)
      = head i q k0 k1 k2 v0 v1 v2 b0 b1 b2 r d := by
  pointwise [k0_pay1, k0_pay41, k0_pay42, k0_pay43, k0_pay44, k0_pay45, k0_pay46, k0_pay47, k0_pay48, k0_pay49, k0_pay54, k0_pay55, k0_pay56, k0_pay50, k0_pay51, k0_pay52, k0_pay53, head, blockAttend, most, blockLogit]
  all_goals rfl

end Cert.ChunkIdeal.Value

end
-- ==== Proof.ChunkRow.lean ====
/-
  A query's logits over the band of keys it may attend to, and what a head's three key blocks make of them.
-/
module

public import proofs.«01_k».proof.Proof.ChunkBlock
public import proofs.«01_k».proof.Proof.FoxArray

@[expose] public section

set_option maxRecDepth 16384

noncomputable section

namespace Cert.ChunkIdeal.Value

open Cert.ChunkIdeal Cert.ChunkIdeal.Gen Idealize.ShloMosaic Idealize.ShloMosaic.TcCoe Idealize.SL.Sem
open Cert
open Cert.KernelIdeal.Fox (scale_real bot_bits)

/-- The logit of query `q` against key `n` of its band, in batch `b` and head `h`. The band is the query's chunk of 256 and the two chunks
    before it, so key `n` stands at position `256 (q / 256) + n - 512`; a key before the sequence has the least extended real. -/
def logit (x : FVec Ideal S4x2048x1536 .bf16) (w : FVec Ideal S8x256x768 .f32) (b h : Fin 4) (q : Fin 2048) (n : ℕ) : EReal :=
  if hn : n < 768 then
    if 512 ≤ 256 * (q.val / 256) + n then
      (∑ d : Fin 128, x (ix3 b q ⟨128 * h.val + d.val, by omega⟩)
          * x (ix3 b ⟨256 * (q.val / 256) + n - 512, by omega⟩ ⟨512 + (128 * h.val + d.val), by omega⟩)) * Ideal.ofBits .f32 0x3DB504F3#32
        + w (ix3 ⟨4 + h.val, by omega⟩ ⟨q.val % 256, Nat.mod_lt _ (by omega)⟩ ⟨n, hn⟩)
    else ⊥
  else ⊥

/-- Lane `d` of the value at key `n` of the query's band, zero before the sequence. -/
def value (x : FVec Ideal S4x2048x1536 .bf16) (b h : Fin 4) (q : Fin 2048) (d : Fin 128) (n : ℕ) : EReal :=
  if hn : n < 768 then
    if 512 ≤ 256 * (q.val / 256) + n then
      x (ix3 b ⟨256 * (q.val / 256) + n - 512, by omega⟩ ⟨1024 + (128 * h.val + d.val), by omega⟩)
    else 0
  else 0

/-- The attention at batch `b`, head `h`, query `q` and lane `d`: the band's values weighted by the softmax of the query's logits. -/
def attend (x : FVec Ideal S4x2048x1536 .bf16) (w : FVec Ideal S8x256x768 .f32) (b h : Fin 4) (q : Fin 2048) (d : Fin 128) : EReal :=
  ∑ n ∈ Finset.range 768,
    Ideal.div (Ideal.exp (logit x w b h q n - Row.top (logit x w b h q) 768)) (Row.mass (logit x w b h q) 768) * value x b h q d n

/-- The result array as a function of the two arguments: at batch `b`, query `q` and lane `l`, the attention of head `l / 128` at lane
    `l % 128`. -/
def result (x : FVec Ideal S4x2048x1536 .bf16) (w : FVec Ideal S8x256x768 .f32) : FVec Ideal S4x2048x512 .bf16 := fun j =>
  attend x w (j 0) ⟨(j 2).val / 128, by have : (j 2).val < 512 := (j 2).isLt; omega⟩ (j 1) ⟨(j 2).val % 128, Nat.mod_lt _ (by omega)⟩

variable {x : FVec Ideal S4x2048x1536 .bf16} {w : FVec Ideal S8x256x768 .f32}

/-- A logit of a key that is there is a real, where the queries, the keys and the biases are. -/
theorem logit_real (hx : ∀ (b : Fin 4) (q : Fin 2048) (l : Fin 1536), l.val < 1024 → ∃ r : ℝ, x (ix3 b q l) = (r : EReal))
    (hw : ∀ (a : Fin 8) (r : Fin 256) (n : Fin 768), ∃ z : ℝ, w (ix3 a r n) = (z : EReal))
    (b h : Fin 4) (q : Fin 2048) (n : ℕ) (hn : n < 768) (hp : 512 ≤ 256 * (q.val / 256) + n) : ∃ r : ℝ, logit x w b h q n = (r : EReal) := by
  rw [logit, dif_pos hn, if_pos hp]
  obtain ⟨s, es⟩ := scale_real
  obtain ⟨z, ez⟩ := hw ⟨4 + h.val, by omega⟩ ⟨q.val % 256, Nat.mod_lt _ (by omega)⟩ ⟨n, hn⟩
  choose u hu using fun d : Fin 128 => hx b q ⟨128 * h.val + d.val, by omega⟩ (by show 128 * h.val + d.val < 1024; omega)
  choose k hk using fun d : Fin 128 => hx b ⟨256 * (q.val / 256) + n - 512, by omega⟩ ⟨512 + (128 * h.val + d.val), by omega⟩
    (by show 512 + (128 * h.val + d.val) < 1024; omega)
  refine ⟨(∑ d : Fin 128, u d * k d) * s + z, ?_⟩
  rw [es, ez, EReal.coe_add, EReal.coe_mul]
  congr 2
  simp only [hu, hk, ← EReal.coe_mul]
  exact (map_sum (⟨⟨Real.toEReal, rfl⟩, fun _ _ => rfl⟩ : ℝ →+ EReal) _ _).symm

/-- No logit is the greatest extended real. -/
theorem logit_ne_top (hx : ∀ (b : Fin 4) (q : Fin 2048) (l : Fin 1536), l.val < 1024 → ∃ r : ℝ, x (ix3 b q l) = (r : EReal))
    (hw : ∀ (a : Fin 8) (r : Fin 256) (n : Fin 768), ∃ z : ℝ, w (ix3 a r n) = (z : EReal))
    (b h : Fin 4) (q : Fin 2048) (n : ℕ) : logit x w b h q n ≠ ⊤ := by
  by_cases hn : n < 768
  · by_cases hp : 512 ≤ 256 * (q.val / 256) + n
    · obtain ⟨r, e⟩ := logit_real hx hw b h q n hn hp
      rw [e]; exact EReal.coe_ne_top r
    · rw [logit, dif_pos hn, if_neg hp]; exact bot_ne_top
  · rw [logit, dif_neg hn]; exact bot_ne_top

/-- Past the band every logit is the least extended real. -/
theorem logit_past (b h : Fin 4) (q : Fin 2048) (n : ℕ) (hn : 768 ≤ n) : logit x w b h q n = ⊥ := by
  rw [logit, dif_neg (by omega)]

/-- Attention over three blocks of 256 keys is the attention over the 768, when the blocks' logits are a sequence's, one of them is a real and
    none is `⊤`. A masked key's value does not matter. -/
theorem blockAttend_eq {s v : ℕ → EReal} (hs : ∀ k, s k ≠ ⊤) (hb : ∀ k, 768 ≤ k → s k = ⊥) {q : ℕ} (hq : q < 768) (hr : s q ≠ ⊥)
    {l0 l1 l2 w0 w1 w2 : Fin 256 → EReal}
    (e0 : ∀ j, l0 j = s (0 + j.val)) (e1 : ∀ j, l1 j = s (0 + 256 + j.val)) (e2 : ∀ j, l2 j = s (0 + 256 + 256 + j.val))
    (f0 : ∀ j, s (0 + j.val) = ⊥ ∨ w0 j = v (0 + j.val)) (f1 : ∀ j, s (0 + 256 + j.val) = ⊥ ∨ w1 j = v (0 + 256 + j.val))
    (f2 : ∀ j, s (0 + 256 + 256 + j.val) = ⊥ ∨ w2 j = v (0 + 256 + 256 + j.val)) :
    blockAttend l0 l1 l2 w0 w1 w2 = ∑ k ∈ Finset.range 768, Ideal.div (Ideal.exp (s k - Row.top s 768)) (Row.mass s 768) * v k := by
  obtain rfl : l0 = fun j => s (0 + j.val) := funext e0
  obtain rfl : l1 = fun j => s (0 + 256 + j.val) := funext e1
  obtain rfl : l2 = fun j => s (0 + 256 + 256 + j.val) := funext e2
  rw [← Row.acc_div_mass hs (le_refl 768) hb hq hr]
  have z : Row.top s 0 = ⊥ := by simp [Row.top]
  have t : max (max (most fun j => s (0 + j.val)) (most fun j => s (0 + 256 + j.val))) (most fun j => s (0 + 256 + 256 + j.val))
      = Row.top s 768 := by
    have t3 := Row.top_block s (0 + 256 + 256) 256
    rw [Row.top_block s (0 + 256) 256, Row.top_block s 0 256, z, max_eq_right bot_le] at t3
    unfold most
    rw [bot_bits]
    exact t3.symm
  have term : ∀ (k : ℕ) (M y : EReal), s k = ⊥ ∨ y = v k → Ideal.exp (s k - M) * y = Ideal.exp (s k - M) * v k := by
    intro k M y h
    rcases h with h | h
    · rw [h, Row.exp_bot_sub, zero_mul, zero_mul]
    · rw [h]
  unfold blockAttend
  dsimp only
  rw [t]
  have m : Row.mass s 768 = _ := Row.sum_block (fun k => Ideal.exp (s k - Row.top s 768)) (0 + 256 + 256) 256
  have a : Row.acc s v 768 = _ := Row.sum_block (fun k => Ideal.exp (s k - Row.top s 768) * v k) (0 + 256 + 256) 256
  rw [m, a, Row.sum_block _ (0 + 256) 256, Row.sum_block _ 0 256, Row.sum_block _ (0 + 256) 256, Row.sum_block _ 0 256, Finset.range_zero,
    Finset.sum_empty, Finset.sum_empty]
  simp only [fun j => term _ (Row.top s 768) _ (f0 j), fun j => term _ (Row.top s 768) _ (f1 j), fun j => term _ (Row.top s 768) _ (f2 j)]
  simp only [zero_add]

/-- Whether a key block is there, as a condition on the chunk and the block. -/
theorem there_eq : ∀ (a : Fin 8) (n : Fin 3),
    Scalar.cmpi .sge (Scalar.addi (Scalar.subi (BitVec.ofNat 32 a.val) 2#32) (BitVec.ofNat 32 n.val)) 0#32
      = BitVec.ofBool (decide (2 ≤ a.val + n.val)) := by
  decide +kernel

/-- A block's logit is the query's logit against that key of its band, when the blocks loaded are the rows of the two arrays. -/
theorem blockLogit_eq (b h : Fin 4) (a : Fin 8) (n : Fin 3) (q k : Vec Ideal S1x256x128 .bf16) (c : Vec Ideal S1x256x256 .f32) (r j : Fin 256)
    (hq : ∀ d : Fin 128, q (ix3 0 r d) = x (ix3 b ⟨256 * a.val + r.val, by omega⟩ ⟨128 * h.val + d.val, by omega⟩))
    (hk : ∀ d : Fin 128, k (ix3 0 j d)
      = x (ix3 b ⟨256 * (a.val + n.val - 2) + j.val, by omega⟩ ⟨512 + (128 * h.val + d.val), by omega⟩))
    (hc : c (ix3 0 r j) = w (ix3 ⟨4 + h.val, by omega⟩ r ⟨256 * n.val + j.val, by omega⟩)) (m : ℕ) (hm : m = 256 * n.val + j.val) :
    blockLogit (Scalar.cmpi .sge (Scalar.addi (Scalar.subi (BitVec.ofNat 32 a.val) 2#32) (BitVec.ofNat 32 n.val)) 0#32) q k c r j
      = logit x w b h ⟨256 * a.val + r.val, by omega⟩ m := by
  have hr := r.isLt
  have hj := j.isLt
  have e1 : (256 * a.val + r.val) / 256 = a.val := by omega
  have e2 : (256 * a.val + r.val) % 256 = r.val := by omega
  subst hm
  rw [blockLogit, there_eq, WordCmp.select_ofBool, logit, dif_pos (by omega)]
  dsimp only
  by_cases hp : 2 ≤ a.val + n.val
  · have hp' : 512 ≤ 256 * ((256 * a.val + r.val) / 256) + (256 * n.val + j.val) := by rw [e1]; omega
    rw [if_pos hp', decide_eq_true hp, if_pos rfl, hc]
    have er : (⟨(256 * a.val + r.val) % 256, Nat.mod_lt _ (by omega)⟩ : Fin 256) = r := Fin.ext e2
    rw [er]
    congr 2
    refine Finset.sum_congr rfl fun d _ => ?_
    rw [hq, hk]
    congr 3
    refine Fin.ext ?_
    show 256 * (a.val + n.val - 2) + j.val = 256 * ((256 * a.val + r.val) / 256) + (256 * n.val + j.val) - 512
    rw [e1]; omega
  · have hp' : ¬ 512 ≤ 256 * ((256 * a.val + r.val) / 256) + (256 * n.val + j.val) := by rw [e1]; omega
    rw [if_neg hp', decide_eq_false hp]
    rfl

/-- A block's value is the band's value at that key, unless the key is masked. -/
theorem blockValue_eq (b h : Fin 4) (a : Fin 8) (n : Fin 3) (u : EReal) (r j : Fin 256) (d : Fin 128)
    (hu : u = x (ix3 b ⟨256 * (a.val + n.val - 2) + j.val, by omega⟩ ⟨1024 + (128 * h.val + d.val), by omega⟩)) (m : ℕ)
    (hm : m = 256 * n.val + j.val) :
    logit x w b h ⟨256 * a.val + r.val, by omega⟩ m = ⊥ ∨ u = value x b h ⟨256 * a.val + r.val, by omega⟩ d m := by
  have hr := r.isLt
  have hj := j.isLt
  have e1 : (256 * a.val + r.val) / 256 = a.val := by omega
  subst hm
  by_cases hp : 2 ≤ a.val + n.val
  · right
    have hp' : 512 ≤ 256 * ((256 * a.val + r.val) / 256) + (256 * n.val + j.val) := by rw [e1]; omega
    rw [value, dif_pos (by omega), if_pos hp', hu]
    congr 2
    refine Fin.ext ?_
    show 256 * (a.val + n.val - 2) + j.val = 256 * ((256 * a.val + r.val) / 256) + (256 * n.val + j.val) - 512
    rw [e1]; omega
  · left
    have hp' : ¬ 512 ≤ 256 * ((256 * a.val + r.val) / 256) + (256 * n.val + j.val) := by rw [e1]; omega
    rw [logit, dif_pos (by omega), if_neg hp']

/-- A head's attention at a row and lane is the attention at that query, when the blocks loaded are the rows of the two arrays. -/
theorem head_eq (hx : ∀ (b : Fin 4) (q : Fin 2048) (l : Fin 1536), l.val < 1024 → ∃ r : ℝ, x (ix3 b q l) = (r : EReal))
    (hw : ∀ (a : Fin 8) (r : Fin 256) (n : Fin 768), ∃ z : ℝ, w (ix3 a r n) = (z : EReal))
    (b h : Fin 4) (i : grid0.Coords) (q k0 k1 k2 v0 v1 v2 : Vec Ideal S1x256x128 .bf16) (b0 b1 b2 : Vec Ideal S1x256x256 .f32)
    (a : Fin 8) (ha : (i 1).val = a.val)
    (hq : ∀ (r : Fin 256) (d : Fin 128), q (ix3 0 r d) = x (ix3 b ⟨256 * a.val + r.val, by omega⟩ ⟨128 * h.val + d.val, by omega⟩))
    (hk0 : ∀ (j : Fin 256) (d : Fin 128), k0 (ix3 0 j d) = x (ix3 b ⟨256 * (a.val + 0 - 2) + j.val, by omega⟩ ⟨512 + (128 * h.val + d.val), by omega⟩))
    (hk1 : ∀ (j : Fin 256) (d : Fin 128), k1 (ix3 0 j d) = x (ix3 b ⟨256 * (a.val + 1 - 2) + j.val, by omega⟩ ⟨512 + (128 * h.val + d.val), by omega⟩))
    (hk2 : ∀ (j : Fin 256) (d : Fin 128), k2 (ix3 0 j d) = x (ix3 b ⟨256 * (a.val + 2 - 2) + j.val, by omega⟩ ⟨512 + (128 * h.val + d.val), by omega⟩))
    (hv0 : ∀ (j : Fin 256) (d : Fin 128), v0 (ix3 0 j d) = x (ix3 b ⟨256 * (a.val + 0 - 2) + j.val, by omega⟩ ⟨1024 + (128 * h.val + d.val), by omega⟩))
    (hv1 : ∀ (j : Fin 256) (d : Fin 128), v1 (ix3 0 j d) = x (ix3 b ⟨256 * (a.val + 1 - 2) + j.val, by omega⟩ ⟨1024 + (128 * h.val + d.val), by omega⟩))
    (hv2 : ∀ (j : Fin 256) (d : Fin 128), v2 (ix3 0 j d) = x (ix3 b ⟨256 * (a.val + 2 - 2) + j.val, by omega⟩ ⟨1024 + (128 * h.val + d.val), by omega⟩))
    (hb0 : ∀ r j : Fin 256, b0 (ix3 0 r j) = w (ix3 ⟨4 + h.val, by omega⟩ r ⟨256 * 0 + j.val, by omega⟩))
    (hb1 : ∀ r j : Fin 256, b1 (ix3 0 r j) = w (ix3 ⟨4 + h.val, by omega⟩ r ⟨256 * 1 + j.val, by omega⟩))
    (hb2 : ∀ r j : Fin 256, b2 (ix3 0 r j) = w (ix3 ⟨4 + h.val, by omega⟩ r ⟨256 * 2 + j.val, by omega⟩))
    (r : Fin 256) (d : Fin 128) :
    head i q k0 k1 k2 v0 v1 v2 b0 b1 b2 r d = attend x w b h ⟨256 * a.val + r.val, by omega⟩ d := by
  have hr := r.isLt
  have hp : 512 ≤ 256 * ((256 * a.val + r.val) / 256) + 512 := by omega
  obtain ⟨z, hz⟩ := logit_real hx hw b h ⟨256 * a.val + r.val, by omega⟩ 512 (by omega) hp
  unfold head there
  rw [ha]
  refine blockAttend_eq (logit_ne_top hx hw b h _) (logit_past b h _) (q := 512) (by omega) (by rw [hz]; exact EReal.coe_ne_bot z) ?_ ?_ ?_ ?_ ?_ ?_
  · exact fun j => blockLogit_eq b h a 0 q k0 b0 r j (hq r) (hk0 j) (hb0 r j) _ (by simp)
  · exact fun j => blockLogit_eq b h a 1 q k1 b1 r j (hq r) (hk1 j) (hb1 r j) _ (by simp)
  · exact fun j => blockLogit_eq b h a 2 q k2 b2 r j (hq r) (hk2 j) (hb2 r j) _ (by simp)
  · exact fun j => blockValue_eq b h a 0 _ r j d (hv0 j d) _ (by simp)
  · exact fun j => blockValue_eq b h a 1 _ r j d (hv1 j d) _ (by simp)
  · exact fun j => blockValue_eq b h a 2 _ r j d (hv2 j d) _ (by simp)

end Cert.ChunkIdeal.Value

end
-- ==== Proof.ChunkArray.lean ====
/-
  What the chunked attention kernel leaves in its result array: at every query and lane the softmax-weighted sum of its band's values.
-/
module

public import proofs.«01_k».proof.Proof.ChunkRow

@[expose] public section

set_option maxRecDepth 16384

noncomputable section

namespace Cert.ChunkIdeal.Value

open Cert.ChunkIdeal Cert.ChunkIdeal.Gen Idealize.ShloMosaic Idealize.ShloMosaic.TcCoe Idealize.SL.Sem
open Cert

/-- Each window's block index at a grid point. -/
theorem idx : ∀ t : Fin cfg0.N,
    win0_0.index t = ![(grid0.coords t 0).val, (grid0.coords t 1).val, 0]
      ∧ win0_1.index t = ![(grid0.coords t 0).val, 0, 1]
      ∧ win0_2.index t = ![(grid0.coords t 0).val, 0, 2]
      ∧ win0_3.index t = ![1, 0, 0]
      ∧ win0_4.index t = ![(grid0.coords t 0).val, (grid0.coords t 1).val, 0] :=
  (by decide +kernel : ∀ t : Fin grid0.N, _)

/-- Where head one's rows of the key block `n` start: at the block, or at the first row when it is not there. -/
theorem off1 : ∀ (t : Fin cfg0.N) (n : Fin 3),
    k0_off1 (grid0.coords t) (BitVec.ofNat 32 n.val) = ![0, 256 * ((grid0.coords t 1).val + n.val - 2), 0] :=
  (by decide +kernel : ∀ (t : Fin grid0.N) (n : Fin 3), _)

/-- Where head two's rows of the key block `n` start: at the block, or at the first row when it is not there. -/
theorem off2 : ∀ (t : Fin cfg0.N) (n : Fin 3),
    k0_off2 (grid0.coords t) (BitVec.ofNat 32 n.val) = ![0, 256 * ((grid0.coords t 1).val + n.val - 2), 128] :=
  (by decide +kernel : ∀ (t : Fin grid0.N) (n : Fin 3), _)

/-- Where head three's rows of the key block `n` start: at the block, or at the first row when it is not there. -/
theorem off3 : ∀ (t : Fin cfg0.N) (n : Fin 3),
    k0_off3 (grid0.coords t) (BitVec.ofNat 32 n.val) = ![0, 256 * ((grid0.coords t 1).val + n.val - 2), 256] :=
  (by decide +kernel : ∀ (t : Fin grid0.N) (n : Fin 3), _)

/-- Where head four's rows of the key block `n` start: at the block, or at the first row when it is not there. -/
theorem off4 : ∀ (t : Fin cfg0.N) (n : Fin 3),
    k0_off4 (grid0.coords t) (BitVec.ofNat 32 n.val) = ![0, 256 * ((grid0.coords t 1).val + n.val - 2), 384] :=
  (by decide +kernel : ∀ (t : Fin grid0.N) (n : Fin 3), _)

/-- A load of a key block's rows and a head's columns from the keys or values, at an entry. -/
theorem ld_rows (y : Vec Ideal S1x2048x512 .bf16) (o : Fin 3 → ℕ) (n l : ℕ) (ho : o = ![0, n, l]) (inb) (r : Fin 256) (d : Fin 128)
    (hr : n + r.val < 2048) (hd : l + d.val < 512) :
    (View.ld y (Rect.unit (s := S1x2048x512) o S1x256x128.size inb) : Vec Ideal S1x256x128 .bf16) (ix3 0 r d)
      = y (ix3 0 ⟨n + r.val, hr⟩ ⟨l + d.val, hd⟩) := by
  subst ho
  refine congrArg y (funext fun a => Fin.ext ?_)
  fin_cases a <;> simp [Rect.unit, ix3]

/-- A load of a head's columns from the queries, at an entry. -/
theorem ld_query (y : Vec Ideal S1x256x512 .bf16) (l : ℕ) (inb) (r : Fin 256) (d : Fin 128) (hd : l + d.val < 512) :
    (View.ld y (Rect.unit (s := S1x256x512) ![0, 0, l] S1x256x128.size inb) : Vec Ideal S1x256x128 .bf16) (ix3 0 r d)
      = y (ix3 0 r ⟨l + d.val, hd⟩) := by
  refine congrArg y (funext fun a => Fin.ext ?_)
  fin_cases a <;> simp [Rect.unit, ix3]

/-- A load of a head's biases against a key block, at an entry. -/
theorem ld_bias (y : Vec Ideal S4x256x768 .f32) (h p : ℕ) (inb) (r j : Fin 256) (hh : h < 4) (hj : p + j.val < 768) :
    (View.ld y (Rect.unit (s := S4x256x768) ![h, 0, p] S1x256x256.size inb) : Vec Ideal S1x256x256 .f32) (ix3 0 r j)
      = y (ix3 ⟨h, hh⟩ r ⟨p + j.val, hj⟩) := by
  refine congrArg y (funext fun a => Fin.ext ?_)
  fin_cases a <;> simp [Rect.unit, ix3]

variable (m : (ℓ : Loc nD τ sig) → Buf (Elt Ideal) ℓ)

/-- The first argument's array: queries, keys and values side by side. -/
abbrev X (c : Dev nD) : FVec Ideal S4x2048x1536 .bf16 := m ((c : Thread nD τ).loc main_arg0)
/-- The second argument's array: both layers' tables of biases. -/
abbrev W (c : Dev nD) : FVec Ideal S8x256x768 .f32 := m ((c : Thread nD τ).loc main_arg1)

/-- The queries a grid point loads. -/
theorem blk_q (c : Dev nD) (t : Fin cfg0.N) (r : Fin 256) (l : Fin 512) (hr hl) :
    (iblk m c 0 t : Vec Ideal S1x256x512 .bf16) (ix3 0 r l)
      = X m c (ix3 (grid0.coords t 0) ⟨256 * (grid0.coords t 1).val + r.val, hr⟩ ⟨l.val, hl⟩) := by
  blk_ext [iblk, V, idx t]

/-- The keys a grid point loads. -/
theorem blk_k (c : Dev nD) (t : Fin cfg0.N) (k : Fin 2048) (l : Fin 512) (hl) :
    (iblk m c 1 t : Vec Ideal S1x2048x512 .bf16) (ix3 0 k l) = X m c (ix3 (grid0.coords t 0) k ⟨512 + l.val, hl⟩) := by
  blk_ext [iblk, V, idx t]

/-- The values a grid point loads. -/
theorem blk_v (c : Dev nD) (t : Fin cfg0.N) (k : Fin 2048) (l : Fin 512) (hl) :
    (iblk m c 2 t : Vec Ideal S1x2048x512 .bf16) (ix3 0 k l) = X m c (ix3 (grid0.coords t 0) k ⟨1024 + l.val, hl⟩) := by
  blk_ext [iblk, V, idx t]

/-- The biases a grid point loads: the second layer's. -/
theorem blk_b (c : Dev nD) (t : Fin cfg0.N) (h : Fin 4) (r : Fin 256) (n : Fin 768) (hh) :
    (iblk m c 3 t : Vec Ideal S4x256x768 .f32) (ix3 h r n) = W m c (ix3 ⟨4 + h.val, hh⟩ r n) := by
  blk_ext [iblk, V, idx t]

/-- THE KERNEL'S RESULT ARRAY is the chunked attention of its arguments. -/
theorem final (c : Dev nD)
    (hx : ∀ (b : Fin 4) (q : Fin 2048) (l : Fin 1536), l.val < 1024 → ∃ r : ℝ, X m c (ix3 b q l) = (r : EReal))
    (hw : ∀ (a : Fin 8) (r : Fin 256) (n : Fin 768), ∃ z : ℝ, W m c (ix3 a r n) = (z : EReal)) :
    (dats m 0 c).arrAt 4 cfg0.N = result (X m c) (W m c) := by
  refine (dats m 0 c).arrAt_eq_of_covers 4 _ (by decide +kernel) fun t hf y => ?_
  blk_simp
  rw [after0_4]
  unfold outsAt0
  frame_out
  idx_vars y
  obtain rfl : y0 = 0 := Subsingleton.elim _ _
  have hc : (grid0.coords t 1).val < 8 := (grid0.coords t 1).isLt
  have e : ((View.whole main_v0).slice (win0_4.rect t)).emb (ix3 0 y1 y2)
      = (ix3 (grid0.coords t 0) ⟨256 * (grid0.coords t 1).val + y1.val, by omega⟩ y2 : S4x2048x512.Idx) := by
    blk_ext [idx t]
  rw [e]
  have he : ∀ (h : Fin 4) (d : Fin 128), y2.val = 128 * h.val + d.val →
      result (X m c) (W m c) (ix3 (grid0.coords t 0) ⟨256 * (grid0.coords t 1).val + y1.val, by omega⟩ y2)
        = attend (X m c) (W m c) (grid0.coords t 0) h ⟨256 * (grid0.coords t 1).val + y1.val, by omega⟩ d := by
    intro h d hd
    have hd' := d.isLt
    refine congrArg₂ (fun h d => attend (X m c) (W m c) (grid0.coords t 0) h ⟨256 * (grid0.coords t 1).val + y1.val, by omega⟩ d)
      (Fin.ext ?_) (Fin.ext ?_)
    · show y2.val / 128 = h.val
      omega
    · show y2.val % 128 = d.val
      omega
  clear e
  canon_tiles x h
  case piece0 =>
    idx_vars x
    obtain rfl : x0 = 0 := Subsingleton.elim _ _
    obtain rfl : y1 = x1 := Fin.ext h1
    have h2' : y2.val = 384 + x2.val := h2
    rw [he 3 x2 h2']
    refine (head_3 (grid0.coords t) _ _ _ _ _ _ _ _ _ _ y1 x2).trans ?_
    refine head_eq hx hw (grid0.coords t 0) 3 (grid0.coords t) _ _ _ _ _ _ _ _ _ _ ⟨(grid0.coords t 1).val, hc⟩ rfl
      (fun r d => (ld_query (iblk m c 0 t) 384 _ r d (by omega)).trans (blk_q m c t r _ (by omega) _))
      (fun j d => (ld_rows (iblk m c 1 t) _ _ _ (off4 t 0) _ j d (by show 256 * ((grid0.coords t 1).val + 0 - 2) + j.val < 2048; omega) (by omega)).trans (blk_k m c t _ _ _))
      (fun j d => (ld_rows (iblk m c 1 t) _ _ _ (off4 t 1) _ j d (by show 256 * ((grid0.coords t 1).val + 1 - 2) + j.val < 2048; omega) (by omega)).trans (blk_k m c t _ _ _))
      (fun j d => (ld_rows (iblk m c 1 t) _ _ _ (off4 t 2) _ j d (by show 256 * ((grid0.coords t 1).val + 2 - 2) + j.val < 2048; omega) (by omega)).trans (blk_k m c t _ _ _))
      (fun j d => (ld_rows (iblk m c 2 t) _ _ _ (off4 t 0) _ j d (by show 256 * ((grid0.coords t 1).val + 0 - 2) + j.val < 2048; omega) (by omega)).trans (blk_v m c t _ _ _))
      (fun j d => (ld_rows (iblk m c 2 t) _ _ _ (off4 t 1) _ j d (by show 256 * ((grid0.coords t 1).val + 1 - 2) + j.val < 2048; omega) (by omega)).trans (blk_v m c t _ _ _))
      (fun j d => (ld_rows (iblk m c 2 t) _ _ _ (off4 t 2) _ j d (by show 256 * ((grid0.coords t 1).val + 2 - 2) + j.val < 2048; omega) (by omega)).trans (blk_v m c t _ _ _))
      (fun r j => (ld_bias (iblk m c 3 t) 3 0 _ r j (by omega) (by omega)).trans (blk_b m c t _ r _ _))
      (fun r j => (ld_bias (iblk m c 3 t) 3 256 _ r j (by omega) (by omega)).trans (blk_b m c t _ r _ _))
      (fun r j => (ld_bias (iblk m c 3 t) 3 512 _ r j (by omega) (by omega)).trans (blk_b m c t _ r _ _)) y1 x2
  case piece1 =>
    idx_vars x
    obtain rfl : x0 = 0 := Subsingleton.elim _ _
    obtain rfl : y1 = x1 := Fin.ext h1
    have h2' : y2.val = 256 + x2.val := h2
    rw [he 2 x2 h2']
    refine (head_2 (grid0.coords t) _ _ _ _ _ _ _ _ _ _ y1 x2).trans ?_
    refine head_eq hx hw (grid0.coords t 0) 2 (grid0.coords t) _ _ _ _ _ _ _ _ _ _ ⟨(grid0.coords t 1).val, hc⟩ rfl
      (fun r d => (ld_query (iblk m c 0 t) 256 _ r d (by omega)).trans (blk_q m c t r _ (by omega) _))
      (fun j d => (ld_rows (iblk m c 1 t) _ _ _ (off3 t 0) _ j d (by show 256 * ((grid0.coords t 1).val + 0 - 2) + j.val < 2048; omega) (by omega)).trans (blk_k m c t _ _ _))
      (fun j d => (ld_rows (iblk m c 1 t) _ _ _ (off3 t 1) _ j d (by show 256 * ((grid0.coords t 1).val + 1 - 2) + j.val < 2048; omega) (by omega)).trans (blk_k m c t _ _ _))
      (fun j d => (ld_rows (iblk m c 1 t) _ _ _ (off3 t 2) _ j d (by show 256 * ((grid0.coords t 1).val + 2 - 2) + j.val < 2048; omega) (by omega)).trans (blk_k m c t _ _ _))
      (fun j d => (ld_rows (iblk m c 2 t) _ _ _ (off3 t 0) _ j d (by show 256 * ((grid0.coords t 1).val + 0 - 2) + j.val < 2048; omega) (by omega)).trans (blk_v m c t _ _ _))
      (fun j d => (ld_rows (iblk m c 2 t) _ _ _ (off3 t 1) _ j d (by show 256 * ((grid0.coords t 1).val + 1 - 2) + j.val < 2048; omega) (by omega)).trans (blk_v m c t _ _ _))
      (fun j d => (ld_rows (iblk m c 2 t) _ _ _ (off3 t 2) _ j d (by show 256 * ((grid0.coords t 1).val + 2 - 2) + j.val < 2048; omega) (by omega)).trans (blk_v m c t _ _ _))
      (fun r j => (ld_bias (iblk m c 3 t) 2 0 _ r j (by omega) (by omega)).trans (blk_b m c t _ r _ _))
      (fun r j => (ld_bias (iblk m c 3 t) 2 256 _ r j (by omega) (by omega)).trans (blk_b m c t _ r _ _))
      (fun r j => (ld_bias (iblk m c 3 t) 2 512 _ r j (by omega) (by omega)).trans (blk_b m c t _ r _ _)) y1 x2
  case piece2 =>
    idx_vars x
    obtain rfl : x0 = 0 := Subsingleton.elim _ _
    obtain rfl : y1 = x1 := Fin.ext h1
    have h2' : y2.val = 128 + x2.val := h2
    rw [he 1 x2 h2']
    refine (head_1 (grid0.coords t) _ _ _ _ _ _ _ _ _ _ y1 x2).trans ?_
    refine head_eq hx hw (grid0.coords t 0) 1 (grid0.coords t) _ _ _ _ _ _ _ _ _ _ ⟨(grid0.coords t 1).val, hc⟩ rfl
      (fun r d => (ld_query (iblk m c 0 t) 128 _ r d (by omega)).trans (blk_q m c t r _ (by omega) _))
      (fun j d => (ld_rows (iblk m c 1 t) _ _ _ (off2 t 0) _ j d (by show 256 * ((grid0.coords t 1).val + 0 - 2) + j.val < 2048; omega) (by omega)).trans (blk_k m c t _ _ _))
      (fun j d => (ld_rows (iblk m c 1 t) _ _ _ (off2 t 1) _ j d (by show 256 * ((grid0.coords t 1).val + 1 - 2) + j.val < 2048; omega) (by omega)).trans (blk_k m c t _ _ _))
      (fun j d => (ld_rows (iblk m c 1 t) _ _ _ (off2 t 2) _ j d (by show 256 * ((grid0.coords t 1).val + 2 - 2) + j.val < 2048; omega) (by omega)).trans (blk_k m c t _ _ _))
      (fun j d => (ld_rows (iblk m c 2 t) _ _ _ (off2 t 0) _ j d (by show 256 * ((grid0.coords t 1).val + 0 - 2) + j.val < 2048; omega) (by omega)).trans (blk_v m c t _ _ _))
      (fun j d => (ld_rows (iblk m c 2 t) _ _ _ (off2 t 1) _ j d (by show 256 * ((grid0.coords t 1).val + 1 - 2) + j.val < 2048; omega) (by omega)).trans (blk_v m c t _ _ _))
      (fun j d => (ld_rows (iblk m c 2 t) _ _ _ (off2 t 2) _ j d (by show 256 * ((grid0.coords t 1).val + 2 - 2) + j.val < 2048; omega) (by omega)).trans (blk_v m c t _ _ _))
      (fun r j => (ld_bias (iblk m c 3 t) 1 0 _ r j (by omega) (by omega)).trans (blk_b m c t _ r _ _))
      (fun r j => (ld_bias (iblk m c 3 t) 1 256 _ r j (by omega) (by omega)).trans (blk_b m c t _ r _ _))
      (fun r j => (ld_bias (iblk m c 3 t) 1 512 _ r j (by omega) (by omega)).trans (blk_b m c t _ r _ _)) y1 x2
  case piece3 =>
    idx_vars x
    obtain rfl : x0 = 0 := Subsingleton.elim _ _
    obtain rfl : y1 = x1 := Fin.ext h1
    have h2' : y2.val = 0 + x2.val := h2.trans (Nat.zero_add _).symm
    rw [he 0 x2 h2']
    refine (head_0 (grid0.coords t) _ _ _ _ _ _ _ _ _ _ y1 x2).trans ?_
    refine head_eq hx hw (grid0.coords t 0) 0 (grid0.coords t) _ _ _ _ _ _ _ _ _ _ ⟨(grid0.coords t 1).val, hc⟩ rfl
      (fun r d => (ld_query (iblk m c 0 t) 0 _ r d (by omega)).trans (blk_q m c t r _ (by omega) _))
      (fun j d => (ld_rows (iblk m c 1 t) _ _ _ (off1 t 0) _ j d (by show 256 * ((grid0.coords t 1).val + 0 - 2) + j.val < 2048; omega) (by omega)).trans (blk_k m c t _ _ _))
      (fun j d => (ld_rows (iblk m c 1 t) _ _ _ (off1 t 1) _ j d (by show 256 * ((grid0.coords t 1).val + 1 - 2) + j.val < 2048; omega) (by omega)).trans (blk_k m c t _ _ _))
      (fun j d => (ld_rows (iblk m c 1 t) _ _ _ (off1 t 2) _ j d (by show 256 * ((grid0.coords t 1).val + 2 - 2) + j.val < 2048; omega) (by omega)).trans (blk_k m c t _ _ _))
      (fun j d => (ld_rows (iblk m c 2 t) _ _ _ (off1 t 0) _ j d (by show 256 * ((grid0.coords t 1).val + 0 - 2) + j.val < 2048; omega) (by omega)).trans (blk_v m c t _ _ _))
      (fun j d => (ld_rows (iblk m c 2 t) _ _ _ (off1 t 1) _ j d (by show 256 * ((grid0.coords t 1).val + 1 - 2) + j.val < 2048; omega) (by omega)).trans (blk_v m c t _ _ _))
      (fun j d => (ld_rows (iblk m c 2 t) _ _ _ (off1 t 2) _ j d (by show 256 * ((grid0.coords t 1).val + 2 - 2) + j.val < 2048; omega) (by omega)).trans (blk_v m c t _ _ _))
      (fun r j => (ld_bias (iblk m c 3 t) 0 0 _ r j (by omega) (by omega)).trans (blk_b m c t _ r _ _))
      (fun r j => (ld_bias (iblk m c 3 t) 0 256 _ r j (by omega) (by omega)).trans (blk_b m c t _ r _ _))
      (fun r j => (ld_bias (iblk m c 3 t) 0 512 _ r j (by omega) (by omega)).trans (blk_b m c t _ r _ _)) y1 x2

end Cert.ChunkIdeal.Value

end
-- ==== Proof.ChunkRefRow.lean ====
/-
  The reference's masked logits over a query's band, their maximum and the sum of their exponentials.
-/
module

public import proofs.«01_k».proof.Proof.ChunkRow
public import proofs.«01_k».proof.Proof.Gen.ChunkRefIdeal.Read

@[expose] public section

set_option maxRecDepth 16384

noncomputable section

namespace Cert.ChunkRefIdeal.Read

open Cert.ChunkRefIdeal Cert.ChunkRefIdeal.Gen Idealize.ShloMosaic Idealize.ShloMosaic.TcCoe Idealize.SL.Sem
open Cert
open Cert.ChunkIdeal.Value (logit value attend result)
open Cert.KernelIdeal.Fox (bot_bits)

variable (x : FVec Ideal S4x2048x1536 .bf16) (w : FVec Ideal S8x256x768 .f32)

/-- The words a key's position is computed in hold the position. -/
theorem position_nonneg : ∀ (c : Fin 8) (n : Fin 768),
    IntOp.cmpi .sge (IntOp.addi (IntOp.muli (IntOp.subi (BitVec.ofNat 32 c.val) 2#32) 256#32) (BitVec.ofNat 32 n.val)) 0#32
      = BitVec.ofBool (decide (512 ≤ 256 * c.val + n.val)) := by
  decide +kernel

/-- Whether a key of a chunk's band is in the sequence. -/
theorem valid_at (c : Fin 8) (n : Fin 768) :
    val_main_v31 (F := Ideal) (ix2 c n) = BitVec.ofBool (decide (512 ≤ 256 * c.val + n.val)) := by
  rw [← position_nonneg]
  pointwise [val_main_v31, val_main_v30, val_main_v29, val_main_v28, val_main_v27, val_main_v26, val_main_v25, val_main_v24, val_main_v23,
    val_main_v22, val_main_v21, val_main_v20, val_main_v19, val_main_c_0, val_main_c_1, val_main_c_2]

/-- Zero as a word is zero as a number. -/
theorem sitofp_zero : FloatOps.sitofp (F := Ideal) .f32 (0#32) = (0 : EReal) := by
  simp [FloatOps.sitofp]

/-- Two ways of writing a position read one entry. -/
theorem at_pos {b : Fin 4} {l : Fin 1536} {p p' : ℕ} (hp : p < 2048) (hp' : p' < 2048) (e : p = p') :
    x (ix3 b ⟨p, hp⟩ l) = x (ix3 b ⟨p', hp'⟩ l) := by
  subst e
  rfl

/-- The reference's queries split into chunks and heads. -/
theorem query_at (b : Fin 4) (c : Fin 8) (r : Fin 256) (h : Fin 4) (d : Fin 128) :
    val_main_v4 (F := Ideal) x (ix5 b c r h d) = x (ix3 b ⟨256 * c.val + r.val, by omega⟩ ⟨128 * h.val + d.val, by omega⟩) := by
  have e : val_main_v4 (F := Ideal) x (ix5 b c r h d) = x (ix3 b ⟨c.val * 256 + r.val, by omega⟩ ⟨h.val * 128 + d.val, by omega⟩) := by
    pointwise [val_main_v4, val_main_v1, val_main_v0]
  rw [e]
  congr 2
  · refine Fin.ext ?_
    show c.val * 256 + r.val = 256 * c.val + r.val
    omega
  · refine Fin.ext ?_
    show h.val * 128 + d.val = 128 * h.val + d.val
    omega

/-- The reference's keys split into chunks and heads. -/
theorem key_at (b : Fin 4) (c : Fin 8) (r : Fin 256) (h : Fin 4) (d : Fin 128) :
    val_main_v5 (F := Ideal) x (ix5 b c r h d) = x (ix3 b ⟨256 * c.val + r.val, by omega⟩ ⟨512 + (128 * h.val + d.val), by omega⟩) := by
  have e : val_main_v5 (F := Ideal) x (ix5 b c r h d) = x (ix3 b ⟨c.val * 256 + r.val, by omega⟩ ⟨512 + (h.val * 128 + d.val), by omega⟩) := by
    pointwise [val_main_v5, val_main_v2, val_main_v0]
  rw [e]
  congr 2
  · refine Fin.ext ?_
    show c.val * 256 + r.val = 256 * c.val + r.val
    omega
  · refine Fin.ext ?_
    show 512 + (h.val * 128 + d.val) = 512 + (128 * h.val + d.val)
    omega

/-- The keys of a chunk's band: those of the two chunks before it and its own, zero before the sequence. -/
theorem key_band_at (b : Fin 4) (c : Fin 8) (n : Fin 768) (h : Fin 4) (d : Fin 128) :
    val_main_v15 (F := Ideal) x (ix5 b c n h d)
      = if hp : 512 ≤ 256 * c.val + n.val then x (ix3 b ⟨256 * c.val + n.val - 512, by omega⟩ ⟨512 + (128 * h.val + d.val), by omega⟩) else 0 := by
  have hc := c.isLt
  have hn := n.isLt
  have z : val_main_call0_v0 (F := Ideal) (Shape.Idx.first h_S_) = 0 := by
    rw [val_main_call0_v0_apply, val_main_c_apply]
    exact sitofp_zero
  by_cases hp : 512 ≤ 256 * c.val + n.val
  · rw [dif_pos hp]
    pointwise [val_main_v15, val_main_v14, val_main_v13, val_main_v12, val_main_v11, val_main_v10, val_main_v9, val_main_v8, val_main_v7]
    simp only [key_at, z]
    split_ifs <;> first | (exfalso; omega) | exact at_pos x _ _ (by omega)
  · rw [dif_neg hp]
    pointwise [val_main_v15, val_main_v14, val_main_v13, val_main_v12, val_main_v11, val_main_v10, val_main_v9, val_main_v8, val_main_v7]
    simp only [key_at, z]
    split_ifs <;> first | (exfalso; omega) | rfl

/-- The reference's values split into chunks and heads. -/
theorem value_at (b : Fin 4) (c : Fin 8) (r : Fin 256) (h : Fin 4) (d : Fin 128) :
    val_main_v6 (F := Ideal) x (ix5 b c r h d) = x (ix3 b ⟨256 * c.val + r.val, by omega⟩ ⟨1024 + (128 * h.val + d.val), by omega⟩) := by
  have e : val_main_v6 (F := Ideal) x (ix5 b c r h d) = x (ix3 b ⟨c.val * 256 + r.val, by omega⟩ ⟨1024 + (h.val * 128 + d.val), by omega⟩) := by
    pointwise [val_main_v6, val_main_v3, val_main_v0]
  rw [e]
  congr 2
  · refine Fin.ext ?_
    show c.val * 256 + r.val = 256 * c.val + r.val
    omega
  · refine Fin.ext ?_
    show 1024 + (h.val * 128 + d.val) = 1024 + (128 * h.val + d.val)
    omega

/-- The values of a chunk's band: those of the two chunks before it and its own, zero before the sequence. -/
theorem value_band_at (b : Fin 4) (c : Fin 8) (n : Fin 768) (h : Fin 4) (d : Fin 128) :
    val_main_v59 (F := Ideal) x (ix5 b c n h d)
      = if hp : 512 ≤ 256 * c.val + n.val then x (ix3 b ⟨256 * c.val + n.val - 512, by omega⟩ ⟨1024 + (128 * h.val + d.val), by omega⟩) else 0 := by
  have hc := c.isLt
  have hn := n.isLt
  have z : val_main_call2_v0 (F := Ideal) (Shape.Idx.first h_S_) = 0 := by
    rw [val_main_call2_v0_apply, val_main_c_7_apply]
    exact sitofp_zero
  by_cases hp : 512 ≤ 256 * c.val + n.val
  · rw [dif_pos hp]
    pointwise [val_main_v59, val_main_v58, val_main_v57, val_main_v56, val_main_v55, val_main_v54, val_main_v53, val_main_v52, val_main_v51]
    simp only [value_at, z]
    split_ifs <;> first | (exfalso; omega) | exact at_pos x _ _ (by omega)
  · rw [dif_neg hp]
    pointwise [val_main_v59, val_main_v58, val_main_v57, val_main_v56, val_main_v55, val_main_v54, val_main_v53, val_main_v52, val_main_v51]
    simp only [value_at, z]
    split_ifs <;> first | (exfalso; omega) | rfl

/-- The maximum over the last axis, at an index: a fold over that axis from the least extended real. -/
theorem reduce_at (y : FVec Ideal S4x8x4x256x768 .f32) (b : Fin 4) (c : Fin 8) (h : Fin 4) (r : Fin 256) :
    (Host.reduce FloatOps.maximumf y (val_main_cst_4 (F := Ideal)) reducesTo_S4x8x4x256x768_S4x8x4x256_d4 h_S_ : FVec Ideal S4x8x4x256 .f32) (ix4 b c h r)
      = Finset.univ.fold max (Ideal.ofBits .f32 0xFF800000#32) fun n : Fin 768 => y (ix5 b c h r n) := by
  pointwise [val_main_cst_4]

/-- The reference's masked logit of a chunk's row against a key of its band. -/
theorem logits_at (b : Fin 4) (c : Fin 8) (h : Fin 4) (r : Fin 256) (n : Fin 768) :
    val_main_v37 (F := Ideal) x w (ix5 b c h r n) = logit x w b h ⟨256 * c.val + r.val, by omega⟩ n.val := by
  have hr := r.isLt
  have e1 : (256 * c.val + r.val) / 256 = c.val := by omega
  have e2 : (256 * c.val + r.val) % 256 = r.val := by omega
  have e : val_main_v36 (F := Ideal) x w (ix5 b c h r n)
      = (∑ d : Fin 128, val_main_v4 (F := Ideal) x (ix5 b c r h d) * val_main_v15 (F := Ideal) x (ix5 b c n h d)) * Ideal.ofBits .f32 0x3DB504F3#32
        + w (ix3 ⟨4 + h.val, by omega⟩ r n) := by
    pointwise [val_main_v36, val_main_v35, val_main_v34, val_main_v33, val_main_v18, val_main_v17, val_main_v16, val_main_cst]
  have em : val_main_call1_v2 (F := Ideal) (ix5 b c h r n) = ⊥ := by
    rw [val_main_call1_v2_apply, val_main_call1_v0_apply, val_main_cst_3_apply]; exact bot_bits
  have ec : val_main_call1_v1 (F := Ideal) (ix5 b c h r n) = BitVec.ofBool (decide (512 ≤ 256 * c.val + n.val)) := by
    rw [← valid_at]
    pointwise [val_main_call1_v1, val_main_v32]
  have es : val_main_v37 (F := Ideal) x w (ix5 b c h r n)
      = Scalar.select (val_main_call1_v1 (F := Ideal) (ix5 b c h r n)) (val_main_v36 (F := Ideal) x w (ix5 b c h r n))
          (val_main_call1_v2 (F := Ideal) (ix5 b c h r n)) := rfl
  rw [es, em, ec, e, WordCmp.select_ofBool, logit, dif_pos n.isLt]
  dsimp only
  by_cases hp : 512 ≤ 256 * c.val + n.val
  · have hp' : 512 ≤ 256 * ((256 * c.val + r.val) / 256) + n.val := by rw [e1]; exact hp
    rw [if_pos hp', decide_eq_true hp, if_pos rfl]
    have er : (⟨(256 * c.val + r.val) % 256, Nat.mod_lt _ (by omega)⟩ : Fin 256) = r := Fin.ext e2
    rw [er]
    refine congrArg (fun z : EReal => z * Ideal.ofBits .f32 0x3DB504F3#32 + w (ix3 ⟨4 + h.val, by omega⟩ r n)) (Finset.sum_congr rfl fun d _ => ?_)
    rw [query_at, key_band_at, dif_pos hp]
    exact congrArg (_ * ·) (at_pos x _ _ (by rw [e1]))
  · have hp' : ¬ 512 ≤ 256 * ((256 * c.val + r.val) / 256) + n.val := by rw [e1]; exact hp
    rw [if_neg hp', decide_eq_false hp]
    rfl

/-- The reference's maximum over a band. -/
theorem max_at (b : Fin 4) (c : Fin 8) (h : Fin 4) (r : Fin 256) :
    val_main_v40 (F := Ideal) x w (ix4 b c h r) = Row.top (logit x w b h ⟨256 * c.val + r.val, by omega⟩) 768 := by
  have e : val_main_v38 (F := Ideal) x w (ix4 b c h r) = Finset.univ.fold max (Ideal.ofBits .f32 0xFF800000#32) fun n : Fin 768 =>
      logit x w b h ⟨256 * c.val + r.val, by omega⟩ n.val := by
    refine (reduce_at (val_main_v37 (F := Ideal) x w) b c h r).trans ?_
    exact congrArg (fun f => Finset.univ.fold max (Ideal.ofBits .f32 0xFF800000#32) f) (funext fun n => logits_at x w b c h r n)
  have e' : val_main_v39 (F := Ideal) (ix4 b c h r) = Ideal.ofBits .f32 0xFF800000#32 := by
    pointwise [val_main_v39, val_main_cst_5]
  rw [val_main_v40_apply, e, e', bot_bits]
  have t := Row.top_block (logit x w b h ⟨256 * c.val + r.val, by omega⟩) 0 768
  simp only [zero_add] at t
  rw [t]
  have z : Row.top (logit x w b h ⟨256 * c.val + r.val, by omega⟩) 0 = ⊥ := by simp [Row.top]
  rw [z]
  rfl

/-- The reference's exponential of a logit less the maximum. -/
theorem exp_at (b : Fin 4) (c : Fin 8) (h : Fin 4) (r : Fin 256) (n : Fin 768) :
    val_main_v44 (F := Ideal) x w (ix5 b c h r n) = Ideal.exp (logit x w b h ⟨256 * c.val + r.val, by omega⟩ n.val
      - Row.top (logit x w b h ⟨256 * c.val + r.val, by omega⟩) 768) := by
  rw [← logits_at, ← max_at]
  pointwise [val_main_v44, val_main_v43, val_main_v42, val_main_v41]

/-- The reference's sum of exponentials. -/
theorem mass_at (b : Fin 4) (c : Fin 8) (h : Fin 4) (r : Fin 256) :
    val_main_v45 (F := Ideal) x w (ix4 b c h r) = Row.mass (logit x w b h ⟨256 * c.val + r.val, by omega⟩) 768 := by
  have e : val_main_v45 (F := Ideal) x w (ix4 b c h r) = ∑ n : Fin 768, val_main_v44 (F := Ideal) x w (ix5 b c h r n) := by
    pointwise [val_main_v45, val_main_cst_6]
  rw [e, Row.mass, Finset.sum_range]
  exact Finset.sum_congr rfl fun n _ => exp_at x w b c h r n

/-- The reference's attention of a chunk's row, before the chunks and heads are put together. -/
theorem attend_at (b : Fin 4) (c : Fin 8) (h : Fin 4) (d : Fin 128) (r : Fin 256) :
    val_main_v60 (F := Ideal) x w (ix5 b c h d r) = attend x w b h ⟨256 * c.val + r.val, by omega⟩ d := by
  have hr := r.isLt
  have e1 : (256 * c.val + r.val) / 256 = c.val := by omega
  have e : val_main_v60 (F := Ideal) x w (ix5 b c h d r)
      = ∑ n : Fin 768, val_main_v59 (F := Ideal) x (ix5 b c n h d)
          * Ideal.div (val_main_v44 (F := Ideal) x w (ix5 b c h r n)) (val_main_v45 (F := Ideal) x w (ix4 b c h r)) := by
    pointwise [val_main_v60, val_main_v50, val_main_v49, val_main_v48, val_main_v47, val_main_v46]
  rw [e, attend, Finset.sum_range]
  refine Finset.sum_congr rfl fun n _ => ?_
  rw [exp_at, mass_at, mul_comm, value_band_at, value, dif_pos n.isLt]
  refine congrArg _ ?_
  dsimp only
  by_cases hp : 512 ≤ 256 * c.val + n.val
  · have hp' : 512 ≤ 256 * ((256 * c.val + r.val) / 256) + n.val := by rw [e1]; exact hp
    rw [dif_pos hp, if_pos hp']
    exact at_pos x _ _ (by rw [e1])
  · have hp' : ¬ 512 ≤ 256 * ((256 * c.val + r.val) / 256) + n.val := by rw [e1]; exact hp
    rw [dif_neg hp, if_neg hp']

/-- THE REFERENCE'S RESULT is the chunked attention of its arguments. -/
theorem out_eq : val_main_v63 (F := Ideal) x w = result x w := by
  funext j
  idx_vars j
  have e : val_main_v63 (F := Ideal) x w (ix3 j0 j1 j2)
      = val_main_v60 (F := Ideal) x w (ix5 j0 ⟨j1.val / 256, by omega⟩ ⟨j2.val / 128, by omega⟩ ⟨j2.val % 128, by omega⟩ ⟨j1.val % 256, by omega⟩) := by
    pointwise [val_main_v63, val_main_v62, val_main_v61]
  rw [e, attend_at]
  show _ = attend x w j0 ⟨j2.val / 128, _⟩ j1 ⟨j2.val % 128, _⟩
  congr 1
  refine Fin.ext ?_
  show 256 * (j1.val / 256) + j1.val % 256 = j1.val
  omega

end Cert.ChunkRefIdeal.Read

end
-- ==== Proof.ChunkPre.lean ====
/-
  What the precondition of the chunked attention says over the extended reals: the queries, the keys and the biases are reals.
-/
module

public import proofs.«01_k».proof.Pre_chunk_finite
public import proofs.«01_k».proof.Proof.FoxPre

@[expose] public section

set_option maxRecDepth 16384

noncomputable section

namespace Cert.Pre_chunk_finite

open Idealize.ShloMosaic
open Cert.Pre_finite (real_of_abs_lt)

/-- The side conditions of the precondition's operations. -/
instance facts : Cert.Pre_chunk_finite.Facts where
  slices_S4x2048x1536_S4x2048x1024_0_0_0 := by decide
  bitsLt_bf16_f32 := by decide
  bcast_S_S4x2048x1024 := by decide
  reducesTo_S4x2048x1024_S_d0_1_2 := by decide
  h_S_ := by decide
  bcast_S_S8x256x768 := by decide
  reducesTo_S8x256x768_S_d0_1_2 := by decide

/-- Where the precondition holds, every query, key and bias is a real. -/
theorem real_of_fn (x : FVec Ideal S4x2048x1536 .bf16) (w : FVec Ideal S8x256x768 .f32) (h : fn (F := Ideal) x w = fun _ => 1#1) :
    (∀ (b : Fin 4) (q : Fin 2048) (l : Fin 1536), l.val < 1024 → ∃ r : ℝ, x (ix3 b q l) = (r : EReal))
      ∧ ∀ (a : Fin 8) (r : Fin 256) (n : Fin 768), ∃ z : ℝ, w (ix3 a r n) = (z : EReal) := by
  haveI : Subsingleton S_.Idx := ⟨fun a b => funext fun i => i.elim0⟩
  obtain ⟨h1, h2⟩ := IntOp.andi_eq_one.mp (congrFun h ix0)
  refine ⟨fun b q l hl => ?_, fun a r n => ?_⟩
  · have e := Host.reduce_andi_all _ _ _ _ _ h1 (ix3 b q ⟨l.val, hl⟩)
    refine real_of_abs_lt (a := x (ix3 b q l)) (Eq.trans ?_ e)
    symm
    pointwise
  · have e := Host.reduce_andi_all _ _ _ _ _ h2 (ix3 a r n)
    refine real_of_abs_lt (a := w (ix3 a r n)) (Eq.trans ?_ e)
    symm
    pointwise

end Cert.Pre_chunk_finite

end
-- ==== Proof.ChunkClaim.lean ====
/-
  The claims about the chunked attention kernel.
-/
module

public import proofs.«01_k».proof.Defs
public import proofs.«01_k».proof.Proof.ChunkArray
public import proofs.«01_k».proof.Proof.ChunkRefRow
public import proofs.«01_k».proof.Proof.ChunkPre
public import proofs.«01_k».proof.Proof.Gen.Chunk.Frame
public import Idealize.ShloMosaic.Adequacy
public import Idealize.ShloMosaic.Init

@[expose] public section

noncomputable section

namespace Cert.Proof

open Idealize.ShloMosaic Idealize.SL.Sem

/-- The chunked attention kernel ends, its arguments and counters as they were. -/
theorem chunk_frame : Cert.quiescent_Chunk := fun m ρ _ => Cert.Chunk.Gen.frame m ρ

/-- It does so where the precondition holds. -/
theorem chunk_frame_pre : Cert.quiescent_Chunk_pre_chunk_finite := fun m ρ _ => Cert.Chunk.Gen.frame m ρ

/-- So does the idealized one. -/
theorem chunk_ideal_frame : Cert.quiescent_ChunkIdeal := fun m ρ _ => Cert.ChunkIdeal.Gen.frame m ρ

/-- And so does the reference. -/
theorem chunk_ref_frame : Cert.quiescent_ChunkRefIdeal := fun m ρ _ =>
  (θ_run _ _ _).mono (fun r h => ⟨fun c => (h c).2, Idealize.ShloMosaic.sem_eq_zero_of_no_sems (by decide) r.2⟩)
    (Cert.ChunkRefIdeal.Value.run m ρ)

/-- The reference does so where the precondition holds. -/
theorem chunk_ref_frame_pre : Cert.quiescent_ChunkRefIdeal_pre_chunk_finite := fun m ρ _ => chunk_ref_frame m ρ trivial

/-- The mask constant of the idealized kernel is the least extended real. -/
theorem chunk_preserves : Cert.preserves_Chunk_ChunkIdeal :=
  IdealRules.named_const.statement Cert.ChunkIdeal.κ "mask" .f32 0xF149F2CA#32 ⊥ rfl

/-- The idealized kernel and the reference end with one result. -/
theorem chunk_algebraic : Cert.algebraic_ChunkIdeal_ChunkRefIdeal := by
  intro m ρ m' ρ' hpre hagree
  refine ⟨fun c => Cert.ChunkIdeal.Value.result (Cert.ChunkIdeal.Value.X m c) (Cert.ChunkIdeal.Value.W m c), ?_, ?_⟩
  · refine (θ_run Cert.ChunkIdeal.defs _ _).mono (fun r h c => ⟨(h c).1.trans ?_, (h c).2⟩) (Cert.ChunkIdeal.Value.run_blocks m ρ)
    obtain ⟨hx, hw⟩ := Cert.Pre_chunk_finite.real_of_fn _ _ (hpre c)
    exact Cert.ChunkIdeal.Value.final m c hx hw
  · refine (θ_run Cert.ChunkRefIdeal.defs _ _).mono (fun r h c => ⟨(h c).1.trans ?_, (h c).2⟩) (Cert.ChunkRefIdeal.Value.run m' ρ')
    rw [Cert.ChunkRefIdeal.Read.val_main_v63_eq, Cert.ChunkRefIdeal.Read.out_eq, (hagree c).1, (hagree c).2]

end Cert.Proof

end
-- ==== Proof.PeerStrips.lean ====
/-
  Sixty-four strips of sixteen experts set one under another, and the gate one expert gets.
-/
module

public import proofs.«01_k».proof.Proof.Gen.PeerIdeal.Value
public import Idealize.ShloMosaic.Lib.Pipeline.ValueKit
public import Idealize.ShloMosaic.Lib.Pointwise

@[expose] public section

set_option maxRecDepth 65536

noncomputable section

namespace Cert.PeerIdeal.Value

open Cert.PeerIdeal Cert.PeerIdeal.Gen Idealize.ShloMosaic Idealize.ShloMosaic.TcCoe Idealize.SL.Sem
open Cert

/-- The list's arrays are the strips of `g` from the strip `k` on. -/
inductive Strips (g : Fin 64 → Fin 16 → Fin 512 → EReal) : ℕ → List ((s : Shape) × (s.Idx → EReal)) → Prop where
  | nil (k : ℕ) : Strips g k []
  | cons (k : ℕ) (p : S16x512.Idx → EReal) (L : List ((s : Shape) × (s.Idx → EReal))) (hk : k < 64)
      (hp : ∀ (r : Fin 16) (l : Fin 512), p (ix2 r l) = g ⟨k, hk⟩ r l) (hL : Strips g (k + 1) L) : Strips g k (⟨S16x512, p⟩ :: L)

/-- A strip of the list, by its place. -/
theorem Strips.at {g : Fin 64 → Fin 16 → Fin 512 → EReal} {k : ℕ} {L : List ((s : Shape) × (s.Idx → EReal))} (hL : Strips g k L) :
    ∀ (n : ℕ) (hn : n < L.length), ∃ p : S16x512.Idx → EReal, L[n] = ⟨S16x512, p⟩ ∧
      ∃ hk : k + n < 64, ∀ (r : Fin 16) (l : Fin 512), p (ix2 r l) = g ⟨k + n, hk⟩ r l := by
  induction hL with
  | nil k => intro n hn; exact absurd hn (by simp)
  | cons k p L hk hp hL ih =>
    intro n hn
    cases n with
    | zero => exact ⟨p, rfl, hk, hp⟩
    | succ n =>
      obtain ⟨q, hq, hk', h⟩ := ih n (by simpa using hn)
      refine ⟨q, by simpa using hq, by omega, fun r l => (h r l).trans ?_⟩
      exact congrArg (fun x => g x r l) (Fin.ext (by show k + 1 + n = k + (n + 1); omega))

/-- The rows above the strip `n`. -/
theorem Strips.above {g : Fin 64 → Fin 16 → Fin 512 → EReal} {k : ℕ} {L : List ((s : Shape) × (s.Idx → EReal))} (hL : Strips g k L) :
    ∀ n : ℕ, n ≤ L.length →
      (((L.take n).map (·.1)).map fun s => if h : s.rank = S1024x512.rank then s.size ((0 : Fin S1024x512.rank).cast h.symm) else 0).sum
        = 16 * n := by
  induction hL with
  | nil k => intro n hn; obtain rfl : n = 0 := by simpa using hn
             rfl
  | cons k p L hk hp hL ih =>
    intro n hn
    cases n with
    | zero => rfl
    | succ n =>
      have e := ih n (by simpa using hn)
      rw [List.take_succ_cons, List.map_cons, List.map_cons, List.sum_cons, e]
      show 16 + 16 * n = 16 * (n + 1)
      omega

/-- Strips set one under another, read at an entry. -/
theorem Strips.read {g : Fin 64 → Fin 16 → Fin 512 → EReal} {L : List ((s : Shape) × (s.Idx → EReal))} (hL : Strips g 0 L)
    (hlen : L.length = 64) (h : Shape.Concatenates (L.map (·.1)) S1024x512 0) (n : Fin 1024) (l : Fin 512) :
    concatenate S1024x512 0 L h (ix2 n l) = g ⟨n.val / 16, by omega⟩ ⟨n.val % 16, by omega⟩ l := by
  obtain ⟨p, hp, hk, e⟩ := hL.at (n.val / 16) (by omega)
  refine (concatenate_apply_piece 0 L h (ix2 n l) (n.val / 16) (by omega) S16x512 p hp rfl (16 * (n.val / 16))
    (hL.above _ (by omega)) (ix2 ⟨n.val % 16, by omega⟩ l) ?_ ?_).trans ((e _ _).trans ?_)
  · intro b hb
    fin_cases b
    · exact absurd rfl hb
    · rfl
  · show 16 * (n.val / 16) + n.val % 16 = n.val
    omega
  · exact congrArg (fun x => g x ⟨n.val % 16, by omega⟩ l) (Fin.ext (by show 0 + n.val / 16 = n.val / 16; omega))

/-- The gate of an expert at a token, over the heads: a head gives the product of its two halves' gates where the second half's rank is below
    the first half's count. -/
def gate (r2 e2 : Fin 8 → EReal) (c1 e1 : Fin 8 → EReal) : EReal :=
  ∑ h : Fin 8, Scalar.select (Ideal.cmp .olt (r2 h) (c1 h)) (e2 h * e1 h) 0

end Cert.PeerIdeal.Value

end
-- ==== Proof.PeerLoads.lean ====
/-
  Where a grid point finds the rows of its experts' counts and gates, and the weights its strips hold.
-/
module

public import proofs.«01_k».proof.Proof.PeerStrips

@[expose] public section

set_option maxRecDepth 65536

noncomputable section

namespace Cert.PeerIdeal.Value

open Cert.PeerIdeal Cert.PeerIdeal.Gen Idealize.ShloMosaic Idealize.ShloMosaic.TcCoe Idealize.SL.Sem
open Cert

/-- Where head 0's row for the group `n` of the grid point's experts is: the head. -/
theorem off_0_head (i : grid0.Coords) (n : ℕ) (hn : n < 8) : k0_off1 i (BitVec.ofNat 32 n) 0 = 0 :=
  congrFun (k0_off1_eq i ⟨n, hn⟩) 0

/-- The row. -/
theorem off_0_row (i : grid0.Coords) (n : ℕ) (hn : n < 8) : k0_off1 i (BitVec.ofNat 32 n) 1 = 8 * (i 1).val + n :=
  congrFun (k0_off1_eq i ⟨n, hn⟩) 1

/-- The token. -/
theorem off_0_token (i : grid0.Coords) (n : ℕ) (hn : n < 8) : k0_off1 i (BitVec.ofNat 32 n) 2 = 0 :=
  congrFun (k0_off1_eq i ⟨n, hn⟩) 2

/-- Where head 1's row for the group `n` of the grid point's experts is: the head. -/
theorem off_1_head (i : grid0.Coords) (n : ℕ) (hn : n < 8) : k0_off2 i (BitVec.ofNat 32 n) 0 = 1 :=
  congrFun (k0_off2_eq i ⟨n, hn⟩) 0

/-- The row. -/
theorem off_1_row (i : grid0.Coords) (n : ℕ) (hn : n < 8) : k0_off2 i (BitVec.ofNat 32 n) 1 = 8 * (i 1).val + n :=
  congrFun (k0_off2_eq i ⟨n, hn⟩) 1

/-- The token. -/
theorem off_1_token (i : grid0.Coords) (n : ℕ) (hn : n < 8) : k0_off2 i (BitVec.ofNat 32 n) 2 = 0 :=
  congrFun (k0_off2_eq i ⟨n, hn⟩) 2

/-- Where head 2's row for the group `n` of the grid point's experts is: the head. -/
theorem off_2_head (i : grid0.Coords) (n : ℕ) (hn : n < 8) : k0_off3 i (BitVec.ofNat 32 n) 0 = 2 :=
  congrFun (k0_off3_eq i ⟨n, hn⟩) 0

/-- The row. -/
theorem off_2_row (i : grid0.Coords) (n : ℕ) (hn : n < 8) : k0_off3 i (BitVec.ofNat 32 n) 1 = 8 * (i 1).val + n :=
  congrFun (k0_off3_eq i ⟨n, hn⟩) 1

/-- The token. -/
theorem off_2_token (i : grid0.Coords) (n : ℕ) (hn : n < 8) : k0_off3 i (BitVec.ofNat 32 n) 2 = 0 :=
  congrFun (k0_off3_eq i ⟨n, hn⟩) 2

/-- Where head 3's row for the group `n` of the grid point's experts is: the head. -/
theorem off_3_head (i : grid0.Coords) (n : ℕ) (hn : n < 8) : k0_off4 i (BitVec.ofNat 32 n) 0 = 3 :=
  congrFun (k0_off4_eq i ⟨n, hn⟩) 0

/-- The row. -/
theorem off_3_row (i : grid0.Coords) (n : ℕ) (hn : n < 8) : k0_off4 i (BitVec.ofNat 32 n) 1 = 8 * (i 1).val + n :=
  congrFun (k0_off4_eq i ⟨n, hn⟩) 1

/-- The token. -/
theorem off_3_token (i : grid0.Coords) (n : ℕ) (hn : n < 8) : k0_off4 i (BitVec.ofNat 32 n) 2 = 0 :=
  congrFun (k0_off4_eq i ⟨n, hn⟩) 2

/-- Where head 4's row for the group `n` of the grid point's experts is: the head. -/
theorem off_4_head (i : grid0.Coords) (n : ℕ) (hn : n < 8) : k0_off5 i (BitVec.ofNat 32 n) 0 = 4 :=
  congrFun (k0_off5_eq i ⟨n, hn⟩) 0

/-- The row. -/
theorem off_4_row (i : grid0.Coords) (n : ℕ) (hn : n < 8) : k0_off5 i (BitVec.ofNat 32 n) 1 = 8 * (i 1).val + n :=
  congrFun (k0_off5_eq i ⟨n, hn⟩) 1

/-- The token. -/
theorem off_4_token (i : grid0.Coords) (n : ℕ) (hn : n < 8) : k0_off5 i (BitVec.ofNat 32 n) 2 = 0 :=
  congrFun (k0_off5_eq i ⟨n, hn⟩) 2

/-- Where head 5's row for the group `n` of the grid point's experts is: the head. -/
theorem off_5_head (i : grid0.Coords) (n : ℕ) (hn : n < 8) : k0_off6 i (BitVec.ofNat 32 n) 0 = 5 :=
  congrFun (k0_off6_eq i ⟨n, hn⟩) 0

/-- The row. -/
theorem off_5_row (i : grid0.Coords) (n : ℕ) (hn : n < 8) : k0_off6 i (BitVec.ofNat 32 n) 1 = 8 * (i 1).val + n :=
  congrFun (k0_off6_eq i ⟨n, hn⟩) 1

/-- The token. -/
theorem off_5_token (i : grid0.Coords) (n : ℕ) (hn : n < 8) : k0_off6 i (BitVec.ofNat 32 n) 2 = 0 :=
  congrFun (k0_off6_eq i ⟨n, hn⟩) 2

/-- Where head 6's row for the group `n` of the grid point's experts is: the head. -/
theorem off_6_head (i : grid0.Coords) (n : ℕ) (hn : n < 8) : k0_off7 i (BitVec.ofNat 32 n) 0 = 6 :=
  congrFun (k0_off7_eq i ⟨n, hn⟩) 0

/-- The row. -/
theorem off_6_row (i : grid0.Coords) (n : ℕ) (hn : n < 8) : k0_off7 i (BitVec.ofNat 32 n) 1 = 8 * (i 1).val + n :=
  congrFun (k0_off7_eq i ⟨n, hn⟩) 1

/-- The token. -/
theorem off_6_token (i : grid0.Coords) (n : ℕ) (hn : n < 8) : k0_off7 i (BitVec.ofNat 32 n) 2 = 0 :=
  congrFun (k0_off7_eq i ⟨n, hn⟩) 2

/-- Where head 7's row for the group `n` of the grid point's experts is: the head. -/
theorem off_7_head (i : grid0.Coords) (n : ℕ) (hn : n < 8) : k0_off8 i (BitVec.ofNat 32 n) 0 = 7 :=
  congrFun (k0_off8_eq i ⟨n, hn⟩) 0

/-- The row. -/
theorem off_7_row (i : grid0.Coords) (n : ℕ) (hn : n < 8) : k0_off8 i (BitVec.ofNat 32 n) 1 = 8 * (i 1).val + n :=
  congrFun (k0_off8_eq i ⟨n, hn⟩) 1

/-- The token. -/
theorem off_7_token (i : grid0.Coords) (n : ℕ) (hn : n < 8) : k0_off8 i (BitVec.ofNat 32 n) 2 = 0 :=
  congrFun (k0_off8_eq i ⟨n, hn⟩) 2

/-- The strip `k` of a grid point's weights: the experts' activations times their gates. -/
def strip (act : FVec Ideal S1024x512 .bf16) (r2 e2 : FVec Ideal S8x128x512 .bf16) (c1 e1 : FVec Ideal S8x128x512 .f32) (i : grid0.Coords)
    (k : Fin 64) (r : Fin 16) (l : Fin 512) : EReal :=
  act (ix2 ⟨16 * k.val + r.val, by omega⟩ l)
    * gate (fun h => r2 (ix3 h ⟨16 * (k.val % 8) + r.val, by omega⟩ l)) (fun h => e2 (ix3 h ⟨16 * (k.val % 8) + r.val, by omega⟩ l))
      (fun h => c1 (ix3 h ⟨8 * (i 1).val + k.val / 8, by have : (i 1).val < 16 := (i 1).isLt; omega⟩ l))
      (fun h => e1 (ix3 h ⟨8 * (i 1).val + k.val / 8, by have : (i 1).val < 16 := (i 1).isLt; omega⟩ l))

/-- What a grid point stores, from what was there, its weights and its experts' output rows. -/
theorem stored (o : Vec Ideal S512x2048 .f32) (w : FVec Ideal S1024x512 .bf16) (v : Vec Ideal S1x1024x2048 .bf16) (r : Fin 512)
    (d : Fin 2048) :
    k0_pay1 (k0_pay865 o) (k0_pay866 w v) (ix2 r d) = o (ix2 r d) + ∑ n : Fin 1024, w (ix2 n r) * v (ix3 0 n d) := by
  pointwise [k0_pay1, k0_pay865, k0_pay866]

end Cert.PeerIdeal.Value

end
-- ==== Proof.PeerFirst.lean ====
/-
  What the first grid point over a token block stores: its experts' weighted sum.
-/
module

public import proofs.«01_k».proof.Proof.PeerLoads

@[expose] public section

set_option maxRecDepth 65536

noncomputable section

namespace Cert.PeerIdeal.Value

open Cert.PeerIdeal Cert.PeerIdeal.Gen Idealize.ShloMosaic Idealize.ShloMosaic.TcCoe Idealize.SL.Sem
open Cert

variable (m : (ℓ : Loc nD τ sig) → Buf (Elt Ideal) ℓ)

set_option maxHeartbeats 4000000 in
/-- What the first grid point over a token block stores: its experts' weighted sum. -/
theorem block_A (c : Dev nD) (t : Fin cfg0.N) (h0 : t.val % 16 = 0) (r : Fin 512) (d : Fin 2048) :
    outsAt0 m c t.val t.isLt (ix2 r d)
      = 0
        + ∑ n : Fin 1024, strip (k0_pay3 (iblk m c 1 t) (iblk m c 0 t)) (iblk m c 3 t) (iblk m c 4 t) (iblk m c 5 t) (iblk m c 6 t)
            (grid0.coords t) ⟨n.val / 16, by omega⟩ ⟨n.val % 16, by omega⟩ r * (iblk m c 2 t : Vec Ideal S1x1024x2048 .bf16) (ix3 0 n d) := by
  rw [outsAt0_A m c t h0]
  frame_out
  refine (stored _ _ _ r d).trans (congrArg₂ (· + ·) ?_ (Finset.sum_congr rfl fun n _ => congrArg (· * _) ?_))
  · pointwise [k0_pay2]
  unfold k0_pay864
  refine Strips.read (g := strip (k0_pay3 (iblk m c 1 t) (iblk m c 0 t)) (iblk m c 3 t) (iblk m c 4 t) (iblk m c 5 t) (iblk m c 6 t)
    (grid0.coords t)) ?_ rfl _ n r
  generalize k0_pay3 (iblk m c 1 t) (iblk m c 0 t) = act
  generalize (iblk m c 3 t : Vec Ideal S8x128x512 .bf16) = r2
  generalize (iblk m c 4 t : Vec Ideal S8x128x512 .bf16) = e2
  generalize (iblk m c 5 t : Vec Ideal S8x128x512 .f32) = c1
  generalize (iblk m c 6 t : Vec Ideal S8x128x512 .f32) = e1
  generalize grid0.coords t = i
  repeat' first | exact Strips.nil _ | refine Strips.cons _ _ _ (by omega) ?_ ?_
  all_goals
    intro r l
    unfold strip gate
    simp only [Nat.reduceAdd, Nat.reduceMul, Nat.reduceDiv, Nat.reduceMod, Fin.sum_univ_eight]
    pointwise [
      k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52, k0_pay53, k0_pay54, k0_pay55,
      k0_pay56, k0_pay57, k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102, k0_pay103, k0_pay104, k0_pay105, k0_pay106,
      k0_pay107, k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141, k0_pay142,
      k0_pay143, k0_pay144, k0_pay145, k0_pay146, k0_pay147, k0_pay148, k0_pay149, k0_pay150, k0_pay151, k0_pay152, k0_pay153, k0_pay154,
      k0_pay155, k0_pay156, k0_pay157, k0_pay158, k0_pay159, k0_pay160, k0_pay161, k0_pay162, k0_pay163, k0_pay164, k0_pay165, k0_pay166,
      k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190,
      k0_pay191, k0_pay192, k0_pay193, k0_pay194, k0_pay195, k0_pay196, k0_pay197, k0_pay198, k0_pay199, k0_pay200, k0_pay201, k0_pay202,
      k0_pay203, k0_pay204, k0_pay205, k0_pay206, k0_pay207, k0_pay208, k0_pay209, k0_pay210, k0_pay211, k0_pay212, k0_pay213, k0_pay214,
      k0_pay215, k0_pay216, k0_pay217, k0_pay218, k0_pay219, k0_pay220, k0_pay221, k0_pay222, k0_pay223, k0_pay224, k0_pay225, k0_pay226,
      k0_pay227, k0_pay228, k0_pay229, k0_pay230, k0_pay231, k0_pay232, k0_pay233, k0_pay234, k0_pay235, k0_pay236, k0_pay237, k0_pay238,
      k0_pay239, k0_pay240, k0_pay241, k0_pay242, k0_pay243, k0_pay244, k0_pay245, k0_pay246, k0_pay247, k0_pay248, k0_pay249, k0_pay250,
      k0_pay251, k0_pay252, k0_pay253, k0_pay254, k0_pay255, k0_pay256, k0_pay257, k0_pay258, k0_pay259, k0_pay260, k0_pay261, k0_pay262,
      k0_pay263, k0_pay264, k0_pay265, k0_pay266, k0_pay267, k0_pay268, k0_pay269, k0_pay270, k0_pay271, k0_pay272, k0_pay273, k0_pay274,
      k0_pay275, k0_pay276, k0_pay277, k0_pay278, k0_pay279, k0_pay280, k0_pay281, k0_pay282, k0_pay283, k0_pay284, k0_pay285, k0_pay286,
      k0_pay287, k0_pay288, k0_pay289, k0_pay290, k0_pay291, k0_pay292, k0_pay293, k0_pay294, k0_pay295, k0_pay296, k0_pay297, k0_pay298,
      k0_pay299, k0_pay300, k0_pay301, k0_pay302, k0_pay303, k0_pay304, k0_pay305, k0_pay306, k0_pay307, k0_pay308, k0_pay309, k0_pay310,
      k0_pay311, k0_pay312, k0_pay313, k0_pay314, k0_pay315, k0_pay316, k0_pay317, k0_pay318, k0_pay319, k0_pay320, k0_pay321, k0_pay322,
      k0_pay323, k0_pay324, k0_pay325, k0_pay326, k0_pay327, k0_pay328, k0_pay329, k0_pay330, k0_pay331, k0_pay332, k0_pay333, k0_pay334,
      k0_pay335, k0_pay336, k0_pay337, k0_pay338, k0_pay339, k0_pay340, k0_pay341, k0_pay342, k0_pay343, k0_pay344, k0_pay345, k0_pay346,
      k0_pay347, k0_pay348, k0_pay349, k0_pay350, k0_pay351, k0_pay352, k0_pay353, k0_pay354, k0_pay355, k0_pay356, k0_pay357, k0_pay358,
      k0_pay359, k0_pay360, k0_pay361, k0_pay362, k0_pay363, k0_pay364, k0_pay365, k0_pay366, k0_pay367, k0_pay368, k0_pay369, k0_pay370,
      k0_pay371, k0_pay372, k0_pay373, k0_pay374, k0_pay375, k0_pay376, k0_pay377, k0_pay378, k0_pay379, k0_pay380, k0_pay381, k0_pay382,
      k0_pay383, k0_pay384, k0_pay385, k0_pay386, k0_pay387, k0_pay388, k0_pay389, k0_pay390, k0_pay391, k0_pay392, k0_pay393, k0_pay394,
      k0_pay395, k0_pay396, k0_pay397, k0_pay398, k0_pay399, k0_pay400, k0_pay401, k0_pay402, k0_pay403, k0_pay404, k0_pay405, k0_pay406,
      k0_pay407, k0_pay408, k0_pay409, k0_pay410, k0_pay411, k0_pay412, k0_pay413, k0_pay414, k0_pay415, k0_pay416, k0_pay417, k0_pay418,
      k0_pay419, k0_pay420, k0_pay421, k0_pay422, k0_pay423, k0_pay424, k0_pay425, k0_pay426, k0_pay427, k0_pay428, k0_pay429, k0_pay430,
      k0_pay431, k0_pay432, k0_pay433, k0_pay434, k0_pay435, k0_pay436, k0_pay437, k0_pay438, k0_pay439, k0_pay440, k0_pay441, k0_pay442,
      k0_pay443, k0_pay444, k0_pay445, k0_pay446, k0_pay447, k0_pay448, k0_pay449, k0_pay450, k0_pay451, k0_pay452, k0_pay453, k0_pay454,
      k0_pay455, k0_pay456, k0_pay457, k0_pay458, k0_pay459, k0_pay460, k0_pay461, k0_pay462, k0_pay463, k0_pay464, k0_pay465, k0_pay466,
      k0_pay467, k0_pay468, k0_pay469, k0_pay470, k0_pay471, k0_pay472, k0_pay473, k0_pay474, k0_pay475, k0_pay476, k0_pay477, k0_pay478,
      k0_pay479, k0_pay480, k0_pay481, k0_pay482, k0_pay483, k0_pay484, k0_pay485, k0_pay486, k0_pay487, k0_pay488, k0_pay489, k0_pay490,
      k0_pay491, k0_pay492, k0_pay493, k0_pay494, k0_pay495, k0_pay496, k0_pay497, k0_pay498, k0_pay499, k0_pay500, k0_pay501, k0_pay502,
      k0_pay503, k0_pay504, k0_pay505, k0_pay506, k0_pay507, k0_pay508, k0_pay509, k0_pay510, k0_pay511, k0_pay512, k0_pay513, k0_pay514,
      k0_pay515, k0_pay516, k0_pay517, k0_pay518, k0_pay519, k0_pay520, k0_pay521, k0_pay522, k0_pay523, k0_pay524, k0_pay525, k0_pay526,
      k0_pay527, k0_pay528, k0_pay529, k0_pay530, k0_pay531, k0_pay532, k0_pay533, k0_pay534, k0_pay535, k0_pay536, k0_pay537, k0_pay538,
      k0_pay539, k0_pay540, k0_pay541, k0_pay542, k0_pay543, k0_pay544, k0_pay545, k0_pay546, k0_pay547, k0_pay548, k0_pay549, k0_pay550,
      k0_pay551, k0_pay552, k0_pay553, k0_pay554, k0_pay555, k0_pay556, k0_pay557, k0_pay558, k0_pay559, k0_pay560, k0_pay561, k0_pay562,
      k0_pay563, k0_pay564, k0_pay565, k0_pay566, k0_pay567, k0_pay568, k0_pay569, k0_pay570, k0_pay571, k0_pay572, k0_pay573, k0_pay574,
      k0_pay575, k0_pay576, k0_pay577, k0_pay578, k0_pay579, k0_pay580, k0_pay581, k0_pay582, k0_pay583, k0_pay584, k0_pay585, k0_pay586,
      k0_pay587, k0_pay588, k0_pay589, k0_pay590, k0_pay591, k0_pay592, k0_pay593, k0_pay594, k0_pay595, k0_pay596, k0_pay597, k0_pay598,
      k0_pay599, k0_pay600, k0_pay601, k0_pay602, k0_pay603, k0_pay604, k0_pay605, k0_pay606, k0_pay607, k0_pay608, k0_pay609, k0_pay610,
      k0_pay611, k0_pay612, k0_pay613, k0_pay614, k0_pay615, k0_pay616, k0_pay617, k0_pay618, k0_pay619, k0_pay620, k0_pay621, k0_pay622,
      k0_pay623, k0_pay624, k0_pay625, k0_pay626, k0_pay627, k0_pay628, k0_pay629, k0_pay630, k0_pay631, k0_pay632, k0_pay633, k0_pay634,
      k0_pay635, k0_pay636, k0_pay637, k0_pay638, k0_pay639, k0_pay640, k0_pay641, k0_pay642, k0_pay643, k0_pay644, k0_pay645, k0_pay646,
      k0_pay647, k0_pay648, k0_pay649, k0_pay650, k0_pay651, k0_pay652, k0_pay653, k0_pay654, k0_pay655, k0_pay656, k0_pay657, k0_pay658,
      k0_pay659, k0_pay660, k0_pay661, k0_pay662, k0_pay663, k0_pay664, k0_pay665, k0_pay666, k0_pay667, k0_pay668, k0_pay669, k0_pay670,
      k0_pay671, k0_pay672, k0_pay673, k0_pay674, k0_pay675, k0_pay676, k0_pay677, k0_pay678, k0_pay679, k0_pay680, k0_pay681, k0_pay682,
      k0_pay683, k0_pay684, k0_pay685, k0_pay686, k0_pay687, k0_pay688, k0_pay689, k0_pay690, k0_pay691, k0_pay692, k0_pay693, k0_pay694,
      k0_pay695, k0_pay696, k0_pay697, k0_pay698, k0_pay699, k0_pay700, k0_pay701, k0_pay702, k0_pay703, k0_pay704, k0_pay705, k0_pay706,
      k0_pay707, k0_pay708, k0_pay709, k0_pay710, k0_pay711, k0_pay712, k0_pay713, k0_pay714, k0_pay715, k0_pay716, k0_pay717, k0_pay718,
      k0_pay719, k0_pay720, k0_pay721, k0_pay722, k0_pay723, k0_pay724, k0_pay725, k0_pay726, k0_pay727, k0_pay728, k0_pay729, k0_pay730,
      k0_pay731, k0_pay732, k0_pay733, k0_pay734, k0_pay735, k0_pay736, k0_pay737, k0_pay738, k0_pay739, k0_pay740, k0_pay741, k0_pay742,
      k0_pay743, k0_pay744, k0_pay745, k0_pay746, k0_pay747, k0_pay748, k0_pay749, k0_pay750, k0_pay751, k0_pay752, k0_pay753, k0_pay754,
      k0_pay755, k0_pay756, k0_pay757, k0_pay758, k0_pay759, k0_pay760, k0_pay761, k0_pay762, k0_pay763, k0_pay764, k0_pay765, k0_pay766,
      k0_pay767, k0_pay768, k0_pay769, k0_pay770, k0_pay771, k0_pay772, k0_pay773, k0_pay774, k0_pay775, k0_pay776, k0_pay777, k0_pay778,
      k0_pay779, k0_pay780, k0_pay781, k0_pay782, k0_pay783, k0_pay784, k0_pay785, k0_pay786, k0_pay787, k0_pay788, k0_pay789, k0_pay790,
      k0_pay791, k0_pay792, k0_pay793, k0_pay794, k0_pay795, k0_pay796, k0_pay797, k0_pay798, k0_pay799, k0_pay800, k0_pay801, k0_pay802,
      k0_pay803, k0_pay804, k0_pay805, k0_pay806, k0_pay807, k0_pay808, k0_pay809, k0_pay810, k0_pay811, k0_pay812, k0_pay813, k0_pay814,
      k0_pay815, k0_pay816, k0_pay817, k0_pay818, k0_pay819, k0_pay820, k0_pay821, k0_pay822, k0_pay823, k0_pay824, k0_pay825, k0_pay826,
      k0_pay827, k0_pay828, k0_pay829, k0_pay830, k0_pay831, k0_pay832, k0_pay833, k0_pay834, k0_pay835, k0_pay836, k0_pay837, k0_pay838,
      k0_pay839, k0_pay840, k0_pay841, k0_pay842, k0_pay843, k0_pay844, k0_pay845, k0_pay846, k0_pay847, k0_pay848, k0_pay849, k0_pay850,
      k0_pay851, k0_pay852, k0_pay853, k0_pay854, k0_pay855, k0_pay856, k0_pay857, k0_pay858, k0_pay859, k0_pay860, k0_pay861, k0_pay862,
      k0_pay863]
    simp only [
      off_0_head, off_0_row, off_0_token, off_1_head, off_1_row, off_1_token, off_2_head, off_2_row, off_2_token, off_3_head, off_3_row,
      off_3_token, off_4_head, off_4_row, off_4_token, off_5_head, off_5_row, off_5_token, off_6_head, off_6_row, off_6_token, off_7_head,
      off_7_row, off_7_token, Nat.reduceLT, zero_add, add_zero, Fin.eta, Fin.zero_eta, Fin.mk_one, Fin.reduceFinMk, Fin.isValue]
    try rfl

end Cert.PeerIdeal.Value

end
-- ==== Proof.PeerLater.lean ====
/-
  What a later grid point over a token block stores: what was there plus its experts' weighted sum.
-/
module

public import proofs.«01_k».proof.Proof.PeerLoads

@[expose] public section

set_option maxRecDepth 65536

noncomputable section

namespace Cert.PeerIdeal.Value

open Cert.PeerIdeal Cert.PeerIdeal.Gen Idealize.ShloMosaic Idealize.ShloMosaic.TcCoe Idealize.SL.Sem
open Cert

variable (m : (ℓ : Loc nD τ sig) → Buf (Elt Ideal) ℓ)

set_option maxHeartbeats 4000000 in
/-- What a later grid point over a token block stores: what was there plus its experts' weighted sum. -/
theorem block_B (c : Dev nD) (t : Fin cfg0.N) (h0 : ¬t.val % 16 = 0) (r : Fin 512) (d : Fin 2048) :
    outsAt0 m c t.val t.isLt (ix2 r d)
      = outsAt0 m c (t.val - 1) (Nat.lt_of_le_of_lt (Nat.sub_le _ _) t.isLt) (ix2 r d)
        + ∑ n : Fin 1024, strip (k0_pay3 (iblk m c 1 t) (iblk m c 0 t)) (iblk m c 3 t) (iblk m c 4 t) (iblk m c 5 t) (iblk m c 6 t)
            (grid0.coords t) ⟨n.val / 16, by omega⟩ ⟨n.val % 16, by omega⟩ r * (iblk m c 2 t : Vec Ideal S1x1024x2048 .bf16) (ix3 0 n d) := by
  rw [outsAt0_B m c t h0]
  frame_out
  refine (stored _ _ _ r d).trans (congrArg₂ (· + ·) ?_ (Finset.sum_congr rfl fun n _ => congrArg (· * _) ?_))
  · rfl
  unfold k0_pay864
  refine Strips.read (g := strip (k0_pay3 (iblk m c 1 t) (iblk m c 0 t)) (iblk m c 3 t) (iblk m c 4 t) (iblk m c 5 t) (iblk m c 6 t)
    (grid0.coords t)) ?_ rfl _ n r
  generalize k0_pay3 (iblk m c 1 t) (iblk m c 0 t) = act
  generalize (iblk m c 3 t : Vec Ideal S8x128x512 .bf16) = r2
  generalize (iblk m c 4 t : Vec Ideal S8x128x512 .bf16) = e2
  generalize (iblk m c 5 t : Vec Ideal S8x128x512 .f32) = c1
  generalize (iblk m c 6 t : Vec Ideal S8x128x512 .f32) = e1
  generalize grid0.coords t = i
  repeat' first | exact Strips.nil _ | refine Strips.cons _ _ _ (by omega) ?_ ?_
  all_goals
    intro r l
    unfold strip gate
    simp only [Nat.reduceAdd, Nat.reduceMul, Nat.reduceDiv, Nat.reduceMod, Fin.sum_univ_eight]
    pointwise [
      k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52, k0_pay53, k0_pay54, k0_pay55,
      k0_pay56, k0_pay57, k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92, k0_pay93, k0_pay94,
      k0_pay95, k0_pay96, k0_pay97, k0_pay98, k0_pay99, k0_pay100, k0_pay101, k0_pay102, k0_pay103, k0_pay104, k0_pay105, k0_pay106,
      k0_pay107, k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140, k0_pay141, k0_pay142,
      k0_pay143, k0_pay144, k0_pay145, k0_pay146, k0_pay147, k0_pay148, k0_pay149, k0_pay150, k0_pay151, k0_pay152, k0_pay153, k0_pay154,
      k0_pay155, k0_pay156, k0_pay157, k0_pay158, k0_pay159, k0_pay160, k0_pay161, k0_pay162, k0_pay163, k0_pay164, k0_pay165, k0_pay166,
      k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190,
      k0_pay191, k0_pay192, k0_pay193, k0_pay194, k0_pay195, k0_pay196, k0_pay197, k0_pay198, k0_pay199, k0_pay200, k0_pay201, k0_pay202,
      k0_pay203, k0_pay204, k0_pay205, k0_pay206, k0_pay207, k0_pay208, k0_pay209, k0_pay210, k0_pay211, k0_pay212, k0_pay213, k0_pay214,
      k0_pay215, k0_pay216, k0_pay217, k0_pay218, k0_pay219, k0_pay220, k0_pay221, k0_pay222, k0_pay223, k0_pay224, k0_pay225, k0_pay226,
      k0_pay227, k0_pay228, k0_pay229, k0_pay230, k0_pay231, k0_pay232, k0_pay233, k0_pay234, k0_pay235, k0_pay236, k0_pay237, k0_pay238,
      k0_pay239, k0_pay240, k0_pay241, k0_pay242, k0_pay243, k0_pay244, k0_pay245, k0_pay246, k0_pay247, k0_pay248, k0_pay249, k0_pay250,
      k0_pay251, k0_pay252, k0_pay253, k0_pay254, k0_pay255, k0_pay256, k0_pay257, k0_pay258, k0_pay259, k0_pay260, k0_pay261, k0_pay262,
      k0_pay263, k0_pay264, k0_pay265, k0_pay266, k0_pay267, k0_pay268, k0_pay269, k0_pay270, k0_pay271, k0_pay272, k0_pay273, k0_pay274,
      k0_pay275, k0_pay276, k0_pay277, k0_pay278, k0_pay279, k0_pay280, k0_pay281, k0_pay282, k0_pay283, k0_pay284, k0_pay285, k0_pay286,
      k0_pay287, k0_pay288, k0_pay289, k0_pay290, k0_pay291, k0_pay292, k0_pay293, k0_pay294, k0_pay295, k0_pay296, k0_pay297, k0_pay298,
      k0_pay299, k0_pay300, k0_pay301, k0_pay302, k0_pay303, k0_pay304, k0_pay305, k0_pay306, k0_pay307, k0_pay308, k0_pay309, k0_pay310,
      k0_pay311, k0_pay312, k0_pay313, k0_pay314, k0_pay315, k0_pay316, k0_pay317, k0_pay318, k0_pay319, k0_pay320, k0_pay321, k0_pay322,
      k0_pay323, k0_pay324, k0_pay325, k0_pay326, k0_pay327, k0_pay328, k0_pay329, k0_pay330, k0_pay331, k0_pay332, k0_pay333, k0_pay334,
      k0_pay335, k0_pay336, k0_pay337, k0_pay338, k0_pay339, k0_pay340, k0_pay341, k0_pay342, k0_pay343, k0_pay344, k0_pay345, k0_pay346,
      k0_pay347, k0_pay348, k0_pay349, k0_pay350, k0_pay351, k0_pay352, k0_pay353, k0_pay354, k0_pay355, k0_pay356, k0_pay357, k0_pay358,
      k0_pay359, k0_pay360, k0_pay361, k0_pay362, k0_pay363, k0_pay364, k0_pay365, k0_pay366, k0_pay367, k0_pay368, k0_pay369, k0_pay370,
      k0_pay371, k0_pay372, k0_pay373, k0_pay374, k0_pay375, k0_pay376, k0_pay377, k0_pay378, k0_pay379, k0_pay380, k0_pay381, k0_pay382,
      k0_pay383, k0_pay384, k0_pay385, k0_pay386, k0_pay387, k0_pay388, k0_pay389, k0_pay390, k0_pay391, k0_pay392, k0_pay393, k0_pay394,
      k0_pay395, k0_pay396, k0_pay397, k0_pay398, k0_pay399, k0_pay400, k0_pay401, k0_pay402, k0_pay403, k0_pay404, k0_pay405, k0_pay406,
      k0_pay407, k0_pay408, k0_pay409, k0_pay410, k0_pay411, k0_pay412, k0_pay413, k0_pay414, k0_pay415, k0_pay416, k0_pay417, k0_pay418,
      k0_pay419, k0_pay420, k0_pay421, k0_pay422, k0_pay423, k0_pay424, k0_pay425, k0_pay426, k0_pay427, k0_pay428, k0_pay429, k0_pay430,
      k0_pay431, k0_pay432, k0_pay433, k0_pay434, k0_pay435, k0_pay436, k0_pay437, k0_pay438, k0_pay439, k0_pay440, k0_pay441, k0_pay442,
      k0_pay443, k0_pay444, k0_pay445, k0_pay446, k0_pay447, k0_pay448, k0_pay449, k0_pay450, k0_pay451, k0_pay452, k0_pay453, k0_pay454,
      k0_pay455, k0_pay456, k0_pay457, k0_pay458, k0_pay459, k0_pay460, k0_pay461, k0_pay462, k0_pay463, k0_pay464, k0_pay465, k0_pay466,
      k0_pay467, k0_pay468, k0_pay469, k0_pay470, k0_pay471, k0_pay472, k0_pay473, k0_pay474, k0_pay475, k0_pay476, k0_pay477, k0_pay478,
      k0_pay479, k0_pay480, k0_pay481, k0_pay482, k0_pay483, k0_pay484, k0_pay485, k0_pay486, k0_pay487, k0_pay488, k0_pay489, k0_pay490,
      k0_pay491, k0_pay492, k0_pay493, k0_pay494, k0_pay495, k0_pay496, k0_pay497, k0_pay498, k0_pay499, k0_pay500, k0_pay501, k0_pay502,
      k0_pay503, k0_pay504, k0_pay505, k0_pay506, k0_pay507, k0_pay508, k0_pay509, k0_pay510, k0_pay511, k0_pay512, k0_pay513, k0_pay514,
      k0_pay515, k0_pay516, k0_pay517, k0_pay518, k0_pay519, k0_pay520, k0_pay521, k0_pay522, k0_pay523, k0_pay524, k0_pay525, k0_pay526,
      k0_pay527, k0_pay528, k0_pay529, k0_pay530, k0_pay531, k0_pay532, k0_pay533, k0_pay534, k0_pay535, k0_pay536, k0_pay537, k0_pay538,
      k0_pay539, k0_pay540, k0_pay541, k0_pay542, k0_pay543, k0_pay544, k0_pay545, k0_pay546, k0_pay547, k0_pay548, k0_pay549, k0_pay550,
      k0_pay551, k0_pay552, k0_pay553, k0_pay554, k0_pay555, k0_pay556, k0_pay557, k0_pay558, k0_pay559, k0_pay560, k0_pay561, k0_pay562,
      k0_pay563, k0_pay564, k0_pay565, k0_pay566, k0_pay567, k0_pay568, k0_pay569, k0_pay570, k0_pay571, k0_pay572, k0_pay573, k0_pay574,
      k0_pay575, k0_pay576, k0_pay577, k0_pay578, k0_pay579, k0_pay580, k0_pay581, k0_pay582, k0_pay583, k0_pay584, k0_pay585, k0_pay586,
      k0_pay587, k0_pay588, k0_pay589, k0_pay590, k0_pay591, k0_pay592, k0_pay593, k0_pay594, k0_pay595, k0_pay596, k0_pay597, k0_pay598,
      k0_pay599, k0_pay600, k0_pay601, k0_pay602, k0_pay603, k0_pay604, k0_pay605, k0_pay606, k0_pay607, k0_pay608, k0_pay609, k0_pay610,
      k0_pay611, k0_pay612, k0_pay613, k0_pay614, k0_pay615, k0_pay616, k0_pay617, k0_pay618, k0_pay619, k0_pay620, k0_pay621, k0_pay622,
      k0_pay623, k0_pay624, k0_pay625, k0_pay626, k0_pay627, k0_pay628, k0_pay629, k0_pay630, k0_pay631, k0_pay632, k0_pay633, k0_pay634,
      k0_pay635, k0_pay636, k0_pay637, k0_pay638, k0_pay639, k0_pay640, k0_pay641, k0_pay642, k0_pay643, k0_pay644, k0_pay645, k0_pay646,
      k0_pay647, k0_pay648, k0_pay649, k0_pay650, k0_pay651, k0_pay652, k0_pay653, k0_pay654, k0_pay655, k0_pay656, k0_pay657, k0_pay658,
      k0_pay659, k0_pay660, k0_pay661, k0_pay662, k0_pay663, k0_pay664, k0_pay665, k0_pay666, k0_pay667, k0_pay668, k0_pay669, k0_pay670,
      k0_pay671, k0_pay672, k0_pay673, k0_pay674, k0_pay675, k0_pay676, k0_pay677, k0_pay678, k0_pay679, k0_pay680, k0_pay681, k0_pay682,
      k0_pay683, k0_pay684, k0_pay685, k0_pay686, k0_pay687, k0_pay688, k0_pay689, k0_pay690, k0_pay691, k0_pay692, k0_pay693, k0_pay694,
      k0_pay695, k0_pay696, k0_pay697, k0_pay698, k0_pay699, k0_pay700, k0_pay701, k0_pay702, k0_pay703, k0_pay704, k0_pay705, k0_pay706,
      k0_pay707, k0_pay708, k0_pay709, k0_pay710, k0_pay711, k0_pay712, k0_pay713, k0_pay714, k0_pay715, k0_pay716, k0_pay717, k0_pay718,
      k0_pay719, k0_pay720, k0_pay721, k0_pay722, k0_pay723, k0_pay724, k0_pay725, k0_pay726, k0_pay727, k0_pay728, k0_pay729, k0_pay730,
      k0_pay731, k0_pay732, k0_pay733, k0_pay734, k0_pay735, k0_pay736, k0_pay737, k0_pay738, k0_pay739, k0_pay740, k0_pay741, k0_pay742,
      k0_pay743, k0_pay744, k0_pay745, k0_pay746, k0_pay747, k0_pay748, k0_pay749, k0_pay750, k0_pay751, k0_pay752, k0_pay753, k0_pay754,
      k0_pay755, k0_pay756, k0_pay757, k0_pay758, k0_pay759, k0_pay760, k0_pay761, k0_pay762, k0_pay763, k0_pay764, k0_pay765, k0_pay766,
      k0_pay767, k0_pay768, k0_pay769, k0_pay770, k0_pay771, k0_pay772, k0_pay773, k0_pay774, k0_pay775, k0_pay776, k0_pay777, k0_pay778,
      k0_pay779, k0_pay780, k0_pay781, k0_pay782, k0_pay783, k0_pay784, k0_pay785, k0_pay786, k0_pay787, k0_pay788, k0_pay789, k0_pay790,
      k0_pay791, k0_pay792, k0_pay793, k0_pay794, k0_pay795, k0_pay796, k0_pay797, k0_pay798, k0_pay799, k0_pay800, k0_pay801, k0_pay802,
      k0_pay803, k0_pay804, k0_pay805, k0_pay806, k0_pay807, k0_pay808, k0_pay809, k0_pay810, k0_pay811, k0_pay812, k0_pay813, k0_pay814,
      k0_pay815, k0_pay816, k0_pay817, k0_pay818, k0_pay819, k0_pay820, k0_pay821, k0_pay822, k0_pay823, k0_pay824, k0_pay825, k0_pay826,
      k0_pay827, k0_pay828, k0_pay829, k0_pay830, k0_pay831, k0_pay832, k0_pay833, k0_pay834, k0_pay835, k0_pay836, k0_pay837, k0_pay838,
      k0_pay839, k0_pay840, k0_pay841, k0_pay842, k0_pay843, k0_pay844, k0_pay845, k0_pay846, k0_pay847, k0_pay848, k0_pay849, k0_pay850,
      k0_pay851, k0_pay852, k0_pay853, k0_pay854, k0_pay855, k0_pay856, k0_pay857, k0_pay858, k0_pay859, k0_pay860, k0_pay861, k0_pay862,
      k0_pay863]
    simp only [
      off_0_head, off_0_row, off_0_token, off_1_head, off_1_row, off_1_token, off_2_head, off_2_row, off_2_token, off_3_head, off_3_row,
      off_3_token, off_4_head, off_4_row, off_4_token, off_5_head, off_5_row, off_5_token, off_6_head, off_6_row, off_6_token, off_7_head,
      off_7_row, off_7_token, Nat.reduceLT, zero_add, add_zero, Fin.eta, Fin.zero_eta, Fin.mk_one, Fin.reduceFinMk, Fin.isValue]
    try rfl

end Cert.PeerIdeal.Value

end
-- ==== Proof.PeerValue.lean ====
/-
  What the experts' call leaves in its result array: each token's weighted sum of all experts.
-/
module

public import proofs.«01_k».proof.Proof.PeerFirst
public import proofs.«01_k».proof.Proof.PeerLater

@[expose] public section

set_option maxRecDepth 16384

noncomputable section

namespace Cert.PeerIdeal.Value

open Cert.PeerIdeal Cert.PeerIdeal.Gen Idealize.ShloMosaic Idealize.ShloMosaic.TcCoe Idealize.SL.Sem
open Cert

/-- The experts' activation of `a`: half of it, plus that half times the hyperbolic tangent of its cubic. -/
def gelu (a : EReal) : EReal :=
  Ideal.ofBits .f32 0x3F000000#32 * a
    + Ideal.ofBits .f32 0x3F000000#32 * a
      * Ideal.tanh (a * (Ideal.ofBits .f32 0x3F4C422A#32 + Ideal.ofBits .f32 0x3D122279#32 * (a * a)))

/-- What reaches the expert `n` from the token `q`: the product of the expert's input weights and the token's normed row. -/
def reach (x : FVec Ideal S8192x2048 .bf16) (u : FVec Ideal S2x16384x2048 .bf16) (q : Fin 8192) (n : Fin 16384) : EReal :=
  ∑ k : Fin 2048, u (ix3 1 n k) * x (ix2 q k)

/-- The expert's gate at the token: of the expert `128 * i + j`, the heads' ranks and gates are those of `j`, their counts and gates those
    of `i`. -/
def gateOf (r2 e2 : FVec Ideal S8x128x8192 .bf16) (c1 e1 : FVec Ideal S8x128x8192 .f32) (q : Fin 8192) (n : Fin 16384) : EReal :=
  gate (fun h => r2 (ix3 h ⟨n.val % 128, by omega⟩ q)) (fun h => e2 (ix3 h ⟨n.val % 128, by omega⟩ q))
    (fun h => c1 (ix3 h ⟨n.val / 128, by omega⟩ q)) (fun h => e1 (ix3 h ⟨n.val / 128, by omega⟩ q))

/-- What the expert adds to a token's lane: its activation, times its gate, times its output weight. -/
def expert (x : FVec Ideal S8192x2048 .bf16) (u v : FVec Ideal S2x16384x2048 .bf16) (r2 e2 : FVec Ideal S8x128x8192 .bf16)
    (c1 e1 : FVec Ideal S8x128x8192 .f32) (q : Fin 8192) (d : Fin 2048) (n : Fin 16384) : EReal :=
  gelu (reach x u q n) * gateOf r2 e2 c1 e1 q n * v (ix3 1 n d)

/-- The result: every expert's addition, summed. -/
def result (x : FVec Ideal S8192x2048 .bf16) (u v : FVec Ideal S2x16384x2048 .bf16) (r2 e2 : FVec Ideal S8x128x8192 .bf16)
    (c1 e1 : FVec Ideal S8x128x8192 .f32) : FVec Ideal S8192x2048 .f32 := fun i =>
  ∑ n : Fin 16384, expert x u v r2 e2 c1 e1 (i 0) (i 1) n

/-- The activations a grid point computes. -/
theorem act_block (u : Vec Ideal S1x1024x2048 .bf16) (x : Vec Ideal S512x2048 .bf16) (n : Fin 1024) (r : Fin 512) :
    k0_pay3 u x (ix2 n r) = gelu (∑ k : Fin 2048, u (ix3 0 n k) * x (ix2 r k)) := by
  unfold gelu
  pointwise [k0_pay3]

/-- Each window's block index at a grid point. -/
theorem idx : ∀ t : Fin cfg0.N,
    win0_0.index t = ![(grid0.coords t 0).val, 0]
      ∧ win0_1.index t = ![1, (grid0.coords t 1).val, 0]
      ∧ win0_2.index t = ![1, (grid0.coords t 1).val, 0]
      ∧ win0_3.index t = ![0, 0, (grid0.coords t 0).val]
      ∧ win0_4.index t = ![0, 0, (grid0.coords t 0).val]
      ∧ win0_5.index t = ![0, 0, (grid0.coords t 0).val]
      ∧ win0_6.index t = ![0, 0, (grid0.coords t 0).val]
      ∧ win0_7.index t = ![(grid0.coords t 0).val, 0] :=
  (by decide +kernel : ∀ t : Fin grid0.N, _)

/-- A grid point's token block and its group of experts. -/
theorem coords_at : ∀ t : Fin cfg0.N, (grid0.coords t 0).val = t.val / 16 ∧ (grid0.coords t 1).val = t.val % 16 :=
  (by decide +kernel : ∀ t : Fin grid0.N, _)

variable (m : (ℓ : Loc nD τ sig) → Buf (Elt Ideal) ℓ)

/-- The normed rows. -/
abbrev X (c : Dev nD) : FVec Ideal S8192x2048 .bf16 := m ((c : Thread nD τ).loc main_arg0)
/-- Both layers' input weights of the experts. -/
abbrev U (c : Dev nD) : FVec Ideal S2x16384x2048 .bf16 := m ((c : Thread nD τ).loc main_arg1)
/-- Both layers' output weights of the experts. -/
abbrev W (c : Dev nD) : FVec Ideal S2x16384x2048 .bf16 := m ((c : Thread nD τ).loc main_arg2)
/-- The heads' ranks of the second half. -/
abbrev R2 (c : Dev nD) : FVec Ideal S8x128x8192 .bf16 := m ((c : Thread nD τ).loc main_arg3)
/-- The heads' gates of the second half. -/
abbrev E2 (c : Dev nD) : FVec Ideal S8x128x8192 .bf16 := m ((c : Thread nD τ).loc main_arg4)
/-- The heads' counts of the first half. -/
abbrev C1 (c : Dev nD) : FVec Ideal S8x128x8192 .f32 := m ((c : Thread nD τ).loc main_arg5)
/-- The heads' gates of the first half. -/
abbrev E1 (c : Dev nD) : FVec Ideal S8x128x8192 .f32 := m ((c : Thread nD τ).loc main_arg6)

/-- The normed rows a grid point loads. -/
theorem blk_x (c : Dev nD) (t : Fin cfg0.N) (r : Fin 512) (k : Fin 2048) (hr) :
    (iblk m c 0 t : Vec Ideal S512x2048 .bf16) (ix2 r k) = X m c (ix2 ⟨512 * (grid0.coords t 0).val + r.val, hr⟩ k) := by
  blk_ext [iblk, V, idx t]

/-- The input weights a grid point loads. -/
theorem blk_u (c : Dev nD) (t : Fin cfg0.N) (n : Fin 1024) (k : Fin 2048) (hn) :
    (iblk m c 1 t : Vec Ideal S1x1024x2048 .bf16) (ix3 0 n k) = U m c (ix3 1 ⟨1024 * (grid0.coords t 1).val + n.val, hn⟩ k) := by
  blk_ext [iblk, V, idx t]

/-- The output weights a grid point loads. -/
theorem blk_w (c : Dev nD) (t : Fin cfg0.N) (n : Fin 1024) (k : Fin 2048) (hn) :
    (iblk m c 2 t : Vec Ideal S1x1024x2048 .bf16) (ix3 0 n k) = W m c (ix3 1 ⟨1024 * (grid0.coords t 1).val + n.val, hn⟩ k) := by
  blk_ext [iblk, V, idx t]

/-- The ranks a grid point loads. -/
theorem blk_r2 (c : Dev nD) (t : Fin cfg0.N) (h : Fin 8) (j : Fin 128) (l : Fin 512) (hl) :
    (iblk m c 3 t : Vec Ideal S8x128x512 .bf16) (ix3 h j l) = R2 m c (ix3 h j ⟨512 * (grid0.coords t 0).val + l.val, hl⟩) := by
  blk_ext [iblk, V, idx t]

/-- The second half's gates a grid point loads. -/
theorem blk_e2 (c : Dev nD) (t : Fin cfg0.N) (h : Fin 8) (j : Fin 128) (l : Fin 512) (hl) :
    (iblk m c 4 t : Vec Ideal S8x128x512 .bf16) (ix3 h j l) = E2 m c (ix3 h j ⟨512 * (grid0.coords t 0).val + l.val, hl⟩) := by
  blk_ext [iblk, V, idx t]

/-- The counts a grid point loads. -/
theorem blk_c1 (c : Dev nD) (t : Fin cfg0.N) (h : Fin 8) (j : Fin 128) (l : Fin 512) (hl) :
    (iblk m c 5 t : Vec Ideal S8x128x512 .f32) (ix3 h j l) = C1 m c (ix3 h j ⟨512 * (grid0.coords t 0).val + l.val, hl⟩) := by
  blk_ext [iblk, V, idx t]

/-- The first half's gates a grid point loads. -/
theorem blk_e1 (c : Dev nD) (t : Fin cfg0.N) (h : Fin 8) (j : Fin 128) (l : Fin 512) (hl) :
    (iblk m c 6 t : Vec Ideal S8x128x512 .f32) (ix3 h j l) = E1 m c (ix3 h j ⟨512 * (grid0.coords t 0).val + l.val, hl⟩) := by
  blk_ext [iblk, V, idx t]

/-- What the expert `n` adds, for any number `n`: nothing when there is no such expert. -/
def add (c : Dev nD) (q : Fin 8192) (d : Fin 2048) (n : ℕ) : EReal :=
  if h : n < 16384 then expert (X m c) (U m c) (W m c) (R2 m c) (E2 m c) (C1 m c) (E1 m c) q d ⟨n, h⟩ else 0

/-- One expert's place in a grid point's sum. -/
theorem add_block (c : Dev nD) (t : Fin cfg0.N) (r : Fin 512) (d : Fin 2048) (n : Fin 1024) (hr) :
    strip (k0_pay3 (iblk m c 1 t) (iblk m c 0 t)) (iblk m c 3 t) (iblk m c 4 t) (iblk m c 5 t) (iblk m c 6 t)
        (grid0.coords t) ⟨n.val / 16, by omega⟩ ⟨n.val % 16, by omega⟩ r * (iblk m c 2 t : Vec Ideal S1x1024x2048 .bf16) (ix3 0 n d)
      = add m c ⟨512 * (grid0.coords t 0).val + r.val, hr⟩ d (1024 * (grid0.coords t 1).val + n.val) := by
  have ht : (grid0.coords t 1).val < 16 := (grid0.coords t 1).isLt
  have hn : 1024 * (grid0.coords t 1).val + n.val < 16384 := by omega
  have en : (⟨16 * (n.val / 16) + n.val % 16, by omega⟩ : Fin 1024) = n := Fin.ext (Nat.div_add_mod _ _)
  have hj : 16 * (n.val / 16 % 8) + n.val % 16 = (1024 * (grid0.coords t 1).val + n.val) % 128 := by omega
  have hi : 8 * (grid0.coords t 1).val + n.val / 16 / 8 = (1024 * (grid0.coords t 1).val + n.val) / 128 := by omega
  have ej : (⟨16 * (n.val / 16 % 8) + n.val % 16, by omega⟩ : Fin 128)
      = ⟨(1024 * (grid0.coords t 1).val + n.val) % 128, by omega⟩ := Fin.ext hj
  have ei : (⟨8 * (grid0.coords t 1).val + n.val / 16 / 8, by omega⟩ : Fin 128)
      = ⟨(1024 * (grid0.coords t 1).val + n.val) / 128, by omega⟩ := Fin.ext hi
  unfold add expert gateOf reach
  rw [dif_pos hn, blk_w m c t n d hn]
  refine congrArg (· * _) ?_
  unfold strip
  refine congrArg₂ (· * ·) ?_ ?_
  · refine (congrArg (fun x => k0_pay3 (iblk m c 1 t) (iblk m c 0 t) (ix2 x r)) en).trans ((act_block _ _ n r).trans (congrArg gelu ?_))
    refine Finset.sum_congr rfl fun k _ => ?_
    rw [blk_u m c t n k hn, blk_x m c t r k hr]
  · refine Eq.trans (congrArg₂ (fun a b => gate
      (fun h => (iblk m c 3 t : Vec Ideal S8x128x512 .bf16) (ix3 h a r)) (fun h => (iblk m c 4 t : Vec Ideal S8x128x512 .bf16) (ix3 h a r))
      (fun h => (iblk m c 5 t : Vec Ideal S8x128x512 .f32) (ix3 h b r)) (fun h => (iblk m c 6 t : Vec Ideal S8x128x512 .f32) (ix3 h b r)))
      ej ei) ?_
    simp only [blk_r2 m c t _ _ r hr, blk_e2 m c t _ _ r hr, blk_c1 m c t _ _ r hr, blk_e1 m c t _ _ r hr]

/-- After the grid point `t` an entry of the block holds the sum over the experts up to and with its group. -/
theorem upto (c : Dev nD) : ∀ (n : ℕ) (hn : n < cfg0.N) (r : Fin 512) (d : Fin 2048) (hr),
    outsAt0 m c n hn (ix2 r d) = ∑ k ∈ Finset.range (1024 * (n % 16 + 1)), add m c ⟨512 * (n / 16) + r.val, hr⟩ d k := by
  intro n
  induction n using Nat.strong_induction_on with
  | _ n ih =>
  intro hn r d hr
  obtain ⟨e0, e1⟩ := coords_at ⟨n, hn⟩
  have hr' : 512 * (grid0.coords ⟨n, hn⟩ 0).val + r.val < 8192 := by rw [e0]; exact hr
  have hq : (⟨512 * (grid0.coords ⟨n, hn⟩ 0).val + r.val, hr'⟩ : Fin 8192) = ⟨512 * (n / 16) + r.val, hr⟩ := Fin.ext (by
    show 512 * (grid0.coords ⟨n, hn⟩ 0).val + r.val = 512 * (n / 16) + r.val
    rw [e0])
  have es : (∑ k : Fin 1024, strip (k0_pay3 (iblk m c 1 ⟨n, hn⟩) (iblk m c 0 ⟨n, hn⟩)) (iblk m c 3 ⟨n, hn⟩) (iblk m c 4 ⟨n, hn⟩)
        (iblk m c 5 ⟨n, hn⟩) (iblk m c 6 ⟨n, hn⟩) (grid0.coords ⟨n, hn⟩) ⟨k.val / 16, by omega⟩ ⟨k.val % 16, by omega⟩ r
          * (iblk m c 2 ⟨n, hn⟩ : Vec Ideal S1x1024x2048 .bf16) (ix3 0 k d))
      = ∑ k : Fin 1024, add m c ⟨512 * (n / 16) + r.val, hr⟩ d (1024 * (n % 16) + k.val) := by
    refine Finset.sum_congr rfl fun k _ => (add_block m c ⟨n, hn⟩ r d k hr').trans ?_
    rw [hq, e1]
  have hs : ∀ f : ℕ → EReal, ∀ a : ℕ, ∑ k ∈ Finset.range (1024 * (a + 1)), f k
      = ∑ k ∈ Finset.range (1024 * a), f k + ∑ k : Fin 1024, f (1024 * a + k.val) := by
    intro f a
    rw [Nat.mul_succ, Finset.sum_range_add, Finset.sum_range (n := 1024)]
  rw [hs]
  by_cases h0 : n % 16 = 0
  · refine (block_A m c ⟨n, hn⟩ h0 r d).trans (congrArg₂ (· + ·) ?_ es)
    rw [h0]
    simp
  · refine (block_B m c ⟨n, hn⟩ h0 r d).trans (congrArg₂ (· + ·) ?_ es)
    have hd : (n - 1) / 16 = n / 16 := by omega
    have hm : (n - 1) % 16 + 1 = n % 16 := by omega
    refine (ih (n - 1) (by omega) _ r d (by rw [hd]; exact hr)).trans ?_
    rw [hm]
    refine Finset.sum_congr rfl fun k _ => congrArg (fun q => add m c q d k) (Fin.ext ?_)
    show 512 * ((n - 1) / 16) + r.val = 512 * (n / 16) + r.val
    rw [hd]

/-- The write-backs are those of the last group of experts. -/
theorem flush_last : ∀ t : Fin cfg0.N, win0_7.flush t = true → t.val % 16 = 15 :=
  (by decide +kernel : ∀ t : Fin grid0.N, _)

/-- THE KERNEL'S RESULT ARRAY is the experts' weighted sum. -/
theorem final (c : Dev nD) :
    (dats m 0 c).arrAt 7 cfg0.N = result (X m c) (U m c) (W m c) (R2 m c) (E2 m c) (C1 m c) (E1 m c) := by
  refine (dats m 0 c).arrAt_eq_of_covers 7 _ (by decide +kernel) fun t hf y => ?_
  blk_simp
  rw [after0_7]
  idx_vars y
  have h15 := flush_last t hf
  obtain ⟨e0, e1⟩ := coords_at t
  have ht : t.val < 256 := t.isLt
  have hr : 512 * (t.val / 16) + y0.val < 8192 := by omega
  have e : ((View.whole main_v0).slice (win0_7.rect t)).emb (ix2 y0 y1)
      = (ix2 ⟨512 * (t.val / 16) + y0.val, hr⟩ y1 : S8192x2048.Idx) := by
    blk_ext [idx t, e0]
  rw [e]
  refine (upto m c t.val t.isLt y0 y1 hr).trans ?_
  rw [h15, Finset.sum_range]
  unfold result
  refine Finset.sum_congr rfl fun n _ => ?_
  exact dif_pos n.isLt

end Cert.PeerIdeal.Value

end
-- ==== Proof.PeerRef.lean ====
/-
  What the reference of the experts' call computes: the same weighted sum, its activation written out.
-/
module

public import proofs.«01_k».proof.Proof.PeerValue
public import proofs.«01_k».proof.Proof.Gen.PeerRefIdeal.Read

@[expose] public section

set_option maxRecDepth 16384

noncomputable section

namespace Cert.PeerRefIdeal.Read

open Cert.PeerRefIdeal Cert.PeerRefIdeal.Gen Idealize.ShloMosaic Idealize.ShloMosaic.TcCoe Idealize.SL.Sem
open Cert
open Cert.PeerIdeal.Value (gelu gate gateOf reach expert result)

variable (x : FVec Ideal S8192x2048 .bf16) (u v : FVec Ideal S2x16384x2048 .bf16) (r2 e2 : FVec Ideal S8x128x8192 .bf16)
  (c1 e1 : FVec Ideal S8x128x8192 .f32)

/-- The reference's activation: half of `a` times one plus the hyperbolic tangent of its cubic. -/
def act (a : EReal) : EReal :=
  Ideal.ofBits .f32 0x3F000000#32 * a
    * (Ideal.ofBits .f32 0x3F800000#32
      + Ideal.tanh (Ideal.ofBits .f32 0x3F4C422A#32 * a + Ideal.ofBits .f32 0x3D122279#32 * (a * a * a)))

/-- What reaches the experts. -/
theorem reach_at (q : Fin 8192) (n : Fin 16384) : val_main_v5 (F := Ideal) x u (ix2 q n) = reach x u q n := by
  have e : val_main_v5 (F := Ideal) x u (ix2 q n) = ∑ k : Fin 2048, x (ix2 q k) * u (ix3 1 n k) := by
    pointwise [val_main_v5, val_main_v4, val_main_v3, val_main_v2, val_main_v1, val_main_v0]
  rw [e]
  exact Finset.sum_congr rfl fun k _ => mul_comm _ _

/-- The activations. -/
theorem act_at (q : Fin 8192) (n : Fin 16384) : val_main_v18 (F := Ideal) x u (ix2 q n) = act (reach x u q n) := by
  rw [← reach_at]
  unfold act
  pointwise [val_main_v18, val_main_v17, val_main_v16, val_main_cst_2, val_main_v15, val_main_v14, val_main_v13, val_main_v12,
    val_main_cst_1, val_main_v11, val_main_v10, val_main_v9, val_main_v8, val_main_cst_0, val_main_v7, val_main_v6, val_main_cst]

/-- A head's gate where its second half's rank is below its first half's count. -/
theorem head_at (h : Fin 8) (i j : Fin 128) (q : Fin 8192) :
    val_main_v31 (F := Ideal) r2 e2 c1 e1 (ix4 h i j q)
      = Scalar.select (Ideal.cmp .olt (r2 (ix3 h j q)) (c1 (ix3 h i q))) (e2 (ix3 h j q) * e1 (ix3 h i q)) 0 := by
  pointwise [val_main_v31, val_main_call0_v1, val_main_call0_v0, val_main_cst_3, val_main_v30, val_main_v29, val_main_v28, val_main_v27,
    val_main_v26, val_main_v25, val_main_v24, val_main_v23, val_main_v22, val_main_v21, val_main_v20, val_main_v19]
  exact if_congr Iff.rfl rfl Ideal.ofBits_zero_f32

/-- The experts' gates. -/
theorem gate_at (q : Fin 8192) (n : Fin 16384) :
    val_main_v34 (F := Ideal) r2 e2 c1 e1 (ix2 q n) = gateOf r2 e2 c1 e1 q n := by
  have e : val_main_v34 (F := Ideal) r2 e2 c1 e1 (ix2 q n)
      = ∑ h : Fin 8, val_main_v31 (F := Ideal) r2 e2 c1 e1 (ix4 h ⟨n.val / 128, by omega⟩ ⟨n.val % 128, by omega⟩ q) := by
    pointwise [val_main_v34, val_main_v33, val_main_v32, val_main_cst_4]
  rw [e]
  unfold gateOf gate
  exact Finset.sum_congr rfl fun h _ => head_at r2 e2 c1 e1 h _ _ q

/-- On a real the two activations agree. -/
theorem act_eq (r : ℝ) : act (r : EReal) = gelu (r : EReal) := by
  obtain ⟨h, eh⟩ : ∃ s : ℝ, Ideal.ofBits .f32 0x3F000000#32 = (s : EReal) := by
    simp only [Ideal.ofBits, Ideal.ieee]
    rw [if_neg (by decide), if_neg (by decide)]
    exact ⟨_, rfl⟩
  obtain ⟨c, ec⟩ : ∃ s : ℝ, Ideal.ofBits .f32 0x3F4C422A#32 = (s : EReal) := by
    simp only [Ideal.ofBits, Ideal.ieee]
    rw [if_neg (by decide), if_neg (by decide)]
    exact ⟨_, rfl⟩
  obtain ⟨k, ek⟩ : ∃ s : ℝ, Ideal.ofBits .f32 0x3D122279#32 = (s : EReal) := by
    simp only [Ideal.ofBits, Ideal.ieee]
    rw [if_neg (by decide), if_neg (by decide)]
    exact ⟨_, rfl⟩
  unfold act gelu
  rw [eh, ec, ek, Ideal.ofBits_one_f32]
  have e : (c : EReal) * r + k * (r * r * r) = ((c * r + k * (r * r * r) : ℝ) : EReal) := by
    simp only [EReal.coe_add, EReal.coe_mul]
  have e' : (r : EReal) * (c + k * (r * r)) = ((c * r + k * (r * r * r) : ℝ) : EReal) := by
    have : c * r + k * (r * r * r) = r * (c + k * (r * r)) := by ring
    rw [this]
    simp only [EReal.coe_add, EReal.coe_mul]
  rw [e, e']
  obtain ⟨z, ez⟩ : ∃ z : ℝ, Ideal.tanh ((c * r + k * (r * r * r) : ℝ) : EReal) = (z : EReal) := ⟨_, rfl⟩
  rw [ez]
  have : h * r * (1 + z) = h * r + h * r * z := by ring
  have e1 := congrArg (fun y : ℝ => (y : EReal)) this
  simpa only [EReal.coe_add, EReal.coe_mul, EReal.coe_one] using e1

/-- The sum of products that reaches an expert is a real, its factors being reals. -/
theorem reach_real (hx : ∀ (q : Fin 8192) (k : Fin 2048), ∃ r : ℝ, x (ix2 q k) = (r : EReal))
    (hu : ∀ (l : Fin 2) (n : Fin 16384) (k : Fin 2048), ∃ r : ℝ, u (ix3 l n k) = (r : EReal)) (q : Fin 8192) (n : Fin 16384) :
    ∃ r : ℝ, reach x u q n = (r : EReal) := by
  choose f hf using hx
  choose g hg using hu
  refine ⟨∑ k : Fin 2048, g 1 n k * f q k, ?_⟩
  unfold reach
  simp only [hf, hg, ← EReal.coe_mul]
  exact (map_sum (⟨⟨Real.toEReal, rfl⟩, fun _ _ => rfl⟩ : ℝ →+ EReal) _ _).symm

/-- THE REFERENCE'S RESULT is the experts' weighted sum, where what reaches them is real. -/
theorem out_eq (hx : ∀ (q : Fin 8192) (k : Fin 2048), ∃ r : ℝ, x (ix2 q k) = (r : EReal))
    (hu : ∀ (l : Fin 2) (n : Fin 16384) (k : Fin 2048), ∃ r : ℝ, u (ix3 l n k) = (r : EReal)) :
    val_main_v39 (F := Ideal) x u v r2 e2 c1 e1 = result x u v r2 e2 c1 e1 := by
  funext j
  idx_vars j
  have e : val_main_v39 (F := Ideal) x u v r2 e2 c1 e1 (ix2 j0 j1)
      = ∑ n : Fin 16384, val_main_v18 (F := Ideal) x u (ix2 j0 n) * val_main_v34 (F := Ideal) r2 e2 c1 e1 (ix2 j0 n) * v (ix3 1 n j1) := by
    pointwise [val_main_v39, val_main_v38, val_main_v37, val_main_v36, val_main_v35]
  rw [e]
  unfold result
  refine Finset.sum_congr rfl fun n _ => ?_
  obtain ⟨r, hr⟩ := reach_real x u hx hu j0 n
  rw [act_at, gate_at]
  unfold expert
  show act (reach x u j0 n) * gateOf r2 e2 c1 e1 j0 n * v (ix3 1 n j1) = gelu (reach x u j0 n) * gateOf r2 e2 c1 e1 j0 n * v (ix3 1 n j1)
  rw [hr, act_eq]

end Cert.PeerRefIdeal.Read

end
-- ==== Proof.PeerPre.lean ====
/-
  What the precondition of the experts' call says over the extended reals: the normed rows and the input weights are reals.
-/
module

public import proofs.«01_k».proof.Pre_peer_finite
public import proofs.«01_k».proof.Proof.FoxPre

@[expose] public section

set_option maxRecDepth 16384

noncomputable section

namespace Cert.Pre_peer_finite

open Idealize.ShloMosaic
open Cert.Pre_finite (real_of_abs_lt)

/-- The side conditions of the precondition's operations. -/
instance facts : Cert.Pre_peer_finite.Facts where
  bitsLt_bf16_f32 := by decide
  bcast_S_S8192x2048 := by decide
  reducesTo_S8192x2048_S_d0_1 := by decide
  h_S_ := by decide
  bcast_S_S2x16384x2048 := by decide
  reducesTo_S2x16384x2048_S_d0_1_2 := by decide

/-- Where the precondition holds, every normed entry and every input weight is a real. -/
theorem real_of_fn (x : FVec Ideal S8192x2048 .bf16) (u v : FVec Ideal S2x16384x2048 .bf16) (r2 e2 : FVec Ideal S8x128x8192 .bf16)
    (c1 e1 : FVec Ideal S8x128x8192 .f32) (h : fn (F := Ideal) x u v r2 e2 c1 e1 = fun _ => 1#1) :
    (∀ (q : Fin 8192) (k : Fin 2048), ∃ r : ℝ, x (ix2 q k) = (r : EReal))
      ∧ ∀ (l : Fin 2) (n : Fin 16384) (k : Fin 2048), ∃ r : ℝ, u (ix3 l n k) = (r : EReal) := by
  haveI : Subsingleton S_.Idx := ⟨fun a b => funext fun i => i.elim0⟩
  obtain ⟨h1, h2⟩ := IntOp.andi_eq_one.mp (congrFun h ix0)
  refine ⟨fun q k => ?_, fun l n k => ?_⟩
  · have e := Host.reduce_andi_all _ _ _ _ _ h1 (ix2 q k)
    refine real_of_abs_lt (a := x (ix2 q k)) (Eq.trans ?_ e)
    symm
    pointwise
  · have e := Host.reduce_andi_all _ _ _ _ _ h2 (ix3 l n k)
    refine real_of_abs_lt (a := u (ix3 l n k)) (Eq.trans ?_ e)
    symm
    pointwise

end Cert.Pre_peer_finite

end
-- ==== Proof.PeerClaim.lean ====
/-
  The claims about the experts' kernel.
-/
module

public import proofs.«01_k».proof.Defs
public import proofs.«01_k».proof.Proof.PeerValue
public import proofs.«01_k».proof.Proof.PeerRef
public import proofs.«01_k».proof.Proof.PeerPre
public import proofs.«01_k».proof.Proof.Gen.Peer.Frame
public import Idealize.ShloMosaic.Adequacy
public import Idealize.ShloMosaic.Init

@[expose] public section

noncomputable section

namespace Cert.Proof

open Idealize.ShloMosaic Idealize.SL.Sem

/-- The experts' kernel ends, its arguments and counters as they were. -/
theorem peer_frame : Cert.quiescent_Peer := fun m ρ _ => Cert.Peer.Gen.frame m ρ

/-- It does so where the precondition holds. -/
theorem peer_frame_pre : Cert.quiescent_Peer_pre_peer_finite := fun m ρ _ => Cert.Peer.Gen.frame m ρ

/-- So does the idealized one. -/
theorem peer_ideal_frame : Cert.quiescent_PeerIdeal := fun m ρ _ => Cert.PeerIdeal.Gen.frame m ρ

/-- And so does the reference. -/
theorem peer_ref_frame : Cert.quiescent_PeerRefIdeal := fun m ρ _ =>
  (θ_run _ _ _).mono (fun r h => ⟨fun c => (h c).2, Idealize.ShloMosaic.sem_eq_zero_of_no_sems (by decide) r.2⟩)
    (Cert.PeerRefIdeal.Value.run m ρ)

/-- The reference does so where the precondition holds. -/
theorem peer_ref_frame_pre : Cert.quiescent_PeerRefIdeal_pre_peer_finite := fun m ρ _ => peer_ref_frame m ρ trivial

/-- The idealized kernel is the kernel's own text. -/
theorem peer_preserves : Cert.preserves_Peer_PeerIdeal := trivial

/-- The idealized kernel and the reference end with one result. -/
theorem peer_algebraic : Cert.algebraic_PeerIdeal_PeerRefIdeal := by
  intro m ρ m' ρ' hpre hagree
  refine ⟨fun c => Cert.PeerIdeal.Value.result (Cert.PeerIdeal.Value.X m c) (Cert.PeerIdeal.Value.U m c) (Cert.PeerIdeal.Value.W m c)
    (Cert.PeerIdeal.Value.R2 m c) (Cert.PeerIdeal.Value.E2 m c) (Cert.PeerIdeal.Value.C1 m c) (Cert.PeerIdeal.Value.E1 m c), ?_, ?_⟩
  · exact (θ_run Cert.PeerIdeal.defs _ _).mono (fun r h c => ⟨(h c).1.trans (Cert.PeerIdeal.Value.final m c), (h c).2⟩)
      (Cert.PeerIdeal.Value.run_blocks m ρ)
  · refine (θ_run Cert.PeerRefIdeal.defs _ _).mono (fun r h c => ⟨(h c).1.trans ?_, (h c).2⟩) (Cert.PeerRefIdeal.Value.run m' ρ')
    obtain ⟨hx, hu⟩ := Cert.Pre_peer_finite.real_of_fn _ _ _ _ _ _ _ (hpre c)
    obtain ⟨g0, g1, g2, g3, g4, g5, g6⟩ := hagree c
    rw [Cert.PeerRefIdeal.Read.val_main_v39_eq, g0, g1, g2, g3, g4, g5, g6]
    exact Cert.PeerRefIdeal.Read.out_eq _ _ _ _ _ _ _ hx hu

end Cert.Proof

end
-- ==== Proof.ProjForgetValue.lean ====
/-
  What the projection to the logits of the forget gates, each head's repeated over the lanes leaves in its result array, and that it is what the reference computes.
-/
module

public import proofs.«01_k».proof.Proof.Gen.ProjForgetIdeal.Value
public import proofs.«01_k».proof.Proof.Gen.ProjForgetRefIdeal.Read
public import Idealize.ShloMosaic.Lib.Pipeline.ValueKit
public import Idealize.ShloMosaic.Lib.Pointwise

@[expose] public section

set_option maxRecDepth 16384

noncomputable section

namespace Cert.ProjForgetIdeal.Value

open Cert.ProjForgetIdeal Cert.ProjForgetIdeal.Gen Idealize.ShloMosaic Idealize.ShloMosaic.TcCoe Idealize.SL.Sem
open Cert

/-- The projection at row `r` and column `n`: the row's product with the second layer's column of weights, plus that column's bias. -/
def result (x : FVec Ideal S8192x2048 .bf16) (w : FVec Ideal S2x2048x512 .bf16) (b : FVec Ideal S2x1x512 .f32) :
    FVec Ideal S8192x512 .f32 := fun j =>
  (∑ k : Fin 2048, x (ix2 (j 0) k) * w (ix3 1 k (j 1))) + b (ix3 1 0 (j 1))

/-- One entry of the block a grid point stores, from the blocks it loaded. -/
theorem block_apply (x : Vec Ideal S1024x2048 .bf16) (w : Vec Ideal S1x2048x512 .bf16) (b : Vec Ideal S1x1x512 .f32)
    (r : Fin 1024) (n : Fin 512) :
    k0_pay1 x w b (ix2 r n) = (∑ k : Fin 2048, x (ix2 r k) * w (ix3 0 k n)) + b (ix3 0 0 n) := by
  pointwise [k0_pay1]

/-- Each window's block index at a grid point. -/
theorem idx : ∀ t : Fin cfg0.N,
    win0_0.index t = ![(grid0.coords t 0).val, 0]
      ∧ win0_1.index t = ![1, 0, (grid0.coords t 1).val]
      ∧ win0_2.index t = ![1, 0, (grid0.coords t 1).val]
      ∧ win0_3.index t = ![(grid0.coords t 0).val, (grid0.coords t 1).val] :=
  (by decide +kernel : ∀ t : Fin grid0.N, _)

variable (m : (ℓ : Loc nD τ sig) → Buf (Elt Ideal) ℓ)

/-- The projected rows. -/
abbrev X (c : Dev nD) : FVec Ideal S8192x2048 .bf16 := m ((c : Thread nD τ).loc main_arg0)
/-- Both layers' weights. -/
abbrev W (c : Dev nD) : FVec Ideal S2x2048x512 .bf16 := m ((c : Thread nD τ).loc main_arg1)
/-- Both layers' biases. -/
abbrev B (c : Dev nD) : FVec Ideal S2x1x512 .f32 := m ((c : Thread nD τ).loc main_arg2)

/-- The rows a grid point loads. -/
theorem blk_x (c : Dev nD) (t : Fin cfg0.N) (r : Fin 1024) (k : Fin 2048) (hr) :
    (iblk m c 0 t : Vec Ideal S1024x2048 .bf16) (ix2 r k) = X m c (ix2 ⟨1024 * (grid0.coords t 0).val + r.val, hr⟩ k) := by
  blk_ext [iblk, V, idx t]

/-- The columns of weights a grid point loads. -/
theorem blk_w (c : Dev nD) (t : Fin cfg0.N) (k : Fin 2048) (n : Fin 512) (hn) :
    (iblk m c 1 t : Vec Ideal S1x2048x512 .bf16) (ix3 0 k n) = W m c (ix3 1 k ⟨512 * (grid0.coords t 1).val + n.val, hn⟩) := by
  blk_ext [iblk, V, idx t]

/-- The biases a grid point loads. -/
theorem blk_b (c : Dev nD) (t : Fin cfg0.N) (n : Fin 512) (hn) :
    (iblk m c 2 t : Vec Ideal S1x1x512 .f32) (ix3 0 0 n) = B m c (ix3 1 0 ⟨512 * (grid0.coords t 1).val + n.val, hn⟩) := by
  blk_ext [iblk, V, idx t]

/-- THE KERNEL'S RESULT ARRAY is the projection of its arguments. -/
theorem final (c : Dev nD) : (dats m 0 c).arrAt 3 cfg0.N = result (X m c) (W m c) (B m c) := by
  refine (dats m 0 c).arrAt_eq_of_covers 3 _ (by decide +kernel) fun t hf y => ?_
  blk_simp
  rw [after0_3]
  frame_out
  idx_vars y
  have h0 : (grid0.coords t 0).val < 8 := (grid0.coords t 0).isLt
  have h1 : (grid0.coords t 1).val < 1 := (grid0.coords t 1).isLt
  have hy0 := y0.isLt
  have hy1 := y1.isLt
  rw [block_apply]
  have e : ((View.whole main_v0).slice (win0_3.rect t)).emb (ix2 y0 y1)
      = (ix2 ⟨1024 * (grid0.coords t 0).val + y0.val, by omega⟩ ⟨512 * (grid0.coords t 1).val + y1.val, by omega⟩ : S8192x512.Idx) := by
    blk_ext [idx t]
  rw [e, blk_b m c t y1 (by omega)]
  simp only [blk_x m c t y0 _ (by omega), blk_w m c t _ y1 (by omega)]
  rfl

end Cert.ProjForgetIdeal.Value

namespace Cert.ProjForgetRefIdeal.Read

open Cert.ProjForgetRefIdeal Cert.ProjForgetRefIdeal.Gen Idealize.ShloMosaic Idealize.ShloMosaic.TcCoe Idealize.SL.Sem
open Cert

/-- THE REFERENCE'S RESULT is the projection of its arguments. -/
theorem out_eq (x : FVec Ideal S8192x2048 .bf16) (w : FVec Ideal S2x2048x512 .bf16) (b : FVec Ideal S2x1x512 .f32) :
    val_main_v8 (F := Ideal) x w b = Cert.ProjForgetIdeal.Value.result x w b := by
  funext j
  idx_vars j
  have e : val_main_v8 (F := Ideal) x w b (ix2 j0 j1)
      = (∑ k : Fin 2048, x (ix2 j0 k) * w (ix3 1 k j1)) + b (ix3 1 0 j1) := by
    pointwise [val_main_v8, val_main_v7, val_main_v6, val_main_v5, val_main_v4, val_main_v3, val_main_v2, val_main_v1, val_main_v0]
  exact e

end Cert.ProjForgetRefIdeal.Read

end
-- ==== Proof.ForgetClaim.lean ====
/-
  The claims about the forget gates' projection.
-/
module

public import proofs.«01_k».proof.Defs
public import proofs.«01_k».proof.Proof.ProjForgetValue
public import proofs.«01_k».proof.Proof.Gen.ProjForget.Frame
public import Idealize.ShloMosaic.Adequacy
public import Idealize.ShloMosaic.Init

@[expose] public section

noncomputable section

namespace Cert.Proof

open Idealize.ShloMosaic Idealize.SL.Sem

/-- The forget gates' projection ends, its arguments and counters as they were. -/
theorem proj_forget_frame : Cert.quiescent_ProjForget := fun m ρ _ => Cert.ProjForget.Gen.frame m ρ

/-- So does its idealization. -/
theorem proj_forget_ideal_frame : Cert.quiescent_ProjForgetIdeal := fun m ρ _ => Cert.ProjForgetIdeal.Gen.frame m ρ

/-- And so does its reference. -/
theorem proj_forget_ref_frame : Cert.quiescent_ProjForgetRefIdeal := fun m ρ _ =>
  (θ_run _ _ _).mono (fun r h => ⟨fun c => (h c).2, Idealize.ShloMosaic.sem_eq_zero_of_no_sems (by decide) r.2⟩)
    (Cert.ProjForgetRefIdeal.Value.run m ρ)

/-- The idealization rewrites no operation. -/
theorem proj_forget_preserves : Cert.preserves_ProjForget_ProjForgetIdeal := trivial

/-- The idealized kernel and its reference end with one result. -/
theorem proj_forget_algebraic : Cert.algebraic_ProjForgetIdeal_ProjForgetRefIdeal := by
  intro m ρ m' ρ' _ hagree
  refine ⟨fun c => Cert.ProjForgetIdeal.Value.result (Cert.ProjForgetIdeal.Value.X m c) (Cert.ProjForgetIdeal.Value.W m c) (Cert.ProjForgetIdeal.Value.B m c), ?_, ?_⟩
  · exact (θ_run Cert.ProjForgetIdeal.defs _ _).mono (fun r h c => ⟨(h c).1.trans (Cert.ProjForgetIdeal.Value.final m c), (h c).2⟩)
      (Cert.ProjForgetIdeal.Value.run_blocks m ρ)
  · refine (θ_run Cert.ProjForgetRefIdeal.defs _ _).mono (fun r h c => ⟨(h c).1.trans ?_, (h c).2⟩) (Cert.ProjForgetRefIdeal.Value.run m' ρ')
    obtain ⟨e0, e1, e2⟩ := hagree c
    rw [Cert.ProjForgetRefIdeal.Read.val_main_v8_eq, Cert.ProjForgetRefIdeal.Read.out_eq, e0, e1, e2]

end Cert.Proof

end
-- ==== Proof.NormInValue.lean ====
/-
  What the call into the second layer leaves in its two result arrays, the residual stream and its norm, and that the reference computes
  them too.
-/
module

public import proofs.«01_k».proof.Proof.Gen.NormInIdeal.Value
public import proofs.«01_k».proof.Proof.Gen.NormInRefIdeal.Read
public import Idealize.ShloMosaic.Lib.Pipeline.ValueKit
public import Idealize.ShloMosaic.Lib.Pointwise

@[expose] public section

set_option maxRecDepth 16384

noncomputable section

namespace Cert.NormInIdeal.Value

open Cert.NormInIdeal Cert.NormInIdeal.Gen Idealize.ShloMosaic Idealize.ShloMosaic.TcCoe Idealize.SL.Sem
open Cert

/-- The root-mean-square norm of a row `h` at lane `d`, times the gain `g`: the entry times the inverse root of the mean square plus the
    constant that keeps it from zero. -/
def rms (h : Fin 2048 → EReal) (g : EReal) (d : Fin 2048) : EReal :=
  h d * Ideal.rsqrt (Ideal.div (∑ e : Fin 2048, h e * h e) (Ideal.ofBits .f32 0x45000000#32) + Ideal.ofBits .f32 0x358637BD#32) * g

/-- The residual stream: what it was plus the layer's contribution. -/
def stream (x : FVec Ideal S8192x2048 .f32) (y : FVec Ideal S8192x2048 .f32) : FVec Ideal S8192x2048 .f32 := fun j =>
  x (ix2 (j 0) (j 1)) + y (ix2 (j 0) (j 1))

/-- The norm of that stream's rows with the call's gains. -/
def normed (x : FVec Ideal S8192x2048 .f32) (y : FVec Ideal S8192x2048 .f32) (g : FVec Ideal S2x1x2048 .f32) :
    FVec Ideal S8192x2048 .bf16 := fun j =>
  rms (fun e => stream x y (ix2 (j 0) e)) (g (ix3 1 0 (j 1))) (j 1)

/-- One entry of the block of the stream a grid point stores. -/
theorem stream_block (x y : Vec Ideal S512x2048 .f32) (r : Fin 512) (d : Fin 2048) :
    k0_pay1 x y (ix2 r d) = x (ix2 r d) + y (ix2 r d) := by
  pointwise [k0_pay1]

/-- One entry of the normed block, from the blocks a grid point loaded. -/
theorem normed_block (x y : Vec Ideal S512x2048 .f32) (g : Vec Ideal S1x1x2048 .f32) (r : Fin 512) (d : Fin 2048) :
    k0_pay2 x y g (ix2 r d) = rms (fun e => x (ix2 r e) + y (ix2 r e)) (g (ix3 0 0 d)) d := by
  unfold rms
  pointwise [k0_pay2]
  simp only [stream_block]

/-- Each window's block index at a grid point. -/
theorem idx : ∀ t : Fin cfg0.N,
    win0_0.index t = ![(grid0.coords t 0).val, 0]
      ∧ win0_1.index t = ![(grid0.coords t 0).val, 0]
      ∧ win0_2.index t = ![1, 0, 0]
      ∧ win0_3.index t = ![(grid0.coords t 0).val, 0]
      ∧ win0_4.index t = ![(grid0.coords t 0).val, 0] :=
  (by decide +kernel : ∀ t : Fin grid0.N, _)

variable (m : (ℓ : Loc nD τ sig) → Buf (Elt Ideal) ℓ)

/-- The residual stream. -/
abbrev X (c : Dev nD) : FVec Ideal S8192x2048 .f32 := m ((c : Thread nD τ).loc main_arg0)
/-- The layer's contribution. -/
abbrev Y (c : Dev nD) : FVec Ideal S8192x2048 .f32 := m ((c : Thread nD τ).loc main_arg1)
/-- The gains. -/
abbrev G (c : Dev nD) : FVec Ideal S2x1x2048 .f32 := m ((c : Thread nD τ).loc main_arg2)

/-- The rows of the residual stream a grid point loads. -/
theorem blk_x (c : Dev nD) (t : Fin cfg0.N) (r : Fin 512) (k : Fin 2048) (hr) :
    (iblk m c 0 t : Vec Ideal S512x2048 .f32) (ix2 r k) = X m c (ix2 ⟨512 * (grid0.coords t 0).val + r.val, hr⟩ k) := by
  blk_ext [iblk, V, idx t]

/-- The rows of the contribution a grid point loads. -/
theorem blk_y (c : Dev nD) (t : Fin cfg0.N) (r : Fin 512) (k : Fin 2048) (hr) :
    (iblk m c 1 t : Vec Ideal S512x2048 .f32) (ix2 r k) = Y m c (ix2 ⟨512 * (grid0.coords t 0).val + r.val, hr⟩ k) := by
  blk_ext [iblk, V, idx t]

/-- The gains a grid point loads. -/
theorem blk_g (c : Dev nD) (t : Fin cfg0.N) (d : Fin 2048) :
    (iblk m c 2 t : Vec Ideal S1x1x2048 .f32) (ix3 0 0 d) = G m c (ix3 1 0 d) := by
  blk_ext [iblk, V, idx t]

/-- THE KERNEL'S FIRST RESULT ARRAY is the residual stream. -/
theorem final_stream (c : Dev nD) : (dats m 0 c).arrAt 3 cfg0.N = stream (X m c) (Y m c) := by
  refine (dats m 0 c).arrAt_eq_of_covers 3 _ (by decide +kernel) fun t hf y => ?_
  blk_simp
  rw [after0_3]
  frame_out
  idx_vars y
  have h0 : (grid0.coords t 0).val < 16 := (grid0.coords t 0).isLt
  have hy0 := y0.isLt
  have hr : 512 * (grid0.coords t 0).val + y0.val < 8192 := by omega
  rw [stream_block]
  have e : ((View.whole main_v0_0).slice (win0_3.rect t)).emb (ix2 y0 y1)
      = (ix2 ⟨512 * (grid0.coords t 0).val + y0.val, hr⟩ y1 : S8192x2048.Idx) := by
    blk_ext [idx t]
  rw [e]
  simp only [blk_x m c t y0 _ hr, blk_y m c t y0 _ hr]
  rfl

/-- THE KERNEL'S SECOND RESULT ARRAY is the stream's norm. -/
theorem final_normed (c : Dev nD) : (dats m 0 c).arrAt 4 cfg0.N = normed (X m c) (Y m c) (G m c) := by
  refine (dats m 0 c).arrAt_eq_of_covers 4 _ (by decide +kernel) fun t hf y => ?_
  blk_simp
  rw [after0_4]
  frame_out
  idx_vars y
  have h0 : (grid0.coords t 0).val < 16 := (grid0.coords t 0).isLt
  have hy0 := y0.isLt
  have hr : 512 * (grid0.coords t 0).val + y0.val < 8192 := by omega
  rw [normed_block]
  have e : ((View.whole main_v0_1).slice (win0_4.rect t)).emb (ix2 y0 y1)
      = (ix2 ⟨512 * (grid0.coords t 0).val + y0.val, hr⟩ y1 : S8192x2048.Idx) := by
    blk_ext [idx t]
  rw [e]
  simp only [blk_x m c t y0 _ hr, blk_y m c t y0 _ hr, blk_g m c t]
  rfl

end Cert.NormInIdeal.Value

namespace Cert.NormInRefIdeal.Read

open Cert.NormInRefIdeal Cert.NormInRefIdeal.Gen Idealize.ShloMosaic Idealize.ShloMosaic.TcCoe Idealize.SL.Sem
open Cert
open Cert.NormInIdeal.Value (rms stream normed)

variable (x y : FVec Ideal S8192x2048 .f32) (g : FVec Ideal S2x1x2048 .f32)

/-- THE REFERENCE'S FIRST RESULT is the residual stream. -/
theorem stream_eq : val_main_v0 (F := Ideal) x y = stream x y := by
  funext j
  idx_vars j
  have e : val_main_v0 (F := Ideal) x y (ix2 j0 j1) = x (ix2 j0 j1) + y (ix2 j0 j1) := by
    pointwise [val_main_v0]
  exact e

/-- THE REFERENCE'S SECOND RESULT is the stream's norm. -/
theorem normed_eq : val_main_v16 (F := Ideal) x y g = normed x y g := by
  funext j
  idx_vars j
  have e : val_main_v16 (F := Ideal) x y g (ix2 j0 j1)
      = rms (fun e => val_main_v0 (F := Ideal) x y (ix2 j0 e)) (g (ix3 1 0 j1)) j1 := by
    unfold rms
    pointwise [val_main_v16, val_main_v15, val_main_v14, val_main_v13, val_main_v12, val_main_v11, val_main_v10, val_main_v9, val_main_v8, val_main_v7, val_main_v6, val_main_v5, val_main_v4, val_main_v3, val_main_v2, val_main_v1, val_main_cst_1, val_main_cst_0, val_main_cst]
  rw [e, stream_eq]
  rfl

end Cert.NormInRefIdeal.Read

end
-- ==== Proof.NormOutValue.lean ====
/-
  What the last call leaves in its result array, the norm of the residual stream, and that the reference computes it too.
-/
module

public import proofs.«01_k».proof.Proof.Gen.NormOutIdeal.Value
public import proofs.«01_k».proof.Proof.Gen.NormOutRefIdeal.Read
public import Idealize.ShloMosaic.Lib.Pipeline.ValueKit
public import Idealize.ShloMosaic.Lib.Pointwise

@[expose] public section

set_option maxRecDepth 16384

noncomputable section

namespace Cert.NormOutIdeal.Value

open Cert.NormOutIdeal Cert.NormOutIdeal.Gen Idealize.ShloMosaic Idealize.ShloMosaic.TcCoe Idealize.SL.Sem
open Cert

/-- The root-mean-square norm of a row `h` at lane `d`, times the gain `g`: the entry times the inverse root of the mean square plus the
    constant that keeps it from zero. -/
def rms (h : Fin 2048 → EReal) (g : EReal) (d : Fin 2048) : EReal :=
  h d * Ideal.rsqrt (Ideal.div (∑ e : Fin 2048, h e * h e) (Ideal.ofBits .f32 0x45000000#32) + Ideal.ofBits .f32 0x358637BD#32) * g

/-- The residual stream: what it was plus the layer's contribution. -/
def stream (x : FVec Ideal S8192x2048 .f32) (y : FVec Ideal S8192x2048 .f32) : FVec Ideal S8192x2048 .f32 := fun j =>
  x (ix2 (j 0) (j 1)) + y (ix2 (j 0) (j 1))

/-- The norm of that stream's rows with the call's gains. -/
def normed (x : FVec Ideal S8192x2048 .f32) (y : FVec Ideal S8192x2048 .f32) (g : FVec Ideal S1x1x2048 .f32) :
    FVec Ideal S8192x2048 .f32 := fun j =>
  rms (fun e => stream x y (ix2 (j 0) e)) (g (ix3 0 0 (j 1))) (j 1)

/-- One entry of the normed block, from the blocks a grid point loaded. -/
theorem normed_block (x y : Vec Ideal S512x2048 .f32) (g : Vec Ideal S1x1x2048 .f32) (r : Fin 512) (d : Fin 2048) :
    k0_pay1 x y g (ix2 r d) = rms (fun e => x (ix2 r e) + y (ix2 r e)) (g (ix3 0 0 d)) d := by
  unfold rms
  pointwise [k0_pay1]

/-- Each window's block index at a grid point. -/
theorem idx : ∀ t : Fin cfg0.N,
    win0_0.index t = ![(grid0.coords t 0).val, 0]
      ∧ win0_1.index t = ![(grid0.coords t 0).val, 0]
      ∧ win0_2.index t = ![0, 0, 0]
      ∧ win0_3.index t = ![(grid0.coords t 0).val, 0] :=
  (by decide +kernel : ∀ t : Fin grid0.N, _)

variable (m : (ℓ : Loc nD τ sig) → Buf (Elt Ideal) ℓ)

/-- The residual stream. -/
abbrev X (c : Dev nD) : FVec Ideal S8192x2048 .f32 := m ((c : Thread nD τ).loc main_arg0)
/-- The layer's contribution. -/
abbrev Y (c : Dev nD) : FVec Ideal S8192x2048 .f32 := m ((c : Thread nD τ).loc main_arg1)
/-- The gains. -/
abbrev G (c : Dev nD) : FVec Ideal S1x1x2048 .f32 := m ((c : Thread nD τ).loc main_arg2)

/-- The rows of the residual stream a grid point loads. -/
theorem blk_x (c : Dev nD) (t : Fin cfg0.N) (r : Fin 512) (k : Fin 2048) (hr) :
    (iblk m c 0 t : Vec Ideal S512x2048 .f32) (ix2 r k) = X m c (ix2 ⟨512 * (grid0.coords t 0).val + r.val, hr⟩ k) := by
  blk_ext [iblk, V, idx t]

/-- The rows of the contribution a grid point loads. -/
theorem blk_y (c : Dev nD) (t : Fin cfg0.N) (r : Fin 512) (k : Fin 2048) (hr) :
    (iblk m c 1 t : Vec Ideal S512x2048 .f32) (ix2 r k) = Y m c (ix2 ⟨512 * (grid0.coords t 0).val + r.val, hr⟩ k) := by
  blk_ext [iblk, V, idx t]

/-- The gains a grid point loads. -/
theorem blk_g (c : Dev nD) (t : Fin cfg0.N) (d : Fin 2048) :
    (iblk m c 2 t : Vec Ideal S1x1x2048 .f32) (ix3 0 0 d) = G m c (ix3 0 0 d) := by
  blk_ext [iblk, V, idx t]

/-- THE KERNEL'S RESULT ARRAY is the stream's norm. -/
theorem final_normed (c : Dev nD) : (dats m 0 c).arrAt 3 cfg0.N = normed (X m c) (Y m c) (G m c) := by
  refine (dats m 0 c).arrAt_eq_of_covers 3 _ (by decide +kernel) fun t hf y => ?_
  blk_simp
  rw [after0_3]
  frame_out
  idx_vars y
  have h0 : (grid0.coords t 0).val < 16 := (grid0.coords t 0).isLt
  have hy0 := y0.isLt
  have hr : 512 * (grid0.coords t 0).val + y0.val < 8192 := by omega
  rw [normed_block]
  have e : ((View.whole main_v0).slice (win0_3.rect t)).emb (ix2 y0 y1)
      = (ix2 ⟨512 * (grid0.coords t 0).val + y0.val, hr⟩ y1 : S8192x2048.Idx) := by
    blk_ext [idx t]
  rw [e]
  simp only [blk_x m c t y0 _ hr, blk_y m c t y0 _ hr, blk_g m c t]
  rfl

end Cert.NormOutIdeal.Value

namespace Cert.NormOutRefIdeal.Read

open Cert.NormOutRefIdeal Cert.NormOutRefIdeal.Gen Idealize.ShloMosaic Idealize.ShloMosaic.TcCoe Idealize.SL.Sem
open Cert
open Cert.NormOutIdeal.Value (rms stream normed)

variable (x y : FVec Ideal S8192x2048 .f32) (g : FVec Ideal S1x1x2048 .f32)

/-- The reference's first sum is the residual stream. -/
theorem stream_eq : val_main_v0 (F := Ideal) x y = stream x y := by
  funext j
  idx_vars j
  have e : val_main_v0 (F := Ideal) x y (ix2 j0 j1) = x (ix2 j0 j1) + y (ix2 j0 j1) := by
    pointwise [val_main_v0]
  exact e

/-- THE REFERENCE'S RESULT is the stream's norm. -/
theorem normed_eq : val_main_v14 (F := Ideal) x y g = normed x y g := by
  funext j
  idx_vars j
  have e : val_main_v14 (F := Ideal) x y g (ix2 j0 j1)
      = rms (fun e => val_main_v0 (F := Ideal) x y (ix2 j0 e)) (g (ix3 0 0 j1)) j1 := by
    unfold rms
    pointwise [val_main_v14, val_main_v13, val_main_v12, val_main_v11, val_main_v10, val_main_v9, val_main_v8, val_main_v7, val_main_v6, val_main_v5, val_main_v4, val_main_v3, val_main_v2, val_main_v1, val_main_cst_1, val_main_cst_0, val_main_cst]
  rw [e, stream_eq]
  rfl

end Cert.NormOutRefIdeal.Read

end
-- ==== Proof.NormClaim.lean ====
/-
  The claims about the two calls that add to the residual stream and norm it.
-/
module

public import proofs.«01_k».proof.Defs
public import proofs.«01_k».proof.Proof.NormInValue
public import proofs.«01_k».proof.Proof.NormOutValue
public import proofs.«01_k».proof.Proof.Gen.NormIn.Frame
public import proofs.«01_k».proof.Proof.Gen.NormOut.Frame
public import Idealize.ShloMosaic.Adequacy
public import Idealize.ShloMosaic.Init

@[expose] public section

noncomputable section

namespace Cert.Proof

open Idealize.ShloMosaic Idealize.SL.Sem

/-- The call into the second layer ends, its arguments and counters as they were. -/
theorem norm_in_frame : Cert.quiescent_NormIn := fun m ρ _ => Cert.NormIn.Gen.frame m ρ

/-- So does its idealization. -/
theorem norm_in_ideal_frame : Cert.quiescent_NormInIdeal := fun m ρ _ => Cert.NormInIdeal.Gen.frame m ρ

/-- And so does its reference. -/
theorem norm_in_ref_frame : Cert.quiescent_NormInRefIdeal := fun m ρ _ =>
  (θ_run _ _ _).mono (fun r h => ⟨fun c => (h c).2.2, Idealize.ShloMosaic.sem_eq_zero_of_no_sems (by decide) r.2⟩)
    (Cert.NormInRefIdeal.Value.run m ρ)

/-- The idealization rewrites no operation. -/
theorem norm_in_preserves : Cert.preserves_NormIn_NormInIdeal := trivial

/-- The idealized kernel and its reference end with one result. -/
theorem norm_in_algebraic : Cert.algebraic_NormInIdeal_NormInRefIdeal := by
  intro m ρ m' ρ' _ hagree
  refine ⟨fun c => Cert.NormInIdeal.Value.stream (Cert.NormInIdeal.Value.X m c) (Cert.NormInIdeal.Value.Y m c), fun c => Cert.NormInIdeal.Value.normed (Cert.NormInIdeal.Value.X m c) (Cert.NormInIdeal.Value.Y m c) (Cert.NormInIdeal.Value.G m c), ?_, ?_⟩
  · exact (θ_run Cert.NormInIdeal.defs _ _).mono (fun r h c => ⟨(h c).1.trans (Cert.NormInIdeal.Value.final_stream m c), (h c).2.1.trans (Cert.NormInIdeal.Value.final_normed m c), (h c).2.2⟩)
      (Cert.NormInIdeal.Value.run_blocks m ρ)
  · refine (θ_run Cert.NormInRefIdeal.defs _ _).mono (fun r h c => ⟨(h c).1.trans ?_, (h c).2.1.trans ?_, (h c).2.2⟩) (Cert.NormInRefIdeal.Value.run m' ρ')
    · obtain ⟨e0, e1, e2⟩ := hagree c
      rw [Cert.NormInRefIdeal.Read.val_main_v0_eq, Cert.NormInRefIdeal.Read.stream_eq, e0, e1]
    · obtain ⟨e0, e1, e2⟩ := hagree c
      rw [Cert.NormInRefIdeal.Read.val_main_v16_eq, Cert.NormInRefIdeal.Read.normed_eq, e0, e1, e2]

/-- The last call ends, its arguments and counters as they were. -/
theorem norm_out_frame : Cert.quiescent_NormOut := fun m ρ _ => Cert.NormOut.Gen.frame m ρ

/-- So does its idealization. -/
theorem norm_out_ideal_frame : Cert.quiescent_NormOutIdeal := fun m ρ _ => Cert.NormOutIdeal.Gen.frame m ρ

/-- And so does its reference. -/
theorem norm_out_ref_frame : Cert.quiescent_NormOutRefIdeal := fun m ρ _ =>
  (θ_run _ _ _).mono (fun r h => ⟨fun c => (h c).2, Idealize.ShloMosaic.sem_eq_zero_of_no_sems (by decide) r.2⟩)
    (Cert.NormOutRefIdeal.Value.run m ρ)

/-- The idealization rewrites no operation. -/
theorem norm_out_preserves : Cert.preserves_NormOut_NormOutIdeal := trivial

/-- The idealized kernel and its reference end with one result. -/
theorem norm_out_algebraic : Cert.algebraic_NormOutIdeal_NormOutRefIdeal := by
  intro m ρ m' ρ' _ hagree
  refine ⟨fun c => Cert.NormOutIdeal.Value.normed (Cert.NormOutIdeal.Value.X m c) (Cert.NormOutIdeal.Value.Y m c) (Cert.NormOutIdeal.Value.G m c), ?_, ?_⟩
  · exact (θ_run Cert.NormOutIdeal.defs _ _).mono (fun r h c => ⟨(h c).1.trans (Cert.NormOutIdeal.Value.final_normed m c), (h c).2⟩)
      (Cert.NormOutIdeal.Value.run_blocks m ρ)
  · refine (θ_run Cert.NormOutRefIdeal.defs _ _).mono (fun r h c => ⟨(h c).1.trans ?_, (h c).2⟩) (Cert.NormOutRefIdeal.Value.run m' ρ')
    obtain ⟨e0, e1, e2⟩ := hagree c
    rw [Cert.NormOutRefIdeal.Read.val_main_v14_eq, Cert.NormOutRefIdeal.Read.normed_eq, e0, e1, e2]

end Cert.Proof

end
-- ==== Proof.Shift.lean ====
/-
  A column's earlier values, and the sum of its last ones by doubling.
-/
module

public import Idealize.ShloMosaic.Lib.Pipeline.ValueKit
public import Idealize.ShloMosaic.Lib.Pointwise

@[expose] public section

noncomputable section

namespace Cert

open Idealize.ShloMosaic

/-- The value of a column `z` that stands `k` positions before row `r`, zero where there is none. -/
def ago (z : Fin 2048 → EReal) (k : ℕ) (r : Fin 2048) : EReal :=
  if k ≤ r.val then z ⟨r.val - k, by omega⟩ else 0

/-- The sum of a column's last `n` values at row `r`, those before its first row counting as zero. -/
def trail (z : Fin 2048 → EReal) (n : ℕ) (r : Fin 2048) : EReal :=
  ∑ k ∈ Finset.range n, ago z k r

/-- A column rotated down by `k` rows, with the rows that came round replaced by zero. -/
def turned (z : Fin 2048 → EReal) (k : ℕ) (r : Fin 2048) : EReal :=
  Scalar.select (IntOp.cmpi CmpIPredicate.sge (BitVec.ofNat 32 r.val) (BitVec.ofNat 32 k))
    (z ⟨(r.val + 2048 - k) % 2048, Nat.mod_lt _ (by omega)⟩) 0

/-- Comparing a row's number with an offset as words is comparing the numbers. -/
theorem row_ge : ∀ k : Fin 9, ∀ r : Fin 2048,
    IntOp.cmpi CmpIPredicate.sge (BitVec.ofNat 32 r.val) (BitVec.ofNat 32 k.val) = if k.val ≤ r.val then 1#1 else 0#1 := by
  decide +kernel

/-- The rotated column without the rows that came round holds the values of `k` rows earlier. -/
theorem turned_eq (z : Fin 2048 → EReal) (k : ℕ) (hk : k < 9) (r : Fin 2048) : turned z k r = ago z k r := by
  have hr := r.isLt
  have hw := row_ge ⟨k, hk⟩ r
  dsimp only at hw
  unfold turned ago
  rw [hw]
  by_cases h : k ≤ r.val
  · have e : (r.val + 2048 - k) % 2048 = r.val - k := by omega
    rw [if_pos h, if_pos h]
    exact congrArg z (Fin.ext e)
  · rw [if_neg h, if_neg h]
    rfl

/-- No rows earlier is the row itself. -/
theorem ago_zero (z : Fin 2048 → EReal) (r : Fin 2048) : ago z 0 r = z r := by
  unfold ago
  exact if_pos (Nat.zero_le _)

/-- A column is the sum of its last one value. -/
theorem trail_one (z : Fin 2048 → EReal) : trail z 1 = z := by
  funext r
  unfold trail
  rw [Finset.sum_range_one, ago_zero]

/-- The last `n` values' sum plus the one of `n` rows earlier is the last `2 n` values' sum. -/
theorem trail_double (z : Fin 2048 → EReal) (n : ℕ) (r : Fin 2048) : trail z n r + ago (trail z n) n r = trail z (n + n) r := by
  have hr := r.isLt
  unfold trail
  rw [Finset.sum_range_add]
  congr 1
  unfold ago
  by_cases h : n ≤ r.val
  · rw [if_pos h]
    refine Finset.sum_congr rfl fun k _ => ?_
    by_cases hk : k ≤ r.val - n
    · have h' : n + k ≤ r.val := by omega
      have e : r.val - n - k = r.val - (n + k) := by omega
      rw [if_pos hk, if_pos h']
      exact congrArg z (Fin.ext e)
    · have h' : ¬ n + k ≤ r.val := by omega
      rw [if_neg hk, if_neg h']
  · rw [if_neg h]
    refine (Finset.sum_eq_zero fun k _ => ?_).symm
    have h' : ¬ n + k ≤ r.val := by omega
    rw [if_neg h']

/-- One doubling by a rotation. -/
def doubled (z : Fin 2048 → EReal) (k : ℕ) (r : Fin 2048) : EReal := z r + turned z k r

/-- One doubling of the last `n` values' sum. -/
theorem doubled_eq (z : Fin 2048 → EReal) (n : ℕ) (hn : n < 9) : doubled (trail z n) n = trail z (n + n) := by
  funext r
  unfold doubled
  rw [turned_eq _ n hn, trail_double]

/-- One doubling gives the last two values' sum. -/
theorem doubled_two (z : Fin 2048 → EReal) : doubled z 1 = trail z 2 := by
  have h := doubled_eq z 1 (by omega)
  rwa [trail_one] at h

/-- Two give the last four's. -/
theorem doubled_four (z : Fin 2048 → EReal) : doubled (doubled z 1) 2 = trail z 4 := by
  rw [doubled_two]
  exact doubled_eq z 2 (by omega)

/-- Three give the last eight's. -/
theorem doubled_eight (z : Fin 2048 → EReal) : doubled (doubled (doubled z 1) 2) 4 = trail z 8 := by
  rw [doubled_four]
  exact doubled_eq z 4 (by omega)

/-- Four give the last sixteen's. -/
theorem doubled_sixteen (z : Fin 2048 → EReal) : doubled (doubled (doubled (doubled z 1) 2) 4) 8 = trail z 16 := by
  rw [doubled_eight]
  exact doubled_eq z 8 (by omega)

/-- The word zero is the number zero. -/
theorem word_zero : FloatOps.sitofp (F := Ideal) .f32 (0#32) = (0 : EReal) := by
  simp [FloatOps.sitofp]

/-- A column with rows of zero put before it, read at a row, is the value of as many rows earlier as the reading starts too early. -/
theorem padded_eq (z : Fin 2048 → EReal) (n s : ℕ) (r : Fin 2048) (hs : s ≤ n)
    (f : n ≤ s + r.val ∧ s + r.val - n < 2048 → EReal) (hf : ∀ h, f h = z ⟨s + r.val - n, h.2⟩) :
    (if h : n ≤ s + r.val ∧ s + r.val - n < 2048 then f h else FloatOps.sitofp (F := Ideal) .f32 0#32) = ago z (n - s) r := by
  have hr := r.isLt
  unfold ago
  by_cases h : n - s ≤ r.val
  · have h' : n ≤ s + r.val ∧ s + r.val - n < 2048 := by omega
    have e : s + r.val - n = r.val - (n - s) := by omega
    rw [dif_pos h', if_pos h, hf h']
    exact congrArg z (Fin.ext e)
  · have h' : ¬ (n ≤ s + r.val ∧ s + r.val - n < 2048) := by omega
    rw [dif_neg h', if_neg h, word_zero]

/-- The same, read from its first row. -/
theorem padded_first (z : Fin 2048 → EReal) (n : ℕ) (r : Fin 2048) (f : n ≤ r.val ∧ r.val - n < 2048 → EReal)
    (hf : ∀ h, f h = z ⟨r.val - n, h.2⟩) :
    (if h : n ≤ r.val ∧ r.val - n < 2048 then f h else FloatOps.sitofp (F := Ideal) .f32 0#32) = ago z n r := by
  have hr := r.isLt
  unfold ago
  by_cases h : n ≤ r.val
  · have h' : n ≤ r.val ∧ r.val - n < 2048 := by omega
    rw [dif_pos h', if_pos h, hf h']
  · have h' : ¬ (n ≤ r.val ∧ r.val - n < 2048) := by omega
    rw [dif_neg h', if_neg h, word_zero]

end Cert

end
-- ==== Proof.ConvValue.lean ====
/-
  What the convolution leaves in its result array, and that it is what the reference computes.
-/
module

public import proofs.«01_k».proof.Proof.Gen.ConvIdeal.Value
public import proofs.«01_k».proof.Proof.Gen.ConvRefIdeal.Read
public import proofs.«01_k».proof.Proof.Shift
public import Idealize.ShloMosaic.Lib.Pipeline.ValueKit
public import Idealize.ShloMosaic.Lib.Pointwise

@[expose] public section

set_option maxRecDepth 16384

noncomputable section

namespace Cert.ConvIdeal.Value

open Cert.ConvIdeal Cert.ConvIdeal.Gen Idealize.ShloMosaic Idealize.ShloMosaic.TcCoe Idealize.SL.Sem
open Cert

/-- One entry of the convolution: the three last gated values of the column, each with its tap's weight, times the outer gate. -/
def conv (z : Fin 2048 → EReal) (w : Fin 8 → EReal) (b : EReal) (r : Fin 2048) : EReal :=
  b * (w 0 * ago z 2 r + w 1 * ago z 1 r + w 2 * z r)

/-- The convolution of the projection's columns with the second layer's taps: lanes 512 to 1023 are convolved, gated before by lanes
    1536 to 2047 and after by lanes 1024 to 1535. -/
def result (x : FVec Ideal S4x2048x2048 .f32) (w : FVec Ideal S2x8x512 .f32) : FVec Ideal S4x2048x512 .bf16 := fun j =>
  conv (fun r => x (ix3 (j 0) r ⟨1536 + (j 2).val, by have h : (j 2).val < 512 := (j 2).isLt; omega⟩)
      * x (ix3 (j 0) r ⟨512 + (j 2).val, by have h : (j 2).val < 512 := (j 2).isLt; omega⟩))
    (fun k => w (ix3 1 k (j 2)))
    (x (ix3 (j 0) (j 1) ⟨1024 + (j 2).val, by have h : (j 2).val < 512 := (j 2).isLt; omega⟩)) (j 1)

/-- One entry of the block a grid point stores, from the blocks it loaded. -/
theorem block_apply (c : Vec Ideal S1x2048x512 .f32) (h : Vec Ideal S1x2048x512 .f32) (w0 w1 w2 : Vec Ideal S1x1x512 .f32)
    (b : Vec Ideal S1x2048x512 .f32) (r : Fin 2048) (d : Fin 512) :
    k0_pay2 c h w0 w1 w2 b (ix2 r d)
      = b (ix3 0 r d) * (w0 (ix3 0 0 d) * ago (fun r => c (ix3 0 r d) * h (ix3 0 r d)) 2 r
          + w1 (ix3 0 0 d) * ago (fun r => c (ix3 0 r d) * h (ix3 0 r d)) 1 r + w2 (ix3 0 0 d) * (c (ix3 0 r d) * h (ix3 0 r d))) := by
  rw [← turned_eq _ 2 (by omega), ← turned_eq _ 1 (by omega)]
  unfold turned
  pointwise [k0_pay2]

/-- Each window's block index at a grid point. -/
theorem idx : ∀ t : Fin cfg0.N,
    win0_0.index t = ![(grid0.coords t 0).val, 0, 1]
      ∧ win0_1.index t = ![(grid0.coords t 0).val, 0, 2]
      ∧ win0_2.index t = ![(grid0.coords t 0).val, 0, 3]
      ∧ win0_3.index t = ![1, 0, 0]
      ∧ win0_4.index t = ![(grid0.coords t 0).val, 0, 0] :=
  (by decide +kernel : ∀ t : Fin grid0.N, _)

variable (m : (ℓ : Loc nD τ sig) → Buf (Elt Ideal) ℓ)

/-- The projection's columns. -/
abbrev X (c : Dev nD) : FVec Ideal S4x2048x2048 .f32 := m ((c : Thread nD τ).loc main_arg0)
/-- Both layers' taps. -/
abbrev W (c : Dev nD) : FVec Ideal S2x8x512 .f32 := m ((c : Thread nD τ).loc main_arg1)

/-- The convolved lanes a grid point loads. -/
theorem blk_h (c : Dev nD) (t : Fin cfg0.N) (r : Fin 2048) (d : Fin 512) (hd) :
    (iblk m c 0 t : Vec Ideal S1x2048x512 .f32) (ix3 0 r d) = X m c (ix3 (grid0.coords t 0) r ⟨512 + d.val, hd⟩) := by
  blk_ext [iblk, V, idx t]

/-- The outer gate's lanes a grid point loads. -/
theorem blk_b (c : Dev nD) (t : Fin cfg0.N) (r : Fin 2048) (d : Fin 512) (hd) :
    (iblk m c 1 t : Vec Ideal S1x2048x512 .f32) (ix3 0 r d) = X m c (ix3 (grid0.coords t 0) r ⟨1024 + d.val, hd⟩) := by
  blk_ext [iblk, V, idx t]

/-- The inner gate's lanes a grid point loads. -/
theorem blk_c (c : Dev nD) (t : Fin cfg0.N) (r : Fin 2048) (d : Fin 512) (hd) :
    (iblk m c 2 t : Vec Ideal S1x2048x512 .f32) (ix3 0 r d) = X m c (ix3 (grid0.coords t 0) r ⟨1536 + d.val, hd⟩) := by
  blk_ext [iblk, V, idx t]

/-- The taps a grid point loads. -/
theorem blk_w (c : Dev nD) (t : Fin cfg0.N) (k : Fin 8) (d : Fin 512) :
    (iblk m c 3 t : Vec Ideal S1x8x512 .f32) (ix3 0 k d) = W m c (ix3 1 k d) := by
  blk_ext [iblk, V, idx t]

/-- The first tap's row of the taps a grid point loaded. -/
theorem tap0 (w : Vec Ideal S1x8x512 .f32) (d : Fin 512) : (View.ld w r0_1 : Vec Ideal S1x1x512 .f32) (ix3 0 0 d) = w (ix3 0 0 d) := by
  pointwise []

/-- The second tap's row. -/
theorem tap1 (w : Vec Ideal S1x8x512 .f32) (d : Fin 512) : (View.ld w r0_2 : Vec Ideal S1x1x512 .f32) (ix3 0 0 d) = w (ix3 0 1 d) := by
  pointwise []

/-- The third tap's row. -/
theorem tap2 (w : Vec Ideal S1x8x512 .f32) (d : Fin 512) : (View.ld w r0_3 : Vec Ideal S1x1x512 .f32) (ix3 0 0 d) = w (ix3 0 2 d) := by
  pointwise []

/-- The stored block is the computed one with an axis of one before it. -/
theorem stored (v : FVec Ideal S2048x512 .bf16) (r : Fin 2048) (d : Fin 512) : k0_pay1 v (ix3 0 r d) = v (ix2 r d) := by
  pointwise [k0_pay1]

/-- THE KERNEL'S RESULT ARRAY is the convolution of its arguments. -/
theorem final (c : Dev nD) : (dats m 0 c).arrAt 4 cfg0.N = result (X m c) (W m c) := by
  refine (dats m 0 c).arrAt_eq_of_covers 4 _ (by decide +kernel) fun t hf y => ?_
  blk_simp
  rw [after0_4]
  frame_out
  idx_vars y
  have hy2 := y2.isLt
  obtain rfl : y0 = 0 := Subsingleton.elim _ _
  have e : ((View.whole main_v0).slice (win0_4.rect t)).emb (ix3 0 y1 y2) = (ix3 (grid0.coords t 0) y1 y2 : S4x2048x512.Idx) := by
    blk_ext [idx t]
  rw [e, stored, block_apply, tap0, tap1, tap2]
  simp only [blk_w m c t, blk_h m c t _ y2 (by omega), blk_b m c t _ y2 (by omega), blk_c m c t _ y2 (by omega)]
  rfl

end Cert.ConvIdeal.Value

namespace Cert.ConvRefIdeal.Read

open Cert.ConvRefIdeal Cert.ConvRefIdeal.Gen Idealize.ShloMosaic Idealize.ShloMosaic.TcCoe Idealize.SL.Sem
open Cert

/-- THE REFERENCE'S RESULT is the convolution of its arguments. -/
theorem out_eq (x : FVec Ideal S4x2048x2048 .f32) (w : FVec Ideal S2x8x512 .f32) :
    val_main_v26 (F := Ideal) x w = Cert.ConvIdeal.Value.result x w := by
  funext j
  idx_vars j
  have e : val_main_v26 (F := Ideal) x w (ix3 j0 j1 j2) = Cert.ConvIdeal.Value.result x w (ix3 j0 j1 j2) := by
    pointwise [val_main_v26, val_main_v25, val_main_v24, val_main_v23, val_main_v22, val_main_v21, val_main_v20, val_main_v19, val_main_v18,
      val_main_v17, val_main_v16, val_main_v15, val_main_v14, val_main_v13, val_main_v12, val_main_v11, val_main_v10, val_main_v9, val_main_v8,
      val_main_v7, val_main_v6, val_main_v5, val_main_v4, val_main_call0_v0, val_main_c, val_main_v3, val_main_v2, val_main_v1, val_main_v0]
    rw [padded_eq (fun r => x (ix3 j0 r ⟨1536 + j2.val, by omega⟩) * x (ix3 j0 r ⟨512 + j2.val, by omega⟩)) 2 1 j1 (by omega) _ fun _ => rfl]
    rw [padded_first (fun r => x (ix3 j0 r ⟨1536 + j2.val, by omega⟩) * x (ix3 j0 r ⟨512 + j2.val, by omega⟩)) 2 j1 _ fun _ => rfl]
    rfl
  exact e

end Cert.ConvRefIdeal.Read

end
-- ==== Proof.ConvClaim.lean ====
/-
  The claims about the convolution.
-/
module

public import proofs.«01_k».proof.Defs
public import proofs.«01_k».proof.Proof.ConvValue
public import proofs.«01_k».proof.Proof.Gen.Conv.Frame
public import Idealize.ShloMosaic.Adequacy
public import Idealize.ShloMosaic.Init

@[expose] public section

noncomputable section

namespace Cert.Proof

open Idealize.ShloMosaic Idealize.SL.Sem

/-- The convolution ends, its arguments and counters as they were. -/
theorem conv_frame : Cert.quiescent_Conv := fun m ρ _ => Cert.Conv.Gen.frame m ρ

/-- So does its idealization. -/
theorem conv_ideal_frame : Cert.quiescent_ConvIdeal := fun m ρ _ => Cert.ConvIdeal.Gen.frame m ρ

/-- And so does its reference. -/
theorem conv_ref_frame : Cert.quiescent_ConvRefIdeal := fun m ρ _ =>
  (θ_run _ _ _).mono (fun r h => ⟨fun c => (h c).2, Idealize.ShloMosaic.sem_eq_zero_of_no_sems (by decide) r.2⟩)
    (Cert.ConvRefIdeal.Value.run m ρ)

/-- The idealization rewrites no operation. -/
theorem conv_preserves : Cert.preserves_Conv_ConvIdeal := trivial

/-- The idealized kernel and its reference end with one result. -/
theorem conv_algebraic : Cert.algebraic_ConvIdeal_ConvRefIdeal := by
  intro m ρ m' ρ' _ hagree
  refine ⟨fun c => Cert.ConvIdeal.Value.result (Cert.ConvIdeal.Value.X m c) (Cert.ConvIdeal.Value.W m c), ?_, ?_⟩
  · exact (θ_run Cert.ConvIdeal.defs _ _).mono (fun r h c => ⟨(h c).1.trans (Cert.ConvIdeal.Value.final m c), (h c).2⟩)
      (Cert.ConvIdeal.Value.run_blocks m ρ)
  · refine (θ_run Cert.ConvRefIdeal.defs _ _).mono (fun r h c => ⟨(h c).1.trans ?_, (h c).2⟩) (Cert.ConvRefIdeal.Value.run m' ρ')
    obtain ⟨e0, e1⟩ := hagree c
    rw [Cert.ConvRefIdeal.Read.val_main_v26_eq, Cert.ConvRefIdeal.Read.out_eq, e0, e1]

end Cert.Proof

end
-- ==== Proof.PoolValue.lean ====
/-
  What the pooling leaves in its result array.
-/
module

public import proofs.«01_k».proof.Proof.Gen.PoolIdeal.Value
public import proofs.«01_k».proof.Proof.Shift
public import Idealize.ShloMosaic.Lib.Pipeline.ValueKit
public import Idealize.ShloMosaic.Lib.Pointwise

@[expose] public section

set_option maxRecDepth 16384

noncomputable section

namespace Cert.PoolIdeal.Value

open Cert.PoolIdeal Cert.PoolIdeal.Gen Idealize.ShloMosaic Idealize.ShloMosaic.TcCoe Idealize.SL.Sem
open Cert

/-- The number of values row `r` pools over a window of `n`, counted in words: the row's number plus one, but no more than `n`. -/
def count (n : ℕ) (r : Fin 2048) : EReal :=
  FloatOps.sitofp (F := Ideal) .f32 (IntOp.minsi (IntOp.addi (BitVec.ofNat 32 r.val) 1#32) (BitVec.ofNat 32 n))

/-- A column's mean over its last values, from their sum `t` and the window `n`, less the value itself. -/
def centred (z t : Fin 2048 → EReal) (n : ℕ) (r : Fin 2048) : EReal := Ideal.div (t r) (count n r) - z r

/-- One entry of a group: the centred row's product with a column of the group's weights, times the scale. -/
def pooled (p : Fin 128 → EReal) (w : Fin 128 → EReal) (s : EReal) : EReal := (∑ k : Fin 128, p k * w k) * s

/-- One entry of a group of columns `z` pooled over a window of `n`. -/
def group (z : Fin 128 → Fin 2048 → EReal) (w : Fin 128 → EReal) (s : EReal) (n : ℕ) (r : Fin 2048) : EReal :=
  pooled (fun k => centred (z k) (trail (z k) n) n r) w s

/-- One entry of all four groups at lane `l`: group `l / 128` pools over a window of two to the power of its number plus one. -/
def entry (z : Fin 512 → Fin 2048 → EReal) (w : Fin 4 → Fin 128 → Fin 128 → EReal) (s : Fin 512 → EReal) (r : Fin 2048) (l : Fin 512) : EReal :=
  group (fun k => z ⟨128 * (l.val / 128) + k.val, by omega⟩) (fun k => w ⟨l.val / 128, by omega⟩ k ⟨l.val % 128, by omega⟩) (s l)
    (2 ^ (l.val / 128 + 1)) r

/-- The entry at lane `d` of group `g`, whose lanes start at `o` and whose window is `n`. -/
theorem entry_at (z : Fin 512 → Fin 2048 → EReal) (w : Fin 4 → Fin 128 → Fin 128 → EReal) (s : Fin 512 → EReal) (r : Fin 2048) (l : Fin 512)
    (g : Fin 4) (d : Fin 128) (o n : ℕ) (ho : o = 128 * g.val) (hn : n = 2 ^ (g.val + 1)) (hl : l.val = o + d.val) (h : ∀ k : Fin 128, o + k.val < 512) :
    entry z w s r l = group (fun k => z ⟨o + k.val, h k⟩) (fun k => w g k d) (s l) n r := by
  have hd := d.isLt
  have e1 : l.val / 128 = g.val := by omega
  have e2 : l.val % 128 = d.val := by omega
  have e3 : (⟨l.val / 128, by omega⟩ : Fin 4) = g := Fin.ext e1
  have e4 : (⟨l.val % 128, by omega⟩ : Fin 128) = d := Fin.ext e2
  have e5 : ∀ k : Fin 128, (⟨128 * (l.val / 128) + k.val, by omega⟩ : Fin 512) = ⟨o + k.val, h k⟩ := fun k => by
    have e : 128 * (l.val / 128) + k.val = o + k.val := by omega
    exact Fin.ext e
  unfold entry
  simp only [e3, e4, e5]
  rw [hn, e1]

/-- The pooling of the projection's first 512 lanes with the second layer's weights and scale. -/
def result (x : FVec Ideal S4x2048x2048 .f32) (w : FVec Ideal S2x4x128x128 .bf16) (s : FVec Ideal S2x1x512 .f32) :
    FVec Ideal S4x2048x512 .bf16 := fun j =>
  entry (fun l r => x (ix3 (j 0) r ⟨l.val, by omega⟩)) (fun g k d => w (ix4 1 g k d)) (fun l => s (ix3 1 0 l)) (j 1) (j 2)

/-- Each entry's row number. -/
def rows : IVec S2048x128 32 := iota .tc S2048x128 32 [0] iota_S2048x128_d0_w32

/-- A group's columns without the axis of one. -/
def cols (x : Vec Ideal S1x2048x128 .f32) : FVec Ideal S2048x128 .f32 := shapeCast S2048x128 x shapeCasts_S1x2048x128_S2048x128

/-- The columns plus themselves rotated down by `k` rows, without the rows that came round. -/
def twice (k : BitVec 32) (v : FVec Ideal S2048x128 .f32) : FVec Ideal S2048x128 .f32 :=
  addf v (select (cmpi .sge rows (broadcast S2048x128 k)) (dynamicRotate 0 k none v rotates_S2048x128_d0)
    (broadcast S2048x128 (Scalar.ofBits (F := Ideal) .f32 0x00000000#32)))

/-- The stored block from the columns `v`, their sums `t` over the last rows, the window, the weights and the scale. -/
def stored (n : BitVec 32) (v t : FVec Ideal S2048x128 .f32) (w : Vec Ideal S1x1x128x128 .bf16) (s : Vec Ideal S1x1x128 .f32) :
    FVec Ideal S1x2048x128 .bf16 :=
  shapeCast S1x2048x128 (truncf .bf16 (mulf (matmul dot_S2048x128_S128x128_S2048x128_1_0_0_1_n_n none
    (truncf .bf16 (subf (divf t (sitofp .f32 (minsi (addi rows (broadcast S2048x128 1#32)) (broadcast S2048x128 n)))) v) bitsLt_bf16_f32)
    (shapeCast S128x128 w shapeCasts_S1x1x128x128_S128x128 : FVec Ideal S128x128 .bf16) (constant (F := Ideal) S2048x128 .f32 0x00000000#32))
    (broadcastTo S2048x128 (shapeCast S1x128 s shapeCasts_S1x1x128_S1x128) broadcasts_S1x128_S2048x128)) bitsLt_bf16_f32)
    shapeCasts_S2048x128_S1x2048x128

/-- The columns' entries are the loaded ones. -/
theorem cols_apply (x : Vec Ideal S1x2048x128 .f32) (r : Fin 2048) (k : Fin 128) : cols x (ix2 r k) = x (ix3 0 r k) := by
  pointwise [cols]

/-- A rotation by 1 doubles each column's sum. -/
theorem twice_1 (v : FVec Ideal S2048x128 .f32) (r : Fin 2048) (k : Fin 128) :
    twice 1#32 v (ix2 r k) = doubled (fun r => v (ix2 r k)) 1 r := by
  unfold doubled turned
  pointwise [twice, rows]

/-- A rotation by 2 doubles each column's sum. -/
theorem twice_2 (v : FVec Ideal S2048x128 .f32) (r : Fin 2048) (k : Fin 128) :
    twice 2#32 v (ix2 r k) = doubled (fun r => v (ix2 r k)) 2 r := by
  unfold doubled turned
  pointwise [twice, rows]

/-- A rotation by 4 doubles each column's sum. -/
theorem twice_4 (v : FVec Ideal S2048x128 .f32) (r : Fin 2048) (k : Fin 128) :
    twice 4#32 v (ix2 r k) = doubled (fun r => v (ix2 r k)) 4 r := by
  unfold doubled turned
  pointwise [twice, rows]

/-- A rotation by 8 doubles each column's sum. -/
theorem twice_8 (v : FVec Ideal S2048x128 .f32) (r : Fin 2048) (k : Fin 128) :
    twice 8#32 v (ix2 r k) = doubled (fun r => v (ix2 r k)) 8 r := by
  unfold doubled turned
  pointwise [twice, rows]

/-- The stored block's entries over a window of 2. -/
theorem stored_2 (v t : FVec Ideal S2048x128 .f32) (w : Vec Ideal S1x1x128x128 .bf16) (s : Vec Ideal S1x1x128 .f32) (r : Fin 2048) (d : Fin 128) :
    stored 2#32 v t w s (ix3 0 r d)
      = pooled (fun k => centred (fun r => v (ix2 r k)) (fun r => t (ix2 r k)) 2 r) (fun k => w (ix4 0 0 k d)) (s (ix3 0 0 d)) := by
  unfold pooled centred count
  pointwise [stored, rows]

/-- The stored block's entries over a window of 4. -/
theorem stored_4 (v t : FVec Ideal S2048x128 .f32) (w : Vec Ideal S1x1x128x128 .bf16) (s : Vec Ideal S1x1x128 .f32) (r : Fin 2048) (d : Fin 128) :
    stored 4#32 v t w s (ix3 0 r d)
      = pooled (fun k => centred (fun r => v (ix2 r k)) (fun r => t (ix2 r k)) 4 r) (fun k => w (ix4 0 0 k d)) (s (ix3 0 0 d)) := by
  unfold pooled centred count
  pointwise [stored, rows]

/-- The stored block's entries over a window of 8. -/
theorem stored_8 (v t : FVec Ideal S2048x128 .f32) (w : Vec Ideal S1x1x128x128 .bf16) (s : Vec Ideal S1x1x128 .f32) (r : Fin 2048) (d : Fin 128) :
    stored 8#32 v t w s (ix3 0 r d)
      = pooled (fun k => centred (fun r => v (ix2 r k)) (fun r => t (ix2 r k)) 8 r) (fun k => w (ix4 0 0 k d)) (s (ix3 0 0 d)) := by
  unfold pooled centred count
  pointwise [stored, rows]

/-- The stored block's entries over a window of 16. -/
theorem stored_16 (v t : FVec Ideal S2048x128 .f32) (w : Vec Ideal S1x1x128x128 .bf16) (s : Vec Ideal S1x1x128 .f32) (r : Fin 2048) (d : Fin 128) :
    stored 16#32 v t w s (ix3 0 r d)
      = pooled (fun k => centred (fun r => v (ix2 r k)) (fun r => t (ix2 r k)) 16 r) (fun k => w (ix4 0 0 k d)) (s (ix3 0 0 d)) := by
  unfold pooled centred count
  pointwise [stored, rows]

/-- One entry of the first group's block, from the blocks a grid point loaded. -/
theorem group_0 (x : Vec Ideal S1x2048x128 .f32) (w : Vec Ideal S1x1x128x128 .bf16) (s : Vec Ideal S1x1x128 .f32) (r : Fin 2048) (d : Fin 128) :
    k0_pay2 x w s (ix3 0 r d)
      = group (fun k r => x (ix3 0 r k)) (fun k => w (ix4 0 0 k d)) (s (ix3 0 0 d)) 2 r := by
  have e : k0_pay2 x w s
      = stored 2#32 (cols x) (twice 1#32 (cols x)) w s := rfl
  rw [e, stored_2]
  simp only [twice_1, cols_apply, doubled_two]
  rfl

/-- One entry of the second group's block, from the blocks a grid point loaded. -/
theorem group_1 (x : Vec Ideal S1x2048x128 .f32) (w : Vec Ideal S1x1x128x128 .bf16) (s : Vec Ideal S1x1x128 .f32) (r : Fin 2048) (d : Fin 128)
    (x0 : Vec Ideal S1x2048x512 .f32) (x1 : Vec Ideal S1x4x128x128 .bf16) (x2 : Vec Ideal S1x1x512 .f32) :
    k0_pay6 (k0_pay14 x0 x1 x2) (k0_pay3 x) k0_pay4 (k0_pay5 x) (Scalar.ofBits .f32 0x00000000#32) w s (ix3 0 r d)
      = group (fun k r => x (ix3 0 r k)) (fun k => w (ix4 0 0 k d)) (s (ix3 0 0 d)) 4 r := by
  have e : k0_pay6 (k0_pay14 x0 x1 x2) (k0_pay3 x) k0_pay4 (k0_pay5 x) (Scalar.ofBits .f32 0x00000000#32) w s
      = stored 4#32 (cols x) (twice 2#32 (twice 1#32 (cols x))) w s := rfl
  rw [e, stored_4]
  simp only [twice_2, twice_1, cols_apply, doubled_four]
  rfl

/-- One entry of the third group's block, from the blocks a grid point loaded. -/
theorem group_2 (x : Vec Ideal S1x2048x128 .f32) (w : Vec Ideal S1x1x128x128 .bf16) (s : Vec Ideal S1x1x128 .f32) (r : Fin 2048) (d : Fin 128)
    (x0 : Vec Ideal S1x2048x512 .f32) (x1 : Vec Ideal S1x4x128x128 .bf16) (x2 : Vec Ideal S1x1x512 .f32) :
    k0_pay9 (k0_pay14 x0 x1 x2) (k0_pay7 x) (k0_pay8 (k0_pay14 x0 x1 x2) x) 2#32 w s (ix3 0 r d)
      = group (fun k r => x (ix3 0 r k)) (fun k => w (ix4 0 0 k d)) (s (ix3 0 0 d)) 8 r := by
  have e : k0_pay9 (k0_pay14 x0 x1 x2) (k0_pay7 x) (k0_pay8 (k0_pay14 x0 x1 x2) x) 2#32 w s
      = stored 8#32 (cols x) (twice 4#32 (twice 2#32 (twice 1#32 (cols x)))) w s := rfl
  rw [e, stored_8]
  simp only [twice_4, twice_2, twice_1, cols_apply, doubled_eight]
  rfl

/-- One entry of the last group's block, from the blocks a grid point loaded. -/
theorem group_3 (x : Vec Ideal S1x2048x128 .f32) (w : Vec Ideal S1x1x128x128 .bf16) (s : Vec Ideal S1x1x128 .f32) (r : Fin 2048) (d : Fin 128)
    (x0 : Vec Ideal S1x2048x512 .f32) (x1 : Vec Ideal S1x4x128x128 .bf16) (x2 : Vec Ideal S1x1x512 .f32) :
    k0_pay1 (k0_pay13 (k0_pay14 x0 x1 x2) (k0_pay10 x) (k0_pay11 (k0_pay14 x0 x1 x2)) (k0_pay12 x) w s) (ix3 0 r d)
      = group (fun k r => x (ix3 0 r k)) (fun k => w (ix4 0 0 k d)) (s (ix3 0 0 d)) 16 r := by
  have e : k0_pay1 (k0_pay13 (k0_pay14 x0 x1 x2) (k0_pay10 x) (k0_pay11 (k0_pay14 x0 x1 x2)) (k0_pay12 x) w s)
      = stored 16#32 (cols x) (twice 8#32 (twice 4#32 (twice 2#32 (twice 1#32 (cols x))))) w s := rfl
  rw [e, stored_16]
  simp only [twice_8, twice_4, twice_2, twice_1, cols_apply, doubled_sixteen]
  rfl

/-- The first group's columns of the block a grid point loaded. -/
theorem cols_0 (x : Vec Ideal S1x2048x512 .f32) (r : Fin 2048) (k : Fin 128) :
    (View.ld x r0_0 : Vec Ideal S1x2048x128 .f32) (ix3 0 r k) = x (ix3 0 r ⟨0 + k.val, by omega⟩) := by
  pointwise []

/-- The first group's weights. -/
theorem weights_0 (w : Vec Ideal S1x4x128x128 .bf16) (k d : Fin 128) :
    (View.ld w r0_1 : Vec Ideal S1x1x128x128 .bf16) (ix4 0 0 k d) = w (ix4 0 0 k d) := by
  pointwise []

/-- The first group's scale. -/
theorem scale_0 (s : Vec Ideal S1x1x512 .f32) (d : Fin 128) :
    (View.ld s r0_2 : Vec Ideal S1x1x128 .f32) (ix3 0 0 d) = s (ix3 0 0 ⟨0 + d.val, by omega⟩) := by
  pointwise []

/-- Where the first group's block lies in the stored one. -/
theorem place_0 (r : Fin 2048) (d : Fin 128) : r0_0.emb (ix3 0 r d) = (ix3 0 r ⟨0 + d.val, by omega⟩ : S1x2048x512.Idx) := by
  blk_ext []

/-- The second group's columns of the block a grid point loaded. -/
theorem cols_1 (x : Vec Ideal S1x2048x512 .f32) (r : Fin 2048) (k : Fin 128) :
    (View.ld x r0_3 : Vec Ideal S1x2048x128 .f32) (ix3 0 r k) = x (ix3 0 r ⟨128 + k.val, by omega⟩) := by
  pointwise []

/-- The second group's weights. -/
theorem weights_1 (w : Vec Ideal S1x4x128x128 .bf16) (k d : Fin 128) :
    (View.ld w r0_4 : Vec Ideal S1x1x128x128 .bf16) (ix4 0 0 k d) = w (ix4 0 1 k d) := by
  pointwise []

/-- The second group's scale. -/
theorem scale_1 (s : Vec Ideal S1x1x512 .f32) (d : Fin 128) :
    (View.ld s r0_5 : Vec Ideal S1x1x128 .f32) (ix3 0 0 d) = s (ix3 0 0 ⟨128 + d.val, by omega⟩) := by
  pointwise []

/-- Where the second group's block lies in the stored one. -/
theorem place_1 (r : Fin 2048) (d : Fin 128) : r0_3.emb (ix3 0 r d) = (ix3 0 r ⟨128 + d.val, by omega⟩ : S1x2048x512.Idx) := by
  blk_ext []

/-- The third group's columns of the block a grid point loaded. -/
theorem cols_2 (x : Vec Ideal S1x2048x512 .f32) (r : Fin 2048) (k : Fin 128) :
    (View.ld x r0_6 : Vec Ideal S1x2048x128 .f32) (ix3 0 r k) = x (ix3 0 r ⟨256 + k.val, by omega⟩) := by
  pointwise []

/-- The third group's weights. -/
theorem weights_2 (w : Vec Ideal S1x4x128x128 .bf16) (k d : Fin 128) :
    (View.ld w r0_7 : Vec Ideal S1x1x128x128 .bf16) (ix4 0 0 k d) = w (ix4 0 2 k d) := by
  pointwise []

/-- The third group's scale. -/
theorem scale_2 (s : Vec Ideal S1x1x512 .f32) (d : Fin 128) :
    (View.ld s r0_8 : Vec Ideal S1x1x128 .f32) (ix3 0 0 d) = s (ix3 0 0 ⟨256 + d.val, by omega⟩) := by
  pointwise []

/-- Where the third group's block lies in the stored one. -/
theorem place_2 (r : Fin 2048) (d : Fin 128) : r0_6.emb (ix3 0 r d) = (ix3 0 r ⟨256 + d.val, by omega⟩ : S1x2048x512.Idx) := by
  blk_ext []

/-- The last group's columns of the block a grid point loaded. -/
theorem cols_3 (x : Vec Ideal S1x2048x512 .f32) (r : Fin 2048) (k : Fin 128) :
    (View.ld x r0_9 : Vec Ideal S1x2048x128 .f32) (ix3 0 r k) = x (ix3 0 r ⟨384 + k.val, by omega⟩) := by
  pointwise []

/-- The last group's weights. -/
theorem weights_3 (w : Vec Ideal S1x4x128x128 .bf16) (k d : Fin 128) :
    (View.ld w r0_10 : Vec Ideal S1x1x128x128 .bf16) (ix4 0 0 k d) = w (ix4 0 3 k d) := by
  pointwise []

/-- The last group's scale. -/
theorem scale_3 (s : Vec Ideal S1x1x512 .f32) (d : Fin 128) :
    (View.ld s r0_11 : Vec Ideal S1x1x128 .f32) (ix3 0 0 d) = s (ix3 0 0 ⟨384 + d.val, by omega⟩) := by
  pointwise []

/-- Where the last group's block lies in the stored one. -/
theorem place_3 (r : Fin 2048) (d : Fin 128) : r0_9.emb (ix3 0 r d) = (ix3 0 r ⟨384 + d.val, by omega⟩ : S1x2048x512.Idx) := by
  blk_ext []

/-- Groups of equal columns, weights and scale have equal entries. -/
theorem group_ext {z z' : Fin 128 → Fin 2048 → EReal} {w w' : Fin 128 → EReal} {s s' : EReal} {n : ℕ} {r : Fin 2048}
    (hz : ∀ k r, z k r = z' k r) (hw : ∀ k, w k = w' k) (hs : s = s') : group z w s n r = group z' w' s' n r := by
  obtain rfl : z = z' := funext fun k => funext fun r => hz k r
  obtain rfl : w = w' := funext hw
  rw [hs]

/-- All four groups' entries, from the blocks a grid point loaded. -/
def block (x0 : Vec Ideal S1x2048x512 .f32) (x1 : Vec Ideal S1x4x128x128 .bf16) (x2 : Vec Ideal S1x1x512 .f32) : Vec Ideal S1x2048x512 .bf16 :=
  fun y => entry (fun l r => x0 (ix3 0 r l)) (fun g k d => x1 (ix4 0 g k d)) (fun l => x2 (ix3 0 0 l)) (y 1) (y 2)

/-- The first group's entries of that block. -/
theorem block_0 (x0 : Vec Ideal S1x2048x512 .f32) (x1 : Vec Ideal S1x4x128x128 .bf16) (x2 : Vec Ideal S1x1x512 .f32) (r : Fin 2048) (d : Fin 128) :
    block x0 x1 x2 (ix3 0 r ⟨0 + d.val, by omega⟩)
      = group (fun k r => x0 (ix3 0 r ⟨0 + k.val, by omega⟩)) (fun k => x1 (ix4 0 0 k d)) (x2 (ix3 0 0 ⟨0 + d.val, by omega⟩)) 2 r := by
  have h := entry_at (fun l r => x0 (ix3 0 r l)) (fun g k d => x1 (ix4 0 g k d)) (fun l => x2 (ix3 0 0 l)) r ⟨0 + d.val, by omega⟩ 0 d
    0 2 (by decide) (by decide) (by dsimp only) (by omega)
  rw [← h]
  rfl

/-- The second group's entries of that block. -/
theorem block_1 (x0 : Vec Ideal S1x2048x512 .f32) (x1 : Vec Ideal S1x4x128x128 .bf16) (x2 : Vec Ideal S1x1x512 .f32) (r : Fin 2048) (d : Fin 128) :
    block x0 x1 x2 (ix3 0 r ⟨128 + d.val, by omega⟩)
      = group (fun k r => x0 (ix3 0 r ⟨128 + k.val, by omega⟩)) (fun k => x1 (ix4 0 1 k d)) (x2 (ix3 0 0 ⟨128 + d.val, by omega⟩)) 4 r := by
  have h := entry_at (fun l r => x0 (ix3 0 r l)) (fun g k d => x1 (ix4 0 g k d)) (fun l => x2 (ix3 0 0 l)) r ⟨128 + d.val, by omega⟩ 1 d
    128 4 (by decide) (by decide) (by dsimp only) (by omega)
  rw [← h]
  rfl

/-- The third group's entries of that block. -/
theorem block_2 (x0 : Vec Ideal S1x2048x512 .f32) (x1 : Vec Ideal S1x4x128x128 .bf16) (x2 : Vec Ideal S1x1x512 .f32) (r : Fin 2048) (d : Fin 128) :
    block x0 x1 x2 (ix3 0 r ⟨256 + d.val, by omega⟩)
      = group (fun k r => x0 (ix3 0 r ⟨256 + k.val, by omega⟩)) (fun k => x1 (ix4 0 2 k d)) (x2 (ix3 0 0 ⟨256 + d.val, by omega⟩)) 8 r := by
  have h := entry_at (fun l r => x0 (ix3 0 r l)) (fun g k d => x1 (ix4 0 g k d)) (fun l => x2 (ix3 0 0 l)) r ⟨256 + d.val, by omega⟩ 2 d
    256 8 (by decide) (by decide) (by dsimp only) (by omega)
  rw [← h]
  rfl

/-- The last group's entries of that block. -/
theorem block_3 (x0 : Vec Ideal S1x2048x512 .f32) (x1 : Vec Ideal S1x4x128x128 .bf16) (x2 : Vec Ideal S1x1x512 .f32) (r : Fin 2048) (d : Fin 128) :
    block x0 x1 x2 (ix3 0 r ⟨384 + d.val, by omega⟩)
      = group (fun k r => x0 (ix3 0 r ⟨384 + k.val, by omega⟩)) (fun k => x1 (ix4 0 3 k d)) (x2 (ix3 0 0 ⟨384 + d.val, by omega⟩)) 16 r := by
  have h := entry_at (fun l r => x0 (ix3 0 r l)) (fun g k d => x1 (ix4 0 g k d)) (fun l => x2 (ix3 0 0 l)) r ⟨384 + d.val, by omega⟩ 3 d
    384 16 (by decide) (by decide) (by dsimp only) (by omega)
  rw [← h]
  rfl

/-- The block a grid point leaves, from the blocks it loaded. -/
theorem block_apply (x0 : Vec Ideal S1x2048x512 .f32) (x1 : Vec Ideal S1x4x128x128 .bf16) (x2 : Vec Ideal S1x1x512 .f32) (y : S1x2048x512.Idx) :
    out0_3 x0 x1 x2 y = block x0 x1 x2 y := by
  unfold out0_3
  refine View.canon_apply_of_pieces (Val := Elt Ideal) (block x0 x1 x2) _ ?_ y (cover0_3 _ _ _ _ y)
  intro pc hpc
  rcases List.mem_cons.mp hpc with rfl | hpc
  · intro v
    idx_vars v
    obtain rfl : v0 = 0 := Subsingleton.elim _ _
    rw [place_3]
    refine (group_3 _ _ _ v1 v2 x0 x1 x2).trans ?_
    refine (group_ext (fun k r => cols_3 x0 r k) (fun k => weights_3 x1 k v2) (scale_3 x2 v2)).trans ?_
    exact (block_3 x0 x1 x2 v1 v2).symm
  rcases List.mem_cons.mp hpc with rfl | hpc
  · intro v
    idx_vars v
    obtain rfl : v0 = 0 := Subsingleton.elim _ _
    rw [place_2]
    refine (group_2 _ _ _ v1 v2 x0 x1 x2).trans ?_
    refine (group_ext (fun k r => cols_2 x0 r k) (fun k => weights_2 x1 k v2) (scale_2 x2 v2)).trans ?_
    exact (block_2 x0 x1 x2 v1 v2).symm
  rcases List.mem_cons.mp hpc with rfl | hpc
  · intro v
    idx_vars v
    obtain rfl : v0 = 0 := Subsingleton.elim _ _
    rw [place_1]
    refine (group_1 _ _ _ v1 v2 x0 x1 x2).trans ?_
    refine (group_ext (fun k r => cols_1 x0 r k) (fun k => weights_1 x1 k v2) (scale_1 x2 v2)).trans ?_
    exact (block_1 x0 x1 x2 v1 v2).symm
  rcases List.mem_cons.mp hpc with rfl | hpc
  · intro v
    idx_vars v
    obtain rfl : v0 = 0 := Subsingleton.elim _ _
    rw [place_0]
    refine (group_0 _ _ _ v1 v2).trans ?_
    refine (group_ext (fun k r => cols_0 x0 r k) (fun k => weights_0 x1 k v2) (scale_0 x2 v2)).trans ?_
    exact (block_0 x0 x1 x2 v1 v2).symm
  nomatch hpc

/-- Each window's block index at a grid point. -/
theorem idx : ∀ t : Fin cfg0.N,
    win0_0.index t = ![(grid0.coords t 0).val, 0, 0]
      ∧ win0_1.index t = ![1, 0, 0, 0]
      ∧ win0_2.index t = ![1, 0, 0]
      ∧ win0_3.index t = ![(grid0.coords t 0).val, 0, 0] :=
  (by decide +kernel : ∀ t : Fin grid0.N, _)

variable (m : (ℓ : Loc nD τ sig) → Buf (Elt Ideal) ℓ)

/-- The projection's columns. -/
abbrev X (c : Dev nD) : FVec Ideal S4x2048x2048 .f32 := m ((c : Thread nD τ).loc main_arg0)
/-- Both layers' weights. -/
abbrev W (c : Dev nD) : FVec Ideal S2x4x128x128 .bf16 := m ((c : Thread nD τ).loc main_arg1)
/-- Both layers' scales. -/
abbrev S (c : Dev nD) : FVec Ideal S2x1x512 .f32 := m ((c : Thread nD τ).loc main_arg2)

/-- The columns a grid point loads. -/
theorem blk_x (c : Dev nD) (t : Fin cfg0.N) (r : Fin 2048) (l : Fin 512) (hl) :
    (iblk m c 0 t : Vec Ideal S1x2048x512 .f32) (ix3 0 r l) = X m c (ix3 (grid0.coords t 0) r ⟨l.val, hl⟩) := by
  blk_ext [iblk, V, idx t]

/-- The weights a grid point loads. -/
theorem blk_w (c : Dev nD) (t : Fin cfg0.N) (g : Fin 4) (k d : Fin 128) :
    (iblk m c 1 t : Vec Ideal S1x4x128x128 .bf16) (ix4 0 g k d) = W m c (ix4 1 g k d) := by
  blk_ext [iblk, V, idx t]

/-- The scales a grid point loads. -/
theorem blk_s (c : Dev nD) (t : Fin cfg0.N) (l : Fin 512) :
    (iblk m c 2 t : Vec Ideal S1x1x512 .f32) (ix3 0 0 l) = S m c (ix3 1 0 l) := by
  blk_ext [iblk, V, idx t]

/-- THE KERNEL'S RESULT ARRAY is the pooling of its arguments. -/
theorem final (c : Dev nD) : (dats m 0 c).arrAt 3 cfg0.N = result (X m c) (W m c) (S m c) := by
  refine (dats m 0 c).arrAt_eq_of_covers 3 _ (by decide +kernel) fun t hf y => ?_
  blk_simp
  rw [after0_3, block_apply]
  idx_vars y
  obtain rfl : y0 = 0 := Subsingleton.elim _ _
  have e : ((View.whole main_v0).slice (win0_3.rect t)).emb (ix3 0 y1 y2) = (ix3 (grid0.coords t 0) y1 y2 : S4x2048x512.Idx) := by
    blk_ext [idx t]
  rw [e]
  have hx : ∀ (l : Fin 512) (r : Fin 2048), (iblk m c 0 t : Vec Ideal S1x2048x512 .f32) (ix3 0 r l)
      = X m c (ix3 (grid0.coords t 0) r ⟨l.val, by omega⟩) := fun l r => blk_x m c t r l (by omega)
  unfold block
  simp only [hx, blk_w m c t, blk_s m c t]
  rfl

end Cert.PoolIdeal.Value

end
-- ==== Proof.PoolRef.lean ====
/-
  What the pooling's reference computes: the same array.
-/
module

public import proofs.«01_k».proof.Proof.PoolValue
public import proofs.«01_k».proof.Proof.Gen.PoolRefIdeal.Read

@[expose] public section

set_option maxRecDepth 16384

noncomputable section

namespace Cert.PoolRefIdeal.Read

open Cert.PoolRefIdeal Cert.PoolRefIdeal.Gen Idealize.ShloMosaic Idealize.ShloMosaic.TcCoe Idealize.SL.Sem
open Cert
open Cert.PoolIdeal.Value (centred pooled group entry entry_at result)

variable (x : FVec Ideal S4x2048x2048 .f32) (w : FVec Ideal S2x4x128x128 .bf16) (s : FVec Ideal S2x1x512 .f32)

/-- A lane's column of the pooled lanes. -/
def col (b : Fin 4) (l : Fin 512) (r : Fin 2048) : EReal := x (ix3 b r ⟨l.val, by omega⟩)

/-- The pooled lanes. -/
theorem lanes (b : Fin 4) (r : Fin 2048) (l : Fin 512) : val_main_v0 (F := Ideal) x (ix3 b r l) = col x b l r := by
  unfold col
  pointwise [val_main_v0]

/-- The lanes of 1 rows earlier. -/
theorem ago_1 (b : Fin 4) (r : Fin 2048) (l : Fin 512) : val_main_v2 (F := Ideal) x (ix3 b r l) = ago (col x b l) 1 r := by
  pointwise [val_main_v2, val_main_v1, val_main_call0_v0, val_main_c, val_main_v0]
  exact padded_eq (col x b l) 16 15 r (by omega) _ fun _ => rfl

/-- The lanes of 2 rows earlier. -/
theorem ago_2 (b : Fin 4) (r : Fin 2048) (l : Fin 512) : val_main_v16 (F := Ideal) x (ix3 b r l) = ago (col x b l) 2 r := by
  pointwise [val_main_v16, val_main_v1, val_main_call0_v0, val_main_c, val_main_v0]
  exact padded_eq (col x b l) 16 14 r (by omega) _ fun _ => rfl

/-- The lanes of 3 rows earlier. -/
theorem ago_3 (b : Fin 4) (r : Fin 2048) (l : Fin 512) : val_main_v18 (F := Ideal) x (ix3 b r l) = ago (col x b l) 3 r := by
  pointwise [val_main_v18, val_main_v1, val_main_call0_v0, val_main_c, val_main_v0]
  exact padded_eq (col x b l) 16 13 r (by omega) _ fun _ => rfl

/-- The lanes of 4 rows earlier. -/
theorem ago_4 (b : Fin 4) (r : Fin 2048) (l : Fin 512) : val_main_v32 (F := Ideal) x (ix3 b r l) = ago (col x b l) 4 r := by
  pointwise [val_main_v32, val_main_v1, val_main_call0_v0, val_main_c, val_main_v0]
  exact padded_eq (col x b l) 16 12 r (by omega) _ fun _ => rfl

/-- The lanes of 5 rows earlier. -/
theorem ago_5 (b : Fin 4) (r : Fin 2048) (l : Fin 512) : val_main_v34 (F := Ideal) x (ix3 b r l) = ago (col x b l) 5 r := by
  pointwise [val_main_v34, val_main_v1, val_main_call0_v0, val_main_c, val_main_v0]
  exact padded_eq (col x b l) 16 11 r (by omega) _ fun _ => rfl

/-- The lanes of 6 rows earlier. -/
theorem ago_6 (b : Fin 4) (r : Fin 2048) (l : Fin 512) : val_main_v36 (F := Ideal) x (ix3 b r l) = ago (col x b l) 6 r := by
  pointwise [val_main_v36, val_main_v1, val_main_call0_v0, val_main_c, val_main_v0]
  exact padded_eq (col x b l) 16 10 r (by omega) _ fun _ => rfl

/-- The lanes of 7 rows earlier. -/
theorem ago_7 (b : Fin 4) (r : Fin 2048) (l : Fin 512) : val_main_v38 (F := Ideal) x (ix3 b r l) = ago (col x b l) 7 r := by
  pointwise [val_main_v38, val_main_v1, val_main_call0_v0, val_main_c, val_main_v0]
  exact padded_eq (col x b l) 16 9 r (by omega) _ fun _ => rfl

/-- The lanes of 8 rows earlier. -/
theorem ago_8 (b : Fin 4) (r : Fin 2048) (l : Fin 512) : val_main_v52 (F := Ideal) x (ix3 b r l) = ago (col x b l) 8 r := by
  pointwise [val_main_v52, val_main_v1, val_main_call0_v0, val_main_c, val_main_v0]
  exact padded_eq (col x b l) 16 8 r (by omega) _ fun _ => rfl

/-- The lanes of 9 rows earlier. -/
theorem ago_9 (b : Fin 4) (r : Fin 2048) (l : Fin 512) : val_main_v54 (F := Ideal) x (ix3 b r l) = ago (col x b l) 9 r := by
  pointwise [val_main_v54, val_main_v1, val_main_call0_v0, val_main_c, val_main_v0]
  exact padded_eq (col x b l) 16 7 r (by omega) _ fun _ => rfl

/-- The lanes of 10 rows earlier. -/
theorem ago_10 (b : Fin 4) (r : Fin 2048) (l : Fin 512) : val_main_v56 (F := Ideal) x (ix3 b r l) = ago (col x b l) 10 r := by
  pointwise [val_main_v56, val_main_v1, val_main_call0_v0, val_main_c, val_main_v0]
  exact padded_eq (col x b l) 16 6 r (by omega) _ fun _ => rfl

/-- The lanes of 11 rows earlier. -/
theorem ago_11 (b : Fin 4) (r : Fin 2048) (l : Fin 512) : val_main_v58 (F := Ideal) x (ix3 b r l) = ago (col x b l) 11 r := by
  pointwise [val_main_v58, val_main_v1, val_main_call0_v0, val_main_c, val_main_v0]
  exact padded_eq (col x b l) 16 5 r (by omega) _ fun _ => rfl

/-- The lanes of 12 rows earlier. -/
theorem ago_12 (b : Fin 4) (r : Fin 2048) (l : Fin 512) : val_main_v60 (F := Ideal) x (ix3 b r l) = ago (col x b l) 12 r := by
  pointwise [val_main_v60, val_main_v1, val_main_call0_v0, val_main_c, val_main_v0]
  exact padded_eq (col x b l) 16 4 r (by omega) _ fun _ => rfl

/-- The lanes of 13 rows earlier. -/
theorem ago_13 (b : Fin 4) (r : Fin 2048) (l : Fin 512) : val_main_v62 (F := Ideal) x (ix3 b r l) = ago (col x b l) 13 r := by
  pointwise [val_main_v62, val_main_v1, val_main_call0_v0, val_main_c, val_main_v0]
  exact padded_eq (col x b l) 16 3 r (by omega) _ fun _ => rfl

/-- The lanes of 14 rows earlier. -/
theorem ago_14 (b : Fin 4) (r : Fin 2048) (l : Fin 512) : val_main_v64 (F := Ideal) x (ix3 b r l) = ago (col x b l) 14 r := by
  pointwise [val_main_v64, val_main_v1, val_main_call0_v0, val_main_c, val_main_v0]
  exact padded_eq (col x b l) 16 2 r (by omega) _ fun _ => rfl

/-- The lanes of 15 rows earlier. -/
theorem ago_15 (b : Fin 4) (r : Fin 2048) (l : Fin 512) : val_main_v66 (F := Ideal) x (ix3 b r l) = ago (col x b l) 15 r := by
  pointwise [val_main_v66, val_main_v1, val_main_call0_v0, val_main_c, val_main_v0]
  exact padded_eq (col x b l) 16 1 r (by omega) _ fun _ => rfl

/-- The sum of each lane's last 2 values. -/
theorem trail_2 (b : Fin 4) (r : Fin 2048) (l : Fin 512) : val_main_v3 (F := Ideal) x (ix3 b r l) = trail (col x b l) 2 r := by
  unfold trail
  pointwise [val_main_v3]
  rw [lanes, ago_1]
  simp only [Finset.sum_range_succ, Finset.sum_range_zero, zero_add, ago_zero]

/-- The sum of each lane's last 4 values. -/
theorem trail_4 (b : Fin 4) (r : Fin 2048) (l : Fin 512) : val_main_v19 (F := Ideal) x (ix3 b r l) = trail (col x b l) 4 r := by
  unfold trail
  pointwise [val_main_v19, val_main_v17, val_main_v3]
  rw [lanes, ago_1, ago_2, ago_3]
  simp only [Finset.sum_range_succ, Finset.sum_range_zero, zero_add, ago_zero]

/-- The sum of each lane's last 8 values. -/
theorem trail_8 (b : Fin 4) (r : Fin 2048) (l : Fin 512) : val_main_v39 (F := Ideal) x (ix3 b r l) = trail (col x b l) 8 r := by
  unfold trail
  pointwise [val_main_v39, val_main_v37, val_main_v35, val_main_v33, val_main_v19, val_main_v17, val_main_v3]
  rw [lanes, ago_1, ago_2, ago_3, ago_4, ago_5, ago_6, ago_7]
  simp only [Finset.sum_range_succ, Finset.sum_range_zero, zero_add, ago_zero]

/-- The sum of each lane's last 16 values. -/
theorem trail_16 (b : Fin 4) (r : Fin 2048) (l : Fin 512) : val_main_v67 (F := Ideal) x (ix3 b r l) = trail (col x b l) 16 r := by
  unfold trail
  pointwise [val_main_v67, val_main_v65, val_main_v63, val_main_v61, val_main_v59, val_main_v57, val_main_v55, val_main_v53, val_main_v39, val_main_v37, val_main_v35, val_main_v33, val_main_v19, val_main_v17, val_main_v3]
  rw [lanes, ago_1, ago_2, ago_3, ago_4, ago_5, ago_6, ago_7, ago_8, ago_9, ago_10, ago_11, ago_12, ago_13, ago_14, ago_15]
  simp only [Finset.sum_range_succ, Finset.sum_range_zero, zero_add, ago_zero]

/-- Group 1's means less the values. -/
theorem centred_0 (b : Fin 4) (r : Fin 2048) (k : Fin 128) :
    val_main_v15 (F := Ideal) x (ix3 b r k) = centred (col x b ⟨0 + k.val, by omega⟩) (trail (col x b ⟨0 + k.val, by omega⟩) 2) 2 r := by
  have e : val_main_v15 (F := Ideal) x (ix3 b r k)
      = Ideal.div (val_main_v3 (F := Ideal) x (ix3 b r ⟨0 + k.val, by omega⟩)) (Cert.PoolIdeal.Value.count 2 r) - val_main_v0 (F := Ideal) x (ix3 b r ⟨0 + k.val, by omega⟩) := by
    unfold Cert.PoolIdeal.Value.count
    pointwise [val_main_v15, val_main_v14, val_main_v13, val_main_v12, val_main_v11, val_main_v10, val_main_v9, val_main_v8, val_main_v7, val_main_v6, val_main_v5, val_main_v4, val_main_c_1, val_main_c_0]
  rw [e, trail_2, lanes]
  rfl

/-- Group 2's means less the values. -/
theorem centred_1 (b : Fin 4) (r : Fin 2048) (k : Fin 128) :
    val_main_v31 (F := Ideal) x (ix3 b r k) = centred (col x b ⟨128 + k.val, by omega⟩) (trail (col x b ⟨128 + k.val, by omega⟩) 4) 4 r := by
  have e : val_main_v31 (F := Ideal) x (ix3 b r k)
      = Ideal.div (val_main_v19 (F := Ideal) x (ix3 b r ⟨128 + k.val, by omega⟩)) (Cert.PoolIdeal.Value.count 4 r) - val_main_v0 (F := Ideal) x (ix3 b r ⟨128 + k.val, by omega⟩) := by
    unfold Cert.PoolIdeal.Value.count
    pointwise [val_main_v31, val_main_v30, val_main_v29, val_main_v28, val_main_v27, val_main_v26, val_main_v25, val_main_v24, val_main_v23, val_main_v22, val_main_v21, val_main_v20, val_main_c_3, val_main_c_2]
  rw [e, trail_4, lanes]
  rfl

/-- Group 3's means less the values. -/
theorem centred_2 (b : Fin 4) (r : Fin 2048) (k : Fin 128) :
    val_main_v51 (F := Ideal) x (ix3 b r k) = centred (col x b ⟨256 + k.val, by omega⟩) (trail (col x b ⟨256 + k.val, by omega⟩) 8) 8 r := by
  have e : val_main_v51 (F := Ideal) x (ix3 b r k)
      = Ideal.div (val_main_v39 (F := Ideal) x (ix3 b r ⟨256 + k.val, by omega⟩)) (Cert.PoolIdeal.Value.count 8 r) - val_main_v0 (F := Ideal) x (ix3 b r ⟨256 + k.val, by omega⟩) := by
    unfold Cert.PoolIdeal.Value.count
    pointwise [val_main_v51, val_main_v50, val_main_v49, val_main_v48, val_main_v47, val_main_v46, val_main_v45, val_main_v44, val_main_v43, val_main_v42, val_main_v41, val_main_v40, val_main_c_5, val_main_c_4]
  rw [e, trail_8, lanes]
  rfl

/-- Group 4's means less the values. -/
theorem centred_3 (b : Fin 4) (r : Fin 2048) (k : Fin 128) :
    val_main_v79 (F := Ideal) x (ix3 b r k) = centred (col x b ⟨384 + k.val, by omega⟩) (trail (col x b ⟨384 + k.val, by omega⟩) 16) 16 r := by
  have e : val_main_v79 (F := Ideal) x (ix3 b r k)
      = Ideal.div (val_main_v67 (F := Ideal) x (ix3 b r ⟨384 + k.val, by omega⟩)) (Cert.PoolIdeal.Value.count 16 r) - val_main_v0 (F := Ideal) x (ix3 b r ⟨384 + k.val, by omega⟩) := by
    unfold Cert.PoolIdeal.Value.count
    pointwise [val_main_v79, val_main_v78, val_main_v77, val_main_v76, val_main_v75, val_main_v74, val_main_v73, val_main_v72, val_main_v71, val_main_v70, val_main_v69, val_main_v68, val_main_c_7, val_main_c_6]
  rw [e, trail_16, lanes]
  rfl

/-- Group 1 of the stacked groups. -/
theorem stacked_0 (b : Fin 4) (r : Fin 2048) (k : Fin 128) :
    val_main_v84 (F := Ideal) x (ix4 b r 0 k) = val_main_v15 (F := Ideal) x (ix3 b r k) := by
  pointwise [val_main_v84, val_main_v83, val_main_v82, val_main_v81, val_main_v80]

/-- Group 2 of the stacked groups. -/
theorem stacked_1 (b : Fin 4) (r : Fin 2048) (k : Fin 128) :
    val_main_v84 (F := Ideal) x (ix4 b r 1 k) = val_main_v31 (F := Ideal) x (ix3 b r k) := by
  pointwise [val_main_v84, val_main_v83, val_main_v82, val_main_v81, val_main_v80]

/-- Group 3 of the stacked groups. -/
theorem stacked_2 (b : Fin 4) (r : Fin 2048) (k : Fin 128) :
    val_main_v84 (F := Ideal) x (ix4 b r 2 k) = val_main_v51 (F := Ideal) x (ix3 b r k) := by
  pointwise [val_main_v84, val_main_v83, val_main_v82, val_main_v81, val_main_v80]

/-- Group 4 of the stacked groups. -/
theorem stacked_3 (b : Fin 4) (r : Fin 2048) (k : Fin 128) :
    val_main_v84 (F := Ideal) x (ix4 b r 3 k) = val_main_v79 (F := Ideal) x (ix3 b r k) := by
  pointwise [val_main_v84, val_main_v83, val_main_v82, val_main_v81, val_main_v80]

/-- A group's means less the values, whichever the group. -/
theorem means (b : Fin 4) (r : Fin 2048) (k : Fin 128) (g : Fin 4) (h) :
    val_main_v84 (F := Ideal) x (ix4 b r g k)
      = centred (col x b ⟨128 * g.val + k.val, h⟩) (trail (col x b ⟨128 * g.val + k.val, h⟩) (2 ^ (g.val + 1))) (2 ^ (g.val + 1)) r := by
  obtain rfl | rfl | rfl | rfl := (by decide : ∀ g : Fin 4, g = 0 ∨ g = 1 ∨ g = 2 ∨ g = 3) g
  · exact (stacked_0 x b r k).trans (centred_0 x b r k)
  · exact (stacked_1 x b r k).trans (centred_1 x b r k)
  · exact (stacked_2 x b r k).trans (centred_2 x b r k)
  · exact (stacked_3 x b r k).trans (centred_3 x b r k)

/-- An entry of the result is a group's row times a column of its weights, times the scale. -/
theorem weighed (b : Fin 4) (r : Fin 2048) (l : Fin 512) :
    val_main_v96 (F := Ideal) x w s (ix3 b r l)
      = (∑ k : Fin 128, w (ix4 1 ⟨l.val / 128, by omega⟩ k ⟨l.val % 128, by omega⟩)
          * val_main_v84 (F := Ideal) x (ix4 b r ⟨l.val / 128, by omega⟩ k)) * s (ix3 1 0 l) := by
  pointwise [val_main_v96, val_main_v95, val_main_v94, val_main_v93, val_main_v92, val_main_v91, val_main_v90, val_main_v89, val_main_v88, val_main_v87, val_main_v86, val_main_v85]

/-- THE REFERENCE'S RESULT is the pooling of its arguments. -/
theorem out_eq : val_main_v96 (F := Ideal) x w s = result x w s := by
  funext j
  idx_vars j
  rw [weighed]
  have e : (∑ k : Fin 128, w (ix4 1 ⟨j2.val / 128, by omega⟩ k ⟨j2.val % 128, by omega⟩)
          * val_main_v84 (F := Ideal) x (ix4 j0 j1 ⟨j2.val / 128, by omega⟩ k))
      = ∑ k : Fin 128, centred (col x j0 ⟨128 * (j2.val / 128) + k.val, by omega⟩)
            (trail (col x j0 ⟨128 * (j2.val / 128) + k.val, by omega⟩) (2 ^ (j2.val / 128 + 1))) (2 ^ (j2.val / 128 + 1)) j1
          * w (ix4 1 ⟨j2.val / 128, by omega⟩ k ⟨j2.val % 128, by omega⟩) :=
    Finset.sum_congr rfl fun k _ => by
      rw [means x j0 j1 k ⟨j2.val / 128, by omega⟩ (by dsimp only; omega)]
      exact mul_comm _ _
  rw [e]
  rfl

end Cert.PoolRefIdeal.Read

end
-- ==== Proof.PoolClaim.lean ====
/-
  The claims about the pooling.
-/
module

public import proofs.«01_k».proof.Defs
public import proofs.«01_k».proof.Proof.PoolRef
public import proofs.«01_k».proof.Proof.Gen.Pool.Frame
public import Idealize.ShloMosaic.Adequacy
public import Idealize.ShloMosaic.Init

@[expose] public section

noncomputable section

namespace Cert.Proof

open Idealize.ShloMosaic Idealize.SL.Sem

/-- The pooling ends, its arguments and counters as they were. -/
theorem pool_frame : Cert.quiescent_Pool := fun m ρ _ => Cert.Pool.Gen.frame m ρ

/-- So does its idealization. -/
theorem pool_ideal_frame : Cert.quiescent_PoolIdeal := fun m ρ _ => Cert.PoolIdeal.Gen.frame m ρ

/-- And so does its reference. -/
theorem pool_ref_frame : Cert.quiescent_PoolRefIdeal := fun m ρ _ =>
  (θ_run _ _ _).mono (fun r h => ⟨fun c => (h c).2, Idealize.ShloMosaic.sem_eq_zero_of_no_sems (by decide) r.2⟩)
    (Cert.PoolRefIdeal.Value.run m ρ)

/-- The idealization rewrites no operation. -/
theorem pool_preserves : Cert.preserves_Pool_PoolIdeal := trivial

/-- The idealized kernel and its reference end with one result. -/
theorem pool_algebraic : Cert.algebraic_PoolIdeal_PoolRefIdeal := by
  intro m ρ m' ρ' _ hagree
  refine ⟨fun c => Cert.PoolIdeal.Value.result (Cert.PoolIdeal.Value.X m c) (Cert.PoolIdeal.Value.W m c) (Cert.PoolIdeal.Value.S m c), ?_, ?_⟩
  · exact (θ_run Cert.PoolIdeal.defs _ _).mono (fun r h c => ⟨(h c).1.trans (Cert.PoolIdeal.Value.final m c), (h c).2⟩)
      (Cert.PoolIdeal.Value.run_blocks m ρ)
  · refine (θ_run Cert.PoolRefIdeal.defs _ _).mono (fun r h c => ⟨(h c).1.trans ?_, (h c).2⟩) (Cert.PoolRefIdeal.Value.run m' ρ')
    obtain ⟨e0, e1, e2⟩ := hagree c
    rw [Cert.PoolRefIdeal.Read.val_main_v96_eq, Cert.PoolRefIdeal.Read.out_eq, e0, e1, e2]

end Cert.Proof

end
-- ==== Proof.NormFirstValue.lean ====
/-
  What the first layer's norm leaves in its result array, and that the reference computes it too.
-/
module

public import proofs.«01_k».proof.Proof.Gen.NormFirstIdeal.Value
public import proofs.«01_k».proof.Proof.Gen.NormFirstRefIdeal.Read
public import Idealize.ShloMosaic.Lib.Pipeline.ValueKit
public import Idealize.ShloMosaic.Lib.Pointwise

@[expose] public section

set_option maxRecDepth 16384

noncomputable section

namespace Cert.NormFirstIdeal.Value

open Cert.NormFirstIdeal Cert.NormFirstIdeal.Gen Idealize.ShloMosaic Idealize.ShloMosaic.TcCoe Idealize.SL.Sem
open Cert

/-- The root-mean-square norm of a row `h` at lane `d`, times the gain `g`: the entry times the inverse root of the mean square plus the
    constant that keeps it from zero. -/
def rms (h : Fin 2048 → EReal) (g : EReal) (d : Fin 2048) : EReal :=
  h d * Ideal.rsqrt (Ideal.div (∑ e : Fin 2048, h e * h e) (Ideal.ofBits .f32 0x45000000#32) + Ideal.ofBits .f32 0x358637BD#32) * g

/-- The norm of the residual stream's rows with the first layer's gains. -/
def normed (x : FVec Ideal S8192x2048 .f32) (g : FVec Ideal S2x1x2048 .f32) : FVec Ideal S8192x2048 .bf16 := fun j =>
  rms (fun e => x (ix2 (j 0) e)) (g (ix3 0 0 (j 1))) (j 1)

/-- One entry of the normed block, from the blocks a grid point loaded. -/
theorem normed_block (x : Vec Ideal S512x2048 .f32) (g : Vec Ideal S1x1x2048 .f32) (r : Fin 512) (d : Fin 2048) :
    k0_pay1 x g (ix2 r d) = rms (fun e => x (ix2 r e)) (g (ix3 0 0 d)) d := by
  unfold rms
  pointwise [k0_pay1]

/-- Each window's block index at a grid point. -/
theorem idx : ∀ t : Fin cfg0.N,
    win0_0.index t = ![(grid0.coords t 0).val, 0]
      ∧ win0_1.index t = ![0, 0, 0]
      ∧ win0_2.index t = ![(grid0.coords t 0).val, 0] :=
  (by decide +kernel : ∀ t : Fin grid0.N, _)

variable (m : (ℓ : Loc nD τ sig) → Buf (Elt Ideal) ℓ)

/-- The residual stream. -/
abbrev X (c : Dev nD) : FVec Ideal S8192x2048 .f32 := m ((c : Thread nD τ).loc main_arg0)
/-- The gains. -/
abbrev G (c : Dev nD) : FVec Ideal S2x1x2048 .f32 := m ((c : Thread nD τ).loc main_arg1)

/-- The rows of the residual stream a grid point loads. -/
theorem blk_x (c : Dev nD) (t : Fin cfg0.N) (r : Fin 512) (k : Fin 2048) (hr) :
    (iblk m c 0 t : Vec Ideal S512x2048 .f32) (ix2 r k) = X m c (ix2 ⟨512 * (grid0.coords t 0).val + r.val, hr⟩ k) := by
  blk_ext [iblk, V, idx t]

/-- The gains a grid point loads. -/
theorem blk_g (c : Dev nD) (t : Fin cfg0.N) (d : Fin 2048) :
    (iblk m c 1 t : Vec Ideal S1x1x2048 .f32) (ix3 0 0 d) = G m c (ix3 0 0 d) := by
  blk_ext [iblk, V, idx t]

/-- THE KERNEL'S RESULT ARRAY is the residual stream's norm. -/
theorem final_normed (c : Dev nD) : (dats m 0 c).arrAt 2 cfg0.N = normed (X m c) (G m c) := by
  refine (dats m 0 c).arrAt_eq_of_covers 2 _ (by decide +kernel) fun t hf y => ?_
  blk_simp
  rw [after0_2]
  frame_out
  idx_vars y
  have h0 : (grid0.coords t 0).val < 16 := (grid0.coords t 0).isLt
  have hy0 := y0.isLt
  have hr : 512 * (grid0.coords t 0).val + y0.val < 8192 := by omega
  rw [normed_block]
  have e : ((View.whole main_v0).slice (win0_2.rect t)).emb (ix2 y0 y1)
      = (ix2 ⟨512 * (grid0.coords t 0).val + y0.val, hr⟩ y1 : S8192x2048.Idx) := by
    blk_ext [idx t]
  rw [e]
  simp only [blk_x m c t y0 _ hr, blk_g m c t]
  rfl

end Cert.NormFirstIdeal.Value

namespace Cert.NormFirstRefIdeal.Read

open Cert.NormFirstRefIdeal Cert.NormFirstRefIdeal.Gen Idealize.ShloMosaic Idealize.ShloMosaic.TcCoe Idealize.SL.Sem
open Cert
open Cert.NormFirstIdeal.Value (rms normed)

variable (x : FVec Ideal S8192x2048 .f32) (g : FVec Ideal S2x1x2048 .f32)

/-- THE REFERENCE'S RESULT is the residual stream's norm. -/
theorem normed_eq : val_main_v15 (F := Ideal) x g = normed x g := by
  funext j
  idx_vars j
  have e : val_main_v15 (F := Ideal) x g (ix2 j0 j1) = rms (fun e => x (ix2 j0 e)) (g (ix3 0 0 j1)) j1 := by
    unfold rms
    pointwise [val_main_v15, val_main_v14, val_main_v13, val_main_v12, val_main_v11, val_main_v10, val_main_v9, val_main_v8, val_main_v7, val_main_v6, val_main_v5, val_main_v4, val_main_v3, val_main_v2, val_main_v1, val_main_v0, val_main_cst_1, val_main_cst_0, val_main_cst]
  exact e

end Cert.NormFirstRefIdeal.Read

end
-- ==== Proof.FirstClaim.lean ====
/-
  The claims about the first layer's norm.
-/
module

public import proofs.«01_k».proof.Defs
public import proofs.«01_k».proof.Proof.NormFirstValue
public import proofs.«01_k».proof.Proof.Gen.NormFirst.Frame
public import Idealize.ShloMosaic.Adequacy
public import Idealize.ShloMosaic.Init

@[expose] public section

noncomputable section

namespace Cert.Proof

open Idealize.ShloMosaic Idealize.SL.Sem

/-- The first layer's norm ends, its arguments and counters as they were. -/
theorem norm_first_frame : Cert.quiescent_NormFirst := fun m ρ _ => Cert.NormFirst.Gen.frame m ρ

/-- So does its idealization. -/
theorem norm_first_ideal_frame : Cert.quiescent_NormFirstIdeal := fun m ρ _ => Cert.NormFirstIdeal.Gen.frame m ρ

/-- And so does its reference. -/
theorem norm_first_ref_frame : Cert.quiescent_NormFirstRefIdeal := fun m ρ _ =>
  (θ_run _ _ _).mono (fun r h => ⟨fun c => (h c).2, Idealize.ShloMosaic.sem_eq_zero_of_no_sems (by decide) r.2⟩)
    (Cert.NormFirstRefIdeal.Value.run m ρ)

/-- The idealization rewrites no operation. -/
theorem norm_first_preserves : Cert.preserves_NormFirst_NormFirstIdeal := trivial

/-- The idealized kernel and its reference end with one result. -/
theorem norm_first_algebraic : Cert.algebraic_NormFirstIdeal_NormFirstRefIdeal := by
  intro m ρ m' ρ' _ hagree
  refine ⟨fun c => Cert.NormFirstIdeal.Value.normed (Cert.NormFirstIdeal.Value.X m c) (Cert.NormFirstIdeal.Value.G m c), ?_, ?_⟩
  · exact (θ_run Cert.NormFirstIdeal.defs _ _).mono (fun r h c => ⟨(h c).1.trans (Cert.NormFirstIdeal.Value.final_normed m c), (h c).2⟩)
      (Cert.NormFirstIdeal.Value.run_blocks m ρ)
  · refine (θ_run Cert.NormFirstRefIdeal.defs _ _).mono (fun r h c => ⟨(h c).1.trans ?_, (h c).2⟩) (Cert.NormFirstRefIdeal.Value.run m' ρ')
    obtain ⟨e0, e1⟩ := hagree c
    rw [Cert.NormFirstRefIdeal.Read.val_main_v15_eq, Cert.NormFirstRefIdeal.Read.normed_eq, e0, e1]

end Cert.Proof

end
-- ==== Proof.DecayRef.lean ====
/-
  The running sums of a column as a window's sums, and the reference's log gates and running sums.
-/
module

public import proofs.«01_k».proof.Proof.Gen.DecayRefIdeal.Read
public import proofs.«01_k».proof.Proof.Shift
public import Idealize.ShloMosaic.Lib.Pointwise

@[expose] public section

set_option maxRecDepth 16384

noncomputable section

namespace Cert

open Idealize.ShloMosaic

/-- The logarithm of the gate a number opens: the smaller of it and zero, less the logarithm of one plus the exponential of minus its size. -/
def gate (x : EReal) : EReal := min x 0 - Ideal.log1p (Ideal.exp (-(max x (-x))))

/-- The logarithm of one plus an exponential is never minus infinity. -/
theorem log1p_exp_ne_bot (t : EReal) : Ideal.log1p (Ideal.exp t) ≠ ⊥ := by
  have h : ∀ a : ℝ, 0 ≤ a → Ideal.log1p (a : EReal) ≠ ⊥ := fun a ha => by
    have e : (1 : EReal) + (a : EReal) = ((1 + a : ℝ) : EReal) := by
      rw [EReal.coe_add, EReal.coe_one]
    have h1 : ¬ (1 + a ≤ 0) := by linarith
    unfold Ideal.log1p
    rw [e]
    show (if 1 + a ≤ 0 then (⊥ : EReal) else (Real.log (1 + a) : EReal)) ≠ ⊥
    rw [if_neg h1]
    exact EReal.coe_ne_bot _
  induction t using EReal.rec with
  | bot =>
    have h0 := h 0 le_rfl
    rwa [EReal.coe_zero] at h0
  | coe r => exact h _ (Real.exp_pos r).le
  | top =>
    have e : (1 : EReal) + ⊤ = ⊤ := by
      have h1 := EReal.coe_add_top 1
      rwa [EReal.coe_one] at h1
    show Ideal.log (1 + ⊤) ≠ ⊥
    rw [e]
    exact bot_lt_top.ne'

/-- Minus the larger of minus a number and zero is the smaller of the number and zero. -/
theorem neg_max_neg (x : EReal) : -(max (-x) 0) = min x 0 := by
  rcases le_total x 0 with h | h
  · have h' := EReal.neg_le_neg_iff.mpr h
    rw [neg_zero] at h'
    rw [max_eq_left h', min_eq_left h, neg_neg]
  · have h' := EReal.neg_le_neg_iff.mpr h
    rw [neg_zero] at h'
    rw [max_eq_right h', min_eq_right h, neg_zero]

/-- The log gate written as minus the softened size of minus the number. -/
theorem gate_eq (x : EReal) : -(max (-x) 0 + Ideal.log1p (Ideal.exp (-(max (-x) (-(-x)))))) = gate x := by
  have h0 : (⊥ : EReal) < max (-x) 0 := lt_of_lt_of_le EReal.bot_lt_zero (le_max_right _ _)
  unfold gate
  rw [neg_neg, max_comm (-x) x, EReal.neg_add (Or.inl h0.ne') (Or.inr (log1p_exp_ne_bot _)), neg_max_neg]

/-- Adding a list's values one after the other to a start adds their sum. -/
theorem fold_sum {ι : Type} (l : List ι) (f : ι → EReal) : ∀ v : EReal, l.foldl (fun r n => r + f n) v = v + (l.map f).sum := by
  induction l with
  | nil => intro v; exact (add_zero v).symm
  | cons a l ih =>
    intro v
    rw [List.foldl_cons, ih, List.map_cons, List.sum_cons, add_assoc]

/-- A sum over a window whose position `n` holds the value of `2047 - n` rows earlier is the running sum. -/
theorem sum_window (z : Fin 2048 → EReal) (r : Fin 2048) (N : ℕ) (hN : N = 2048) (f : Fin N → EReal)
    (hf : ∀ n : Fin N, f n = ago z (2047 - n.val) r) : ∑ n : Fin N, f n = trail z 2048 r := by
  subst hN
  rw [Finset.sum_congr rfl fun n _ => hf n, Fin.sum_univ_eq_sum_range (fun n => ago z (2047 - n) r) 2048]
  exact Finset.sum_range_reflect (fun k => ago z k r) 2048

end Cert

namespace Cert.DecayRefIdeal.Read

open Cert.DecayRefIdeal Cert.DecayRefIdeal.Gen Idealize.ShloMosaic Idealize.ShloMosaic.TcCoe Idealize.SL.Sem
open Cert

variable (x : FVec Ideal S4x2048x512 .f32)

/-- The reference's log gates. -/
theorem gates_eq (i : S4x2048x512.Idx) : val_main_v0 (F := Ideal) x i = gate (x i) := by
  rw [← gate_eq]
  simp only [val_main_v0_apply, val_main_call0_v1_apply, val_main_call0_call0_v4_apply, val_main_call0_call0_v11_apply,
    val_main_call0_call0_v10_apply, val_main_call0_call0_v9_apply, val_main_call0_call0_v8_apply, val_main_call0_call0_v7_apply,
    val_main_call0_call0_v6_apply, val_main_call0_call0_v5_apply, val_main_call0_call0_v3_apply, val_main_call0_call0_v2_apply,
    val_main_call0_call0_v1_apply, val_main_call0_call0_v0_apply, val_main_call0_v0_apply, val_main_call0_call0_cst_apply]
  have e : ∀ y : EReal, FloatOps.cmpf (F := Ideal) (φ := .f32) .une y y = 0#1 := fun y => by
    show Ideal.cmp .une y y = 0#1
    simp [Ideal.cmp]
  have z : FloatOps.ofBits (F := Ideal) .f32 0x00000000#32 = (0 : EReal) := Ideal.ofBits_zero_f32
  rw [e, z]
  show -(max (-x i) 0 + Ideal.log1p (Ideal.exp (-(max (-x i - 0) (-(-x i - 0)))))) = _
  rw [sub_zero]

/-- Where the window's position of number `n` stands in it. -/
def place (n : Fin (⟨3, ![1, 2048, 1]⟩ : Shape).numel) : (⟨3, ![1, 2048, 1]⟩ : Shape).Idx := (⟨3, ![1, 2048, 1]⟩ : Shape).rowMajor.symm n

/-- The reference's running sums. -/
theorem sums_eq (b : Fin 4) (r : Fin 2048) (l : Fin 512) :
    val_main_v1 (F := Ideal) x (ix3 b r l) = trail (fun r => gate (x (ix3 b r l))) 2048 r := by
  have z : val_main_call1_call0_v0 (F := Ideal) (Shape.Idx.first h_S_) = (0 : EReal) := by
    rw [val_main_call1_call0_v0_apply, val_main_call1_call0_cst_apply]
    exact Ideal.ofBits_zero_f32
  simp only [val_main_v1, Host.reduceWindowAdd, Ideal.hostReduceWindowAdd_def, Ideal.hostReduceWindowAdd, Host.reduceWindow]
  rw [fold_sum, z, zero_add, ← Fin.sum_univ_def]
  refine sum_window _ r _ (by decide) _ fun n => ?_
  have hr := r.isLt
  have hl := l.isLt
  have hb := b.isLt
  have hc := Shape.rowMajor_val_three (place n)
  have h0 : (place n 0).val < 1 := (place n 0).isLt
  have h1 : (place n 1).val < 2048 := (place n 1).isLt
  have h2 : (place n 2).val < 1 := (place n 2).isLt
  rw [show (⟨3, ![1, 2048, 1]⟩ : Shape).rowMajor (place n) = n from Equiv.apply_symm_apply _ n] at hc
  change n.val = ((place n 0).val * 2048 + (place n 1).val) * 1
    + (place n 2).val at hc
  split
  · next hin =>
    have hi := hin 1
    change 2047 ≤ r.val * 1 + (place n 1).val ∧ r.val * 1 + (place n 1).val - 2047 < 2048 at hi
    have hk : 2047 - n.val ≤ r.val := by omega
    unfold ago
    rw [if_pos hk, gates_eq]
    refine congrArg (fun i => gate (x i)) (funext fun a => Fin.ext ?_)
    match a with
    | ⟨0, _⟩ => show b.val * 1 + (place n 0).val - 0 = b.val; omega
    | ⟨1, _⟩ => show r.val * 1 + (place n 1).val - 2047 = r.val - (2047 - n.val); omega
    | ⟨2, _⟩ => show l.val * 1 + (place n 2).val - 0 = l.val; omega
  · next hin =>
    have hk : ¬ 2047 - n.val ≤ r.val := fun hk => hin fun a => by
      match a with
      | ⟨0, _⟩ => show 0 ≤ b.val * 1 + (place n 0).val ∧ b.val * 1 + (place n 0).val - 0 < 4; omega
      | ⟨1, _⟩ => show 2047 ≤ r.val * 1 + (place n 1).val ∧ r.val * 1 + (place n 1).val - 2047 < 2048; omega
      | ⟨2, _⟩ => show 0 ≤ l.val * 1 + (place n 2).val ∧ l.val * 1 + (place n 2).val - 0 < 512; omega
    unfold ago
    rw [if_neg hk]

end Cert.DecayRefIdeal.Read

end
-- ==== Proof.DecayValue.lean ====
/-
  What the cumulated log gates leave in their two result arrays.
-/
module

public import proofs.«01_k».proof.Proof.Gen.DecayIdeal.Value
public import proofs.«01_k».proof.Proof.DecayRef
public import Idealize.ShloMosaic.Lib.Pipeline.ValueKit
public import Idealize.ShloMosaic.Lib.Pointwise

@[expose] public section

set_option maxRecDepth 16384

noncomputable section

namespace Cert.DecayIdeal.Value

open Cert.DecayIdeal Cert.DecayIdeal.Gen Idealize.ShloMosaic Idealize.ShloMosaic.TcCoe Idealize.SL.Sem
open Cert

/-- Comparing a row's number with a power of two as words is comparing the numbers. -/
theorem row_ge_pow : ∀ j : Fin 11, ∀ r : Fin 2048,
    IntOp.cmpi CmpIPredicate.sge (BitVec.ofNat 32 r.val) (BitVec.ofNat 32 (2 ^ j.val)) = if 2 ^ j.val ≤ r.val then 1#1 else 0#1 := by
  decide +kernel

/-- The column rotated by a power of two, without the rows that came round, holds the values of as many rows earlier. -/
theorem turned_pow (z : Fin 2048 → EReal) (j : Fin 11) (r : Fin 2048) : turned z (2 ^ j.val) r = ago z (2 ^ j.val) r := by
  have hr := r.isLt
  have hw := row_ge_pow j r
  have hp : 0 < 2 ^ j.val := Nat.two_pow_pos _
  unfold turned ago
  rw [hw]
  by_cases h : 2 ^ j.val ≤ r.val
  · have e : (r.val + 2048 - 2 ^ j.val) % 2048 = r.val - 2 ^ j.val := by omega
    rw [if_pos h, if_pos h]
    exact congrArg z (Fin.ext e)
  · rw [if_neg h, if_neg h]
    rfl

/-- One doubling of the sum of the last values, as many as a power of two. -/
theorem doubled_pow (z : Fin 2048 → EReal) (j : Fin 11) : doubled (trail z (2 ^ j.val)) (2 ^ j.val) = trail z (2 ^ (j.val + 1)) := by
  funext r
  unfold doubled
  rw [turned_pow, trail_double, pow_succ, mul_two]

/-- Eleven doublings give the running sum. -/
theorem doubled_all (z : Fin 2048 → EReal) :
    doubled (doubled (doubled (doubled (doubled (doubled (doubled (doubled (doubled (doubled (doubled z 1) 2) 4) 8) 16) 32) 64) 128) 256) 512) 1024
      = trail z 2048 := by
  have h0 : doubled z 1 = trail z 2 := doubled_two z
  have h1 : doubled (trail z 2) 2 = trail z 4 := doubled_pow z 1
  have h2 : doubled (trail z 4) 4 = trail z 8 := doubled_pow z 2
  have h3 : doubled (trail z 8) 8 = trail z 16 := doubled_pow z 3
  have h4 : doubled (trail z 16) 16 = trail z 32 := doubled_pow z 4
  have h5 : doubled (trail z 32) 32 = trail z 64 := doubled_pow z 5
  have h6 : doubled (trail z 64) 64 = trail z 128 := doubled_pow z 6
  have h7 : doubled (trail z 128) 128 = trail z 256 := doubled_pow z 7
  have h8 : doubled (trail z 256) 256 = trail z 512 := doubled_pow z 8
  have h9 : doubled (trail z 512) 512 = trail z 1024 := doubled_pow z 9
  have h10 : doubled (trail z 1024) 1024 = trail z 2048 := doubled_pow z 10
  rw [h0, h1, h2, h3, h4, h5, h6, h7, h8, h9, h10]

/-- Each head's running sums of its log gates: 128 lanes to a group. -/
def sums (x : FVec Ideal S4x2048x512 .f32) : FVec Ideal S4x4x2048x128 .f32 := fun j =>
  trail (fun r => gate (x (ix3 (j 0) r ⟨128 * (j 1).val + (j 3).val, by have h1 : (j 1).val < 4 := (j 1).isLt; have h3 : (j 3).val < 128 := (j 3).isLt; omega⟩))) 2048 (j 2)

/-- The same sums of the first eight lanes of each group, the rows in four runs of 512 and last. -/
def heads (x : FVec Ideal S4x2048x512 .f32) : FVec Ideal S4x4x4x8x512 .f32 := fun j =>
  trail (fun r => gate (x (ix3 (j 0) r ⟨128 * (j 1).val + (j 3).val, by have h1 : (j 1).val < 4 := (j 1).isLt; have h3 : (j 3).val < 8 := (j 3).isLt; omega⟩))) 2048
    ⟨512 * (j 2).val + (j 4).val, by have h2 : (j 2).val < 4 := (j 2).isLt; have h4 : (j 4).val < 512 := (j 4).isLt; omega⟩

/-- Each entry's row number. -/
def rows : IVec S2048x128 32 := iota .tc S2048x128 32 [0] iota_S2048x128_d0_w32

/-- A group's columns without the axis of one. -/
def cols (x : Vec Ideal S1x2048x128 .f32) : FVec Ideal S2048x128 .f32 := shapeCast S2048x128 x shapeCasts_S1x2048x128_S2048x128

/-- The log gates of the columns. -/
def gates (x : Vec Ideal S1x2048x128 .f32) : FVec Ideal S2048x128 .f32 :=
  subf (minimumf (cols x) (broadcast S2048x128 (Scalar.ofBits (F := Ideal) .f32 0x00000000#32)))
    (log1p (exp (subf (broadcast S2048x128 (Scalar.ofBits (F := Ideal) .f32 0x00000000#32)) (absf (cols x)))))

/-- The columns plus themselves rotated down by `k` rows, without the rows that came round. -/
def twice (k : BitVec 32) (v : FVec Ideal S2048x128 .f32) : FVec Ideal S2048x128 .f32 :=
  addf v (select (cmpi .sge rows (broadcast S2048x128 k)) (dynamicRotate 0 k none v rotates_S2048x128_d0)
    (broadcast S2048x128 (Scalar.ofBits (F := Ideal) .f32 0x00000000#32)))

/-- The log gates' entries. -/
theorem gates_apply (x : Vec Ideal S1x2048x128 .f32) (r : Fin 2048) (k : Fin 128) : gates x (ix2 r k) = gate (x (ix3 0 r k)) := by
  have e : gates x (ix2 r k) = min (x (ix3 0 r k)) 0 - Ideal.log1p (Ideal.exp (0 - max (x (ix3 0 r k)) (-(x (ix3 0 r k))))) := by
    pointwise [gates, cols]
    rfl
  rw [e, zero_sub]
  rfl

/-- A rotation by 1 doubles each column's sum. -/
theorem twice_1 (v : FVec Ideal S2048x128 .f32) (r : Fin 2048) (k : Fin 128) :
    twice 1#32 v (ix2 r k) = doubled (fun r => v (ix2 r k)) 1 r := by
  unfold doubled turned
  pointwise [twice, rows]

/-- A rotation by 2 doubles each column's sum. -/
theorem twice_2 (v : FVec Ideal S2048x128 .f32) (r : Fin 2048) (k : Fin 128) :
    twice 2#32 v (ix2 r k) = doubled (fun r => v (ix2 r k)) 2 r := by
  unfold doubled turned
  pointwise [twice, rows]

/-- A rotation by 4 doubles each column's sum. -/
theorem twice_4 (v : FVec Ideal S2048x128 .f32) (r : Fin 2048) (k : Fin 128) :
    twice 4#32 v (ix2 r k) = doubled (fun r => v (ix2 r k)) 4 r := by
  unfold doubled turned
  pointwise [twice, rows]

/-- A rotation by 8 doubles each column's sum. -/
theorem twice_8 (v : FVec Ideal S2048x128 .f32) (r : Fin 2048) (k : Fin 128) :
    twice 8#32 v (ix2 r k) = doubled (fun r => v (ix2 r k)) 8 r := by
  unfold doubled turned
  pointwise [twice, rows]

/-- A rotation by 16 doubles each column's sum. -/
theorem twice_16 (v : FVec Ideal S2048x128 .f32) (r : Fin 2048) (k : Fin 128) :
    twice 16#32 v (ix2 r k) = doubled (fun r => v (ix2 r k)) 16 r := by
  unfold doubled turned
  pointwise [twice, rows]

/-- A rotation by 32 doubles each column's sum. -/
theorem twice_32 (v : FVec Ideal S2048x128 .f32) (r : Fin 2048) (k : Fin 128) :
    twice 32#32 v (ix2 r k) = doubled (fun r => v (ix2 r k)) 32 r := by
  unfold doubled turned
  pointwise [twice, rows]

/-- A rotation by 64 doubles each column's sum. -/
theorem twice_64 (v : FVec Ideal S2048x128 .f32) (r : Fin 2048) (k : Fin 128) :
    twice 64#32 v (ix2 r k) = doubled (fun r => v (ix2 r k)) 64 r := by
  unfold doubled turned
  pointwise [twice, rows]

/-- A rotation by 128 doubles each column's sum. -/
theorem twice_128 (v : FVec Ideal S2048x128 .f32) (r : Fin 2048) (k : Fin 128) :
    twice 128#32 v (ix2 r k) = doubled (fun r => v (ix2 r k)) 128 r := by
  unfold doubled turned
  pointwise [twice, rows]

/-- A rotation by 256 doubles each column's sum. -/
theorem twice_256 (v : FVec Ideal S2048x128 .f32) (r : Fin 2048) (k : Fin 128) :
    twice 256#32 v (ix2 r k) = doubled (fun r => v (ix2 r k)) 256 r := by
  unfold doubled turned
  pointwise [twice, rows]

/-- A rotation by 512 doubles each column's sum. -/
theorem twice_512 (v : FVec Ideal S2048x128 .f32) (r : Fin 2048) (k : Fin 128) :
    twice 512#32 v (ix2 r k) = doubled (fun r => v (ix2 r k)) 512 r := by
  unfold doubled turned
  pointwise [twice, rows]

/-- A rotation by 1024 doubles each column's sum. -/
theorem twice_1024 (v : FVec Ideal S2048x128 .f32) (r : Fin 2048) (k : Fin 128) :
    twice 1024#32 v (ix2 r k) = doubled (fun r => v (ix2 r k)) 1024 r := by
  unfold doubled turned
  pointwise [twice, rows]

/-- The kernel's column sums are the running sums of its log gates. -/
theorem total_apply (x : Vec Ideal S1x2048x128 .f32) (r : Fin 2048) (k : Fin 128) :
    k0_pay10 x (ix2 r k) = trail (fun r => gate (x (ix3 0 r k))) 2048 r := by
  have e : k0_pay10 x = twice 1024#32 (twice 512#32 (twice 256#32 (twice 128#32 (twice 64#32 (twice 32#32 (twice 16#32 (twice 8#32 (twice 4#32
      (twice 2#32 (twice 1#32 (gates (View.ld x r0_0)))))))))))) := rfl
  have l : ∀ r, (View.ld x r0_0 : Vec Ideal S1x2048x128 .f32) (ix3 0 r k) = x (ix3 0 r k) := fun r => by
    pointwise []
  rw [e]
  simp only [twice_1024, twice_512, twice_256, twice_128, twice_64, twice_32, twice_16, twice_8, twice_4, twice_2, twice_1, gates_apply, doubled_all]
  exact congrArg (fun z => trail z 2048 r) (funext fun r => congrArg gate (l r))

/-- One entry of the first stored block. -/
theorem stored_sums (v : FVec Ideal S2048x128 .f32) (r : Fin 2048) (k : Fin 128) : k0_pay1 v (ix4 0 0 r k) = v (ix2 r k) := by
  pointwise [k0_pay1]

/-- One entry of the first run of rows of the second stored block. -/
theorem run_0 (v : FVec Ideal S2048x128 .f32) (h : Fin 8) (r : Fin 512) :
    k0_pay2 v (ix5 0 0 0 h r) = v (ix2 ⟨0 + r.val, by omega⟩ ⟨h.val, by omega⟩) := by
  pointwise [k0_pay2]

/-- Where that run lies in the stored block. -/
theorem place_0 (h : Fin 8) (r : Fin 512) : r0_2.emb (ix5 0 0 0 h r) = (ix5 0 0 0 h r : S1x1x4x8x512.Idx) := by
  blk_ext []

/-- One entry of the second run of rows of the second stored block. -/
theorem run_1 (v : FVec Ideal S2048x128 .f32) (h : Fin 8) (r : Fin 512) :
    k0_pay3 v (ix5 0 0 0 h r) = v (ix2 ⟨512 + r.val, by omega⟩ ⟨h.val, by omega⟩) := by
  pointwise [k0_pay3]

/-- Where that run lies in the stored block. -/
theorem place_1 (h : Fin 8) (r : Fin 512) : r0_3.emb (ix5 0 0 0 h r) = (ix5 0 0 1 h r : S1x1x4x8x512.Idx) := by
  blk_ext []

/-- One entry of the third run of rows of the second stored block. -/
theorem run_2 (v : FVec Ideal S2048x128 .f32) (h : Fin 8) (r : Fin 512) :
    k0_pay4 v (ix5 0 0 0 h r) = v (ix2 ⟨1024 + r.val, by omega⟩ ⟨h.val, by omega⟩) := by
  pointwise [k0_pay4]

/-- Where that run lies in the stored block. -/
theorem place_2 (h : Fin 8) (r : Fin 512) : r0_4.emb (ix5 0 0 0 h r) = (ix5 0 0 2 h r : S1x1x4x8x512.Idx) := by
  blk_ext []

/-- One entry of the last run of rows of the second stored block. -/
theorem run_3 (v : FVec Ideal S2048x128 .f32) (h : Fin 8) (r : Fin 512) :
    k0_pay5 v (ix5 0 0 0 h r) = v (ix2 ⟨1536 + r.val, by omega⟩ ⟨h.val, by omega⟩) := by
  pointwise [k0_pay5]

/-- Where that run lies in the stored block. -/
theorem place_3 (h : Fin 8) (r : Fin 512) : r0_5.emb (ix5 0 0 0 h r) = (ix5 0 0 3 h r : S1x1x4x8x512.Idx) := by
  blk_ext []

/-- The block of the second result a grid point leaves, from the columns it loaded. -/
def block (x : Vec Ideal S1x2048x128 .f32) : Vec Ideal S1x1x4x8x512 .f32 := fun y =>
  trail (fun r => gate (x (ix3 0 r ⟨(y 3).val, by have h3 : (y 3).val < 8 := (y 3).isLt; omega⟩))) 2048
    ⟨512 * (y 2).val + (y 4).val, by have h2 : (y 2).val < 4 := (y 2).isLt; have h4 : (y 4).val < 512 := (y 4).isLt; omega⟩

/-- It leaves that block. -/
theorem block_apply (x : Vec Ideal S1x2048x128 .f32) (y : S1x1x4x8x512.Idx) : out0_2 x y = block x y := by
  unfold out0_2
  refine View.canon_apply_of_pieces (Val := Elt Ideal) (block x) _ ?_ y (cover0_2 _ _ _ _ y)
  intro pc hpc
  rcases List.mem_cons.mp hpc with rfl | hpc
  · intro v
    idx_vars v
    obtain rfl : v0 = 0 := Subsingleton.elim _ _
    obtain rfl : v1 = 0 := Subsingleton.elim _ _
    obtain rfl : v2 = 0 := Subsingleton.elim _ _
    rw [place_3]
    refine (run_3 _ v3 v4).trans ?_
    exact total_apply x _ _
  rcases List.mem_cons.mp hpc with rfl | hpc
  · intro v
    idx_vars v
    obtain rfl : v0 = 0 := Subsingleton.elim _ _
    obtain rfl : v1 = 0 := Subsingleton.elim _ _
    obtain rfl : v2 = 0 := Subsingleton.elim _ _
    rw [place_2]
    refine (run_2 _ v3 v4).trans ?_
    exact total_apply x _ _
  rcases List.mem_cons.mp hpc with rfl | hpc
  · intro v
    idx_vars v
    obtain rfl : v0 = 0 := Subsingleton.elim _ _
    obtain rfl : v1 = 0 := Subsingleton.elim _ _
    obtain rfl : v2 = 0 := Subsingleton.elim _ _
    rw [place_1]
    refine (run_1 _ v3 v4).trans ?_
    exact total_apply x _ _
  rcases List.mem_cons.mp hpc with rfl | hpc
  · intro v
    idx_vars v
    obtain rfl : v0 = 0 := Subsingleton.elim _ _
    obtain rfl : v1 = 0 := Subsingleton.elim _ _
    obtain rfl : v2 = 0 := Subsingleton.elim _ _
    rw [place_0]
    refine (run_0 _ v3 v4).trans ?_
    exact total_apply x _ _
  nomatch hpc

/-- Each window's block index at a grid point. -/
theorem idx : ∀ t : Fin cfg0.N,
    win0_0.index t = ![(grid0.coords t 0).val, 0, (grid0.coords t 1).val]
      ∧ win0_1.index t = ![(grid0.coords t 0).val, (grid0.coords t 1).val, 0, 0]
      ∧ win0_2.index t = ![(grid0.coords t 0).val, (grid0.coords t 1).val, 0, 0, 0] :=
  (by decide +kernel : ∀ t : Fin grid0.N, _)

variable (m : (ℓ : Loc nD τ sig) → Buf (Elt Ideal) ℓ)

/-- The projected gates. -/
abbrev X (c : Dev nD) : FVec Ideal S4x2048x512 .f32 := m ((c : Thread nD τ).loc main_arg0)

/-- The columns a grid point loads. -/
theorem blk_x (c : Dev nD) (t : Fin cfg0.N) (r : Fin 2048) (k : Fin 128) (hk) :
    (iblk m c 0 t : Vec Ideal S1x2048x128 .f32) (ix3 0 r k)
      = X m c (ix3 (grid0.coords t 0) r ⟨128 * (grid0.coords t 1).val + k.val, hk⟩) := by
  blk_ext [iblk, V, idx t]

/-- THE KERNEL'S FIRST RESULT ARRAY is the running sums. -/
theorem final_sums (c : Dev nD) : (dats m 0 c).arrAt 1 cfg0.N = sums (X m c) := by
  refine (dats m 0 c).arrAt_eq_of_covers 1 _ (by decide +kernel) fun t hf y => ?_
  blk_simp
  rw [after0_1]
  unfold out0_1
  frame_out
  idx_vars y
  obtain rfl : y0 = 0 := Subsingleton.elim _ _
  obtain rfl : y1 = 0 := Subsingleton.elim _ _
  have h1 : (grid0.coords t 1).val < 4 := (grid0.coords t 1).isLt
  rw [stored_sums, total_apply]
  have e : ((View.whole main_v0_0).slice (win0_1.rect t)).emb (ix4 0 0 y2 y3)
      = (ix4 (grid0.coords t 0) (grid0.coords t 1) y2 y3 : S4x4x2048x128.Idx) := by
    blk_ext [idx t]
  rw [e]
  have hx : ∀ r : Fin 2048, (iblk m c 0 t : Vec Ideal S1x2048x128 .f32) (ix3 0 r y3)
      = X m c (ix3 (grid0.coords t 0) r ⟨128 * (grid0.coords t 1).val + y3.val, by omega⟩) := fun r => blk_x m c t r y3 (by omega)
  exact congrArg (fun z => trail z 2048 y2) (funext fun r => congrArg gate (hx r))

/-- THE KERNEL'S SECOND RESULT ARRAY is the heads' running sums. -/
theorem final_heads (c : Dev nD) : (dats m 0 c).arrAt 2 cfg0.N = heads (X m c) := by
  refine (dats m 0 c).arrAt_eq_of_covers 2 _ (by decide +kernel) fun t hf y => ?_
  blk_simp
  rw [after0_2, block_apply]
  idx_vars y
  obtain rfl : y0 = 0 := Subsingleton.elim _ _
  obtain rfl : y1 = 0 := Subsingleton.elim _ _
  have h1 : (grid0.coords t 1).val < 4 := (grid0.coords t 1).isLt
  have e : ((View.whole main_v0_1).slice (win0_2.rect t)).emb (ix5 0 0 y2 y3 y4)
      = (ix5 (grid0.coords t 0) (grid0.coords t 1) y2 y3 y4 : S4x4x4x8x512.Idx) := by
    blk_ext [idx t]
  rw [e]
  have hx : ∀ r : Fin 2048, (iblk m c 0 t : Vec Ideal S1x2048x128 .f32) (ix3 0 r ⟨y3.val, by omega⟩)
      = X m c (ix3 (grid0.coords t 0) r ⟨128 * (grid0.coords t 1).val + y3.val, by omega⟩) := fun r => blk_x m c t r ⟨y3.val, by omega⟩ (by dsimp only; omega)
  exact congrArg (fun z => trail z 2048 ⟨512 * y2.val + y4.val, by omega⟩) (funext fun r => congrArg gate (hx r))

end Cert.DecayIdeal.Value

namespace Cert.DecayRefIdeal.Read

open Cert.DecayRefIdeal Cert.DecayRefIdeal.Gen Idealize.ShloMosaic Idealize.ShloMosaic.TcCoe Idealize.SL.Sem
open Cert
open Cert.DecayIdeal.Value (sums heads)

variable (x : FVec Ideal S4x2048x512 .f32)

/-- THE REFERENCE'S FIRST RESULT is the running sums. -/
theorem out_sums : val_main_v5 (F := Ideal) x = sums x := by
  funext j
  idx_vars j
  have e : val_main_v5 (F := Ideal) x (ix4 j0 j1 j2 j3) = val_main_v1 (F := Ideal) x (ix3 j0 j2 ⟨128 * j1.val + j3.val, by omega⟩) := by
    pointwise [val_main_v5, val_main_v2]
    exact congrArg (fun l => val_main_v1 (F := Ideal) x (ix3 j0 j2 l)) (Fin.ext (by dsimp only; omega))
  rw [e, sums_eq]
  rfl

/-- THE REFERENCE'S SECOND RESULT is the heads' running sums. -/
theorem out_heads : val_main_v6 (F := Ideal) x = heads x := by
  funext j
  idx_vars j
  have e : val_main_v6 (F := Ideal) x (ix5 j0 j1 j2 j3 j4)
      = val_main_v1 (F := Ideal) x (ix3 j0 ⟨512 * j2.val + j4.val, by omega⟩ ⟨128 * j1.val + j3.val, by omega⟩) := by
    pointwise [val_main_v6, val_main_v4, val_main_v3, val_main_v2]
    exact congrArg₂ (fun r l => val_main_v1 (F := Ideal) x (ix3 j0 r l)) (Fin.ext (by dsimp only; omega)) (Fin.ext (by dsimp only; omega))
  rw [e, sums_eq]
  rfl

end Cert.DecayRefIdeal.Read

end
-- ==== Proof.DecayClaim.lean ====
/-
  The claims about the cumulated log gates.
-/
module

public import proofs.«01_k».proof.Defs
public import proofs.«01_k».proof.Proof.DecayValue
public import proofs.«01_k».proof.Proof.Gen.Decay.Frame
public import Idealize.ShloMosaic.Adequacy
public import Idealize.ShloMosaic.Init

@[expose] public section

noncomputable section

namespace Cert.Proof

open Idealize.ShloMosaic Idealize.SL.Sem

/-- The call that cumulates the log gates ends, its arguments and counters as they were. -/
theorem decay_frame : Cert.quiescent_Decay := fun m ρ _ => Cert.Decay.Gen.frame m ρ

/-- So does its idealization. -/
theorem decay_ideal_frame : Cert.quiescent_DecayIdeal := fun m ρ _ => Cert.DecayIdeal.Gen.frame m ρ

/-- And so does its reference. -/
theorem decay_ref_frame : Cert.quiescent_DecayRefIdeal := fun m ρ _ =>
  (θ_run _ _ _).mono (fun r h => ⟨fun c => (h c).2.2, Idealize.ShloMosaic.sem_eq_zero_of_no_sems (by decide) r.2⟩)
    (Cert.DecayRefIdeal.Value.run m ρ)

/-- The idealization rewrites no operation. -/
theorem decay_preserves : Cert.preserves_Decay_DecayIdeal := trivial

/-- The idealized kernel and its reference end with one result. -/
theorem decay_algebraic : Cert.algebraic_DecayIdeal_DecayRefIdeal := by
  intro m ρ m' ρ' _ hagree
  refine ⟨fun c => Cert.DecayIdeal.Value.sums (Cert.DecayIdeal.Value.X m c), fun c => Cert.DecayIdeal.Value.heads (Cert.DecayIdeal.Value.X m c), ?_, ?_⟩
  · exact (θ_run Cert.DecayIdeal.defs _ _).mono (fun r h c => ⟨(h c).1.trans (Cert.DecayIdeal.Value.final_sums m c), (h c).2.1.trans (Cert.DecayIdeal.Value.final_heads m c), (h c).2.2⟩)
      (Cert.DecayIdeal.Value.run_blocks m ρ)
  · refine (θ_run Cert.DecayRefIdeal.defs _ _).mono (fun r h c => ⟨(h c).1.trans ?_, (h c).2.1.trans ?_, (h c).2.2⟩) (Cert.DecayRefIdeal.Value.run m' ρ')
    · have e0 := hagree c
      rw [Cert.DecayRefIdeal.Read.val_main_v5_eq, Cert.DecayRefIdeal.Read.out_sums, e0]
    · have e0 := hagree c
      rw [Cert.DecayRefIdeal.Read.val_main_v6_eq, Cert.DecayRefIdeal.Read.out_heads, e0]

end Cert.Proof

end
-- ==== Proof.lean ====
/-
  The certificate's claim, put together from the claims about each program.
-/
module

public import proofs.«01_k».proof.Proof.FoxClaim
public import proofs.«01_k».proof.Proof.MergeClaim
public import proofs.«01_k».proof.Proof.FfnClaim
public import proofs.«01_k».proof.Proof.ProjClaim
public import proofs.«01_k».proof.Proof.ChunkClaim
public import proofs.«01_k».proof.Proof.PeerClaim
public import proofs.«01_k».proof.Proof.ForgetClaim
public import proofs.«01_k».proof.Proof.NormClaim
public import proofs.«01_k».proof.Proof.ConvClaim
public import proofs.«01_k».proof.Proof.PoolClaim
public import proofs.«01_k».proof.Proof.FirstClaim
public import proofs.«01_k».proof.Proof.DecayClaim

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Merge.Gen.facts, Cert.MergeIdeal.Gen.facts,
    Cert.MergeRefIdeal.Gen.facts, Cert.Ffn.Gen.facts, Cert.FfnIdeal.Gen.facts, Cert.FfnRefIdeal.Gen.facts, Cert.ProjFox.Gen.facts,
    Cert.ProjFoxIdeal.Gen.facts, Cert.ProjFoxRefIdeal.Gen.facts, Cert.ProjPool.Gen.facts, Cert.ProjPoolIdeal.Gen.facts,
    Cert.ProjPoolRefIdeal.Gen.facts, Cert.ProjChunk.Gen.facts, Cert.ProjChunkIdeal.Gen.facts, Cert.ProjChunkRefIdeal.Gen.facts,
    Cert.Chunk.Gen.facts, Cert.ChunkIdeal.Gen.facts, Cert.ChunkRefIdeal.Gen.facts, Cert.Peer.Gen.facts, Cert.PeerIdeal.Gen.facts,
    Cert.PeerRefIdeal.Gen.facts, Cert.Pool.Gen.facts, Cert.PoolIdeal.Gen.facts, Cert.PoolRefIdeal.Gen.facts, Cert.Conv.Gen.facts,
    Cert.ConvIdeal.Gen.facts, Cert.ConvRefIdeal.Gen.facts, Cert.ProjForget.Gen.facts, Cert.ProjForgetIdeal.Gen.facts,
    Cert.ProjForgetRefIdeal.Gen.facts, Cert.NormIn.Gen.facts, Cert.NormInIdeal.Gen.facts, Cert.NormInRefIdeal.Gen.facts,
    Cert.NormOut.Gen.facts, Cert.NormOutIdeal.Gen.facts, Cert.NormOutRefIdeal.Gen.facts, Cert.NormFirst.Gen.facts,
    Cert.NormFirstIdeal.Gen.facts, Cert.NormFirstRefIdeal.Gen.facts, Cert.Decay.Gen.facts, Cert.DecayIdeal.Gen.facts,
    Cert.DecayRefIdeal.Gen.facts, Cert.Pre_finite.facts, Cert.Pre_chunk_finite.facts, Cert.Pre_peer_finite.facts, fox_frame,
    fox_frame_pre, fox_ideal_frame, fox_ref_frame, fox_ref_frame_pre, merge_frame, merge_ideal_frame, merge_ref_frame, ffn_frame,
    ffn_ideal_frame, ffn_ref_frame, proj_fox_frame, proj_fox_ideal_frame, proj_fox_ref_frame, proj_pool_frame, proj_pool_ideal_frame,
    proj_pool_ref_frame, proj_chunk_frame, proj_chunk_ideal_frame, proj_chunk_ref_frame, chunk_frame, chunk_frame_pre,
    chunk_ideal_frame, chunk_ref_frame, chunk_ref_frame_pre, peer_frame, peer_frame_pre, peer_ideal_frame, peer_ref_frame,
    peer_ref_frame_pre, pool_frame, pool_ideal_frame, pool_ref_frame, conv_frame, conv_ideal_frame, conv_ref_frame, proj_forget_frame,
    proj_forget_ideal_frame, proj_forget_ref_frame, norm_in_frame, norm_in_ideal_frame, norm_in_ref_frame, norm_out_frame,
    norm_out_ideal_frame, norm_out_ref_frame, norm_first_frame, norm_first_ideal_frame, norm_first_ref_frame, decay_frame,
    decay_ideal_frame, decay_ref_frame, fox_preserves, fox_algebraic, merge_preserves, merge_algebraic, ffn_preserves, ffn_algebraic,
    proj_fox_preserves, proj_fox_algebraic, proj_pool_preserves, proj_pool_algebraic, proj_chunk_preserves, proj_chunk_algebraic,
    chunk_preserves, chunk_algebraic, peer_preserves, peer_algebraic, pool_preserves, pool_algebraic, conv_preserves, conv_algebraic,
    proj_forget_preserves, proj_forget_algebraic, norm_in_preserves, norm_in_algebraic, norm_out_preserves, norm_out_algebraic,
    norm_first_preserves, norm_first_algebraic, decay_preserves, decay_algebraic⟩

end Cert.Proof

end
